-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_qk_finite [hPre_qk_finite : Cert.Pre_qk_finite.Facts] (m : (ℓ : Loc Cert.SbIdeal.nD Cert.SbIdeal.τ Cert.SbIdeal.sig) → Buf (Elt Ideal) ℓ) : Prop :=
  ∀ c : Dev Cert.SbIdeal.nD,
    (Cert.Pre_qk_finite.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_qk_finite [hPre_qk_finite : Cert.Pre_qk_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_qk_finite.fn (F := Ideal) (m ((c.tc : Thread Cert.SbRefIdeal.nD Cert.SbRefIdeal.τ).loc Cert.SbRefIdeal.main_arg0))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaIdeal_da_finite [hPre_da_finite : Cert.Pre_da_finite.Facts] (m : (ℓ : Loc Cert.DaIdeal.nD Cert.DaIdeal.τ Cert.DaIdeal.sig) → Buf (Elt Ideal) ℓ) : Prop :=
  ∀ c : Dev Cert.DaIdeal.nD,
    (Cert.Pre_da_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3))) = (fun _ => 1#1)

def Pre_DaRefIdeal (m : (ℓ : Loc Cert.DaRefIdeal.nD Cert.DaRefIdeal.τ Cert.DaRefIdeal.sig) → Buf (Elt Ideal) ℓ) : Prop :=
  True

def Pre_DaRefIdeal_da_finite [hPre_da_finite : Cert.Pre_da_finite.Facts] (m : (ℓ : Loc Cert.DaRefIdeal.nD Cert.DaRefIdeal.τ Cert.DaRefIdeal.sig) → Buf (Elt Ideal) ℓ) : Prop :=
  ∀ c : Dev Cert.DaRefIdeal.nD,
    (Cert.Pre_da_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3))) = (fun _ => 1#1)

def Pre_Sw (m : (ℓ : Loc Cert.Sw.nD Cert.Sw.τ Cert.Sw.sig) → Buf (Elt Bits) ℓ) : Prop :=
  True

def Pre_SwIdeal (m : (ℓ : Loc Cert.SwIdeal.nD Cert.SwIdeal.τ Cert.SwIdeal.sig) → Buf (Elt Ideal) ℓ) : Prop :=
  True

def Pre_SwIdeal_sw_finite [hPre_sw_finite : Cert.Pre_sw_finite.Facts] (m : (ℓ : Loc Cert.SwIdeal.nD Cert.SwIdeal.τ Cert.SwIdeal.sig) → Buf (Elt Ideal) ℓ) : Prop :=
  ∀ c : Dev Cert.SwIdeal.nD,
    (Cert.Pre_sw_finite.fn (F := Ideal) (m ((c.tc : Thread Cert.SwIdeal.nD Cert.SwIdeal.τ).loc Cert.SwIdeal.main_arg0)) (m ((c.tc : Thread Cert.SwIdeal.nD Cert.SwIdeal.τ).loc Cert.SwIdeal.main_arg1)) (m ((c.tc : Thread Cert.SwIdeal.nD Cert.SwIdeal.τ).loc Cert.SwIdeal.main_arg2)) (m ((c.tc : Thread Cert.SwIdeal.nD Cert.SwIdeal.τ).loc Cert.SwIdeal.main_arg3))) = (fun _ => 1#1)

def Pre_SwRefIdeal (m : (ℓ : Loc Cert.SwRefIdeal.nD Cert.SwRefIdeal.τ Cert.SwRefIdeal.sig) → Buf (Elt Ideal) ℓ) : Prop :=
  True

def Pre_SwRefIdeal_sw_finite [hPre_sw_finite : Cert.Pre_sw_finite.Facts] (m : (ℓ : Loc Cert.SwRefIdeal.nD Cert.SwRefIdeal.τ Cert.SwRefIdeal.sig) → Buf (Elt Ideal) ℓ) : Prop :=
  ∀ c : Dev Cert.SwRefIdeal.nD,
    (Cert.Pre_sw_finite.fn (F := Ideal) (m ((c.tc : Thread Cert.SwRefIdeal.nD Cert.SwRefIdeal.τ).loc Cert.SwRefIdeal.main_arg0)) (m ((c.tc : Thread Cert.SwRefIdeal.nD Cert.SwRefIdeal.τ).loc Cert.SwRefIdeal.main_arg1)) (m ((c.tc : Thread Cert.SwRefIdeal.nD Cert.SwRefIdeal.τ).loc Cert.SwRefIdeal.main_arg2)) (m ((c.tc : Thread Cert.SwRefIdeal.nD Cert.SwRefIdeal.τ).loc Cert.SwRefIdeal.main_arg3))) = (fun _ => 1#1)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_qk_finite [hSbIdeal : Cert.SbIdeal.Facts] [hPre_qk_finite : Cert.Pre_qk_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_qk_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_qk_finite [hSbRefIdeal : Cert.SbRefIdeal.Facts] [hPre_qk_finite : Cert.Pre_qk_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_qk_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3))
      ∧ r.2.sem = fun _ => 0)

def quiescent_DaIdeal_pre_da_finite [hDaIdeal : Cert.DaIdeal.Facts] [hPre_da_finite : Cert.Pre_da_finite.Facts] : Prop :=
  ∀ (m : (ℓ : Loc Cert.DaIdeal.nD Cert.DaIdeal.τ Cert.DaIdeal.sig) → Buf (Elt Ideal) ℓ) (g : Dev Cert.DaIdeal.nD → PrngReg), Pre_DaIdeal_da_finite m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3))
      ∧ r.2.sem = fun _ => 0)

def quiescent_DaRefIdeal_pre_da_finite [hDaRefIdeal : Cert.DaRefIdeal.Facts] [hPre_da_finite : Cert.Pre_da_finite.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal_da_finite m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3))
      ∧ r.2.sem = fun _ => 0)

def quiescent_Sw [hSw : Cert.Sw.Facts] : Prop :=
  ∀ (m : (ℓ : Loc Cert.Sw.nD Cert.Sw.τ Cert.Sw.sig) → Buf (Elt Bits) ℓ) (g : Dev Cert.Sw.nD → PrngReg), Pre_Sw m →
    θ_run (Cert.Sw.defs (F := Bits)) (onTc (τ := Cert.Sw.τ) (Cert.Sw.main (F := Bits))) ⟨m, fun _ => 0, g⟩ (fun r => (∀ c : Dev Cert.Sw.nD,
      r.2.mem ((c.tc : Thread Cert.Sw.nD Cert.Sw.τ).loc Cert.Sw.main_arg0) = m ((c.tc : Thread Cert.Sw.nD Cert.Sw.τ).loc Cert.Sw.main_arg0)
      ∧ r.2.mem ((c.tc : Thread Cert.Sw.nD Cert.Sw.τ).loc Cert.Sw.main_arg1) = m ((c.tc : Thread Cert.Sw.nD Cert.Sw.τ).loc Cert.Sw.main_arg1)
      ∧ r.2.mem ((c.tc : Thread Cert.Sw.nD Cert.Sw.τ).loc Cert.Sw.main_arg2) = m ((c.tc : Thread Cert.Sw.nD Cert.Sw.τ).loc Cert.Sw.main_arg2)
      ∧ r.2.mem ((c.tc : Thread Cert.Sw.nD Cert.Sw.τ).loc Cert.Sw.main_arg3) = m ((c.tc : Thread Cert.Sw.nD Cert.Sw.τ).loc Cert.Sw.main_arg3))
      ∧ r.2.sem = fun _ => 0)

def quiescent_SwIdeal [hSwIdeal : Cert.SwIdeal.Facts] : Prop :=
  ∀ (m : (ℓ : Loc Cert.SwIdeal.nD Cert.SwIdeal.τ Cert.SwIdeal.sig) → Buf (Elt Ideal) ℓ) (g : Dev Cert.SwIdeal.nD → PrngReg), Pre_SwIdeal m →
    θ_run (Cert.SwIdeal.defs (F := Ideal)) (onTc (τ := Cert.SwIdeal.τ) (Cert.SwIdeal.main (F := Ideal))) ⟨m, fun _ => 0, g⟩ (fun r => (∀ c : Dev Cert.SwIdeal.nD,
      r.2.mem ((c.tc : Thread Cert.SwIdeal.nD Cert.SwIdeal.τ).loc Cert.SwIdeal.main_arg0) = m ((c.tc : Thread Cert.SwIdeal.nD Cert.SwIdeal.τ).loc Cert.SwIdeal.main_arg0)
      ∧ r.2.mem ((c.tc : Thread Cert.SwIdeal.nD Cert.SwIdeal.τ).loc Cert.SwIdeal.main_arg1) = m ((c.tc : Thread Cert.SwIdeal.nD Cert.SwIdeal.τ).loc Cert.SwIdeal.main_arg1)
      ∧ r.2.mem ((c.tc : Thread Cert.SwIdeal.nD Cert.SwIdeal.τ).loc Cert.SwIdeal.main_arg2) = m ((c.tc : Thread Cert.SwIdeal.nD Cert.SwIdeal.τ).loc Cert.SwIdeal.main_arg2)
      ∧ r.2.mem ((c.tc : Thread Cert.SwIdeal.nD Cert.SwIdeal.τ).loc Cert.SwIdeal.main_arg3) = m ((c.tc : Thread Cert.SwIdeal.nD Cert.SwIdeal.τ).loc Cert.SwIdeal.main_arg3))
      ∧ r.2.sem = fun _ => 0)

def quiescent_SwIdeal_pre_sw_finite [hSwIdeal : Cert.SwIdeal.Facts] [hPre_sw_finite : Cert.Pre_sw_finite.Facts] : Prop :=
  ∀ (m : (ℓ : Loc Cert.SwIdeal.nD Cert.SwIdeal.τ Cert.SwIdeal.sig) → Buf (Elt Ideal) ℓ) (g : Dev Cert.SwIdeal.nD → PrngReg), Pre_SwIdeal_sw_finite m →
    θ_run (Cert.SwIdeal.defs (F := Ideal)) (onTc (τ := Cert.SwIdeal.τ) (Cert.SwIdeal.main (F := Ideal))) ⟨m, fun _ => 0, g⟩ (fun r => (∀ c : Dev Cert.SwIdeal.nD,
      r.2.mem ((c.tc : Thread Cert.SwIdeal.nD Cert.SwIdeal.τ).loc Cert.SwIdeal.main_arg0) = m ((c.tc : Thread Cert.SwIdeal.nD Cert.SwIdeal.τ).loc Cert.SwIdeal.main_arg0)
      ∧ r.2.mem ((c.tc : Thread Cert.SwIdeal.nD Cert.SwIdeal.τ).loc Cert.SwIdeal.main_arg1) = m ((c.tc : Thread Cert.SwIdeal.nD Cert.SwIdeal.τ).loc Cert.SwIdeal.main_arg1)
      ∧ r.2.mem ((c.tc : Thread Cert.SwIdeal.nD Cert.SwIdeal.τ).loc Cert.SwIdeal.main_arg2) = m ((c.tc : Thread Cert.SwIdeal.nD Cert.SwIdeal.τ).loc Cert.SwIdeal.main_arg2)
      ∧ r.2.mem ((c.tc : Thread Cert.SwIdeal.nD Cert.SwIdeal.τ).loc Cert.SwIdeal.main_arg3) = m ((c.tc : Thread Cert.SwIdeal.nD Cert.SwIdeal.τ).loc Cert.SwIdeal.main_arg3))
      ∧ r.2.sem = fun _ => 0)

def quiescent_SwRefIdeal [hSwRefIdeal : Cert.SwRefIdeal.Facts] : Prop :=
  ∀ (m : (ℓ : Loc Cert.SwRefIdeal.nD Cert.SwRefIdeal.τ Cert.SwRefIdeal.sig) → Buf (Elt Ideal) ℓ) (g : Dev Cert.SwRefIdeal.nD → PrngReg), Pre_SwRefIdeal m →
    θ_run (Cert.SwRefIdeal.defs (F := Ideal)) (onTc (τ := Cert.SwRefIdeal.τ) (Cert.SwRefIdeal.main (F := Ideal))) ⟨m, fun _ => 0, g⟩ (fun r => (∀ c : Dev Cert.SwRefIdeal.nD,
      r.2.mem ((c.tc : Thread Cert.SwRefIdeal.nD Cert.SwRefIdeal.τ).loc Cert.SwRefIdeal.main_arg0) = m ((c.tc : Thread Cert.SwRefIdeal.nD Cert.SwRefIdeal.τ).loc Cert.SwRefIdeal.main_arg0)
      ∧ r.2.mem ((c.tc : Thread Cert.SwRefIdeal.nD Cert.SwRefIdeal.τ).loc Cert.SwRefIdeal.main_arg1) = m ((c.tc : Thread Cert.SwRefIdeal.nD Cert.SwRefIdeal.τ).loc Cert.SwRefIdeal.main_arg1)
      ∧ r.2.mem ((c.tc : Thread Cert.SwRefIdeal.nD Cert.SwRefIdeal.τ).loc Cert.SwRefIdeal.main_arg2) = m ((c.tc : Thread Cert.SwRefIdeal.nD Cert.SwRefIdeal.τ).loc Cert.SwRefIdeal.main_arg2)
      ∧ r.2.mem ((c.tc : Thread Cert.SwRefIdeal.nD Cert.SwRefIdeal.τ).loc Cert.SwRefIdeal.main_arg3) = m ((c.tc : Thread Cert.SwRefIdeal.nD Cert.SwRefIdeal.τ).loc Cert.SwRefIdeal.main_arg3))
      ∧ r.2.sem = fun _ => 0)

def quiescent_SwRefIdeal_pre_sw_finite [hSwRefIdeal : Cert.SwRefIdeal.Facts] [hPre_sw_finite : Cert.Pre_sw_finite.Facts] : Prop :=
  ∀ (m : (ℓ : Loc Cert.SwRefIdeal.nD Cert.SwRefIdeal.τ Cert.SwRefIdeal.sig) → Buf (Elt Ideal) ℓ) (g : Dev Cert.SwRefIdeal.nD → PrngReg), Pre_SwRefIdeal_sw_finite m →
    θ_run (Cert.SwRefIdeal.defs (F := Ideal)) (onTc (τ := Cert.SwRefIdeal.τ) (Cert.SwRefIdeal.main (F := Ideal))) ⟨m, fun _ => 0, g⟩ (fun r => (∀ c : Dev Cert.SwRefIdeal.nD,
      r.2.mem ((c.tc : Thread Cert.SwRefIdeal.nD Cert.SwRefIdeal.τ).loc Cert.SwRefIdeal.main_arg0) = m ((c.tc : Thread Cert.SwRefIdeal.nD Cert.SwRefIdeal.τ).loc Cert.SwRefIdeal.main_arg0)
      ∧ r.2.mem ((c.tc : Thread Cert.SwRefIdeal.nD Cert.SwRefIdeal.τ).loc Cert.SwRefIdeal.main_arg1) = m ((c.tc : Thread Cert.SwRefIdeal.nD Cert.SwRefIdeal.τ).loc Cert.SwRefIdeal.main_arg1)
      ∧ r.2.mem ((c.tc : Thread Cert.SwRefIdeal.nD Cert.SwRefIdeal.τ).loc Cert.SwRefIdeal.main_arg2) = m ((c.tc : Thread Cert.SwRefIdeal.nD Cert.SwRefIdeal.τ).loc Cert.SwRefIdeal.main_arg2)
      ∧ r.2.mem ((c.tc : Thread Cert.SwRefIdeal.nD Cert.SwRefIdeal.τ).loc Cert.SwRefIdeal.main_arg3) = m ((c.tc : Thread Cert.SwRefIdeal.nD Cert.SwRefIdeal.τ).loc Cert.SwRefIdeal.main_arg3))
      ∧ r.2.sem = fun _ => 0)

def preserves_Sb_SbIdeal : Prop :=
  True

def algebraic_SbIdeal_SbRefIdeal_pre_qk_finite [hSbIdeal : Cert.SbIdeal.Facts] [hSbRefIdeal : Cert.SbRefIdeal.Facts] [hPre_qk_finite : Cert.Pre_qk_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_qk_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v28) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)) →
    ∃ (v0 : (c : Dev Cert.WoIdeal.nD) → Buf (Elt Ideal) ((c.tc : Thread Cert.WoIdeal.nD Cert.WoIdeal.τ).loc Cert.WoIdeal.main_v2_0)) (v1 : (c : Dev Cert.WoIdeal.nD) → Buf (Elt Ideal) ((c.tc : Thread Cert.WoIdeal.nD Cert.WoIdeal.τ).loc Cert.WoIdeal.main_v2_1)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v2_0) = v0 c
          ∧ r.2.mem ((c.tc : Thread Cert.WoIdeal.nD Cert.WoIdeal.τ).loc Cert.WoIdeal.main_v2_1) = v1 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v2) = v0 c
          ∧ r.2.mem ((c.tc : Thread Cert.WoRefIdeal.nD Cert.WoRefIdeal.τ).loc Cert.WoRefIdeal.main_v16) = v1 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v18_0)) (v1 : (c : Dev Cert.FfnIdeal.nD) → Buf (Elt Ideal) ((c.tc : Thread Cert.FfnIdeal.nD Cert.FfnIdeal.τ).loc Cert.FfnIdeal.main_v18_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18_0) = v0 c
          ∧ r.2.mem ((c.tc : Thread Cert.FfnIdeal.nD Cert.FfnIdeal.τ).loc Cert.FfnIdeal.main_v18_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_v46) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Da_DaIdeal : Prop :=
  IdealRules.named_const.Statement Cert.DaIdeal.κ "mask" .f32 0xF149F2CA#32 ⊥

def algebraic_DaIdeal_DaRefIdeal_pre_da_finite [hDaIdeal : Cert.DaIdeal.Facts] [hDaRefIdeal : Cert.DaRefIdeal.Facts] [hPre_da_finite : Cert.Pre_da_finite.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal_da_finite m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)) →
    ∃ (v0 : (c : Dev Cert.DaIdeal.nD) → Buf (Elt Ideal) ((c.tc : Thread Cert.DaIdeal.nD Cert.DaIdeal.τ).loc Cert.DaIdeal.main_v40)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v40) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v103) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3))

def preserves_Sw_SwIdeal : Prop :=
  IdealRules.named_const.Statement Cert.SwIdeal.κ "mask" .f32 0xF149F2CA#32 ⊥

def algebraic_SwIdeal_SwRefIdeal_pre_sw_finite [hSwIdeal : Cert.SwIdeal.Facts] [hSwRefIdeal : Cert.SwRefIdeal.Facts] [hPre_sw_finite : Cert.Pre_sw_finite.Facts] : Prop :=
  ∀ (m : (ℓ : Loc Cert.SwIdeal.nD Cert.SwIdeal.τ Cert.SwIdeal.sig) → Buf (Elt Ideal) ℓ) (g : Dev Cert.SwIdeal.nD → PrngReg)
    (m' : (ℓ : Loc Cert.SwRefIdeal.nD Cert.SwRefIdeal.τ Cert.SwRefIdeal.sig) → Buf (Elt Ideal) ℓ) (g' : Dev Cert.SwRefIdeal.nD → PrngReg), Pre_SwIdeal_sw_finite m →
    (∀ c : Dev Cert.SwIdeal.nD,
      m' ((c.tc : Thread Cert.SwRefIdeal.nD Cert.SwRefIdeal.τ).loc Cert.SwRefIdeal.main_arg0) = m ((c.tc : Thread Cert.SwIdeal.nD Cert.SwIdeal.τ).loc Cert.SwIdeal.main_arg0)
      ∧ m' ((c.tc : Thread Cert.SwRefIdeal.nD Cert.SwRefIdeal.τ).loc Cert.SwRefIdeal.main_arg1) = m ((c.tc : Thread Cert.SwIdeal.nD Cert.SwIdeal.τ).loc Cert.SwIdeal.main_arg1)
      ∧ m' ((c.tc : Thread Cert.SwRefIdeal.nD Cert.SwRefIdeal.τ).loc Cert.SwRefIdeal.main_arg2) = m ((c.tc : Thread Cert.SwIdeal.nD Cert.SwIdeal.τ).loc Cert.SwIdeal.main_arg2)
      ∧ m' ((c.tc : Thread Cert.SwRefIdeal.nD Cert.SwRefIdeal.τ).loc Cert.SwRefIdeal.main_arg3) = m ((c.tc : Thread Cert.SwIdeal.nD Cert.SwIdeal.τ).loc Cert.SwIdeal.main_arg3)) →
    ∃ (v0 : (c : Dev Cert.SwIdeal.nD) → Buf (Elt Ideal) ((c.tc : Thread Cert.SwIdeal.nD Cert.SwIdeal.τ).loc Cert.SwIdeal.main_v45)),
      θ_run (Cert.SwIdeal.defs (F := Ideal)) (onTc (τ := Cert.SwIdeal.τ) (Cert.SwIdeal.main (F := Ideal))) ⟨m, fun _ => 0, g⟩ (fun r => ∀ c : Dev Cert.SwIdeal.nD,
          r.2.mem ((c.tc : Thread Cert.SwIdeal.nD Cert.SwIdeal.τ).loc Cert.SwIdeal.main_v45) = v0 c
          ∧ r.2.mem ((c.tc : Thread Cert.SwIdeal.nD Cert.SwIdeal.τ).loc Cert.SwIdeal.main_arg0) = m ((c.tc : Thread Cert.SwIdeal.nD Cert.SwIdeal.τ).loc Cert.SwIdeal.main_arg0)
          ∧ r.2.mem ((c.tc : Thread Cert.SwIdeal.nD Cert.SwIdeal.τ).loc Cert.SwIdeal.main_arg1) = m ((c.tc : Thread Cert.SwIdeal.nD Cert.SwIdeal.τ).loc Cert.SwIdeal.main_arg1)
          ∧ r.2.mem ((c.tc : Thread Cert.SwIdeal.nD Cert.SwIdeal.τ).loc Cert.SwIdeal.main_arg2) = m ((c.tc : Thread Cert.SwIdeal.nD Cert.SwIdeal.τ).loc Cert.SwIdeal.main_arg2)
          ∧ r.2.mem ((c.tc : Thread Cert.SwIdeal.nD Cert.SwIdeal.τ).loc Cert.SwIdeal.main_arg3) = m ((c.tc : Thread Cert.SwIdeal.nD Cert.SwIdeal.τ).loc Cert.SwIdeal.main_arg3))
      ∧ θ_run (Cert.SwRefIdeal.defs (F := Ideal)) (onTc (τ := Cert.SwRefIdeal.τ) (Cert.SwRefIdeal.main (F := Ideal))) ⟨m', fun _ => 0, g'⟩ (fun r => ∀ c : Dev Cert.SwRefIdeal.nD,
          r.2.mem ((c.tc : Thread Cert.SwRefIdeal.nD Cert.SwRefIdeal.τ).loc Cert.SwRefIdeal.main_v100) = v0 c
          ∧ r.2.mem ((c.tc : Thread Cert.SwRefIdeal.nD Cert.SwRefIdeal.τ).loc Cert.SwRefIdeal.main_arg0) = m' ((c.tc : Thread Cert.SwRefIdeal.nD Cert.SwRefIdeal.τ).loc Cert.SwRefIdeal.main_arg0)
          ∧ r.2.mem ((c.tc : Thread Cert.SwRefIdeal.nD Cert.SwRefIdeal.τ).loc Cert.SwRefIdeal.main_arg1) = m' ((c.tc : Thread Cert.SwRefIdeal.nD Cert.SwRefIdeal.τ).loc Cert.SwRefIdeal.main_arg1)
          ∧ r.2.mem ((c.tc : Thread Cert.SwRefIdeal.nD Cert.SwRefIdeal.τ).loc Cert.SwRefIdeal.main_arg2) = m' ((c.tc : Thread Cert.SwRefIdeal.nD Cert.SwRefIdeal.τ).loc Cert.SwRefIdeal.main_arg2)
          ∧ r.2.mem ((c.tc : Thread Cert.SwRefIdeal.nD Cert.SwRefIdeal.τ).loc Cert.SwRefIdeal.main_arg3) = m' ((c.tc : Thread Cert.SwRefIdeal.nD Cert.SwRefIdeal.τ).loc Cert.SwRefIdeal.main_arg3))

def Claim : Prop :=
  ∃ (hSb : Cert.Sb.Facts) (hSbIdeal : Cert.SbIdeal.Facts) (hSbRefIdeal : Cert.SbRefIdeal.Facts) (hProj : Cert.Proj.Facts) (hProjIdeal : Cert.ProjIdeal.Facts) (hProjRefIdeal : Cert.ProjRefIdeal.Facts) (hWo : Cert.Wo.Facts) (hWoIdeal : Cert.WoIdeal.Facts) (hWoRefIdeal : Cert.WoRefIdeal.Facts) (hRms : Cert.Rms.Facts) (hRmsIdeal : Cert.RmsIdeal.Facts) (hRmsRefIdeal : Cert.RmsRefIdeal.Facts) (hFfn : Cert.Ffn.Facts) (hFfnIdeal : Cert.FfnIdeal.Facts) (hFfnRefIdeal : Cert.FfnRefIdeal.Facts) (hDa : Cert.Da.Facts) (hDaIdeal : Cert.DaIdeal.Facts) (hDaRefIdeal : Cert.DaRefIdeal.Facts) (hSw : Cert.Sw.Facts) (hSwIdeal : Cert.SwIdeal.Facts) (hSwRefIdeal : Cert.SwRefIdeal.Facts) (hPre_qk_finite : Cert.Pre_qk_finite.Facts) (hPre_da_finite : Cert.Pre_da_finite.Facts) (hPre_sw_finite : Cert.Pre_sw_finite.Facts),
    quiescent_Sb (hSb := hSb)
    ∧ quiescent_SbIdeal (hSbIdeal := hSbIdeal)
    ∧ quiescent_SbIdeal_pre_qk_finite (hSbIdeal := hSbIdeal) (hPre_qk_finite := hPre_qk_finite)
    ∧ quiescent_SbRefIdeal (hSbRefIdeal := hSbRefIdeal)
    ∧ quiescent_SbRefIdeal_pre_qk_finite (hSbRefIdeal := hSbRefIdeal) (hPre_qk_finite := hPre_qk_finite)
    ∧ quiescent_Proj (hProj := hProj)
    ∧ quiescent_ProjIdeal (hProjIdeal := hProjIdeal)
    ∧ quiescent_ProjRefIdeal (hProjRefIdeal := hProjRefIdeal)
    ∧ quiescent_Wo (hWo := hWo)
    ∧ quiescent_WoIdeal (hWoIdeal := hWoIdeal)
    ∧ quiescent_WoRefIdeal (hWoRefIdeal := hWoRefIdeal)
    ∧ quiescent_Rms (hRms := hRms)
    ∧ quiescent_RmsIdeal (hRmsIdeal := hRmsIdeal)
    ∧ quiescent_RmsRefIdeal (hRmsRefIdeal := hRmsRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Da (hDa := hDa)
    ∧ quiescent_DaIdeal (hDaIdeal := hDaIdeal)
    ∧ quiescent_DaIdeal_pre_da_finite (hDaIdeal := hDaIdeal) (hPre_da_finite := hPre_da_finite)
    ∧ quiescent_DaRefIdeal (hDaRefIdeal := hDaRefIdeal)
    ∧ quiescent_DaRefIdeal_pre_da_finite (hDaRefIdeal := hDaRefIdeal) (hPre_da_finite := hPre_da_finite)
    ∧ quiescent_Sw (hSw := hSw)
    ∧ quiescent_SwIdeal (hSwIdeal := hSwIdeal)
    ∧ quiescent_SwIdeal_pre_sw_finite (hSwIdeal := hSwIdeal) (hPre_sw_finite := hPre_sw_finite)
    ∧ quiescent_SwRefIdeal (hSwRefIdeal := hSwRefIdeal)
    ∧ quiescent_SwRefIdeal_pre_sw_finite (hSwRefIdeal := hSwRefIdeal) (hPre_sw_finite := hPre_sw_finite)
    ∧ preserves_Sb_SbIdeal
    ∧ algebraic_SbIdeal_SbRefIdeal_pre_qk_finite (hSbIdeal := hSbIdeal) (hSbRefIdeal := hSbRefIdeal) (hPre_qk_finite := hPre_qk_finite)
    ∧ preserves_Proj_ProjIdeal
    ∧ algebraic_ProjIdeal_ProjRefIdeal (hProjIdeal := hProjIdeal) (hProjRefIdeal := hProjRefIdeal)
    ∧ preserves_Wo_WoIdeal
    ∧ algebraic_WoIdeal_WoRefIdeal (hWoIdeal := hWoIdeal) (hWoRefIdeal := hWoRefIdeal)
    ∧ preserves_Rms_RmsIdeal
    ∧ algebraic_RmsIdeal_RmsRefIdeal (hRmsIdeal := hRmsIdeal) (hRmsRefIdeal := hRmsRefIdeal)
    ∧ preserves_Ffn_FfnIdeal
    ∧ algebraic_FfnIdeal_FfnRefIdeal (hFfnIdeal := hFfnIdeal) (hFfnRefIdeal := hFfnRefIdeal)
    ∧ preserves_Da_DaIdeal
    ∧ algebraic_DaIdeal_DaRefIdeal_pre_da_finite (hDaIdeal := hDaIdeal) (hDaRefIdeal := hDaRefIdeal) (hPre_da_finite := hPre_da_finite)
    ∧ preserves_Sw_SwIdeal
    ∧ algebraic_SwIdeal_SwRefIdeal_pre_sw_finite (hSwIdeal := hSwIdeal) (hSwRefIdeal := hSwRefIdeal) (hPre_sw_finite := hPre_sw_finite)
-- ==== Pre_da_finite.lean ====
abbrev S16384x3072 : Shape := ⟨2, ![16384, 3072]⟩
abbrev S32x16 : Shape := ⟨2, ![32, 16]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x3072 .bf16) (main_arg1 : FVec F S32x16 .f32) (main_arg2 : FVec F S4x64 .f32) (main_arg3 : FVec F S128 .f32) : IVec S_ 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  let main_v5 : FVec F S32x16 .f32 := Host.absf main_arg1
  let main_cst_0 : FVec F S_ .f32 := constant S_ .f32 0x7F800000#32
  let main_v6 : FVec F S32x16 .f32 := broadcastInDim S32x16 ![] bcast_S_S32x16 main_cst_0
  let main_v7 : IVec S32x16 1 := cmpf .olt main_v5 main_v6
  let main_c_1 : IVec S_ 1 := constantI S_ 1 1#1
  let main_v8 : IVec S_ 1 := (fun x v => Host.reduce IntOp.andi x v reducesTo_S32x16_S_d0_1 h_S_) main_v7 main_c_1
  let main_v9 : IVec S_ 1 := andi main_v4 main_v8
  let main_v10 : FVec F S4x64 .f32 := Host.absf main_arg2
  let main_cst_2 : FVec F S_ .f32 := constant S_ .f32 0x7F800000#32
  let main_v11 : FVec F S4x64 .f32 := broadcastInDim S4x64 ![] bcast_S_S4x64 main_cst_2
  let main_v12 : IVec S4x64 1 := cmpf .olt main_v10 main_v11
  let main_c_3 : IVec S_ 1 := constantI S_ 1 1#1
  let main_v13 : IVec S_ 1 := (fun x v => Host.reduce IntOp.andi x v reducesTo_S4x64_S_d0_1 h_S_) main_v12 main_c_3
  let main_v14 : IVec S_ 1 := andi main_v9 main_v13
  main_v14
-- ==== Pre_qk_finite.lean ====
abbrev S16384x3072 : Shape := ⟨2, ![16384, 3072]⟩
abbrev S16384x2048 : Shape := ⟨2, ![16384, 2048]⟩
abbrev S_ : Shape := ⟨0, ![]⟩

class Facts : Prop where
  slices_S16384x3072_S16384x2048_0_0 : S16384x3072.Slices ![0, 0] S16384x2048
  bitsLt_bf16_f32 : FTy.bits .bf16 < FTy.bits .f32
  bcast_S_S16384x2048 : S_.BroadcastsInDim S16384x2048 (![] : Fin 0 → Fin S16384x2048.rank)

variable [Facts]

def fn {F : FTy → Type} [FloatOps F] (main_arg0 : FVec F S16384x3072 .bf16) : IVec S16384x2048 1 :=
  let main_v0 : FVec F S16384x2048 .bf16 := (extractStridedSlice S16384x2048 ![0, 0] · slices_S16384x3072_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  main_v4
-- ==== Pre_sw_finite.lean ====
abbrev S16384x1024 : Shape := ⟨2, ![16384, 1024]⟩
abbrev S1024x1536 : Shape := ⟨2, ![1024, 1536]⟩
abbrev S32x16 : Shape := ⟨2, ![32, 16]⟩
abbrev S16 : Shape := ⟨1, ![16]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1536 : S_.BroadcastsInDim S1024x1536 (![] : Fin 0 → Fin S1024x1536.rank)
  reducesTo_S1024x1536_S_d0_1 : S1024x1536.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v14 : IVec S_ 1) (main_v15 : FVec F S16 .f32) (main_v16 : FVec F S16 .f32) : IVec S_ 1 :=
  let main_v17 : IVec S16 1 := cmpf .olt main_v15 main_v16
  let main_c_5 : IVec S_ 1 := constantI S_ 1 1#1
  let main_v18 : IVec S_ 1 := (fun x v => Host.reduce IntOp.andi x v reducesTo_S16_S_d0 h_S_) main_v17 main_c_5
  let main_v19 : IVec S_ 1 := andi main_v14 main_v18
  main_v19

def fn {F : FTy → Type} [FloatOps F] (main_arg0 : FVec F S16384x1024 .bf16) (main_arg1 : FVec F S1024x1536 .f32) (main_arg2 : FVec F S32x16 .f32) (main_arg3 : FVec F S16 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024x1536 .f32 := Host.absf main_arg1
  let main_cst_0 : FVec F S_ .f32 := constant S_ .f32 0x7F800000#32
  let main_v6 : FVec F S1024x1536 .f32 := broadcastInDim S1024x1536 ![] bcast_S_S1024x1536 main_cst_0
  let main_v7 : IVec S1024x1536 1 := cmpf .olt main_v5 main_v6
  let main_c_1 : IVec S_ 1 := constantI S_ 1 1#1
  let main_v8 : IVec S_ 1 := (fun x v => Host.reduce IntOp.andi x v reducesTo_S1024x1536_S_d0_1 h_S_) main_v7 main_c_1
  let main_v9 : IVec S_ 1 := andi main_v4 main_v8
  let main_v10 : FVec F S32x16 .f32 := Host.absf main_arg2
  let main_cst_2 : FVec F S_ .f32 := constant S_ .f32 0x7F800000#32
  let main_v11 : FVec F S32x16 .f32 := broadcastInDim S32x16 ![] bcast_S_S32x16 main_cst_2
  let main_v12 : IVec S32x16 1 := cmpf .olt main_v10 main_v11
  let main_c_3 : IVec S_ 1 := constantI S_ 1 1#1
  let main_v13 : IVec S_ 1 := (fun x v => Host.reduce IntOp.andi x v reducesTo_S32x16_S_d0_1 h_S_) main_v12 main_c_3
  let main_v14 : IVec S_ 1 := andi main_v9 main_v13
  let main_v15 : FVec F S16 .f32 := Host.absf main_arg3
  let main_cst_4 : FVec F S_ .f32 := constant S_ .f32 0x7F800000#32
  let main_v16 : FVec F S16 .f32 := broadcastInDim S16 ![] bcast_S_S16 main_cst_4
  fn_part1 (F := F) main_v14 main_v15 main_v16
-- ==== Sb.lean ====
abbrev S16384x3072 : Shape := ⟨2, ![16384, 3072]⟩
abbrev S16384x1024 : Shape := ⟨2, ![16384, 1024]⟩
abbrev S256x128 : Shape := ⟨2, ![256, 128]⟩
abbrev S2048x128 : Shape := ⟨2, ![2048, 128]⟩
abbrev S2x256x1 : Shape := ⟨3, ![2, 256, 1]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩

abbrev nBuf : Space → Nat
  | .hbm => 2
  | .vmem => 10
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S2x256x1, .f32⟩
  | .local _ .vmem, ⟨9, _⟩ => ⟨S256x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let arg2 : BitVec 32 := BitVec.ofNat 32 (i 2).val
  let c256_i32 : BitVec 32 := 256#32
  let v29 : BitVec 32 := Scalar.muli arg2 c256_i32
  v29
def k0_off1 (i : grid0.Coords) : Fin 2 → Nat :=
  let arg2 : BitVec 32 := BitVec.ofNat 32 (i 2).val
  let c256_i32 : BitVec 32 := 256#32
  let v29 : BitVec 32 := Scalar.muli arg2 c256_i32
  let v30 : BitVec 32 := v29
  let v31 : Index := Scalar.indexCast v30
  let c0_13 : Index := 0#32
  ![v31.toNat, 0]
@[reducible] def k0_t1_loop (i : grid0.Coords) : Scf.Loop 32 :=
  let c0_i32_67 : BitVec 32 := 0#32
  let arg2 : BitVec 32 := BitVec.ofNat 32 (i 2).val
  let v146 : BitVec 32 := Scalar.subi arg2 c0_i32_67
  let c1_i32 : BitVec 32 := 1#32
  let v148 : BitVec 32 := Scalar.divsi v146 c1_i32
  let v149 : BitVec 32 := Scalar.muli v148 c1_i32
  let v150 : BitVec 32 := Scalar.addi c0_i32_67 v149
  let c1_i32_68 : BitVec 32 := 1#32
  ⟨c0_i32_67, v150, c1_i32_68⟩
def k0_mult2 (i : grid0.Coords) (k0_t1 : Fin (k0_t1_loop i).trips) : BitVec 32 :=
  let arg2 : BitVec 32 := BitVec.ofNat 32 (i 2).val
  let c1_i32_74 : BitVec 32 := 1#32
  let v154 : BitVec 32 := Scalar.subi arg2 c1_i32_74
  let c0_i32_67 : BitVec 32 := 0#32
  let c1_i32_68 : BitVec 32 := 1#32
  let arg9 : BitVec 32 := Scf.iv c0_i32_67 c1_i32_68 k0_t1
  let v155 : BitVec 32 := Scalar.subi v154 arg9
  let c256_i32_75 : BitVec 32 := 256#32
  let v156 : BitVec 32 := Scalar.muli v155 c256_i32_75
  v156
def k0_off2 (i : grid0.Coords) (k0_t1 : Fin (k0_t1_loop i).trips) : Fin 2 → Nat :=
  let arg2 : BitVec 32 := BitVec.ofNat 32 (i 2).val
  let c1_i32_74 : BitVec 32 := 1#32
  let v154 : BitVec 32 := Scalar.subi arg2 c1_i32_74
  let c0_i32_67 : BitVec 32 := 0#32
  let c1_i32_68 : BitVec 32 := 1#32
  let arg9 : BitVec 32 := Scf.iv c0_i32_67 c1_i32_68 k0_t1
  let v155 : BitVec 32 := Scalar.subi v154 arg9
  let c256_i32_75 : BitVec 32 := 256#32
  let v156 : BitVec 32 := Scalar.muli v155 c256_i32_75
  let v157 : BitVec 32 := v156
  let v158 : Index := Scalar.indexCast v157
  let c0_76 : Index := 0#32
  ![v158.toNat, 0]
@[reducible] def k0_t2_loop (i : grid0.Coords) : Scf.Loop 32 :=
  let c0_i32_67 : BitVec 32 := 0#32
  let arg2 : BitVec 32 := BitVec.ofNat 32 (i 2).val
  let v146 : BitVec 32 := Scalar.subi arg2 c0_i32_67
  let c1_i32 : BitVec 32 := 1#32
  let v148 : BitVec 32 := Scalar.divsi v146 c1_i32
  let v149 : BitVec 32 := Scalar.muli v148 c1_i32
  let v150 : BitVec 32 := Scalar.addi c0_i32_67 v149
  let v147 : BitVec 32 := Scalar.addi c0_i32_67 v146
  let c1_i32_69 : BitVec 32 := 1#32
  ⟨v150, v147, c1_i32_69⟩
def k0_mult3 (i : grid0.Coords) (k0_t2 : Fin (k0_t2_loop i).trips) : BitVec 32 :=
  let arg2 : BitVec 32 := BitVec.ofNat 32 (i 2).val
  let c1_i32_74 : BitVec 32 := 1#32
  let v154 : BitVec 32 := Scalar.subi arg2 c1_i32_74
  let c0_i32_67 : BitVec 32 := 0#32
  let v146 : BitVec 32 := Scalar.subi arg2 c0_i32_67
  let c1_i32 : BitVec 32 := 1#32
  let v148 : BitVec 32 := Scalar.divsi v146 c1_i32
  let v149 : BitVec 32 := Scalar.muli v148 c1_i32
  let v150 : BitVec 32 := Scalar.addi c0_i32_67 v149
  let c1_i32_69 : BitVec 32 := 1#32
  let arg9 : BitVec 32 := Scf.iv v150 c1_i32_69 k0_t2
  let v155 : BitVec 32 := Scalar.subi v154 arg9
  let c256_i32_75 : BitVec 32 := 256#32
  let v156 : BitVec 32 := Scalar.muli v155 c256_i32_75
  v156
def k0_off3 (i : grid0.Coords) (k0_t2 : Fin (k0_t2_loop i).trips) : Fin 2 → Nat :=
  let arg2 : BitVec 32 := BitVec.ofNat 32 (i 2).val
  let c1_i32_74 : BitVec 32 := 1#32
  let v154 : BitVec 32 := Scalar.subi arg2 c1_i32_74
  let c0_i32_67 : BitVec 32 := 0#32
  let v146 : BitVec 32 := Scalar.subi arg2 c0_i32_67
  let c1_i32 : BitVec 32 := 1#32
  let v148 : BitVec 32 := Scalar.divsi v146 c1_i32
  let v149 : BitVec 32 := Scalar.muli v148 c1_i32
  let v150 : BitVec 32 := Scalar.addi c0_i32_67 v149
  let c1_i32_69 : BitVec 32 := 1#32
  let arg9 : BitVec 32 := Scf.iv v150 c1_i32_69 k0_t2
  let v155 : BitVec 32 := Scalar.subi v154 arg9
  let c256_i32_75 : BitVec 32 := 256#32
  let v156 : BitVec 32 := Scalar.muli v155 c256_i32_75
  let v157 : BitVec 32 := v156
  let v158 : Index := Scalar.indexCast v157
  let c0_76 : Index := 0#32
  ![v158.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbRefIdeal.lean ====
abbrev S16384x3072 : Shape := ⟨2, ![16384, 3072]⟩
abbrev S16384x1024 : Shape := ⟨2, ![16384, 1024]⟩
abbrev S8x2048x16x64 : Shape := ⟨4, ![8, 2048, 16, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x16x2048x2048 : Shape := ⟨4, ![8, 16, 2048, 2048]⟩
abbrev S_ : Shape := ⟨0, ![]⟩
abbrev S8x16x64x2048 : Shape := ⟨4, ![8, 16, 64, 2048]⟩

abbrev nBuf : Space → Nat
  | .hbm => 71
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S8x2048x16x64, .f32⟩
  | .hbm, ⟨6, _⟩ => ⟨S8x2048x16x64, .f32⟩
  | .hbm, ⟨7, _⟩ => ⟨S8x2048x16x64, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S8x16x2048x2048, .f32⟩
  | .hbm, ⟨15, _⟩ => ⟨S_, .f32⟩
  | .hbm, ⟨16, _⟩ => ⟨S8x16x2048x2048, .f32⟩
  | .hbm, ⟨17, _⟩ => ⟨S8x16x2048x2048, .f32⟩
  | .hbm, ⟨18, _⟩ => ⟨S8x16x2048x2048, .f32⟩
  | .hbm, ⟨19, _⟩ => ⟨S8x16x2048x2048, .f32⟩
  | .hbm, ⟨20, _⟩ => ⟨S_, .f32⟩
  | .hbm, ⟨21, _⟩ => ⟨S8x16x2048x2048, .f32⟩
  | .hbm, ⟨22, _⟩ => ⟨S8x16x2048x2048, .f32⟩
  | .hbm, ⟨23, _⟩ => ⟨S8x16x2048x2048, .f32⟩
  | .hbm, ⟨24, _⟩ => ⟨S8x16x2048x2048, .f32⟩
  | .hbm, ⟨25, _⟩ => ⟨S8x16x2048x2048, .i1⟩
  | .hbm, ⟨26, _⟩ => ⟨S8x16x2048x2048, .f32⟩
  | .hbm, ⟨27, _⟩ => ⟨S8x16x2048x2048, .f32⟩
  | .hbm, ⟨28, _⟩ => ⟨S8x16x2048x2048, .f32⟩
  | .hbm, ⟨29, _⟩ => ⟨S8x16x2048x2048, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S8x16x2048x2048, .f32⟩
  | .hbm, ⟨34, _⟩ => ⟨S8x16x2048x2048, .f32⟩
  | .hbm, ⟨35, _⟩ => ⟨S_, .f32⟩
  | .hbm, ⟨36, _⟩ => ⟨S_, .f32⟩
  | .hbm, ⟨37, _⟩ => ⟨S8x16x2048x2048, .i1⟩
  | .hbm, ⟨38, _⟩ => ⟨S8x16x2048x2048, .f32⟩
  | .hbm, ⟨39, _⟩ => ⟨S8x16x2048x2048, .f32⟩
  | .hbm, ⟨40, _⟩ => ⟨S_, .f32⟩
  | .hbm, ⟨41, _⟩ => ⟨S_, .f32⟩
  | .hbm, ⟨42, _⟩ => ⟨S8x16x2048x2048, .f32⟩
  | .hbm, ⟨43, _⟩ => ⟨S8x16x2048x2048, .f32⟩
  | .hbm, ⟨44, _⟩ => ⟨S8x16x2048x2048, .f32⟩
  | .hbm, ⟨45, _⟩ => ⟨S_, .f32⟩
  | .hbm, ⟨46, _⟩ => ⟨S8x16x2048x2048, .f32⟩
  | .hbm, ⟨47, _⟩ => ⟨S8x16x2048x2048, .f32⟩
  | .hbm, ⟨48, _⟩ => ⟨S8x16x2048x2048, .f32⟩
  | .hbm, ⟨49, _⟩ => ⟨S8x16x2048x2048, .f32⟩
  | .hbm, ⟨50, _⟩ => ⟨S8x16x2048x2048, .i1⟩
  | .hbm, ⟨51, _⟩ => ⟨S8x16x2048x2048, .f32⟩
  | .hbm, ⟨52, _⟩ => ⟨S8x16x2048x2048, .f32⟩
  | .hbm, ⟨53, _⟩ => ⟨S8x16x2048x2048, .f32⟩
  | .hbm, ⟨54, _⟩ => ⟨S8x16x2048x2048, .f32⟩
  | .hbm, ⟨55, _⟩ => ⟨S8x16x2048x2048, .f32⟩
  | .hbm, ⟨56, _⟩ => ⟨S8x16x2048x2048, .f32⟩
  | .hbm, ⟨57, _⟩ => ⟨S8x16x2048x2048, .f32⟩
  | .hbm, ⟨58, _⟩ => ⟨S8x16x2048x2048, .f32⟩
  | .hbm, ⟨59, _⟩ => ⟨S8x16x2048x2048, .f32⟩
  | .hbm, ⟨60, _⟩ => ⟨S8x16x2048x2048, .f32⟩
  | .hbm, ⟨61, _⟩ => ⟨S8x16x2048x2048, .f32⟩
  | .hbm, ⟨62, _⟩ => ⟨S_, .f32⟩
  | .hbm, ⟨63, _⟩ => ⟨S_, .f32⟩
  | .hbm, ⟨64, _⟩ => ⟨S8x16x2048x2048, .i1⟩
  | .hbm, ⟨65, _⟩ => ⟨S8x16x2048x2048, .f32⟩
  | .hbm, ⟨66, _⟩ => ⟨S8x16x2048x2048, .f32⟩
  | .hbm, ⟨67, _⟩ => ⟨S8x16x64x2048, .f32⟩
  | .hbm, ⟨68, _⟩ => ⟨S8x2048x16x64, .f32⟩
  | .hbm, ⟨69, _⟩ => ⟨S16384x1024, .f32⟩
  | .hbm, ⟨70, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Proj.lean ====
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩
abbrev S1024x512 : Shape := ⟨2, ![1024, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S1024x3072, .bf16⟩
  | .hbm, ⟨3, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S16384x1024, .f32⟩
  | .hbm, ⟨3, _⟩ => ⟨S16384x3072, .f32⟩
  | .hbm, ⟨4, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Wo.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S16384x1024, .f32⟩
  | .hbm, ⟨7, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WoRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Rms.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Ffn.lean ====
abbrev S16384x1024 : Shape := ⟨2, ![16384, 1024]⟩
abbrev S1024x5504 : Shape := ⟨2, ![1024, 5504]⟩
abbrev S3x5504 : Shape := ⟨2, ![3, 5504]⟩
abbrev S5504 : Shape := ⟨1, ![5504]⟩
abbrev S2752x1024 : Shape := ⟨2, ![2752, 1024]⟩
abbrev S1024 : Shape := ⟨1, ![1024]⟩
abbrev S1024x2752 : Shape := ⟨2, ![1024, 2752]⟩
abbrev S_ : Shape := ⟨0, ![]⟩
abbrev S1024x2816 : Shape := ⟨2, ![1024, 2816]⟩
abbrev S1x5504 : Shape := ⟨2, ![1, 5504]⟩
abbrev S3x2752 : Shape := ⟨2, ![3, 2752]⟩
abbrev S3x2816 : Shape := ⟨2, ![3, 2816]⟩
abbrev S1x2752 : Shape := ⟨2, ![1, 2752]⟩
abbrev S1x2816 : Shape := ⟨2, ![1, 2816]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S2x11x8x256 : Shape := ⟨4, ![2, 11, 8, 256]⟩
abbrev S2x1x8x256 : Shape := ⟨4, ![2, 1, 8, 256]⟩
abbrev S1x1x8x256 : Shape := ⟨4, ![1, 1, 8, 256]⟩
abbrev S8x256 : Shape := ⟨2, ![8, 256]⟩
abbrev S16x256 : Shape := ⟨2, ![16, 256]⟩
abbrev S1016x256 : Shape := ⟨2, ![1016, 256]⟩
abbrev S1024x1 : Shape := ⟨2, ![1024, 1]⟩

abbrev nBuf : Space → Nat
  | .hbm => 41
  | .vmem => 25
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5504, .f32⟩
  | .hbm, ⟨3, _⟩ => ⟨S3x5504, .f32⟩
  | .hbm, ⟨4, _⟩ => ⟨S5504, .f32⟩
  | .hbm, ⟨5, _⟩ => ⟨S2752x1024, .f32⟩
  | .hbm, ⟨6, _⟩ => ⟨S1024, .f32⟩
  | .hbm, ⟨7, _⟩ => ⟨S1024x2752, .f32⟩
  | .hbm, ⟨8, _⟩ => ⟨S_, .i32⟩
  | .hbm, ⟨9, _⟩ => ⟨S_, .f32⟩
  | .hbm, ⟨10, _⟩ => ⟨S1024x2816, .f32⟩
  | .hbm, ⟨11, _⟩ => ⟨S1024x2816, .bf16⟩
  | .hbm, ⟨12, _⟩ => ⟨S1024x2752, .f32⟩
  | .hbm, ⟨13, _⟩ => ⟨S_, .i32⟩
  | .hbm, ⟨14, _⟩ => ⟨S_, .f32⟩
  | .hbm, ⟨15, _⟩ => ⟨S1024x2816, .f32⟩
  | .hbm, ⟨16, _⟩ => ⟨S1024x2816, .bf16⟩
  | .hbm, ⟨17, _⟩ => ⟨S1x5504, .f32⟩
  | .hbm, ⟨18, _⟩ => ⟨S3x2752, .f32⟩
  | .hbm, ⟨19, _⟩ => ⟨S_, .i32⟩
  | .hbm, ⟨20, _⟩ => ⟨S_, .f32⟩
  | .hbm, ⟨21, _⟩ => ⟨S3x2816, .f32⟩
  | .hbm, ⟨22, _⟩ => ⟨S3x2752, .f32⟩
  | .hbm, ⟨23, _⟩ => ⟨S_, .i32⟩
  | .hbm, ⟨24, _⟩ => ⟨S_, .f32⟩
  | .hbm, ⟨25, _⟩ => ⟨S3x2816, .f32⟩
  | .hbm, ⟨26, _⟩ => ⟨S1x2752, .f32⟩
  | .hbm, ⟨27, _⟩ => ⟨S_, .i32⟩
  | .hbm, ⟨28, _⟩ => ⟨S_, .f32⟩
  | .hbm, ⟨29, _⟩ => ⟨S1x2816, .f32⟩
  | .hbm, ⟨30, _⟩ => ⟨S1x2752, .f32⟩
  | .hbm, ⟨31, _⟩ => ⟨S_, .i32⟩
  | .hbm, ⟨32, _⟩ => ⟨S_, .f32⟩
  | .hbm, ⟨33, _⟩ => ⟨S1x2816, .f32⟩
  | .hbm, ⟨34, _⟩ => ⟨S_, .i32⟩
  | .hbm, ⟨35, _⟩ => ⟨S_, .f32⟩
  | .hbm, ⟨36, _⟩ => ⟨S2816x1024, .f32⟩
  | .hbm, ⟨37, _⟩ => ⟨S2816x1024, .bf16⟩
  | .hbm, ⟨38, _⟩ => ⟨S1x1024, .f32⟩
  | .hbm, ⟨39, _⟩ => ⟨S16384x1024, .f32⟩
  | .hbm, ⟨40, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S2x11x8x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_call3_v0 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_call4_v0 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_call5_v0 : Ref sig .tc := ⟨.hbm, 32, rfl⟩
abbrev main_v14 : Ref sig .tc := ⟨.hbm, 33, rfl⟩
abbrev main_c_5 : Ref sig .tc := ⟨.hbm, 34, rfl⟩
abbrev main_call6_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 4 → Nat :=
  let c0_50 : Index := 0#32
  let arg1 : BitVec 32 := BitVec.ofNat 32 (i 1).val
  let v133 : Index := Scalar.indexCast arg1
  let c0_51 : Index := 0#32
  let c0_52 : Index := 0#32
  ![0, v133.toNat, 0, 0]
def k0_off2 (i : grid0.Coords) : Fin 4 → Nat :=
  let c0_11 : Index := 0#32
  let arg1 : BitVec 32 := BitVec.ofNat 32 (i 1).val
  let v20 : Index := Scalar.indexCast arg1
  let c0_12 : Index := 0#32
  let c0_13 : Index := 0#32
  ![0, v20.toNat, 0, 0]
def k0_off3 (i : grid0.Coords) : Fin 4 → Nat :=
  let c1 : Index := 1#32
  let arg1 : BitVec 32 := BitVec.ofNat 32 (i 1).val
  let v23 : Index := Scalar.indexCast arg1
  let c0_14 : Index := 0#32
  let c0_15 : Index := 0#32
  ![1, v23.toNat, 0, 0]
def k0_cond4 (i : grid0.Coords) : BitVec 1 :=
  let arg1 : BitVec 32 := BitVec.ofNat 32 (i 1).val
  let c10_i32 : BitVec 32 := 10#32
  let v129 : BitVec 1 := Scalar.cmpi .eq arg1 c10_i32
  let v130 : BitVec 32 := Scalar.extui v129
  let c0_i32_48 : BitVec 32 := 0#32
  let v131 : BitVec 1 := Scalar.cmpi .ne v130 c0_i32_48
  v131

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S16384x1024 : Shape := ⟨2, ![16384, 1024]⟩
abbrev S1024x5504 : Shape := ⟨2, ![1024, 5504]⟩
abbrev S3x5504 : Shape := ⟨2, ![3, 5504]⟩
abbrev S5504 : Shape := ⟨1, ![5504]⟩
abbrev S2752x1024 : Shape := ⟨2, ![2752, 1024]⟩
abbrev S1024 : Shape := ⟨1, ![1024]⟩
abbrev S16384x5504 : Shape := ⟨2, ![16384, 5504]⟩
abbrev S8x2048x5504 : Shape := ⟨3, ![8, 2048, 5504]⟩
abbrev S_ : Shape := ⟨0, ![]⟩
abbrev S8x2050x5504 : Shape := ⟨3, ![8, 2050, 5504]⟩
abbrev S1x5504 : Shape := ⟨2, ![1, 5504]⟩
abbrev S1x1x5504 : Shape := ⟨3, ![1, 1, 5504]⟩
abbrev S8x2048x2752 : Shape := ⟨3, ![8, 2048, 2752]⟩
abbrev S16384x2752 : Shape := ⟨2, ![16384, 2752]⟩
abbrev S16384 : Shape := ⟨1, ![16384]⟩
abbrev S16384x1 : Shape := ⟨2, ![16384, 1]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5504, .f32⟩
  | .hbm, ⟨3, _⟩ => ⟨S3x5504, .f32⟩
  | .hbm, ⟨4, _⟩ => ⟨S5504, .f32⟩
  | .hbm, ⟨5, _⟩ => ⟨S2752x1024, .f32⟩
  | .hbm, ⟨6, _⟩ => ⟨S1024, .f32⟩
  | .hbm, ⟨7, _⟩ => ⟨S16384x1024, .f32⟩
  | .hbm, ⟨8, _⟩ => ⟨S16384x5504, .f32⟩
  | .hbm, ⟨9, _⟩ => ⟨S8x2048x5504, .f32⟩
  | .hbm, ⟨10, _⟩ => ⟨S_, .i32⟩
  | .hbm, ⟨11, _⟩ => ⟨S_, .f32⟩
  | .hbm, ⟨12, _⟩ => ⟨S8x2050x5504, .f32⟩
  | .hbm, ⟨13, _⟩ => ⟨S8x2048x5504, .f32⟩
  | .hbm, ⟨14, _⟩ => ⟨S1x5504, .f32⟩
  | .hbm, ⟨15, _⟩ => ⟨S5504, .f32⟩
  | .hbm, ⟨16, _⟩ => ⟨S1x1x5504, .f32⟩
  | .hbm, ⟨17, _⟩ => ⟨S8x2048x5504, .f32⟩
  | .hbm, ⟨18, _⟩ => ⟨S8x2048x5504, .f32⟩
  | .hbm, ⟨19, _⟩ => ⟨S8x2048x5504, .f32⟩
  | .hbm, ⟨20, _⟩ => ⟨S1x5504, .f32⟩
  | .hbm, ⟨21, _⟩ => ⟨S5504, .f32⟩
  | .hbm, ⟨22, _⟩ => ⟨S1x1x5504, .f32⟩
  | .hbm, ⟨23, _⟩ => ⟨S8x2048x5504, .f32⟩
  | .hbm, ⟨24, _⟩ => ⟨S8x2048x5504, .f32⟩
  | .hbm, ⟨25, _⟩ => ⟨S8x2048x5504, .f32⟩
  | .hbm, ⟨26, _⟩ => ⟨S8x2048x5504, .f32⟩
  | .hbm, ⟨27, _⟩ => ⟨S1x5504, .f32⟩
  | .hbm, ⟨28, _⟩ => ⟨S5504, .f32⟩
  | .hbm, ⟨29, _⟩ => ⟨S1x1x5504, .f32⟩
  | .hbm, ⟨30, _⟩ => ⟨S8x2048x5504, .f32⟩
  | .hbm, ⟨31, _⟩ => ⟨S8x2048x5504, .f32⟩
  | .hbm, ⟨32, _⟩ => ⟨S8x2048x5504, .f32⟩
  | .hbm, ⟨33, _⟩ => ⟨S1x1x5504, .f32⟩
  | .hbm, ⟨34, _⟩ => ⟨S8x2048x5504, .f32⟩
  | .hbm, ⟨35, _⟩ => ⟨S8x2048x5504, .f32⟩
  | .hbm, ⟨36, _⟩ => ⟨S8x2048x2752, .f32⟩
  | .hbm, ⟨37, _⟩ => ⟨S8x2048x2752, .f32⟩
  | .hbm, ⟨38, _⟩ => ⟨S8x2048x2752, .f32⟩
  | .hbm, ⟨39, _⟩ => ⟨S8x2048x2752, .f32⟩
  | .hbm, ⟨40, _⟩ => ⟨S_, .f32⟩
  | .hbm, ⟨41, _⟩ => ⟨S8x2048x2752, .f32⟩
  | .hbm, ⟨42, _⟩ => ⟨S8x2048x2752, .f32⟩
  | .hbm, ⟨43, _⟩ => ⟨S_, .f32⟩
  | .hbm, ⟨44, _⟩ => ⟨S8x2048x2752, .f32⟩
  | .hbm, ⟨45, _⟩ => ⟨S8x2048x2752, .f32⟩
  | .hbm, ⟨46, _⟩ => ⟨S8x2048x2752, .f32⟩
  | .hbm, ⟨47, _⟩ => ⟨S8x2048x2752, .f32⟩
  | .hbm, ⟨48, _⟩ => ⟨S16384x2752, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_0 : Ref sig .tc := ⟨.hbm, 55, rfl⟩
abbrev main_v37 : Ref sig .tc := ⟨.hbm, 56, rfl⟩
abbrev main_v38 : Ref sig .tc := ⟨.hbm, 57, rfl⟩
abbrev main_cst_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Da.lean ====
abbrev S16384x3072 : Shape := ⟨2, ![16384, 3072]⟩
abbrev S32x16 : Shape := ⟨2, ![32, 16]⟩
abbrev S4x64 : Shape := ⟨2, ![4, 64]⟩
abbrev S128 : Shape := ⟨1, ![128]⟩
abbrev S256 : Shape := ⟨1, ![256]⟩
abbrev S256x1 : Shape := ⟨2, ![256, 1]⟩
abbrev S512 : Shape := ⟨1, ![512]⟩
abbrev S1x512 : Shape := ⟨2, ![1, 512]⟩
abbrev S_ : Shape := ⟨0, ![]⟩
abbrev S256x512 : Shape := ⟨2, ![256, 512]⟩
abbrev S256x512x1 : Shape := ⟨3, ![256, 512, 1]⟩
abbrev S256x512x16 : Shape := ⟨3, ![256, 512, 16]⟩
abbrev S16x256x512 : Shape := ⟨3, ![16, 256, 512]⟩
abbrev S1x16 : Shape := ⟨2, ![1, 16]⟩
abbrev S16 : Shape := ⟨1, ![16]⟩
abbrev S1x128 : Shape := ⟨2, ![1, 128]⟩
abbrev S16384x1024 : Shape := ⟨2, ![16384, 1024]⟩
abbrev S256x128 : Shape := ⟨2, ![256, 128]⟩
abbrev S2048x128 : Shape := ⟨2, ![2048, 128]⟩
abbrev S2x256x512 : Shape := ⟨3, ![2, 256, 512]⟩
abbrev S2x256x1 : Shape := ⟨3, ![2, 256, 1]⟩
abbrev S2x256x128 : Shape := ⟨3, ![2, 256, 128]⟩
abbrev S256x256 : Shape := ⟨2, ![256, 256]⟩
abbrev S1 : Shape := ⟨1, ![1]⟩
abbrev S1x256x1 : Shape := ⟨3, ![1, 256, 1]⟩
abbrev S1x256x128 : Shape := ⟨3, ![1, 256, 128]⟩
abbrev S1x256x256 : Shape := ⟨3, ![1, 256, 256]⟩
abbrev S1x64 : Shape := ⟨2, ![1, 64]⟩
abbrev S1x1x64 : Shape := ⟨3, ![1, 1, 64]⟩
abbrev S1x1x1 : Shape := ⟨3, ![1, 1, 1]⟩
abbrev S1x1 : Shape := ⟨2, ![1, 1]⟩

abbrev nBuf : Space → Nat
  | .hbm => 56
  | .vmem => 15
  | .smem => 1
  | _ => 0

abbrev bufTy : (tb : Table) → Fin (tcTables nBuf tb) → BufTy
  | .hbm, ⟨0, _⟩ => ⟨S16384x3072, .bf16⟩
  | .hbm, ⟨1, _⟩ => ⟨S32x16, .f32⟩
  | .hbm, ⟨2, _⟩ => ⟨S4x64, .f32⟩
  | .hbm, ⟨3, _⟩ => ⟨S128, .f32⟩
  | .hbm, ⟨4, _⟩ => ⟨S256, .i32⟩
  | .hbm, ⟨5, _⟩ => ⟨S256x1, .i32⟩
  | .hbm, ⟨6, _⟩ => ⟨S512, .i32⟩
  | .hbm, ⟨7, _⟩ => ⟨S1x512, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x512, .i32⟩
  | .hbm, ⟨12, _⟩ => ⟨S256x512, .i32⟩
  | .hbm, ⟨13, _⟩ => ⟨S256x512, .i32⟩
  | .hbm, ⟨14, _⟩ => ⟨S_, .i32⟩
  | .hbm, ⟨15, _⟩ => ⟨S256x512, .i32⟩
  | .hbm, ⟨16, _⟩ => ⟨S256x512, .i32⟩
  | .hbm, ⟨17, _⟩ => ⟨S_, .i32⟩
  | .hbm, ⟨18, _⟩ => ⟨S256x512, .i32⟩
  | .hbm, ⟨19, _⟩ => ⟨S256x512, .i32⟩
  | .hbm, ⟨20, _⟩ => ⟨S256x512, .f32⟩
  | .hbm, ⟨21, _⟩ => ⟨S_, .f32⟩
  | .hbm, ⟨22, _⟩ => ⟨S256x512, .f32⟩
  | .hbm, ⟨23, _⟩ => ⟨S256x512, .f32⟩
  | .hbm, ⟨24, _⟩ => ⟨S256x512, .f32⟩
  | .hbm, ⟨25, _⟩ => ⟨S_, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x512, .f32⟩
  | .hbm, ⟨30, _⟩ => ⟨S256x512, .f32⟩
  | .hbm, ⟨31, _⟩ => ⟨S256x512, .i32⟩
  | .hbm, ⟨32, _⟩ => ⟨S_, .i32⟩
  | .hbm, ⟨33, _⟩ => ⟨S256x512, .i32⟩
  | .hbm, ⟨34, _⟩ => ⟨S256x512, .i32⟩
  | .hbm, ⟨35, _⟩ => ⟨S_, .i32⟩
  | .hbm, ⟨36, _⟩ => ⟨S256x512, .i32⟩
  | .hbm, ⟨37, _⟩ => ⟨S256x512, .i32⟩
  | .hbm, ⟨38, _⟩ => ⟨S_, .i32⟩
  | .hbm, ⟨39, _⟩ => ⟨S256x512, .i32⟩
  | .hbm, ⟨40, _⟩ => ⟨S256x512, .i1⟩
  | .hbm, ⟨41, _⟩ => ⟨S256x512, .i32⟩
  | .hbm, ⟨42, _⟩ => ⟨S_, .i32⟩
  | .hbm, ⟨43, _⟩ => ⟨S256x512, .i32⟩
  | .hbm, ⟨44, _⟩ => ⟨S256x512, .i1⟩
  | .hbm, ⟨45, _⟩ => ⟨S_, .i32⟩
  | .hbm, ⟨46, _⟩ => ⟨S256x512, .i32⟩
  | .hbm, ⟨47, _⟩ => ⟨S256x512, .i32⟩
  | .hbm, ⟨48, _⟩ => ⟨S256x512, .i32⟩
  | .hbm, ⟨49, _⟩ => ⟨S256x512x1, .i32⟩
  | .hbm, ⟨50, _⟩ => ⟨S256x512x16, .f32⟩
  | .hbm, ⟨51, _⟩ => ⟨S16x256x512, .f32⟩
  | .hbm, ⟨52, _⟩ => ⟨S1x16, .f32⟩
  | .hbm, ⟨53, _⟩ => ⟨S16, .f32⟩
  | .hbm, ⟨54, _⟩ => ⟨S1x128, .f32⟩
  | .hbm, ⟨55, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x256x512, .f32⟩
  | .local _ .vmem, ⟨7, _⟩ => ⟨S2x256x512, .f32⟩
  | .local _ .vmem, ⟨8, _⟩ => ⟨S4x64, .f32⟩
  | .local _ .vmem, ⟨9, _⟩ => ⟨S1x128, .f32⟩
  | .local _ .vmem, ⟨10, _⟩ => ⟨S256x128, .bf16⟩
  | .local _ .vmem, ⟨11, _⟩ => ⟨S256x128, .bf16⟩
  | .local _ .vmem, ⟨12, _⟩ => ⟨S2x256x1, .f32⟩
  | .local _ .vmem, ⟨13, _⟩ => ⟨S2x256x1, .f32⟩
  | .local _ .vmem, ⟨14, _⟩ => ⟨S2x256x128, .f32⟩
  | .local _ .smem, ⟨0, _⟩ => ⟨S16, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32_16 : BitVec 32 := 0#32
  let arg2 : BitVec 32 := BitVec.ofNat 32 (i 2).val
  let c1_i32 : BitVec 32 := 1#32
  let v25 : BitVec 32 := Scalar.subi arg2 c1_i32
  let v26 : BitVec 32 := Scalar.subi v25 c0_i32_16
  let c1_i32_17 : BitVec 32 := 1#32
  let v28 : BitVec 32 := Scalar.divsi v26 c1_i32_17
  let v29 : BitVec 32 := Scalar.muli v28 c1_i32_17
  let v30 : BitVec 32 := Scalar.addi c0_i32_16 v29
  let c1_i32_18 : BitVec 32 := 1#32
  ⟨c0_i32_16, v30, c1_i32_18⟩
def k0_mult1 (i : grid0.Coords) (k0_t1 : Fin (k0_t1_loop i).trips) : BitVec 32 :=
  let c0_i32_16 : BitVec 32 := 0#32
  let c1_i32_18 : BitVec 32 := 1#32
  let arg14 : BitVec 32 := Scf.iv c0_i32_16 c1_i32_18 k0_t1
  let c256_i32_99 : BitVec 32 := 256#32
  let v177 : BitVec 32 := Scalar.muli arg14 c256_i32_99
  v177
def k0_off1 (i : grid0.Coords) (k0_t1 : Fin (k0_t1_loop i).trips) : Fin 2 → Nat :=
  let c0_i32_16 : BitVec 32 := 0#32
  let c1_i32_18 : BitVec 32 := 1#32
  let arg14 : BitVec 32 := Scf.iv c0_i32_16 c1_i32_18 k0_t1
  let c256_i32_99 : BitVec 32 := 256#32
  let v177 : BitVec 32 := Scalar.muli arg14 c256_i32_99
  let v178 : BitVec 32 := v177
  let v179 : Index := Scalar.indexCast v178
  let c0_100 : Index := 0#32
  ![v179.toNat, 0]
def k0_off2 (i : grid0.Coords) (c0_i32_103 : BitVec 32) : Fin 1 → Nat :=
  let c2_i32 : BitVec 32 := 2#32
  let arg1 : BitVec 32 := BitVec.ofNat 32 (i 1).val
  let v184 : BitVec 32 := Scalar.muli c2_i32 arg1
  let v185 : BitVec 32 := Scalar.addi v184 c0_i32_103
  let v186 : Index := Scalar.indexCast v185
  ![v186.toNat]
@[reducible] def k0_t2_loop (i : grid0.Coords) : Scf.Loop 32 :=
  let c0_i32_16 : BitVec 32 := 0#32
  let arg2 : BitVec 32 := BitVec.ofNat 32 (i 2).val
  let c1_i32 : BitVec 32 := 1#32
  let v25 : BitVec 32 := Scalar.subi arg2 c1_i32
  let v26 : BitVec 32 := Scalar.subi v25 c0_i32_16
  let c1_i32_17 : BitVec 32 := 1#32
  let v28 : BitVec 32 := Scalar.divsi v26 c1_i32_17
  let v29 : BitVec 32 := Scalar.muli v28 c1_i32_17
  let v30 : BitVec 32 := Scalar.addi c0_i32_16 v29
  let v27 : BitVec 32 := Scalar.addi c0_i32_16 v26
  let c1_i32_19 : BitVec 32 := 1#32
  ⟨v30, v27, c1_i32_19⟩
def k0_mult2 (i : grid0.Coords) (k0_t2 : Fin (k0_t2_loop i).trips) : BitVec 32 :=
  let c0_i32_16 : BitVec 32 := 0#32
  let arg2 : BitVec 32 := BitVec.ofNat 32 (i 2).val
  let c1_i32 : BitVec 32 := 1#32
  let v25 : BitVec 32 := Scalar.subi arg2 c1_i32
  let v26 : BitVec 32 := Scalar.subi v25 c0_i32_16
  let c1_i32_17 : BitVec 32 := 1#32
  let v28 : BitVec 32 := Scalar.divsi v26 c1_i32_17
  let v29 : BitVec 32 := Scalar.muli v28 c1_i32_17
  let v30 : BitVec 32 := Scalar.addi c0_i32_16 v29
  let c1_i32_19 : BitVec 32 := 1#32
  let arg14 : BitVec 32 := Scf.iv v30 c1_i32_19 k0_t2
  let c256_i32_99 : BitVec 32 := 256#32
  let v177 : BitVec 32 := Scalar.muli arg14 c256_i32_99
  v177
def k0_off3 (i : grid0.Coords) (k0_t2 : Fin (k0_t2_loop i).trips) : Fin 2 → Nat :=
  let c0_i32_16 : BitVec 32 := 0#32
  let arg2 : BitVec 32 := BitVec.ofNat 32 (i 2).val
  let c1_i32 : BitVec 32 := 1#32
  let v25 : BitVec 32 := Scalar.subi arg2 c1_i32
  let v26 : BitVec 32 := Scalar.subi v25 c0_i32_16
  let c1_i32_17 : BitVec 32 := 1#32
  let v28 : BitVec 32 := Scalar.divsi v26 c1_i32_17
  let v29 : BitVec 32 := Scalar.muli v28 c1_i32_17
  let v30 : BitVec 32 := Scalar.addi c0_i32_16 v29
  let c1_i32_19 : BitVec 32 := 1#32
  let arg14 : BitVec 32 := Scf.iv v30 c1_i32_19 k0_t2
  let c256_i32_99 : BitVec 32 := 256#32
  let v177 : BitVec 32 := Scalar.muli arg14 c256_i32_99
  let v178 : BitVec 32 := v177
  let v179 : Index := Scalar.indexCast v178
  let c0_100 : Index := 0#32
  ![v179.toNat, 0]
def k0_off4 (i : grid0.Coords) (c0_i32_103 : BitVec 32) : Fin 1 → Nat :=
  let c2_i32 : BitVec 32 := 2#32
  let arg1 : BitVec 32 := BitVec.ofNat 32 (i 1).val
  let v184 : BitVec 32 := Scalar.muli c2_i32 arg1
  let v185 : BitVec 32 := Scalar.addi v184 c0_i32_103
  let v186 : Index := Scalar.indexCast v185
  ![v186.toNat]
def k0_cond1 (i : grid0.Coords) : BitVec 1 :=
  let arg2 : BitVec 32 := BitVec.ofNat 32 (i 2).val
  let c0_i32_20 : BitVec 32 := 0#32
  let v31 : BitVec 1 := Scalar.cmpi .sgt arg2 c0_i32_20
  let v32 : BitVec 32 := Scalar.extui v31
  let c0_i32_21 : BitVec 32 := 0#32
  let v33 : BitVec 1 := Scalar.cmpi .ne v32 c0_i32_21
  v33

def k0_mult3 (i : grid0.Coords) : BitVec 32 :=
  let arg2 : BitVec 32 := BitVec.ofNat 32 (i 2).val
  let c1_i32_99 : BitVec 32 := 1#32
  let v177 : BitVec 32 := Scalar.subi arg2 c1_i32_99
  let c256_i32_100 : BitVec 32 := 256#32
  let v178 : BitVec 32 := Scalar.muli v177 c256_i32_100
  v178
def k0_off5 (i : grid0.Coords) : Fin 2 → Nat :=
  let arg2 : BitVec 32 := BitVec.ofNat 32 (i 2).val
  let c1_i32_99 : BitVec 32 := 1#32
  let v177 : BitVec 32 := Scalar.subi arg2 c1_i32_99
  let c256_i32_100 : BitVec 32 := 256#32
  let v178 : BitVec 32 := Scalar.muli v177 c256_i32_100
  let v179 : BitVec 32 := v178
  let v180 : Index := Scalar.indexCast v179
  let c0_101 : Index := 0#32
  ![v180.toNat, 0]
def k0_mult4 (i : grid0.Coords) : BitVec 32 :=
  let arg2 : BitVec 32 := BitVec.ofNat 32 (i 2).val
  let c256_i32 : BitVec 32 := 256#32
  let v34 : BitVec 32 := Scalar.muli arg2 c256_i32
  v34
def k0_off6 (i : grid0.Coords) : Fin 2 → Nat :=
  let arg2 : BitVec 32 := BitVec.ofNat 32 (i 2).val
  let c256_i32 : BitVec 32 := 256#32
  let v34 : BitVec 32 := Scalar.muli arg2 c256_i32
  let v35 : BitVec 32 := v34
  let v36 : Index := Scalar.indexCast v35
  let c0_22 : Index := 0#32
  ![v36.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DaIdeal.lean ====
variable {F : FTy → Type} [FloatOps F] [Named F]
def κ : String → Option EReal := fun
  | "mask" => some ⊥
  | _ => none
-- ==== DaRefIdeal.lean ====
abbrev S16384x3072 : Shape := ⟨2, ![16384, 3072]⟩
abbrev S32x16 : Shape := ⟨2, ![32, 16]⟩
abbrev S4x64 : Shape := ⟨2, ![4, 64]⟩
abbrev S128 : Shape := ⟨1, ![128]⟩
abbrev S16384x1024 : Shape := ⟨2, ![16384, 1024]⟩
abbrev S8x2048x8x2x64 : Shape := ⟨5, ![8, 2048, 8, 2, 64]⟩
abbrev S8x2048x8x128 : Shape := ⟨4, ![8, 2048, 8, 128]⟩
abbrev S1x64 : Shape := ⟨2, ![1, 64]⟩
abbrev S64 : Shape := ⟨1, ![64]⟩
abbrev S_ : Shape := ⟨0, ![]⟩
abbrev S32x8x2 : Shape := ⟨3, ![32, 8, 2]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x8x2 : Shape := ⟨4, ![2048, 2048, 8, 2]⟩
abbrev S8x2x2048x2048 : Shape := ⟨4, ![8, 2, 2048, 2048]⟩
abbrev S8x8x2x2048x2048 : Shape := ⟨5, ![8, 8, 2, 2048, 2048]⟩
abbrev S1x8x2x2048x2048 : Shape := ⟨5, ![1, 8, 2, 2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S16384x3072, .bf16⟩
  | 1 => ⟨S32x16, .f32⟩
  | 2 => ⟨S4x64, .f32⟩
  | 3 => ⟨S128, .f32⟩
  | 4 => ⟨S16384x3072, .f32⟩
  | 5 => ⟨S16384x1024, .f32⟩
  | 6 => ⟨S16384x1024, .f32⟩
  | 7 => ⟨S16384x1024, .f32⟩
  | 8 => ⟨S8x2048x8x2x64, .f32⟩
  | 9 => ⟨S8x2048x8x2x64, .f32⟩
  | 10 => ⟨S8x2048x8x128, .f32⟩
  | 11 => ⟨S1x64, .f32⟩
  | 12 => ⟨S64, .f32⟩
  | 13 => ⟨S1x64, .f32⟩
  | 14 => ⟨S64, .f32⟩
  | 15 => ⟨S64, .f32⟩
  | 16 => ⟨S_, .f32⟩
  | 17 => ⟨S_, .f32⟩
  | 18 => ⟨S_, .f32⟩
  | 19 => ⟨S1x64, .f32⟩
  | 20 => ⟨S64, .f32⟩
  | 21 => ⟨S1x64, .f32⟩
  | 22 => ⟨S64, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S32x8x2, .f32⟩
  | 31 => ⟨S2048, .i32⟩
  | 32 => ⟨S2048x1, .i32⟩
  | 33 => ⟨S1x2048, .i32⟩
  | 34 => ⟨S2048x2048, .i32⟩
  | 35 => ⟨S2048x2048, .i32⟩
  | 36 => ⟨S2048x2048, .i32⟩
  | 37 => ⟨S_, .i32⟩
  | 38 => ⟨S2048x2048, .i32⟩
  | 39 => ⟨S2048x2048, .i32⟩
  | 40 => ⟨S_, .i32⟩
  | 41 => ⟨S2048x2048, .i32⟩
  | 42 => ⟨S2048x2048, .i32⟩
  | 43 => ⟨S2048x2048, .f32⟩
  | 44 => ⟨S_, .f32⟩
  | 45 => ⟨S2048x2048, .f32⟩
  | 46 => ⟨S2048x2048, .f32⟩
  | 47 => ⟨S2048x2048, .f32⟩
  | 48 => ⟨S_, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S2048x2048, .i32⟩
  | 55 => ⟨S_, .i32⟩
  | 56 => ⟨S2048x2048, .i32⟩
  | 57 => ⟨S2048x2048, .i32⟩
  | 58 => ⟨S_, .i32⟩
  | 59 => ⟨S2048x2048, .i32⟩
  | 60 => ⟨S2048x2048, .i32⟩
  | 61 => ⟨S_, .i32⟩
  | 62 => ⟨S2048x2048, .i32⟩
  | 63 => ⟨S2048x2048, .i1⟩
  | 64 => ⟨S2048x2048, .i32⟩
  | 65 => ⟨S_, .i32⟩
  | 66 => ⟨S2048x2048, .i32⟩
  | 67 => ⟨S2048x2048, .i1⟩
  | 68 => ⟨S_, .i32⟩
  | 69 => ⟨S2048x2048, .i32⟩
  | 70 => ⟨S2048x2048, .i32⟩
  | 71 => ⟨S2048x2048, .i32⟩
  | 72 => ⟨S2048x2048x1, .i32⟩
  | 73 => ⟨S2048x2048x8x2, .f32⟩
  | 74 => ⟨S8x2x2048x2048, .f32⟩
  | 75 => ⟨S8x8x2x2048x2048, .f32⟩
  | 76 => ⟨S_, .f32⟩
  | 77 => ⟨S8x8x2x2048x2048, .f32⟩
  | 78 => ⟨S8x8x2x2048x2048, .f32⟩
  | 79 => ⟨S1x8x2x2048x2048, .f32⟩
  | 80 => ⟨S8x8x2x2048x2048, .f32⟩
  | 81 => ⟨S8x8x2x2048x2048, .f32⟩
  | 82 => ⟨S_, .i32⟩
  | 83 => ⟨S2048x2048, .i32⟩
  | 84 => ⟨S2048x2048, .i1⟩
  | 85 => ⟨S_, .f32⟩
  | 86 => ⟨S_, .f32⟩
  | 87 => ⟨S8x8x2x2048x2048, .i1⟩
  | 88 => ⟨S8x8x2x2048x2048, .f32⟩
  | 89 => ⟨S8x8x2x2048x2048, .f32⟩
  | 90 => ⟨S_, .f32⟩
  | 91 => ⟨S8x8x2x2048, .f32⟩
  | 92 => ⟨S_, .f32⟩
  | 93 => ⟨S8x8x2x2048, .f32⟩
  | 94 => ⟨S8x8x2x2048, .f32⟩
  | 95 => ⟨S8x8x2x2048x1, .f32⟩
  | 96 => ⟨S8x8x2x2048x2048, .f32⟩
  | 97 => ⟨S8x8x2x2048x2048, .f32⟩
  | 98 => ⟨S8x8x2x2048x2048, .f32⟩
  | 99 => ⟨S_, .f32⟩
  | 100 => ⟨S8x8x2x2048, .f32⟩
  | 101 => ⟨S8x8x2x2048x1, .f32⟩
  | 102 => ⟨S8x8x2x2048x2048, .f32⟩
  | 103 => ⟨S8x8x2x2048x2048, .f32⟩
  | 104 => ⟨S8x8x1x2048x2048, .f32⟩
  | 105 => ⟨S8x8x2048x2048, .f32⟩
  | 106 => ⟨S8x8x1x2048x2048, .f32⟩
  | 107 => ⟨S8x8x2048x2048, .f32⟩
  | 108 => ⟨S8x8x2048x2048, .f32⟩
  | 109 => ⟨S8x8x2048x2048, .f32⟩
  | 110 => ⟨S8x8x2048x2048, .f32⟩
  | 111 => ⟨S8x8x128x2048, .f32⟩
  | 112 => ⟨S8x2048x8x128, .f32⟩
  | 113 => ⟨S8x2048x8x128, .f32⟩
  | 114 => ⟨S_, .f32⟩
  | 115 => ⟨S8x2048x8, .f32⟩
  | 116 => ⟨S8x2048x8x1, .f32⟩
  | 117 => ⟨S_, .f32⟩
  | 118 => ⟨S8x2048x8x1, .f32⟩
  | 119 => ⟨S8x2048x8x1, .f32⟩
  | 120 => ⟨S_, .f32⟩
  | 121 => ⟨S8x2048x8x1, .f32⟩
  | 122 => ⟨S8x2048x8x1, .f32⟩
  | 123 => ⟨S8x2048x8x1, .f32⟩
  | 124 => ⟨S8x2048x8x128, .f32⟩
  | 125 => ⟨S8x2048x8x128, .f32⟩
  | 126 => ⟨S1x1x1x128, .f32⟩
  | 127 => ⟨S8x2048x8x128, .f32⟩
  | _ => ⟨S16384x3072, .bf16⟩

abbrev hbmTy0_1 (i : Nat) : BufTy := match i % 128 with
  | 0 => ⟨S8x2048x8x128, .f32⟩
  | 1 => ⟨S_, .f32⟩
  | 2 => ⟨S8x2048x8x128, .f32⟩
  | 3 => ⟨S8x2048x8x128, .f32⟩
  | 4 => ⟨S16384x1024, .f32⟩
  | 5 => ⟨S16384x1024, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_12 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_17 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_cst_19 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]

def κ : String → Option EReal := fun
  | "mask" => some ⊥
  | _ => none
-- ==== Sw.lean ====
abbrev S16384x1024 : Shape := ⟨2, ![16384, 1024]⟩
abbrev S1024x1536 : Shape := ⟨2, ![1024, 1536]⟩
abbrev S32x16 : Shape := ⟨2, ![32, 16]⟩
abbrev S16 : Shape := ⟨1, ![16]⟩
abbrev S1024x512 : Shape := ⟨2, ![1024, 512]⟩
abbrev S1024x8x1x64 : Shape := ⟨4, ![1024, 8, 1, 64]⟩
abbrev S1024x8x2x64 : Shape := ⟨4, ![1024, 8, 2, 64]⟩
abbrev S1024x1024 : Shape := ⟨2, ![1024, 1024]⟩
abbrev S1024x2048 : Shape := ⟨2, ![1024, 2048]⟩
abbrev S16384x2048 : Shape := ⟨2, ![16384, 2048]⟩
abbrev S512x1024 : Shape := ⟨2, ![512, 1024]⟩
abbrev S512x2048 : Shape := ⟨2, ![512, 2048]⟩
abbrev S512x512 : Shape := ⟨2, ![512, 512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S512x128 : Shape := ⟨2, ![512, 128]⟩
abbrev S2048x128 : Shape := ⟨2, ![2048, 128]⟩
abbrev S2x128x256 : Shape := ⟨3, ![2, 128, 256]⟩
abbrev S128x128 : Shape := ⟨2, ![128, 128]⟩
abbrev S1x128x128 : Shape := ⟨3, ![1, 128, 128]⟩
abbrev S1 : Shape := ⟨1, ![1]⟩

abbrev nBuf : Space → Nat
  | .hbm => 61
  | .vmem => 15
  | .smem => 1
  | _ => 0

abbrev bufTy : (tb : Table) → Fin (tcTables nBuf tb) → BufTy
  | .hbm, ⟨0, _⟩ => ⟨S16384x1024, .bf16⟩
  | .hbm, ⟨1, _⟩ => ⟨S1024x1536, .f32⟩
  | .hbm, ⟨2, _⟩ => ⟨S32x16, .f32⟩
  | .hbm, ⟨3, _⟩ => ⟨S16, .f32⟩
  | .hbm, ⟨4, _⟩ => ⟨S1024x512, .f32⟩
  | .hbm, ⟨5, _⟩ => ⟨S1024x8x1x64, .f32⟩
  | .hbm, ⟨6, _⟩ => ⟨S1024x8x2x64, .f32⟩
  | .hbm, ⟨7, _⟩ => ⟨S1024x1024, .f32⟩
  | .hbm, ⟨8, _⟩ => ⟨S1024x1024, .f32⟩
  | .hbm, ⟨9, _⟩ => ⟨S1024x2048, .f32⟩
  | .hbm, ⟨10, _⟩ => ⟨S1024x2048, .bf16⟩
  | .hbm, ⟨11, _⟩ => ⟨S16384x2048, .bf16⟩
  | .hbm, ⟨12, _⟩ => ⟨S128, .i32⟩
  | .hbm, ⟨13, _⟩ => ⟨S128x1, .i32⟩
  | .hbm, ⟨14, _⟩ => ⟨S256, .i32⟩
  | .hbm, ⟨15, _⟩ => ⟨S1x256, .i32⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S128x256, .i32⟩
  | .hbm, ⟨20, _⟩ => ⟨S128x256, .i32⟩
  | .hbm, ⟨21, _⟩ => ⟨S128x256, .i32⟩
  | .hbm, ⟨22, _⟩ => ⟨S_, .i32⟩
  | .hbm, ⟨23, _⟩ => ⟨S128x256, .i32⟩
  | .hbm, ⟨24, _⟩ => ⟨S128x256, .i32⟩
  | .hbm, ⟨25, _⟩ => ⟨S_, .i32⟩
  | .hbm, ⟨26, _⟩ => ⟨S128x256, .i32⟩
  | .hbm, ⟨27, _⟩ => ⟨S128x256, .i32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i32⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S128x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S128x256, .i32⟩
  | .hbm, ⟨55, _⟩ => ⟨S128x256, .i32⟩
  | .hbm, ⟨56, _⟩ => ⟨S128x256, .i32⟩
  | .hbm, ⟨57, _⟩ => ⟨S128x256x1, .i32⟩
  | .hbm, ⟨58, _⟩ => ⟨S128x256x16, .f32⟩
  | .hbm, ⟨59, _⟩ => ⟨S16x128x256, .f32⟩
  | .hbm, ⟨60, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .bf16⟩
  | .local _ .vmem, ⟨4, _⟩ => ⟨S512x2048, .bf16⟩
  | .local _ .vmem, ⟨5, _⟩ => ⟨S512x128, .bf16⟩
  | .local _ .vmem, ⟨6, _⟩ => ⟨S512x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2x128x256, .f32⟩
  | .local _ .vmem, ⟨12, _⟩ => ⟨S2x128x256, .f32⟩
  | .local _ .vmem, ⟨13, _⟩ => ⟨S512x128, .bf16⟩
  | .local _ .vmem, ⟨14, _⟩ => ⟨S512x128, .bf16⟩
  | .local _ .smem, ⟨0, _⟩ => ⟨S16, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 8, 4], ![false, false, false]⟩

def k1_mult1 (i : grid1.Coords) : BitVec 32 :=
  let arg2 : BitVec 32 := BitVec.ofNat 32 (i 2).val
  let c4_i32 : BitVec 32 := 4#32
  let v3 : BitVec 32 := Scalar.muli arg2 c4_i32
  let c0_i32 : BitVec 32 := 0#32
  let v4 : BitVec 32 := Scalar.addi v3 c0_i32
  let c128_i32 : BitVec 32 := 128#32
  let v19 : BitVec 32 := Scalar.muli v4 c128_i32
  v19
def k1_mult2 (i : grid1.Coords) : BitVec 32 :=
  let arg2 : BitVec 32 := BitVec.ofNat 32 (i 2).val
  let c4_i32 : BitVec 32 := 4#32
  let v3 : BitVec 32 := Scalar.muli arg2 c4_i32
  let c0_i32 : BitVec 32 := 0#32
  let v4 : BitVec 32 := Scalar.addi v3 c0_i32
  let c1_i32 : BitVec 32 := 1#32
  let v21 : BitVec 32 := Scalar.subi v4 c1_i32
  let c0_i32_4 : BitVec 32 := 0#32
  let v22 : BitVec 32 := Scalar.maxsi v21 c0_i32_4
  let c128_i32_5 : BitVec 32 := 128#32
  let v23 : BitVec 32 := Scalar.muli v22 c128_i32_5
  v23
def k1_off1 (i : grid1.Coords) (c0_i32 : BitVec 32) : Fin 2 → Nat :=
  let arg2 : BitVec 32 := BitVec.ofNat 32 (i 2).val
  let c4_i32 : BitVec 32 := 4#32
  let v3 : BitVec 32 := Scalar.muli arg2 c4_i32
  let v4 : BitVec 32 := Scalar.addi v3 c0_i32
  let c128_i32 : BitVec 32 := 128#32
  let v19 : BitVec 32 := Scalar.muli v4 c128_i32
  let v20 : BitVec 32 := v19
  let v25 : Index := Scalar.indexCast v20
  let c0_6 : Index := 0#32
  ![v25.toNat, 0]
def k1_off2 (i : grid1.Coords) (c0_i32 : BitVec 32) : Fin 2 → Nat :=
  let arg2 : BitVec 32 := BitVec.ofNat 32 (i 2).val
  let c4_i32 : BitVec 32 := 4#32
  let v3 : BitVec 32 := Scalar.muli arg2 c4_i32
  let v4 : BitVec 32 := Scalar.addi v3 c0_i32
  let c1_i32 : BitVec 32 := 1#32
  let v21 : BitVec 32 := Scalar.subi v4 c1_i32
  let c0_i32_4 : BitVec 32 := 0#32
  let v22 : BitVec 32 := Scalar.maxsi v21 c0_i32_4
  let c128_i32_5 : BitVec 32 := 128#32
  let v23 : BitVec 32 := Scalar.muli v22 c128_i32_5
  let v24 : BitVec 32 := v23
  let v31 : Index := Scalar.indexCast v24
  let c0_8 : Index := 0#32
  ![v31.toNat, 0]
def k1_off3 (i : grid1.Coords) (c0_i32_21 : BitVec 32) : Fin 1 → Nat :=
  let c2_i32 : BitVec 32 := 2#32
  let arg1 : BitVec 32 := BitVec.ofNat 32 (i 1).val
  let v55 : BitVec 32 := Scalar.muli c2_i32 arg1
  let v56 : BitVec 32 := Scalar.addi v55 c0_i32_21
  let v57 : Index := Scalar.indexCast v56
  ![v57.toNat]
def k1_mult3 (i : grid1.Coords) : BitVec 32 :=
  let arg2 : BitVec 32 := BitVec.ofNat 32 (i 2).val
  let c4_i32_49 : BitVec 32 := 4#32
  let v142 : BitVec 32 := Scalar.muli arg2 c4_i32_49
  let c1_i32_50 : BitVec 32 := 1#32
  let v143 : BitVec 32 := Scalar.addi v142 c1_i32_50
  let c128_i32_58 : BitVec 32 := 128#32
  let v158 : BitVec 32 := Scalar.muli v143 c128_i32_58
  v158
def k1_mult4 (i : grid1.Coords) : BitVec 32 :=
  let arg2 : BitVec 32 := BitVec.ofNat 32 (i 2).val
  let c4_i32_49 : BitVec 32 := 4#32
  let v142 : BitVec 32 := Scalar.muli arg2 c4_i32_49
  let c1_i32_50 : BitVec 32 := 1#32
  let v143 : BitVec 32 := Scalar.addi v142 c1_i32_50
  let c1_i32_59 : BitVec 32 := 1#32
  let v160 : BitVec 32 := Scalar.subi v143 c1_i32_59
  let c0_i32_60 : BitVec 32 := 0#32
  let v161 : BitVec 32 := Scalar.maxsi v160 c0_i32_60
  let c128_i32_61 : BitVec 32 := 128#32
  let v162 : BitVec 32 := Scalar.muli v161 c128_i32_61
  v162
def k1_mult5 (i : grid1.Coords) : BitVec 32 :=
  let arg2 : BitVec 32 := BitVec.ofNat 32 (i 2).val
  let c4_i32_108 : BitVec 32 := 4#32
  let v281 : BitVec 32 := Scalar.muli arg2 c4_i32_108
  let c2_i32_109 : BitVec 32 := 2#32
  let v282 : BitVec 32 := Scalar.addi v281 c2_i32_109
  let c128_i32_116 : BitVec 32 := 128#32
  let v297 : BitVec 32 := Scalar.muli v282 c128_i32_116
  v297
def k1_mult6 (i : grid1.Coords) : BitVec 32 :=
  let arg2 : BitVec 32 := BitVec.ofNat 32 (i 2).val
  let c4_i32_108 : BitVec 32 := 4#32
  let v281 : BitVec 32 := Scalar.muli arg2 c4_i32_108
  let c2_i32_109 : BitVec 32 := 2#32
  let v282 : BitVec 32 := Scalar.addi v281 c2_i32_109
  let c1_i32_117 : BitVec 32 := 1#32
  let v299 : BitVec 32 := Scalar.subi v282 c1_i32_117
  let c0_i32_118 : BitVec 32 := 0#32
  let v300 : BitVec 32 := Scalar.maxsi v299 c0_i32_118
  let c128_i32_119 : BitVec 32 := 128#32
  let v301 : BitVec 32 := Scalar.muli v300 c128_i32_119
  v301
def k1_mult7 (i : grid1.Coords) : BitVec 32 :=
  let arg2 : BitVec 32 := BitVec.ofNat 32 (i 2).val
  let c4_i32_166 : BitVec 32 := 4#32
  let v420 : BitVec 32 := Scalar.muli arg2 c4_i32_166
  let c3_i32 : BitVec 32 := 3#32
  let v421 : BitVec 32 := Scalar.addi v420 c3_i32
  let c128_i32_173 : BitVec 32 := 128#32
  let v436 : BitVec 32 := Scalar.muli v421 c128_i32_173
  v436
def k1_mult8 (i : grid1.Coords) : BitVec 32 :=
  let arg2 : BitVec 32 := BitVec.ofNat 32 (i 2).val
  let c4_i32_166 : BitVec 32 := 4#32
  let v420 : BitVec 32 := Scalar.muli arg2 c4_i32_166
  let c3_i32 : BitVec 32 := 3#32
  let v421 : BitVec 32 := Scalar.addi v420 c3_i32
  let c1_i32_174 : BitVec 32 := 1#32
  let v438 : BitVec 32 := Scalar.subi v421 c1_i32_174
  let c0_i32_175 : BitVec 32 := 0#32
  let v439 : BitVec 32 := Scalar.maxsi v438 c0_i32_175
  let c128_i32_176 : BitVec 32 := 128#32
  let v440 : BitVec 32 := Scalar.muli v439 c128_i32_176
  v440
def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  ![arg0.toNat, v17.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32 : BitVec 32 := 12#32
  let v17 : BitVec 32 := Scalar.addi c12_i32 v16
  let c0_i32_4 : BitVec 32 := 0#32
  ![arg0.toNat, v17.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S2x128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== SwIdeal.lean ====
variable {F : FTy → Type} [FloatOps F] [Named F]
def κ : String → Option EReal := fun
  | "mask" => some ⊥
  | _ => none
-- ==== SwRefIdeal.lean ====
abbrev S16384x1024 : Shape := ⟨2, ![16384, 1024]⟩
abbrev S1024x1536 : Shape := ⟨2, ![1024, 1536]⟩
abbrev S32x16 : Shape := ⟨2, ![32, 16]⟩
abbrev S16 : Shape := ⟨1, ![16]⟩
abbrev S16384x1536 : Shape := ⟨2, ![16384, 1536]⟩
abbrev S16384x256 : Shape := ⟨2, ![16384, 256]⟩
abbrev S8x16x128x4x4x64 : Shape := ⟨6, ![8, 16, 128, 4, 4, 64]⟩
abbrev S8x16x128x4x64 : Shape := ⟨5, ![8, 16, 128, 4, 64]⟩
abbrev S8x15x128x4x64 : Shape := ⟨5, ![8, 15, 128, 4, 64]⟩
abbrev S_ : Shape := ⟨0, ![]⟩
abbrev S8x16x256x4x64 : Shape := ⟨5, ![8, 16, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S128x256x1 : Shape := ⟨3, ![128, 256, 1]⟩
abbrev S128x256x16 : Shape := ⟨3, ![128, 256, 16]⟩
abbrev S128x256x4x4 : Shape := ⟨4, ![128, 256, 4, 4]⟩
abbrev S4x4x128x256 : Shape := ⟨4, ![4, 4, 128, 256]⟩
abbrev S8x16x4x256x128x4 : Shape := ⟨6, ![8, 16, 4, 256, 128, 4]⟩
abbrev S8x16x4x4x128x256 : Shape := ⟨6, ![8, 16, 4, 4, 128, 256]⟩
abbrev S1x1x4x4x128x256 : Shape := ⟨6, ![1, 1, 4, 4, 128, 256]⟩
abbrev S1x16x1x1x128x256 : Shape := ⟨6, ![1, 16, 1, 1, 128, 256]⟩
abbrev S4x4x1x1 : Shape := ⟨4, ![4, 4, 1, 1]⟩
abbrev S8x16x4x4x128x1 : Shape := ⟨6, ![8, 16, 4, 4, 128, 1]⟩
abbrev S8x16x4x4x128x257 : Shape := ⟨6, ![8, 16, 4, 4, 128, 257]⟩
abbrev S8x16x4x4x128 : Shape := ⟨5, ![8, 16, 4, 4, 128]⟩
abbrev S8x16x4x64x4x128 : Shape := ⟨6, ![8, 16, 4, 64, 4, 128]⟩

abbrev nBuf : Space → Nat
  | .hbm => 133
  | .vmem => 0
  | .smem => 0
  | _ => 0

abbrev hbmTy0_0 (i : Nat) : BufTy := match i % 128 with
  | 0 => ⟨S16384x1024, .bf16⟩
  | 1 => ⟨S1024x1536, .f32⟩
  | 2 => ⟨S32x16, .f32⟩
  | 3 => ⟨S16, .f32⟩
  | 4 => ⟨S16384x1024, .f32⟩
  | 5 => ⟨S16384x1536, .f32⟩
  | 6 => ⟨S16384x1024, .f32⟩
  | 7 => ⟨S16384x256, .f32⟩
  | 8 => ⟨S16384x256, .f32⟩
  | 9 => ⟨S8x16x128x4x4x64, .f32⟩
  | 10 => ⟨S8x16x128x4x64, .f32⟩
  | 11 => ⟨S8x16x128x4x64, .f32⟩
  | 12 => ⟨S8x15x128x4x64, .f32⟩
  | 13 => ⟨S_, .i32⟩
  | 14 => ⟨S_, .f32⟩
  | 15 => ⟨S8x16x128x4x64, .f32⟩
  | 16 => ⟨S8x16x256x4x64, .f32⟩
  | 17 => ⟨S8x15x128x4x64, .f32⟩
  | 18 => ⟨S_, .i32⟩
  | 19 => ⟨S_, .f32⟩
  | 20 => ⟨S8x16x128x4x64, .f32⟩
  | 21 => ⟨S8x16x256x4x64, .f32⟩
  | 22 => ⟨S128, .i32⟩
  | 23 => ⟨S128x1, .i32⟩
  | 24 => ⟨S256, .i32⟩
  | 25 => ⟨S1x256, .i32⟩
  | 26 => ⟨S_, .i32⟩
  | 27 => ⟨S128x1, .i32⟩
  | 28 => ⟨S128x1, .i32⟩
  | 29 => ⟨S128x256, .i32⟩
  | 30 => ⟨S128x256, .i32⟩
  | 31 => ⟨S128x256, .i32⟩
  | 32 => ⟨S_, .i32⟩
  | 33 => ⟨S128x256, .i32⟩
  | 34 => ⟨S128x256, .i1⟩
  | 35 => ⟨S_, .i32⟩
  | 36 => ⟨S128x256, .i32⟩
  | 37 => ⟨S128x256, .i1⟩
  | 38 => ⟨S128x256, .i1⟩
  | 39 => ⟨S16, .i32⟩
  | 40 => ⟨S16x1x1, .i32⟩
  | 41 => ⟨S1x128x256, .i1⟩
  | 42 => ⟨S_, .i32⟩
  | 43 => ⟨S16x1x1, .i32⟩
  | 44 => ⟨S16x1x1, .i32⟩
  | 45 => ⟨S_, .i32⟩
  | 46 => ⟨S16x1x1, .i32⟩
  | 47 => ⟨S16x1x1, .i32⟩
  | 48 => ⟨S1x1x256, .i32⟩
  | 49 => ⟨S16x1x256, .i32⟩
  | 50 => ⟨S16x1x256, .i32⟩
  | 51 => ⟨S16x1x256, .i32⟩
  | 52 => ⟨S_, .i32⟩
  | 53 => ⟨S16x1x256, .i32⟩
  | 54 => ⟨S16x1x256, .i1⟩
  | 55 => ⟨S16x128x256, .i1⟩
  | 56 => ⟨S16x128x256, .i1⟩
  | 57 => ⟨S16x128x256, .i1⟩
  | 58 => ⟨S_, .i32⟩
  | 59 => ⟨S128x256, .i32⟩
  | 60 => ⟨S128x256, .i32⟩
  | 61 => ⟨S_, .i32⟩
  | 62 => ⟨S128x256, .i32⟩
  | 63 => ⟨S128x256, .i32⟩
  | 64 => ⟨S128x256, .f32⟩
  | 65 => ⟨S_, .f32⟩
  | 66 => ⟨S128x256, .f32⟩
  | 67 => ⟨S128x256, .f32⟩
  | 68 => ⟨S128x256, .f32⟩
  | 69 => ⟨S_, .f32⟩
  | 70 => ⟨S128x256, .f32⟩
  | 71 => ⟨S128x256, .f32⟩
  | 72 => ⟨S_, .f32⟩
  | 73 => ⟨S128x256, .f32⟩
  | 74 => ⟨S128x256, .f32⟩
  | 75 => ⟨S128x256, .i32⟩
  | 76 => ⟨S_, .i32⟩
  | 77 => ⟨S128x256, .i32⟩
  | 78 => ⟨S128x256, .i32⟩
  | 79 => ⟨S_, .i32⟩
  | 80 => ⟨S128x256, .i32⟩
  | 81 => ⟨S128x256, .i32⟩
  | 82 => ⟨S_, .i32⟩
  | 83 => ⟨S128x256, .i32⟩
  | 84 => ⟨S128x256, .i1⟩
  | 85 => ⟨S128x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i32⟩
  | 92 => ⟨S128x256, .i32⟩
  | 93 => ⟨S128x256x1, .i32⟩
  | 94 => ⟨S128x256x16, .f32⟩
  | 95 => ⟨S128x256x4x4, .f32⟩
  | 96 => ⟨S4x4x128x256, .f32⟩
  | 97 => ⟨S8x16x4x256x128x4, .f32⟩
  | 98 => ⟨S8x16x4x4x128x256, .f32⟩
  | 99 => ⟨S_, .f32⟩
  | 100 => ⟨S8x16x4x4x128x256, .f32⟩
  | 101 => ⟨S8x16x4x4x128x256, .f32⟩
  | 102 => ⟨S1x1x4x4x128x256, .f32⟩
  | 103 => ⟨S8x16x4x4x128x256, .f32⟩
  | 104 => ⟨S8x16x4x4x128x256, .f32⟩
  | 105 => ⟨S1x16x1x1x128x256, .i1⟩
  | 106 => ⟨S_, .f32⟩
  | 107 => ⟨S_, .f32⟩
  | 108 => ⟨S8x16x4x4x128x256, .i1⟩
  | 109 => ⟨S8x16x4x4x128x256, .f32⟩
  | 110 => ⟨S8x16x4x4x128x256, .f32⟩
  | 111 => ⟨S4x4x1x1, .f32⟩
  | 112 => ⟨S8x16x4x4x128x1, .f32⟩
  | 113 => ⟨S8x16x4x4x128x257, .f32⟩
  | 114 => ⟨S_, .f32⟩
  | 115 => ⟨S8x16x4x4x128, .f32⟩
  | 116 => ⟨S_, .f32⟩
  | 117 => ⟨S8x16x4x4x128, .f32⟩
  | 118 => ⟨S8x16x4x4x128, .f32⟩
  | 119 => ⟨S8x16x4x4x128x1, .f32⟩
  | 120 => ⟨S8x16x4x4x128x257, .f32⟩
  | 121 => ⟨S8x16x4x4x128x257, .f32⟩
  | 122 => ⟨S8x16x4x4x128x257, .f32⟩
  | 123 => ⟨S_, .f32⟩
  | 124 => ⟨S8x16x4x4x128, .f32⟩
  | 125 => ⟨S8x16x4x4x128x1, .f32⟩
  | 126 => ⟨S8x16x4x4x128x257, .f32⟩
  | 127 => ⟨S8x16x4x4x128x257, .f32⟩
  | _ => ⟨S16384x1024, .bf16⟩

abbrev hbmTy0_1 (i : Nat) : BufTy := match i % 128 with
  | 0 => ⟨S8x16x4x4x128x256, .f32⟩
  | 1 => ⟨S8x16x4x64x4x128, .f32⟩
  | 2 => ⟨S8x16x128x4x4x64, .f32⟩
  | 3 => ⟨S16384x1024, .f32⟩
  | 4 => ⟨S16384x1024, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_14 : Ref sig .tc := ⟨.hbm, 86, rfl⟩
abbrev main_v64 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_18 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_20 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]

def κ : String → Option EReal := fun
  | "mask" => some ⊥
  | _ => none
-- ==== Proof.SbSteps.lean ====
module

public import proofs.«01_k».proof.Proof.Gen.SbIdeal.Value
public import Idealize.ShloMosaic.Lib.Tactic
public import Idealize.ShloMosaic.Lib.Pointwise
public import Idealize.ShloMosaic.Lib.VecWindow
public import Idealize.ShloMosaic.Lib.LoopRemainder

/-! # Stick-breaking attention: what one grid point leaves, as a fold over key blocks

The body keeps two scratch buffers: the carry `[2, 256, 1]` and the sum `[256, 128]`. This module reads the run's
written pieces as functions of the two buffers' contents: the step of one key block, the state after the diagonal
block, and the state after `k` further blocks. -/

@[expose] public section

set_option maxRecDepth 16384

noncomputable section

namespace Cert.SbIdeal.Steps

open Cert.SbIdeal Cert.SbIdeal.Gen Idealize.ShloMosaic Idealize.ShloMosaic.TcCoe Idealize.SL.Sem
open Idealize.ShloMosaic.VecWindow

variable {F : FTy → Type} [FloatOps F]

theorem inb0 : ∀ a, (![0, 0, 0] : Fin 3 → ℕ) a + S1x256x1.size a ≤ S2x256x1.size a := inb_S2x256x1_S1x256x1_0_0_0
theorem inb1 : ∀ a, (![1, 0, 0] : Fin 3 → ℕ) a + S1x256x1.size a ≤ S2x256x1.size a := inb_S2x256x1_S1x256x1_1_0_0

theorem inbF : ∀ a, (![0, 0] : Fin 2 → ℕ) a + S256x128.size a ≤ S256x128.size a := inb_S256x128_S256x128_0_0
theorem inbC : ∀ a, (![0, 0, 0] : Fin 3 → ℕ) a + S2x256x1.size a ≤ S2x256x1.size a := inb_S2x256x1_S2x256x1_0_0_0

/-- Half 0's carry: rows `[0, :, :]` of the carry buffer. -/
abbrev half0 (c7 : Vec F S2x256x1 .f32) : Vec F S1x256x1 .f32 := window c7 ![0, 0, 0] S1x256x1.size inb0
/-- Half 1's carry: rows `[1, :, :]` of the carry buffer. -/
abbrev half1 (c7 : Vec F S2x256x1 .f32) : Vec F S1x256x1 .f32 := window c7 ![1, 0, 0] S1x256x1.size inb1
/-- The carry buffer with half 0 replaced. -/
abbrev put0 (c7 : Vec F S2x256x1 .f32) (w : Vec F S1x256x1 .f32) : Vec F S2x256x1 .f32 := put c7 ![0, 0, 0] S1x256x1.size w
/-- The carry buffer with half 1 replaced. -/
abbrev put1 (c7 : Vec F S2x256x1 .f32) (w : Vec F S1x256x1 .f32) : Vec F S2x256x1 .f32 := put c7 ![1, 0, 0] S1x256x1.size w

/-- Key block `n` of 256 rows. -/
def blk (x : Vec F S2048x128 .bf16) (n : ℕ) : Vec F S256x128 .bf16 :=
  fun j => x (ix2 (⟨(n * 256 + (j 0).val) % 2048, Nat.mod_lt _ (by decide)⟩ : Fin 2048) (j 1))

/-- The lane numbers. -/
abbrev lane : IVec S256x128 32 := iota .tc S256x128 32 [1] iota_S256x128_d1_w32
/-- The row numbers of a 256 by 256 block. -/
abbrev rows : IVec S256x256 32 := iota .tc S256x256 32 [0] iota_S256x256_d0_w32
/-- The column numbers of a 256 by 256 block. -/
abbrev cols : IVec S256x256 32 := iota .tc S256x256 32 [1] iota_S256x256_d1_w32

/-- The carry after one key block behind the diagonal. -/
def step7 (q kb : Vec F S256x128 .bf16) (c7 : Vec F S2x256x1 .f32) : Vec F S2x256x1 .f32 :=
  put1 (put0 c7 (k0_pay10 (k0_pay7 (k0_pay35 q) kb) (half0 c7))) (k0_pay62 (k0_pay13 (k0_pay36 q) kb) (half1 c7))

/-- The sum after one key block behind the diagonal. -/
def step8 (q kb vb : Vec F S256x128 .bf16) (c7 : Vec F S2x256x1 .f32) (c8 : Vec F S256x128 .f32) : Vec F S256x128 .f32 :=
  k0_pay61 k0_pay39 (k0_pay4 lane vb) (k0_pay11 (k0_pay36 q) kb) (k0_pay12 (k0_pay36 q) kb) (k0_pay14 (k0_pay36 q) kb)
    (k0_pay16 (k0_pay36 q) kb) (k0_pay17 (k0_pay36 q) kb) (half1 c7)
    (k0_pay9 (k0_pay3 lane vb) (k0_pay5 (k0_pay35 q) kb) (k0_pay6 (k0_pay35 q) kb) (k0_pay8 (k0_pay35 q) k0_pay39 kb) (half0 c7) c8)

/-- The carry after half 0 of the diagonal block. -/
def init7a (q kb : Vec F S256x128 .bf16) : Vec F S2x256x1 .f32 :=
  put0 k0_pay37 (k0_pay49 (k0_pay46 (k0_pay35 q) rows cols kb) (half0 k0_pay37))

/-- The carry after the diagonal block. -/
def init7 (q kb : Vec F S256x128 .bf16) : Vec F S2x256x1 .f32 :=
  put1 (init7a q kb) (k0_pay60 (k0_pay53 (k0_pay36 q) rows cols kb) (half1 (init7a q kb)))

/-- The sum after the diagonal block. -/
def init8 (q kb vb : Vec F S256x128 .bf16) : Vec F S256x128 .f32 :=
  k0_pay59 k0_pay39 (k0_pay42 lane vb (FloatOps.ofBits .bf16 0x0000#16)) (k0_pay50 (k0_pay36 q) kb) (k0_pay51 (k0_pay36 q) kb)
    (k0_pay52 rows cols) (k0_pay56 (k0_pay36 q) rows cols kb) (k0_pay57 (k0_pay36 q) rows cols kb)
    (k0_pay58 (k0_pay36 q) rows cols k0_pay39 kb) (constant S256x256 .f32 0x00000000#32) (half1 (init7a q kb))
    (k0_pay48 (k0_pay41 lane vb (FloatOps.ofBits .bf16 0x0000#16))
      (k0_pay47 (k0_pay35 q) rows cols k0_pay39 kb (half0 k0_pay37)) k0_pay38)

/-- The two scratch buffers after the diagonal block `n` and the `k` blocks before it. -/
def st (q : Vec F S256x128 .bf16) (x1 x2 : Vec F S2048x128 .bf16) (n : ℕ) : ℕ → Vec F S2x256x1 .f32 × Vec F S256x128 .f32
  | 0 => (init7 q (blk x1 n), init8 q (blk x1 n) (blk x2 n))
  | k + 1 => (step7 q (blk x1 (n - 1 - k)) (st q x1 x2 n k).1,
      step8 q (blk x1 (n - 1 - k)) (blk x2 (n - 1 - k)) (st q x1 x2 n k).1 (st q x1 x2 n k).2)

/-! ## Offsets and trip counts -/

theorem trips1 (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by
    decide +kernel
  exact h (i 2)

theorem trips2 (i : grid0.Coords) : (k0_t2_loop i).trips = 0 := by
  have h : ∀ n : Fin 8, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
    decide +kernel
  exact h (i 2)

/-- A load of 256 rows at row `n * 256` is key block `n`. -/
theorem readAt_blk {sp : Space} (a : Memref sig .tc sp S2048x128 .bf16) (X : a.view.ty.Contents (Elt F)) (off : Fin 2 → ℕ) (n : ℕ) (hn : n < 8)
    (h0 : off 0 = n * 256) (h1 : off 1 = 0) (inb : ∀ b, off b + S256x128.size b ≤ S2048x128.size b) :
    View.readAt (Elt F) a.view (Rect.unit (s := S2048x128) off S256x128.size inb).toLoadRect X = blk (a.view.read (Elt F) X) n := by
  rw [View.readAt_eq_ld]
  funext j
  unfold blk View.ld
  congr 1
  funext b
  apply Fin.ext
  have hj : (j 0).val < 256 := (j 0).isLt
  match b with
  | ⟨0, _⟩ => show off 0 + 1 * (j 0).val = (n * 256 + (j 0).val) % 2048; rw [h0]; omega
  | ⟨1, _⟩ => show off 1 + 1 * (j 1).val = (j 1).val; rw [h1]; omega

section Loop

variable (𝒱 : Variants) (c : Dev nD) (bd : Option 𝒱.V) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S2x256x1 .f32) (harg7 : arg7.IsWhole) (arg8 : Memref sig .tc .vmem S256x128 .f32) (harg8 : arg8.IsWhole) (arg2 : BitVec 32) (q : Vec F S256x128 .bf16) (v41 : Vec F S256x128 .bf16) (v94 : FVec F S256x256 .f32) (v104 : FVec F S256x256 .f32) (v107 : IVec S256x256 1) (v109 : FVec F S256x256 .f32) (v113 : FVec F S256x256 .bf16) (v116 : FVec F S256x256 .bf16) (v117 : FVec F S256x256 .f32) (cst_50 : FVec F S256x256 .f32) (X_arg4 : BufTy.Contents (Elt F) arg4.view.ty) (X_arg5 : BufTy.Contents (Elt F) arg5.view.ty)

/-- The rows one trip reads. -/
theorem offs (k : Fin (k0_t1_loop i).trips) :
    BitVec.toNat (Scalar.indexCast (Scalar.muli (Scalar.subi (Scalar.subi (BitVec.ofNat 32 (i 2).val) 1#32) (Scf.iv 0#32 1#32 k.val)) 256#32)) = ((i 2).val - 1 - k.val) * 256 := by
  have hk : k.val < (i 2).val := lt_of_lt_of_eq k.isLt (trips1 i)
  have h : ∀ n k : Fin 8, k.val < n.val → BitVec.toNat (Scalar.indexCast (Scalar.muli (Scalar.subi (Scalar.subi (BitVec.ofNat 32 n.val) 1#32) (Scf.iv 0#32 1#32 k.val)) 256#32)) = (n.val - 1 - k.val) * 256 := by
    decide +kernel
  have hi : (i 2).val < 8 := (i 2).isLt
  exact h (i 2) ⟨k.val, by omega⟩ hk

/-- The rows of a whole buffer one trip reads. -/
abbrev KB (a : Memref sig .tc .vmem S2048x128 .bf16) (X : BufTy.Contents (Elt F) a.view.ty) (k : Fin (k0_t1_loop i).trips) : Vec F S256x128 .bf16 :=
  View.readAt (Elt F) a.view (Rect.unit (s := S2048x128) (k0_off2 i k) S256x128.size (k0_off2_inb i k)).toLoadRect X

/-- One trip's stores, listed. -/
theorem tripL_eq (k : Fin (k0_t1_loop i).trips) (f7 : BufTy.Contents (Elt F) arg7.view.ty) (f8 : BufTy.Contents (Elt F) arg8.view.ty) :
    tripL_k0_t1 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 X_arg4 X_arg5 k f7 f8
    = ([⟨Rect.unit (s := S2x256x1) ![1, 0, 0] S1x256x1.size inb1, k0_pay62 (k0_pay13 (k0_pay36 q) (KB i arg4 X_arg4 k)) (View.readAt (Elt F) arg7.view (Rect.unit (s := S2x256x1) ![1, 0, 0] S1x256x1.size inb1).toLoadRect f7)⟩,
        ⟨Rect.unit (s := S2x256x1) ![0, 0, 0] S1x256x1.size inb0, k0_pay10 (k0_pay7 (k0_pay35 q) (KB i arg4 X_arg4 k)) (View.readAt (Elt F) arg7.view (Rect.unit (s := S2x256x1) ![0, 0, 0] S1x256x1.size inb0).toLoadRect f7)⟩],
       [⟨Rect.unit (s := S256x128) ![0, 0] S256x128.size inbF, k0_pay61 k0_pay39 (k0_pay4 lane (KB i arg5 X_arg5 k)) (k0_pay11 (k0_pay36 q) (KB i arg4 X_arg4 k)) (k0_pay12 (k0_pay36 q) (KB i arg4 X_arg4 k)) (k0_pay14 (k0_pay36 q) (KB i arg4 X_arg4 k)) (k0_pay16 (k0_pay36 q) (KB i arg4 X_arg4 k)) (k0_pay17 (k0_pay36 q) (KB i arg4 X_arg4 k)) (View.readAt (Elt F) arg7.view (Rect.unit (s := S2x256x1) ![1, 0, 0] S1x256x1.size inb1).toLoadRect f7)
          (arg8.view.readCov [⟨Rect.unit (s := S256x128) ![0, 0] S256x128.size inbF, k0_pay9 (k0_pay3 lane (KB i arg5 X_arg5 k)) (k0_pay5 (k0_pay35 q) (KB i arg4 X_arg4 k)) (k0_pay6 (k0_pay35 q) (KB i arg4 X_arg4 k)) (k0_pay8 (k0_pay35 q) k0_pay39 (KB i arg4 X_arg4 k)) (View.readAt (Elt F) arg7.view (Rect.unit (s := S2x256x1) ![0, 0, 0] S1x256x1.size inb0).toLoadRect f7) (View.readAt (Elt F) arg8.view (Rect.unit (s := S256x128) ![0, 0] S256x128.size inbF).toLoadRect f8)⟩] (Rect.unit (s := S256x128) ![0, 0] S256x128.size inbF).toLoadRect)⟩,
        ⟨Rect.unit (s := S256x128) ![0, 0] S256x128.size inbF, k0_pay9 (k0_pay3 lane (KB i arg5 X_arg5 k)) (k0_pay5 (k0_pay35 q) (KB i arg4 X_arg4 k)) (k0_pay6 (k0_pay35 q) (KB i arg4 X_arg4 k)) (k0_pay8 (k0_pay35 q) k0_pay39 (KB i arg4 X_arg4 k)) (View.readAt (Elt F) arg7.view (Rect.unit (s := S2x256x1) ![0, 0, 0] S1x256x1.size inb0).toLoadRect f7) (View.readAt (Elt F) arg8.view (Rect.unit (s := S256x128) ![0, 0] S256x128.size inbF).toLoadRect f8)⟩]) := by
  unfold tripL_k0_t1 trip_k0_t1
  dsimp only
  sl_unfold_words
  rfl

/-- One trip's written pieces, read back: the step of the trip's key block. -/
theorem trip_read (k : Fin (k0_t1_loop i).trips) (f7 : BufTy.Contents (Elt F) arg7.view.ty) (f8 : BufTy.Contents (Elt F) arg8.view.ty) :
    arg7.view.read (Elt F) (arg7.view.writes (Elt F) f7 (tripL_k0_t1 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 X_arg4 X_arg5 k f7 f8).1)
      = step7 q (blk (arg4.view.read (Elt F) X_arg4) ((i 2).val - 1 - k.val)) (arg7.view.read (Elt F) f7)
    ∧ arg8.view.read (Elt F) (arg8.view.writes (Elt F) f8 (tripL_k0_t1 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 X_arg4 X_arg5 k f7 f8).2)
      = step8 q (blk (arg4.view.read (Elt F) X_arg4) ((i 2).val - 1 - k.val)) (blk (arg5.view.read (Elt F) X_arg5) ((i 2).val - 1 - k.val)) (arg7.view.read (Elt F) f7) (arg8.view.read (Elt F) f8) := by
  have hi : (i 2).val < 8 := (i 2).isLt
  have hn : (i 2).val - 1 - k.val < 8 := by omega
  have e4 : KB i arg4 X_arg4 k = blk (arg4.view.read (Elt F) X_arg4) ((i 2).val - 1 - k.val) :=
    readAt_blk (F := F) arg4 X_arg4 (k0_off2 i k) _ hn (offs i k) rfl (k0_off2_inb i k)
  have e5 : KB i arg5 X_arg5 k = blk (arg5.view.read (Elt F) X_arg5) ((i 2).val - 1 - k.val) :=
    readAt_blk (F := F) arg5 X_arg5 (k0_off2 i k) _ hn (offs i k) rfl (k0_off2_inb i k)
  rw [tripL_eq]
  dsimp only
  rw [View.read_writes_cons_put arg7.view f7 (off' := ![1, 0, 0]) _ _ _ rfl,
    View.read_writes_cons_put arg7.view f7 (off' := ![0, 0, 0]) _ _ _ rfl, View.read_writes_full, View.readCov_full, View.readAt_full, e4, e5]
  exact ⟨rfl, rfl⟩

/-- The two buffers before trip `k`, from contents that read as the state after the diagonal block. -/
theorem loop_read (G7 : BufTy.Contents (Elt F) arg7.view.ty) (G8 : BufTy.Contents (Elt F) arg8.view.ty)
    (h7 : arg7.view.read (Elt F) G7 = (st q (arg4.view.read (Elt F) X_arg4) (arg5.view.read (Elt F) X_arg5) (i 2).val 0).1)
    (h8 : arg8.view.read (Elt F) G8 = (st q (arg4.view.read (Elt F) X_arg4) (arg5.view.read (Elt F) X_arg5) (i 2).val 0).2) (k : ℕ) (hk : k ≤ (k0_t1_loop i).trips) :
    arg7.view.read (Elt F) (arg7.view.writes (Elt F) G7 (pb_k0_t1 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 X_arg4 X_arg5 G7 G8 k).1)
      = (st q (arg4.view.read (Elt F) X_arg4) (arg5.view.read (Elt F) X_arg5) (i 2).val k).1
    ∧ arg8.view.read (Elt F) (arg8.view.writes (Elt F) G8 (pb_k0_t1 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 X_arg4 X_arg5 G7 G8 k).2)
      = (st q (arg4.view.read (Elt F) X_arg4) (arg5.view.read (Elt F) X_arg5) (i 2).val k).2 := by
  induction k with
  | zero => exact ⟨h7, h8⟩
  | succ k ih =>
    obtain ⟨i7, i8⟩ := ih (by omega)
    have e := pb_k0_t1_succ (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 X_arg4 X_arg5 G7 G8 ⟨k, hk⟩
    dsimp only at e
    rw [e]
    dsimp only
    rw [View.writes_append, View.writes_append]
    have t := trip_read 𝒱 c bd i arg3 harg3 arg4 harg4 arg5 harg5 arg6 harg6 arg7 harg7 arg8 harg8 arg2 q v41 v94 v104 v107 v109 v113 v116 v117 cst_50 X_arg4 X_arg5 ⟨k, hk⟩ (arg7.view.writes (Elt F) G7 (pb_k0_t1 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 X_arg4 X_arg5 G7 G8 k).1) (arg8.view.writes (Elt F) G8 (pb_k0_t1 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 X_arg4 X_arg5 G7 G8 k).2)
    rw [i7, i8] at t
    exact t

/-- The sum buffer after both loops, read back: the second loop makes no trips. -/
theorem both_read (v119 : BitVec 32) (G7 : BufTy.Contents (Elt F) arg7.view.ty) (G8 : BufTy.Contents (Elt F) arg8.view.ty)
    (L7 : List (View.Piece (Elt F) S2x256x1 .f32)) (L8 : List (View.Piece (Elt F) S256x128 .f32)) (K1 K2 : ℕ) (hK1 : K1 = (k0_t1_loop i).trips) (hK2 : K2 = (k0_t2_loop i).trips)
    (h7 : arg7.view.read (Elt F) (arg7.view.writes (Elt F) arg7.view.junk L7) = init7 q (blk (arg4.view.read (Elt F) X_arg4) (i 2).val))
    (h8 : arg8.view.read (Elt F) (arg8.view.writes (Elt F) arg8.view.junk L8) = init8 q (blk (arg4.view.read (Elt F) X_arg4) (i 2).val) (blk (arg5.view.read (Elt F) X_arg5) (i 2).val)) :
    arg8.view.readCov ((pb_k0_t2 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 v119 X_arg4 X_arg5 G7 G8 K2).2
        ++ ((pb_k0_t1 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 X_arg4 X_arg5 (arg7.view.writes (Elt F) arg7.view.junk L7) (arg8.view.writes (Elt F) arg8.view.junk L8) K1).2 ++ L8))
      (Rect.unit (s := S256x128) ![0, 0] S256x128.size inbF).toLoadRect
      = (st q (arg4.view.read (Elt F) X_arg4) (arg5.view.read (Elt F) X_arg5) (i 2).val (i 2).val).2 := by
  obtain rfl : K2 = 0 := hK2.trans (trips2 i)
  obtain rfl : K1 = (i 2).val := hK1.trans (trips1 i)
  refine (View.readAt_full arg8.view _ inbF).trans ?_
  rw [show (pb_k0_t2 (F := F) 𝒱 c bd i arg3 harg3 arg4 harg4 arg5 harg5 arg6 harg6 arg7 harg7 arg8 harg8 arg2 (k0_pay35 q) (k0_pay36 q) k0_pay39 lane v41 v94 v104 v107 v109 v113 v116 v117 cst_50 v119 X_arg4 X_arg5 G7 G8 0).2 = [] from rfl, List.nil_append, View.writes_append]
  exact (loop_read 𝒱 c bd i arg3 harg3 arg4 harg4 arg5 harg5 arg6 harg6 arg7 harg7 arg8 harg8 arg2 q v41 v94 v104 v107 v109 v113 v116 v117 cst_50 X_arg4 X_arg5 _ _ h7 h8 _ (le_of_eq hK1)).2

end Loop

/-- A load of half 0 after a store of the whole carry buffer. -/
theorem cov0 (a : Memref sig .tc .vmem S2x256x1 .f32) (p : Vec F S2x256x1 .f32) :
    a.view.readCov (Val := Elt F) [⟨Rect.unit (s := S2x256x1) ![0, 0, 0] S2x256x1.size inbC, p⟩] (Rect.unit (s := S2x256x1) ![0, 0, 0] S1x256x1.size inb0).toLoadRect = half0 p := by
  unfold View.readCov
  rw [View.readAt_unit a.view _ _ (off' := ![0, 0, 0]) rfl inb0, View.read_writes_full]

/-- A load of half 1 after a store of half 0 over a store of the whole carry buffer. -/
theorem cov1 (a : Memref sig .tc .vmem S2x256x1 .f32) (p : Vec F S2x256x1 .f32) (w : Vec F S1x256x1 .f32) :
    a.view.readCov (Val := Elt F) [⟨Rect.unit (s := S2x256x1) ![0, 0, 0] S1x256x1.size inb0, w⟩, ⟨Rect.unit (s := S2x256x1) ![0, 0, 0] S2x256x1.size inbC, p⟩] (Rect.unit (s := S2x256x1) ![1, 0, 0] S1x256x1.size inb1).toLoadRect = half1 (put0 p w) := by
  unfold View.readCov
  rw [View.readAt_unit a.view _ _ (off' := ![1, 0, 0]) rfl inb1, View.read_writes_cons_put a.view _ (off' := ![0, 0, 0]) _ _ _ rfl, View.read_writes_full]

/-- The carry buffer after the diagonal block's three stores. -/
theorem read7 (a : Memref sig .tc .vmem S2x256x1 .f32) (p : Vec F S2x256x1 .f32) (A B : Vec F S1x256x1 .f32 → Vec F S1x256x1 .f32) :
    a.view.read (Elt F) (a.view.writes (Elt F) a.view.junk
      [⟨Rect.unit (s := S2x256x1) ![1, 0, 0] S1x256x1.size inb1, A (a.view.readCov (Val := Elt F) [⟨Rect.unit (s := S2x256x1) ![0, 0, 0] S1x256x1.size inb0, B (a.view.readCov (Val := Elt F) [⟨Rect.unit (s := S2x256x1) ![0, 0, 0] S2x256x1.size inbC, p⟩] (Rect.unit (s := S2x256x1) ![0, 0, 0] S1x256x1.size inb0).toLoadRect)⟩, ⟨Rect.unit (s := S2x256x1) ![0, 0, 0] S2x256x1.size inbC, p⟩] (Rect.unit (s := S2x256x1) ![1, 0, 0] S1x256x1.size inb1).toLoadRect)⟩,
       ⟨Rect.unit (s := S2x256x1) ![0, 0, 0] S1x256x1.size inb0, B (a.view.readCov (Val := Elt F) [⟨Rect.unit (s := S2x256x1) ![0, 0, 0] S2x256x1.size inbC, p⟩] (Rect.unit (s := S2x256x1) ![0, 0, 0] S1x256x1.size inb0).toLoadRect)⟩,
       ⟨Rect.unit (s := S2x256x1) ![0, 0, 0] S2x256x1.size inbC, p⟩])
      = put1 (put0 p (B (half0 p))) (A (half1 (put0 p (B (half0 p))))) := by
  rw [cov0, cov1, View.read_writes_cons_put a.view _ (off' := ![1, 0, 0]) _ _ _ rfl, View.read_writes_cons_put a.view _ (off' := ![0, 0, 0]) _ _ _ rfl, View.read_writes_full]

/-- The rows of the diagonal block. -/
theorem off1 (i : grid0.Coords) : k0_off1 i 0 = (i 2).val * 256 := by
  have h : ∀ n : Fin 8, BitVec.toNat (Scalar.indexCast (Scalar.muli (BitVec.ofNat 32 n.val) 256#32)) = n.val * 256 := by
    decide +kernel
  exact h (i 2)

/-- What one grid point leaves in its output block: the sum after all its key blocks, cast. -/
theorem out_eq (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S2x256x1 .f32) (harg7 : arg7.IsWhole) (arg8 : Memref sig .tc .vmem S256x128 .f32) (harg8 : arg8.IsWhole)
    (x0 : Vec F S256x128 .bf16) (x1 : Vec F S2048x128 .bf16) (x2 : Vec F S2048x128 .bf16) :
    out0_A_3 c i arg3 harg3 arg4 harg4 arg5 harg5 arg6 harg6 arg7 harg7 arg8 harg8 x0 x1 x2
      = k0_pay1 (st x0 x1 x2 (i 2).val (i 2).val).2 := by
  unfold out0_A_3 kernelRun0_A
  dsimp only
  sl_unfold_words
  have hi : (i 2).val < 8 := (i 2).isLt
  refine (View.read_writes_full _ _ _ _ _).trans (congrArg k0_pay1 ((both_read _ c _ i arg3 harg3 arg4 harg4 arg5 harg5 arg6 harg6 arg7 harg7 arg8 harg8 _ _ _ _ _ _ _ _ _ _ _ _ _ _ _ _ _ _ _ _ rfl rfl ?_ ?_).trans ?_))
  · rw [← readAt_blk (F := F) arg4 (harg4.unread x1) (k0_off1 i) _ hi (off1 i) rfl (k0_off1_inb i)]
    exact read7 arg7 k0_pay37 (k0_pay60 (k0_pay53 (k0_pay36 _) rows cols _)) (k0_pay49 (k0_pay46 (k0_pay35 _) rows cols _))
  · rw [← readAt_blk (F := F) arg4 (harg4.unread x1) (k0_off1 i) _ hi (off1 i) rfl (k0_off1_inb i),
      ← readAt_blk (F := F) arg5 (harg5.unread x2) (k0_off1 i) _ hi (off1 i) rfl (k0_off1_inb i)]
    refine (View.read_writes_full _ _ _ _ _).trans ?_
    refine congrArg₂ (k0_pay59 _ _ _ _ _ _ _ _ _) ?_ ?_
    · refine (cov1 arg7 k0_pay37 _).trans ?_
      rw [cov0]
      rfl
    · refine (View.readCov_full _ _ _ _ _).trans ?_
      refine congrArg₂ (k0_pay48 _) ?_ (View.readCov_full _ _ _ _ _)
      exact congrArg (k0_pay47 _ rows cols k0_pay39 _) (cov0 arg7 k0_pay37)
  · rw [harg4.read_unread, harg5.read_unread]
    exact congrArg (fun z => (st z x1 x2 (i 2).val (i 2).val).2) ((View.readAt_full arg3.view _ _).trans (harg3.read_unread x0))

end Cert.SbIdeal.Steps

end
-- ==== Proof.EMath.lean ====
module

public import Idealize.ShloMosaic.Lib.Pointwise
public import Idealize.ShloMosaic.Lib.WordCmp
public import Idealize.ShloMosaic.Lib.IdealHost

/-! # Facts about extended reals, selects on positions and tiled sums, for the hand proofs -/

@[expose] public section

noncomputable section

namespace Cert.EMath

open Idealize.ShloMosaic

/-- A sum of real numbers, taken in the extended reals. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A choice between two real numbers, taken in the extended reals. -/
theorem coe_ite (p : Prop) [Decidable p] (a b : ℝ) : ((if p then a else b : ℝ) : EReal) = if p then (a : EReal) else (b : EReal) := by
  split <;> rfl

/-- A select on "position below" is the choice on the numbers. -/
theorem sel_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b <;> simp [Scalar.select, h]

/-- A select on "position above" is the choice on the numbers. -/
theorem sel_sgt {α : Type} (a b : ℕ) (ha : a < 2 ^ 31) (hb : b < 2 ^ 31) (x y : α) :
    Scalar.select (IntOp.cmpi .sgt (BitVec.ofNat 32 a) (BitVec.ofNat 32 b)) x y = if b < a then x else y := by
  rw [WordCmp.cmpi_sgt_ofNat ha hb]
  by_cases h : b < a <;> simp [Scalar.select, h]

/-- A select on "position at least" is the choice on the numbers. -/
theorem sel_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb]
  by_cases h : b ≤ a <;> simp [Scalar.select, h]

/-- The exponential of a real number. -/
theorem exp_coe (x : ℝ) : Ideal.exp (x : EReal) = (Real.exp x : EReal) := rfl

/-- The logarithm of a positive real number. -/
theorem log_coe (x : ℝ) (hx : 0 < x) : Ideal.log (x : EReal) = (Real.log x : EReal) := by
  show (if x ≤ 0 then (⊥ : EReal) else (Real.log x : EReal)) = _
  rw [if_neg (not_le.mpr hx)]

/-- The maximum of two real numbers. -/
theorem max_coe (x y : ℝ) : max (x : EReal) (y : EReal) = ((max x y : ℝ) : EReal) := (EReal.coe_strictMono.monotone.map_max).symm

/-- The literal one eighth, as a bfloat16. -/
theorem eighth_bf16 : Ideal.ofBits .bf16 0x3E00#16 = ((0.125 : ℝ) : EReal) := by
  simp [Ideal.ofBits, Ideal.ieee]
  norm_num
  rw [← EReal.coe_mul]
  norm_num

/-- The literal one eighth, as a float32. -/
theorem eighth_f32 : Ideal.ofBits .f32 0x3E000000#32 = ((0.125 : ℝ) : EReal) := by
  simp [Ideal.ofBits, Ideal.ieee]
  norm_num
  rw [← EReal.coe_mul]
  norm_num

/-- The literal infinity, as a float32. -/
theorem inf_f32 : Ideal.ofBits .f32 0x7F800000#32 = ⊤ := by
  simp [Ideal.ofBits, Ideal.ieee]

/-- An extended real whose absolute value is below infinity is a real number. -/
theorem real_of_abs_lt (x : EReal) (h : max x (-x) < ⊤) : ∃ r : ℝ, x = (r : EReal) := by
  induction x with
  | bot => simp at h
  | top => simp at h
  | coe r => exact ⟨r, rfl⟩

/-- A sum over one block of `B` positions is a sum over an interval of numbers. -/
theorem sum_block {M : Type*} [AddCommMonoid M] (B n : ℕ) (f : ℕ → M) :
    ∑ x : Fin B, f (n * B + x.val) = ∑ j ∈ Finset.Ico (n * B) ((n + 1) * B), f j := by
  rw [Finset.sum_Ico_eq_sum_range, ← Finset.sum_range (fun x => f (n * B + x))]
  congr 2
  rw [Nat.add_mul]; omega

/-- A sum over the positions after `j` in one block is a sum over an interval of numbers. -/
theorem sum_block_after {M : Type*} [AddCommMonoid M] (B n : ℕ) (f : ℕ → M) (j : Fin B) :
    (∑ x : Fin B, if j < x then f (n * B + x.val) else 0) = ∑ i ∈ Finset.Ico (n * B + j.val + 1) ((n + 1) * B), f i := by
  have h := sum_block B n (fun i => if n * B + j.val < i then f i else 0)
  have e : (∑ x : Fin B, if j < x then f (n * B + x.val) else 0) = ∑ x : Fin B, (fun i => if n * B + j.val < i then f i else 0) (n * B + x.val) := by
    refine Finset.sum_congr rfl fun x _ => ?_
    have : (j < x) ↔ n * B + j.val < n * B + x.val := by rw [Fin.lt_def]; omega
    simp only [this]
  rw [e, h, ← Finset.sum_filter]
  refine Finset.sum_congr ?_ fun _ _ => rfl
  ext i
  simp only [Finset.mem_filter, Finset.mem_Ico]
  omega

end Cert.EMath

end
-- ==== Proof.SbFold.lean ====
module

public import proofs.«01_k».proof.Proof.SbSteps
public import proofs.«01_k».proof.Proof.EMath

/-! # Stick-breaking attention: the fold over key blocks, in real numbers

For queries and keys whose scores are real numbers, the carry after the blocks read so far is the sum of
`log (1 - beta)` over their keys, and the sum buffer is the weighted sum of their values. -/

@[expose] public section

set_option maxRecDepth 16384

noncomputable section

namespace Cert.SbIdeal.Fold

open Cert.SbIdeal Cert.SbIdeal.Gen Cert.SbIdeal.Steps Cert.EMath Idealize.ShloMosaic Idealize.ShloMosaic.TcCoe Idealize.SL.Sem
open Idealize.ShloMosaic.VecWindow

/-- `log (1 + exp x)`, as the kernel spells it. -/
def spR (x : ℝ) : ℝ := max x 0 + Real.log (1 + Real.exp (-(max x (-x))))

/-- The spelling of `log (1 + exp x)` at a real number. -/
theorem sp_coe (x : ℝ) : max (x : EReal) 0 + Ideal.log (1 + Ideal.exp (0 - max (x : EReal) (-(x : EReal)))) = (spR x : EReal) := by
  have hp : 0 < 1 + Real.exp (-(max x (-x))) := by positivity
  rw [← EReal.coe_neg, max_coe, show (0 : EReal) = ((0 : ℝ) : EReal) from rfl, max_coe, ← EReal.coe_sub, exp_coe,
    show (1 : EReal) = ((1 : ℝ) : EReal) from rfl, ← EReal.coe_add, zero_sub, log_coe _ hp, ← EReal.coe_add]
  rfl

section Block

variable (Q kb V : Vec Ideal S256x128 .bf16) (Z : Fin 256 → Fin 256 → ℝ)
  (hZ : ∀ r j : Fin 256, k0_pay5 Q kb (ix2 r j) = (Z r j : EReal))
  (w : Vec Ideal S1x256x1 .f32) (C : Fin 256 → ℝ) (hw : ∀ r : Fin 256, w (ix3 0 r 0) = (C r : EReal))
include hZ

theorem p6 (r j : Fin 256) : k0_pay6 Q kb (ix2 r j) = (spR (Z r j) : EReal) := by
  pointwise [k0_pay6]
  rw [hZ]
  exact sp_coe _

theorem p7 (r j : Fin 256) : k0_pay7 Q kb (ix2 r j) = ((-spR (Z r j) : ℝ) : EReal) := by
  pointwise [k0_pay7]
  rw [p6 Q kb Z hZ, EReal.coe_neg]
  exact zero_sub _

theorem p46 (r j : Fin 256) : k0_pay46 Q rows cols kb (ix2 r j) = ((if j < r then -spR (Z r j) else 0 : ℝ) : EReal) := by
  pointwise [k0_pay46, k0_pay45]
  rw [show k0_pay44 Q kb (ix2 r j) = (spR (Z r j) : EReal) from p6 Q kb Z hZ r j, sel_slt _ _ (by omega) (by omega), coe_ite, zero_sub, EReal.coe_neg]
  rfl

omit hZ in
/-- The three products with the strict-suffix matrix add up to the strict suffix sum. -/
theorem suffix (L : Fin 256 → ℝ) (j : Fin 256) :
    (∑ x : Fin 256, Scalar.select (IntOp.cmpi .sgt (BitVec.ofNat 32 x.val) (BitVec.ofNat 32 j.val)) (L x : EReal) 0
      + ∑ x : Fin 256, Scalar.select (IntOp.cmpi .sgt (BitVec.ofNat 32 x.val) (BitVec.ofNat 32 j.val)) ((L x : EReal) - (L x : EReal)) 0)
      + ∑ x : Fin 256, Scalar.select (IntOp.cmpi .sgt (BitVec.ofNat 32 x.val) (BitVec.ofNat 32 j.val)) ((L x : EReal) - (L x : EReal) - ((L x : EReal) - (L x : EReal))) 0
    = ((∑ x : Fin 256, if j < x then L x else 0 : ℝ) : EReal) := by
  have h0 : ∀ x : Fin 256, (L x : EReal) - (L x : EReal) = 0 := fun x => by rw [← EReal.coe_sub, sub_self]; rfl
  have hs : ∀ (x : Fin 256) (a : EReal), Scalar.select (IntOp.cmpi .sgt (BitVec.ofNat 32 x.val) (BitVec.ofNat 32 j.val)) a 0 = if j < x then a else 0 :=
    fun x a => sel_sgt _ _ (by omega) (by omega) _ _
  simp only [h0, hs, sub_zero, ite_self, Finset.sum_const_zero, add_zero, coe_sum, coe_ite, EReal.coe_zero]

theorem p8 (r j : Fin 256) : k0_pay8 Q k0_pay39 kb (ix2 r j) = ((∑ x : Fin 256, if j < x then -spR (Z r x) else 0 : ℝ) : EReal) := by
  pointwise [k0_pay8, k0_pay39]
  simp only [p7 Q kb Z hZ]
  exact suffix (fun x => -spR (Z r x)) j

include hw

/-- The sum buffer after a block behind the diagonal, one half. -/
theorem p9 (c8 : Vec Ideal S256x128 .f32) (r : Fin 256) (l : Fin 128) :
    k0_pay9 V (k0_pay5 Q kb) (k0_pay6 Q kb) (k0_pay8 Q k0_pay39 kb) w c8 (ix2 r l)
      = c8 (ix2 r l) + ∑ x : Fin 256, ((Real.exp (Z r x - spR (Z r x) + ((∑ y : Fin 256, if x < y then -spR (Z r y) else 0) + C r)) : ℝ) : EReal) * V (ix2 x l) := by
  pointwise [k0_pay9]
  simp only [p6 Q kb Z hZ, p8 Q kb Z hZ, hZ, hw, ← EReal.coe_add, ← EReal.coe_sub, exp_coe]

/-- The carry after a block behind the diagonal, one half. -/
theorem p10 (r : Fin 256) : k0_pay10 (k0_pay7 Q kb) w (ix3 0 r 0) = ((C r + ∑ x : Fin 256, -spR (Z r x) : ℝ) : EReal) := by
  pointwise [k0_pay10]
  simp only [p7 Q kb Z hZ, hw, EReal.coe_add, coe_sum]

/-- The carry after the diagonal block, one half. -/
theorem p49 (r : Fin 256) : k0_pay49 (k0_pay46 Q rows cols kb) w (ix3 0 r 0) = ((C r + ∑ x : Fin 256, (if x < r then -spR (Z r x) else 0) : ℝ) : EReal) := by
  pointwise [k0_pay49]
  simp only [p46 Q kb Z hZ, hw, EReal.coe_add, coe_sum]

/-- The weights of the diagonal block, one half. -/
theorem p47 (r x : Fin 256) : k0_pay47 Q rows cols k0_pay39 kb w (ix2 r x)
    = ((if x < r then Real.exp (Z r x - spR (Z r x) + ((∑ y : Fin 256, if x < y then (if y < r then -spR (Z r y) else 0) else 0) + C r)) else 0 : ℝ) : EReal) := by
  pointwise [k0_pay47, k0_pay39, k0_pay45]
  simp only [p46 Q kb Z hZ, hw]
  rw [suffix (fun y => if y < r then -spR (Z r y) else 0) x, show k0_pay44 Q kb (ix2 r x) = (spR (Z r x) : EReal) from p6 Q kb Z hZ r x,
    show k0_pay43 Q kb (ix2 r x) = (Z r x : EReal) from hZ r x, sel_slt _ _ (by omega) (by omega), ← EReal.coe_sub, ← EReal.coe_add, ← EReal.coe_add, exp_coe, coe_ite]
  rfl

/-- The sum buffer after the diagonal block, one half. -/
theorem p48 (c8 : Vec Ideal S256x128 .f32) (r : Fin 256) (l : Fin 128) :
    k0_pay48 V (k0_pay47 Q rows cols k0_pay39 kb w) c8 (ix2 r l)
      = c8 (ix2 r l) + ∑ x : Fin 256, ((if x < r then Real.exp (Z r x - spR (Z r x) + ((∑ y : Fin 256, if x < y then (if y < r then -spR (Z r y) else 0) else 0) + C r)) else 0 : ℝ) : EReal) * V (ix2 x l) := by
  pointwise [k0_pay48]
  simp only [p47 Q kb Z hZ w C hw]

end Block

/-! ## The two halves of the buffers -/

theorem half0_at {F : FTy → Type} [FloatOps F] (c7 : Vec F S2x256x1 .f32) (r : Fin 256) : half0 c7 (ix3 0 r 0) = c7 (ix3 0 r 0) := by
  refine congrArg c7 (funext fun a => Fin.ext ?_)
  match a with
  | ⟨0, _⟩ => rfl
  | ⟨1, _⟩ => show 0 + 1 * r.val = r.val; omega
  | ⟨2, _⟩ => rfl

theorem half1_at {F : FTy → Type} [FloatOps F] (c7 : Vec F S2x256x1 .f32) (r : Fin 256) : half1 c7 (ix3 0 r 0) = c7 (ix3 1 r 0) := by
  refine congrArg c7 (funext fun a => Fin.ext ?_)
  match a with
  | ⟨0, _⟩ => rfl
  | ⟨1, _⟩ => show 0 + 1 * r.val = r.val; omega
  | ⟨2, _⟩ => rfl

theorem put0_at0 {F : FTy → Type} [FloatOps F] (c7 : Vec F S2x256x1 .f32) (w : Vec F S1x256x1 .f32) (r : Fin 256) : put0 c7 w (ix3 0 r 0) = w (ix3 0 r 0) :=
  (half0_at (put0 c7 w) r).symm.trans (congrFun (window_put_same c7 _ _ inb0 w) _)

theorem put1_at1 {F : FTy → Type} [FloatOps F] (c7 : Vec F S2x256x1 .f32) (w : Vec F S1x256x1 .f32) (r : Fin 256) : put1 c7 w (ix3 1 r 0) = w (ix3 0 r 0) :=
  (half1_at (put1 c7 w) r).symm.trans (congrFun (window_put_same c7 _ _ inb1 w) _)

theorem put0_at1 {F : FTy → Type} [FloatOps F] (c7 : Vec F S2x256x1 .f32) (w : Vec F S1x256x1 .f32) (r : Fin 256) : put0 c7 w (ix3 1 r 0) = c7 (ix3 1 r 0) :=
  (half1_at (put0 c7 w) r).symm.trans ((congrFun (window_put_of_disjoint c7 _ _ _ _ inb1 w 0 (by right; decide)) _).trans (half1_at c7 r))

theorem put1_at0 {F : FTy → Type} [FloatOps F] (c7 : Vec F S2x256x1 .f32) (w : Vec F S1x256x1 .f32) (r : Fin 256) : put1 c7 w (ix3 0 r 0) = c7 (ix3 0 r 0) :=
  (half0_at (put1 c7 w) r).symm.trans ((congrFun (window_put_of_disjoint c7 _ _ _ _ inb0 w 0 (by left; decide)) _).trans (half0_at c7 r))

/-! ## The masked values -/

theorem v3_at (vb : Vec Ideal S256x128 .bf16) (x : Fin 256) (l : Fin 128) : k0_pay3 lane vb (ix2 x l) = if l.val < 64 then vb (ix2 x l) else 0 := by
  pointwise [k0_pay3, k0_pay2]
  exact sel_slt _ 64 (by omega) (by omega) _ _

theorem v4_at (vb : Vec Ideal S256x128 .bf16) (x : Fin 256) (l : Fin 128) : k0_pay4 lane vb (ix2 x l) = if 64 ≤ l.val then vb (ix2 x l) else 0 := by
  pointwise [k0_pay4, k0_pay2]
  exact sel_sge _ 64 (by omega) (by omega) _ _

theorem v41_at (vb : Vec Ideal S256x128 .bf16) (x : Fin 256) (l : Fin 128) : k0_pay41 lane vb (FloatOps.ofBits .bf16 0x0000#16) (ix2 x l) = if l.val < 64 then vb (ix2 x l) else 0 := by
  pointwise [k0_pay41, k0_pay40]
  exact sel_slt _ 64 (by omega) (by omega) _ _

theorem v42_at (vb : Vec Ideal S256x128 .bf16) (x : Fin 256) (l : Fin 128) : k0_pay42 lane vb (FloatOps.ofBits .bf16 0x0000#16) (ix2 x l) = if 64 ≤ l.val then vb (ix2 x l) else 0 := by
  pointwise [k0_pay42, k0_pay40]
  exact sel_sge _ 64 (by omega) (by omega) _ _

/-! ## The fold -/

section Fold

variable (Z : ℕ → ℝ) (t N : ℕ)

/-- `log (1 - beta)` at key `j`, zero from the query's own position on. -/
def lg (j : ℕ) : ℝ := if j < t then -spR (Z j) else 0

/-- The weight of key `j`, with the keys read below `N`. -/
def wt (j : ℕ) : ℝ := if j < t then Real.exp (Z j - spR (Z j) + ∑ i ∈ Finset.Ico (j + 1) N, lg Z t i) else 0

/-- A block's sum put before the sum of the later keys. -/
theorem cat {M : Type*} [AddCommMonoid M] (f : ℕ → M) (m : ℕ) (h : (m + 1) * 256 ≤ N) :
    (∑ j ∈ Finset.Ico ((m + 1) * 256) N, f j) + ∑ x : Fin 256, f (m * 256 + x.val) = ∑ j ∈ Finset.Ico (m * 256) N, f j := by
  rw [sum_block, add_comm]
  exact Finset.sum_Ico_consecutive f (by omega) h

/-- The carry's exponent inside a block. -/
theorem after (f : ℕ → ℝ) (m : ℕ) (h : (m + 1) * 256 ≤ N) (x : Fin 256) :
    (∑ y : Fin 256, if x < y then f (m * 256 + y.val) else 0) + ∑ j ∈ Finset.Ico ((m + 1) * 256) N, f j = ∑ j ∈ Finset.Ico (m * 256 + x.val + 1) N, f j := by
  rw [sum_block_after]
  exact Finset.sum_Ico_consecutive f (by omega) h

end Fold

section State

variable (q : Vec Ideal S256x128 .bf16) (x1 x2 : Vec Ideal S2048x128 .bf16) (n : ℕ) (hn : n < 8) (Z0 Z1 : Fin 256 → ℕ → ℝ)
  (h0 : ∀ (m : ℕ) (r x : Fin 256), m ≤ n → k0_pay5 (k0_pay35 q) (blk x1 m) (ix2 r x) = (Z0 r (m * 256 + x.val) : EReal))
  (h1 : ∀ (m : ℕ) (r x : Fin 256), m ≤ n → k0_pay5 (k0_pay36 q) (blk x1 m) (ix2 r x) = (Z1 r (m * 256 + x.val) : EReal))

/-- The value of key `j` at lane `l`. -/
def val (x2 : Vec Ideal S2048x128 .bf16) (j : ℕ) (l : Fin 128) : EReal := x2 (ix2 (⟨j % 2048, Nat.mod_lt _ (by decide)⟩ : Fin 2048) l)

/-- What the buffers hold when the keys from `M` on have been read. -/
def Holds (M : ℕ) (s : Vec Ideal S2x256x1 .f32 × Vec Ideal S256x128 .f32) : Prop :=
  ∀ r : Fin 256,
    s.1 (ix3 0 r 0) = ((∑ j ∈ Finset.Ico M ((n + 1) * 256), lg (Z0 r) (n * 256 + r.val) j : ℝ) : EReal)
    ∧ s.1 (ix3 1 r 0) = ((∑ j ∈ Finset.Ico M ((n + 1) * 256), lg (Z1 r) (n * 256 + r.val) j : ℝ) : EReal)
    ∧ ∀ l : Fin 128, s.2 (ix2 r l)
      = (∑ j ∈ Finset.Ico M ((n + 1) * 256), (wt (Z0 r) (n * 256 + r.val) ((n + 1) * 256) j : EReal) * if l.val < 64 then val x2 j l else 0)
        + ∑ j ∈ Finset.Ico M ((n + 1) * 256), (wt (Z1 r) (n * 256 + r.val) ((n + 1) * 256) j : EReal) * if 64 ≤ l.val then val x2 j l else 0

include h0 h1

/-- One block behind the diagonal. -/
theorem holds_step (m : ℕ) (hm : m + 1 ≤ n) (s : Vec Ideal S2x256x1 .f32 × Vec Ideal S256x128 .f32) (hs : Holds x2 n Z0 Z1 ((m + 1) * 256) s) :
    Holds x2 n Z0 Z1 (m * 256) (step7 q (blk x1 m) s.1, step8 q (blk x1 m) (blk x2 m) s.1 s.2) := by
  have hN : (m + 1) * 256 ≤ (n + 1) * 256 := by omega
  have hL : ∀ (Z : Fin 256 → ℕ → ℝ) (r x : Fin 256), -spR (Z r (m * 256 + x.val)) = lg (Z r) (n * 256 + r.val) (m * 256 + x.val) := fun Z r x => by
    rw [lg, if_pos (by omega)]
  have hW : ∀ (Z : Fin 256 → ℕ → ℝ) (r x : Fin 256), Real.exp (Z r (m * 256 + x.val) - spR (Z r (m * 256 + x.val)) + ((∑ y : Fin 256, if x < y then -spR (Z r (m * 256 + y.val)) else 0)
      + ∑ j ∈ Finset.Ico ((m + 1) * 256) ((n + 1) * 256), lg (Z r) (n * 256 + r.val) j)) = wt (Z r) (n * 256 + r.val) ((n + 1) * 256) (m * 256 + x.val) := fun Z r x => by
    rw [wt, if_pos (by omega), ← after ((n + 1) * 256) (lg (Z r) (n * 256 + r.val)) m hN x]
    simp only [hL]
  have hw0 : ∀ r : Fin 256, half0 s.1 (ix3 0 r 0) = ((∑ j ∈ Finset.Ico ((m + 1) * 256) ((n + 1) * 256), lg (Z0 r) (n * 256 + r.val) j : ℝ) : EReal) := fun r => (half0_at s.1 r).trans (hs r).1
  have hw1 : ∀ r : Fin 256, half1 s.1 (ix3 0 r 0) = ((∑ j ∈ Finset.Ico ((m + 1) * 256) ((n + 1) * 256), lg (Z1 r) (n * 256 + r.val) j : ℝ) : EReal) := fun r => (half1_at s.1 r).trans (hs r).2.1
  have hz0 := fun r x => h0 m r x (by omega)
  have hz1 := fun r x => h1 m r x (by omega)
  intro r
  refine ⟨?_, ?_, fun l => ?_⟩
  · dsimp only
    unfold step7
    refine (put1_at0 _ _ r).trans ((put0_at0 _ _ r).trans ((p10 _ _ (fun r x => Z0 r (m * 256 + x.val)) hz0 _ _ hw0 r).trans ?_))
    rw [← cat ((n + 1) * 256) (lg (Z0 r) (n * 256 + r.val)) m hN]
    simp only [hL]
  · dsimp only
    unfold step7
    refine (put1_at1 _ _ r).trans ((p10 _ _ (fun r x => Z1 r (m * 256 + x.val)) hz1 _ _ hw1 r).trans ?_)
    rw [← cat ((n + 1) * 256) (lg (Z1 r) (n * 256 + r.val)) m hN]
    simp only [hL]
  · refine (p9 _ _ (k0_pay4 lane (blk x2 m)) (fun r x => Z1 r (m * 256 + x.val)) hz1 _ _ hw1 _ r l).trans ?_
    rw [p9 _ _ (k0_pay3 lane (blk x2 m)) (fun r x => Z0 r (m * 256 + x.val)) hz0 _ _ hw0 _ r l, (hs r).2.2 l,
      ← cat ((n + 1) * 256) (fun j => (wt (Z0 r) (n * 256 + r.val) ((n + 1) * 256) j : EReal) * if l.val < 64 then val x2 j l else 0) m hN,
      ← cat ((n + 1) * 256) (fun j => (wt (Z1 r) (n * 256 + r.val) ((n + 1) * 256) j : EReal) * if 64 ≤ l.val then val x2 j l else 0) m hN]
    simp only [hW, v3_at, v4_at]
    exact (congrArg (· + _) (add_right_comm _ _ _)).trans (add_assoc _ _ _)

/-- The diagonal block. -/
theorem holds_init : Holds x2 n Z0 Z1 (n * 256) (init7 q (blk x1 n), init8 q (blk x1 n) (blk x2 n)) := by
  have hL : ∀ (Z : Fin 256 → ℕ → ℝ) (r x : Fin 256), (if x < r then -spR (Z r (n * 256 + x.val)) else 0) = lg (Z r) (n * 256 + r.val) (n * 256 + x.val) := fun Z r x => by
    have : (x < r) ↔ n * 256 + x.val < n * 256 + r.val := by rw [Fin.lt_def]; omega
    simp only [lg, this]
  have hW : ∀ (Z : Fin 256 → ℕ → ℝ) (r x : Fin 256), (if x < r then Real.exp (Z r (n * 256 + x.val) - spR (Z r (n * 256 + x.val)) + ((∑ y : Fin 256, if x < y then (if y < r then -spR (Z r (n * 256 + y.val)) else 0) else 0) + 0)) else 0)
      = wt (Z r) (n * 256 + r.val) ((n + 1) * 256) (n * 256 + x.val) := fun Z r x => by
    have : (x < r) ↔ n * 256 + x.val < n * 256 + r.val := by rw [Fin.lt_def]; omega
    simp only [hL]
    rw [sum_block_after]
    simp only [wt, this, add_zero]
  have hc0 : ∀ r : Fin 256, half0 (F := Ideal) (k0_pay37 (F := Ideal)) (ix3 0 r 0) = ((0 : ℝ) : EReal) := fun r => by
    refine (half0_at (F := Ideal) _ r).trans ?_
    pointwise [k0_pay37]
    rfl
  have hc1 : ∀ r : Fin 256, half1 (init7a q (blk x1 n)) (ix3 0 r 0) = ((0 : ℝ) : EReal) := fun r => by
    unfold init7a
    refine (half1_at _ r).trans ((put0_at1 _ _ r).trans ?_)
    pointwise [k0_pay37]
    rfl
  have hz0 := fun r x => h0 n r x le_rfl
  have hz1 := fun r x => h1 n r x le_rfl
  intro r
  refine ⟨?_, ?_, fun l => ?_⟩
  · dsimp only
    unfold init7 init7a
    refine (put1_at0 _ _ r).trans ((put0_at0 _ _ r).trans ((p49 _ _ (fun r x => Z0 r (n * 256 + x.val)) hz0 _ (fun _ => 0) hc0 r).trans ?_))
    rw [zero_add, ← sum_block]
    simp only [hL]
  · dsimp only
    unfold init7
    refine (put1_at1 _ _ r).trans ((p49 _ _ (fun r x => Z1 r (n * 256 + x.val)) hz1 _ (fun _ => 0) hc1 r).trans ?_)
    rw [zero_add, ← sum_block]
    simp only [hL]
  · refine (p48 _ _ (k0_pay42 lane (blk x2 n) (FloatOps.ofBits .bf16 0x0000#16)) (fun r x => Z1 r (n * 256 + x.val)) hz1 _ (fun _ => 0) hc1 _ r l).trans ?_
    rw [p48 _ _ (k0_pay41 lane (blk x2 n) (FloatOps.ofBits .bf16 0x0000#16)) (fun r x => Z0 r (n * 256 + x.val)) hz0 _ (fun _ => 0) hc0 _ r l,
      ← sum_block, ← sum_block]
    simp only [hW, v41_at, v42_at]
    rw [show k0_pay38 (F := Ideal) (ix2 r l) = 0 by pointwise [k0_pay38], zero_add]
    rfl

/-- All the blocks. -/
theorem holds_st (k : ℕ) (hk : k ≤ n) : Holds x2 n Z0 Z1 ((n - k) * 256) (st q x1 x2 n k) := by
  induction k with
  | zero => exact holds_init q x1 x2 n Z0 Z1 h0 h1
  | succ k ih =>
    have e : n - k = (n - 1 - k) + 1 := by omega
    have e' : n - (k + 1) = n - 1 - k := by omega
    rw [e']
    exact holds_step q x1 x2 n Z0 Z1 h0 h1 (n - 1 - k) (by omega) _ (e ▸ ih (by omega))

/-- What one grid point leaves: the weighted sum of the values of the keys up to its block's end. -/
theorem out_at (r : Fin 256) (l : Fin 128) : k0_pay1 (st q x1 x2 n n).2 (ix2 r l)
    = (∑ j ∈ Finset.range ((n + 1) * 256), (wt (Z0 r) (n * 256 + r.val) ((n + 1) * 256) j : EReal) * if l.val < 64 then val x2 j l else 0)
      + ∑ j ∈ Finset.range ((n + 1) * 256), (wt (Z1 r) (n * 256 + r.val) ((n + 1) * 256) j : EReal) * if 64 ≤ l.val then val x2 j l else 0 := by
  have h := (holds_st q x1 x2 n Z0 Z1 h0 h1 n le_rfl r).2.2 l
  rw [Nat.sub_self, Nat.zero_mul, ← Finset.range_eq_Ico] at h
  rw [← h]
  pointwise [k0_pay1]

end State

end Cert.SbIdeal.Fold

end
-- ==== Proof.SbRef.lean ====
module

public import proofs.«01_k».proof.Proof.SbFold
public import proofs.«01_k».proof.Proof.Gen.SbRefIdeal.Read

/-! # Stick-breaking attention: the reference read at an index -/

@[expose] public section

set_option maxRecDepth 16384

noncomputable section

namespace Cert.SbRefIdeal.At

open Cert.SbRefIdeal Cert.SbRefIdeal.Gen Cert.SbRefIdeal.Read Cert.EMath Cert.SbIdeal.Fold Idealize.ShloMosaic Idealize.ShloMosaic.TcCoe Idealize.SL.Sem

/-- The index of batch `b`, head `h`, query `t` and key `k`. -/
abbrev q4 (b : Fin 8) (h : Fin 16) (t k : Fin 2048) : S8x16x2048x2048.Idx := fun a => match a with
  | ⟨0, _⟩ => b
  | ⟨1, _⟩ => h
  | ⟨2, _⟩ => t
  | ⟨3, _⟩ => k

theorem foldl_add {n : ℕ} (g : Fin n → EReal) (z : EReal) : (List.finRange n).foldl (fun r i => r + g i) z = z + ∑ i, g i := by
  rw [Fin.sum_univ_def]
  generalize List.finRange n = l
  induction l generalizing z with
  | nil => simp
  | cons a l ih => rw [List.foldl_cons, ih, List.map_cons, List.sum_cons, add_assoc]

/-- The window's shape: all 2048 keys of one query. -/
abbrev W : Shape := ⟨4, ![1, 1, 1, 2048]⟩

/-- The positions of the window, counted along the key axis. -/
def wEquiv : Fin 2048 ≃ W.Idx where
  toFun n := fun a => match a with
    | ⟨0, _⟩ => (0 : Fin 1)
    | ⟨1, _⟩ => (0 : Fin 1)
    | ⟨2, _⟩ => (0 : Fin 1)
    | ⟨3, _⟩ => n
  invFun i := i 3
  left_inv n := rfl
  right_inv i := funext fun a => match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl

/-- A running sum from the end: each entry is the sum of the row's entries from it on. -/
theorem window_at (x : S8x16x2048x2048.Idx → EReal) (L : ℕ → ℝ) (b : Fin 8) (h : Fin 16) (t : Fin 2048)
    (hx : ∀ k : Fin 2048, x (q4 b h t k) = (L k.val : EReal))
    (hw : S8x16x2048x2048.ReduceWindows ![1, 1, 1, 2048] ![1, 1, 1, 1] ![0, 0, 0, 0] ![0, 0, 0, 2047] S8x16x2048x2048) (k : Fin 2048) :
    Ideal.hostReduceWindowAdd ![1, 1, 1, 2048] ![1, 1, 1, 1] ![0, 0, 0, 0] ![0, 0, 0, 2047] hw x 0 (q4 b h t k)
      = ((∑ i ∈ Finset.Ico k.val 2048, L i : ℝ) : EReal) := by
  unfold Ideal.hostReduceWindowAdd Host.reduceWindow
  dsimp only
  refine (foldl_add _ _).trans ?_
  rw [zero_add]
  refine (Finset.sum_congr rfl fun n _ => ?_).trans (Equiv.sum_comp (W.rowMajor.symm.trans wEquiv.symm)
    (fun n : Fin 2048 => ((if k.val + n.val < 2048 then L (k.val + n.val) else 0 : ℝ) : EReal))) |>.trans ?_
  · show _ = ((if k.val + (W.rowMajor.symm n 3).val < 2048 then L (k.val + (W.rowMajor.symm n 3).val) else 0 : ℝ) : EReal)
    have w0 : (W.rowMajor.symm n 0).val = 0 := Nat.lt_one_iff.mp (W.rowMajor.symm n 0).isLt
    have w1 : (W.rowMajor.symm n 1).val = 0 := Nat.lt_one_iff.mp (W.rowMajor.symm n 1).isLt
    have w2 : (W.rowMajor.symm n 2).val = 0 := Nat.lt_one_iff.mp (W.rowMajor.symm n 2).isLt
    split
    · next hin =>
      have h3 : k.val * 1 + (W.rowMajor.symm n 3).val - 0 < 2048 := (hin 3).2
      have hk : k.val + (W.rowMajor.symm n 3).val < 2048 := by omega
      rw [if_pos hk]
      refine Eq.trans (congrArg x ?_) (hx ⟨k.val + (W.rowMajor.symm n 3).val, hk⟩)
      funext a
      match a with
      | ⟨0, _⟩ => exact Fin.ext (show b.val * 1 + (W.rowMajor.symm n 0).val - 0 = b.val by omega)
      | ⟨1, _⟩ => exact Fin.ext (show h.val * 1 + (W.rowMajor.symm n 1).val - 0 = h.val by omega)
      | ⟨2, _⟩ => exact Fin.ext (show t.val * 1 + (W.rowMajor.symm n 2).val - 0 = t.val by omega)
      | ⟨3, _⟩ => exact Fin.ext (show k.val * 1 + (W.rowMajor.symm n 3).val - 0 = k.val + (W.rowMajor.symm n 3).val by omega)
    · next hin =>
      rw [if_neg, EReal.coe_zero]
      intro hk
      refine hin fun a => ?_
      match a with
      | ⟨0, _⟩ => exact (show 0 ≤ b.val * 1 + (W.rowMajor.symm n 0).val ∧ b.val * 1 + (W.rowMajor.symm n 0).val - 0 < 8 by omega)
      | ⟨1, _⟩ => exact (show 0 ≤ h.val * 1 + (W.rowMajor.symm n 1).val ∧ h.val * 1 + (W.rowMajor.symm n 1).val - 0 < 16 by omega)
      | ⟨2, _⟩ => exact (show 0 ≤ t.val * 1 + (W.rowMajor.symm n 2).val ∧ t.val * 1 + (W.rowMajor.symm n 2).val - 0 < 2048 by omega)
      | ⟨3, _⟩ => exact (show 0 ≤ k.val * 1 + (W.rowMajor.symm n 3).val ∧ k.val * 1 + (W.rowMajor.symm n 3).val - 0 < 2048 by omega)
  rw [← coe_sum]
  congr 1
  rw [Finset.sum_Ico_eq_sum_range]
  have := Finset.sum_range (n := 2048) (fun n => if k.val + n < 2048 then L (k.val + n) else 0)
  rw [← this, ← Finset.sum_filter]
  refine Finset.sum_congr ?_ fun _ _ => rfl
  ext i
  simp only [Finset.mem_filter, Finset.mem_range]
  omega

/-- The same of the printed operation, its initial value zero. -/
theorem window_host (y : FVec Ideal S8x16x2048x2048 .f32) (z : S_.Idx → EReal) (L : ℕ → ℝ) (b : Fin 8) (h : Fin 16) (t : Fin 2048)
    (hy : ∀ k : Fin 2048, y (q4 b h t k) = (L k.val : EReal)) (hu : 0 < S_.numel) (hz : z (Shape.Idx.first hu) = 0)
    (hw : S8x16x2048x2048.ReduceWindows ![1, 1, 1, 2048] ![1, 1, 1, 1] ![0, 0, 0, 0] ![0, 0, 0, 2047] S8x16x2048x2048) (k : Fin 2048) :
    Host.reduceWindowAdd (F := Ideal) (φ := .f32) ![1, 1, 1, 2048] ![1, 1, 1, 1] ![0, 0, 0, 0] ![0, 0, 0, 2047] y z hw hu (q4 b h t k)
      = ((∑ i ∈ Finset.Ico k.val 2048, L i : ℝ) : EReal) := by
  show Ideal.hostReduceWindowAdd ![1, 1, 1, 2048] ![1, 1, 1, 1] ![0, 0, 0, 0] ![0, 0, 0, 2047] hw y (z (Shape.Idx.first hu)) (q4 b h t k) = _
  rw [hz]
  exact window_at y L b h t hy hw k

/-- `log (1 + exp x)` at a real number, as the reference spells it. -/
theorem softplus_coe (x : ℝ) :
    Scalar.select (FloatOps.cmpf (F := Ideal) (φ := .f32) .une (FloatOps.subf (F := Ideal) (φ := .f32) (x : EReal) 0) (FloatOps.subf (F := Ideal) (φ := .f32) (x : EReal) 0))
      (FloatOps.addf (F := Ideal) (φ := .f32) (x : EReal) 0)
      (FloatOps.addf (F := Ideal) (φ := .f32) (FloatOps.maximumf (F := Ideal) (φ := .f32) (x : EReal) 0)
        (FloatOps.hostUnary (F := Ideal) (φ := .f32) .log1p (FloatOps.hostUnary (F := Ideal) (φ := .f32) .exp (FloatOps.hostNegf (F := Ideal) (φ := .f32)
          (FloatOps.hostAbsf (F := Ideal) (φ := .f32) (FloatOps.subf (F := Ideal) (φ := .f32) (x : EReal) 0))))))
    = (spR x : EReal) := by
  have hc : FloatOps.cmpf (F := Ideal) (φ := .f32) .une (FloatOps.subf (F := Ideal) (φ := .f32) (x : EReal) 0) (FloatOps.subf (F := Ideal) (φ := .f32) (x : EReal) 0) = 0#1 := by
    show BitVec.ofBool (decide (_ ≠ _)) = 0#1
    simp
  rw [hc]
  refine Eq.trans ?_ (sp_coe x)
  show max (x : EReal) 0 + Ideal.log (1 + Ideal.exp (-(max ((x : EReal) - 0) (-((x : EReal) - 0))))) = _
  rw [sub_zero, zero_sub]

theorem spR_neg (x : ℝ) : spR (-x) = spR x - x := by
  unfold spR
  rw [neg_neg, max_comm (-x) x]
  have : max (-x) 0 = max x 0 - x := by
    rcases le_total x 0 with h | h
    · rw [max_eq_left (by linarith), max_eq_right h]; ring
    · rw [max_eq_right (by linarith), max_eq_left h]; ring
  rw [this]; ring

section

variable (x : (⟨S16384x3072, .bf16⟩ : BufTy).Contents (Elt Ideal)) (b : Fin 8) (h : Fin 16) (t : Fin 2048) (Z : ℕ → ℝ)
  (hZ : ∀ k : Fin 2048, val_main_v15 (F := Ideal) x (q4 b h t k) = (Z k.val : EReal))
include hZ

theorem v17_at (k : Fin 2048) : val_main_v17 (F := Ideal) x (q4 b h t k) = ((-spR (Z k.val) : ℝ) : EReal) := by
  have e0 : val_main_call0_v0 (F := Ideal) x (q4 b h t k) = (Z k.val : EReal) := by
    rw [val_main_call0_v0_apply, val_main_v16_apply, hZ]
    exact neg_neg _
  rw [val_main_v17_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply, val_main_call0_call0_v7_apply,
    val_main_call0_call0_v3_apply, val_main_call0_call0_v5_apply, val_main_call0_call0_v0_apply, val_main_call0_call0_v2_apply, e0]
  simp only [val_main_call0_call0_cst_apply]
  rw [show FloatOps.ofBits (F := Ideal) .f32 0x00000000#32 = (0 : EReal) from Ideal.ofBits_zero_f32, softplus_coe, EReal.coe_neg]
  rfl

theorem v21_at (k : Fin 2048) : val_main_v21 (F := Ideal) x (q4 b h t k) = ((Z k.val - spR (Z k.val) : ℝ) : EReal) := by
  have e0 : val_main_call3_v0 (F := Ideal) x (q4 b h t k) = ((-Z k.val : ℝ) : EReal) := by
    rw [val_main_call3_v0_apply, hZ, EReal.coe_neg]
    rfl
  rw [val_main_v21_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply, val_main_call3_call0_v7_apply,
    val_main_call3_call0_v3_apply, val_main_call3_call0_v5_apply, val_main_call3_call0_v0_apply, val_main_call3_call0_v2_apply, e0]
  simp only [val_main_call3_call0_cst_apply]
  rw [show FloatOps.ofBits (F := Ideal) .f32 0x00000000#32 = (0 : EReal) from Ideal.ofBits_zero_f32, softplus_coe, spR_neg,
    show Z k.val - spR (Z k.val) = -(spR (Z k.val) - Z k.val) by ring, EReal.coe_neg]
  rfl

theorem v18_at (k : Fin 2048) : val_main_v18 (F := Ideal) x (q4 b h t k) = (lg Z t.val k.val : EReal) := by
  rw [val_main_v18_apply, v17_at x b h t Z hZ, val_main_call1_v2_apply, val_main_call1_v0_apply, val_main_cst_0_apply, val_main_call1_v1_apply,
    val_main_v12_apply, val_main_v10_apply, val_main_v11_apply, val_main_v8_apply, val_main_v9_apply, val_main_v7_apply, val_main_v7_apply]
  refine (sel_slt k.val t.val (by omega) (by omega) _ _).trans ?_
  rw [show FloatOps.ofBits (F := Ideal) .f32 0x00000000#32 = (0 : EReal) from Ideal.ofBits_zero_f32]
  unfold lg
  split <;> rfl

theorem v20_at (k : Fin 2048) : val_main_v20 (F := Ideal) x (q4 b h t k) = ((∑ i ∈ Finset.Ico (k.val + 1) 2048, lg Z t.val i : ℝ) : EReal) := by
  have e : val_main_v19 (F := Ideal) x (q4 b h t k) = ((∑ i ∈ Finset.Ico k.val 2048, lg Z t.val i : ℝ) : EReal) := by
    have h0 : val_main_call2_v0 (F := Ideal) (Shape.Idx.first h_S_) = 0 := by
      rw [val_main_call2_v0_apply, val_main_call2_cst_apply]
      exact Ideal.ofBits_zero_f32
    have h1 := v18_at x b h t Z hZ
    unfold val_main_v19
    generalize val_main_v18 (F := Ideal) x = y at h1 ⊢
    generalize val_main_call2_v0 (F := Ideal) = z at h0 ⊢
    exact window_host y z (lg Z t.val) b h t h1 _ h0 _ k
  rw [val_main_v20_apply, e, v18_at x b h t Z hZ]
  show ((_ : ℝ) : EReal) - ((_ : ℝ) : EReal) = _
  rw [← EReal.coe_sub, Finset.sum_eq_sum_Ico_succ_bot k.isLt, add_sub_cancel_left]

theorem v24_at (k : Fin 2048) : val_main_v24 (F := Ideal) x (q4 b h t k) = (wt Z t.val 2048 k.val : EReal) := by
  rw [val_main_v24_apply, val_main_v23_apply, val_main_v22_apply, v21_at x b h t Z hZ, v20_at x b h t Z hZ, val_main_call4_v2_apply, val_main_call4_v0_apply,
    val_main_cst_1_apply, val_main_call4_v1_apply,
    val_main_v12_apply, val_main_v10_apply, val_main_v11_apply, val_main_v8_apply, val_main_v9_apply, val_main_v7_apply, val_main_v7_apply]
  refine (sel_slt k.val t.val (by omega) (by omega) _ _).trans ?_
  rw [show FloatOps.ofBits (F := Ideal) .f32 0x00000000#32 = (0 : EReal) from Ideal.ofBits_zero_f32]
  unfold wt
  split
  · show Ideal.exp (((_ : ℝ) : EReal) + ((_ : ℝ) : EReal)) = _
    rw [← EReal.coe_add, exp_coe]
  · rfl

/-- An element of the reference's result is the sum of the row's weights times the values. -/
theorem v28_at (R : Fin 16384) (C : Fin 1024) (hb : R.val / 2048 = b.val) (ht : R.val % 2048 = t.val) (hh : C.val / 64 = h.val) :
    val_main_v28 (F := Ideal) x (ix2 R C)
      = ∑ k : Fin 2048, (wt Z t.val 2048 k.val : EReal) * x (ix2 ⟨b.val * 2048 + k.val, by omega⟩ ⟨2048 + C.val, by omega⟩) := by
  rw [val_main_v28_apply, val_main_v27_apply, val_main_v26_apply, val_main_v25_apply]
  show (∑ k : Fin 2048, _) = _
  refine Finset.sum_congr rfl fun k _ => ?_
  have e1 : val_main_v24 (F := Ideal) x (ridx_main_v25 (idx_main_v26 (idx_main_v27 (ix2 R C))) k) = (wt Z t.val 2048 k.val : EReal) := by
    rw [← v24_at x b h t Z hZ k]
    congr 1
    funext a
    match a with
    | ⟨0, _⟩ => exact Fin.ext (show (R.val * 1024 + C.val) / 2097152 = b.val by omega)
    | ⟨1, _⟩ => exact Fin.ext (show (R.val * 1024 + C.val) / 64 % 16 = h.val by omega)
    | ⟨2, _⟩ => exact Fin.ext (show (R.val * 1024 + C.val) / 1024 % 2048 = t.val by omega)
    | ⟨3, _⟩ => rfl
  rw [e1, mul_comm]
  congr 1
  rw [val_main_v6_apply, val_main_v3_apply, val_main_v0_apply]
  show x _ = x _
  congr 1
  funext a
  match a with
  | ⟨0, _⟩ =>
    refine Fin.ext ?_
    show (((((R.val * 1024 + C.val) / 2097152) * 2048 + k.val) * 16 + (R.val * 1024 + C.val) / 64 % 16) * 64 + (R.val * 1024 + C.val) % 64) / 1024 = b.val * 2048 + k.val
    omega
  | ⟨1, _⟩ =>
    refine Fin.ext ?_
    show 2048 + (((((R.val * 1024 + C.val) / 2097152) * 2048 + k.val) * 16 + (R.val * 1024 + C.val) / 64 % 16) * 64 + (R.val * 1024 + C.val) % 64) % 1024 = 2048 + C.val
    omega

end

/-- A score of the reference: the dot product of a query and a key, divided by eight. -/
theorem v15_at (x : (⟨S16384x3072, .bf16⟩ : BufTy).Contents (Elt Ideal)) (b : Fin 8) (h : Fin 16) (t k : Fin 2048) :
    val_main_v15 (F := Ideal) x (q4 b h t k)
      = (∑ d : Fin 64, x (ix2 ⟨b.val * 2048 + t.val, by omega⟩ ⟨h.val * 64 + d.val, by omega⟩) * x (ix2 ⟨b.val * 2048 + k.val, by omega⟩ ⟨1024 + (h.val * 64 + d.val), by omega⟩)) * ((0.125 : ℝ) : EReal) := by
  rw [val_main_v15_apply, val_main_v13_apply, val_main_v14_apply, val_main_cst_apply,
    show FloatOps.ofBits (F := Ideal) .f32 0x3E000000#32 = ((0.125 : ℝ) : EReal) from eighth_f32]
  show (∑ d : Fin 64, _) * _ = _
  congr 1
  refine Finset.sum_congr rfl fun d _ => ?_
  rw [val_main_v4_apply, val_main_v1_apply, val_main_v0_apply, val_main_v5_apply, val_main_v2_apply, val_main_v0_apply]
  show x _ * x _ = x _ * x _
  congr 2
  · funext a
    match a with
    | ⟨0, _⟩ => exact Fin.ext (show (((b.val * 2048 + t.val) * 16 + h.val) * 64 + d.val) / 1024 = b.val * 2048 + t.val by omega)
    | ⟨1, _⟩ => exact Fin.ext (show (((b.val * 2048 + t.val) * 16 + h.val) * 64 + d.val) % 1024 = h.val * 64 + d.val by omega)
  · funext a
    match a with
    | ⟨0, _⟩ => exact Fin.ext (show (((b.val * 2048 + k.val) * 16 + h.val) * 64 + d.val) / 1024 = b.val * 2048 + k.val by omega)
    | ⟨1, _⟩ => exact Fin.ext (show 1024 + (((b.val * 2048 + k.val) * 16 + h.val) * 64 + d.val) % 1024 = 1024 + (h.val * 64 + d.val) by omega)

end Cert.SbRefIdeal.At

end
-- ==== Proof.SbValue.lean ====
module

public import proofs.«01_k».proof.Defs
public import proofs.«01_k».proof.Proof.SbRef
public import Idealize.ShloMosaic.Lib.Pipeline.Covers
public import proofs.«01_k».proof.Proof.Gen.SbIdeal.Value
public import proofs.«01_k».proof.Proof.Gen.SbRefIdeal

/-! # Stick-breaking attention: the kernel's result is the reference's -/

@[expose] public section

set_option maxRecDepth 16384

noncomputable section

namespace Cert.SbIdeal.Whole

open Cert.SbIdeal Cert.SbIdeal.Gen Cert.SbIdeal.Steps Cert.SbIdeal.Fold Cert.EMath Idealize.ShloMosaic Idealize.ShloMosaic.TcCoe Idealize.SL.Sem

/-! ## Where the blocks lie -/

theorem tr0 (i : grid0.Coords) : cc0_transform_0 i 0 = (i 0).val * 8 + (i 2).val ∧ cc0_transform_0 i 1 = (i 1).val := by
  have h0 : (i 0).val < 8 := (i 0).isLt
  have h1 : (i 1).val < 8 := (i 1).isLt
  have h2 : (i 2).val < 8 := (i 2).isLt
  constructor
  · show (BitVec.ofNat 32 (i 0).val * 8#32 + BitVec.ofNat 32 (i 2).val).toNat = _
    simp only [BitVec.toNat_add, BitVec.toNat_mul, BitVec.toNat_ofNat]; omega
  · show (BitVec.ofNat 32 (i 1).val).toNat = _
    simp only [BitVec.toNat_ofNat]; omega

theorem tr1 (i : grid0.Coords) : cc0_transform_1 i 0 = (i 0).val ∧ cc0_transform_1 i 1 = 8 + (i 1).val := by
  have h0 : (i 0).val < 8 := (i 0).isLt
  have h1 : (i 1).val < 8 := (i 1).isLt
  constructor
  · show (BitVec.ofNat 32 (i 0).val).toNat = _
    simp only [BitVec.toNat_ofNat]; omega
  · show (8#32 + BitVec.ofNat 32 (i 1).val).toNat = _
    simp only [BitVec.toNat_add, BitVec.toNat_ofNat]; omega

theorem tr2 (i : grid0.Coords) : cc0_transform_2 i 0 = (i 0).val ∧ cc0_transform_2 i 1 = 16 + (i 1).val := by
  have h0 : (i 0).val < 8 := (i 0).isLt
  have h1 : (i 1).val < 8 := (i 1).isLt
  constructor
  · show (BitVec.ofNat 32 (i 0).val).toNat = _
    simp only [BitVec.toNat_ofNat]; omega
  · show (16#32 + BitVec.ofNat 32 (i 1).val).toNat = _
    simp only [BitVec.toNat_add, BitVec.toNat_ofNat]; omega

/-! ## Sums over the two heads of a pair -/

theorem sum_lo {M : Type*} [AddCommMonoid M] (f : ℕ → M) : (∑ y : Fin 128, if y.val < 64 then f y.val else 0) = ∑ d : Fin 64, f d.val := by
  rw [← Finset.sum_range (fun y => if y < 64 then f y else 0), ← Finset.sum_range f, ← Finset.sum_filter]
  refine Finset.sum_congr ?_ fun _ _ => rfl
  ext i; simp only [Finset.mem_filter, Finset.mem_range]; omega

theorem sum_hi {M : Type*} [AddCommMonoid M] (f : ℕ → M) : (∑ y : Fin 128, if 64 ≤ y.val then f y.val else 0) = ∑ d : Fin 64, f (64 + d.val) := by
  rw [← Finset.sum_range (fun y => if 64 ≤ y then f y else 0), ← Finset.sum_range (fun d => f (64 + d)), ← Finset.sum_filter]
  have := Finset.sum_Ico_eq_sum_range f 64 128
  refine Eq.trans (Finset.sum_congr ?_ fun _ _ => rfl) this
  ext i; simp only [Finset.mem_filter, Finset.mem_range, Finset.mem_Ico]; omega

/-! ## The scores -/

section Score

variable (A : Vec Ideal S16384x3072 .bf16)

/-- The projected entry `(R, C)` as a real number. -/
def ent (R C : ℕ) : ℝ := (A (ix2 (⟨R % 16384, Nat.mod_lt _ (by decide)⟩ : Fin 16384) (⟨C % 3072, Nat.mod_lt _ (by decide)⟩ : Fin 3072)) : EReal).toReal

/-- The score of query `t` and key `k` of head `h` in batch `b`. -/
def score (b h t k : ℕ) : ℝ := (∑ d : Fin 64, ent A (b * 2048 + t) (h * 64 + d.val) * ent A (b * 2048 + k) (1024 + (h * 64 + d.val))) * 0.125

variable (hA : ∀ (R : Fin 16384) (C : Fin 3072), C.val < 2048 → ∃ r : ℝ, (A (ix2 R C) : EReal) = (r : EReal))
include hA

theorem ent_eq (R C : ℕ) (hR : R < 16384) (hC : C < 2048) (R' : Fin 16384) (C' : Fin 3072) (eR : R'.val = R) (eC : C'.val = C) :
    (A (ix2 R' C') : EReal) = (ent A R C : EReal) := by
  obtain ⟨r, hr⟩ := hA R' C' (by omega)
  unfold ent
  have e : (ix2 (⟨R % 16384, Nat.mod_lt _ (by decide)⟩ : Fin 16384) (⟨C % 3072, Nat.mod_lt _ (by decide)⟩ : Fin 3072)) = ix2 R' C' := by
    congr 1
    · exact Fin.ext (show R % 16384 = R'.val by omega)
    · exact Fin.ext (show C % 3072 = C'.val by omega)
  rw [e, hr, EReal.toReal_coe]

variable (b : Fin 8) (p : Fin 8) (n : ℕ) (hn : n < 8)
  (q : Vec Ideal S256x128 .bf16) (hq : ∀ (r : Fin 256) (l : Fin 128), q (ix2 r l) = A (ix2 ⟨(b.val * 8 + n) * 256 + r.val, by omega⟩ ⟨p.val * 128 + l.val, by omega⟩))
  (x1 : Vec Ideal S2048x128 .bf16) (h1 : ∀ (k : Fin 2048) (l : Fin 128), x1 (ix2 k l) = A (ix2 ⟨b.val * 2048 + k.val, by omega⟩ ⟨(8 + p.val) * 128 + l.val, by omega⟩))
include hn hq h1

theorem score0 (m : ℕ) (r x : Fin 256) (hm : m ≤ n) :
    k0_pay5 (k0_pay35 q) (blk x1 m) (ix2 r x) = (score A b.val (2 * p.val) (n * 256 + r.val) (m * 256 + x.val) : EReal) := by
  pointwise [k0_pay5, k0_pay35, k0_pay34]
  have hterm : ∀ y : Fin 128, Scalar.select (IntOp.cmpi .slt (BitVec.ofNat 32 y.val) 64#32) (q (ix2 r y) * Ideal.ofBits .bf16 15872#16 * (blk x1 m) (ix2 x y)) (0 : EReal)
      = if y.val < 64 then (((ent A (b.val * 2048 + (n * 256 + r.val)) (2 * p.val * 64 + y.val) * ent A (b.val * 2048 + (m * 256 + x.val)) (1024 + (2 * p.val * 64 + y.val))) * 0.125 : ℝ) : EReal) else 0 := by
    intro y
    refine (sel_slt y.val 64 (by omega) (by omega) _ _).trans ?_
    split
    · next hy =>
      rw [hq, show (blk x1 m) (ix2 x y) = x1 (ix2 ⟨(m * 256 + x.val) % 2048, Nat.mod_lt _ (by decide)⟩ y) from rfl, h1,
        ent_eq A hA (b.val * 2048 + (n * 256 + r.val)) (2 * p.val * 64 + y.val) (by omega) (by omega) _ _ (by show (b.val * 8 + n) * 256 + r.val = _; omega) (by show p.val * 128 + y.val = _; omega),
        ent_eq A hA (b.val * 2048 + (m * 256 + x.val)) (1024 + (2 * p.val * 64 + y.val)) (by omega) (by omega) _ _ (by show b.val * 2048 + (m * 256 + x.val) % 2048 = _; omega) (by show (8 + p.val) * 128 + y.val = _; omega),
        eighth_bf16, ← EReal.coe_mul, ← EReal.coe_mul]
      congr 1; ring
    · rfl
  refine (Finset.sum_congr rfl fun y _ => hterm y).trans ?_
  rw [sum_lo (fun y => (((ent A (b.val * 2048 + (n * 256 + r.val)) (2 * p.val * 64 + y) * ent A (b.val * 2048 + (m * 256 + x.val)) (1024 + (2 * p.val * 64 + y))) * 0.125 : ℝ) : EReal)), ← coe_sum]
  unfold score
  rw [Finset.sum_mul]

theorem score1 (m : ℕ) (r x : Fin 256) (hm : m ≤ n) :
    k0_pay5 (k0_pay36 q) (blk x1 m) (ix2 r x) = (score A b.val (2 * p.val + 1) (n * 256 + r.val) (m * 256 + x.val) : EReal) := by
  pointwise [k0_pay5, k0_pay36, k0_pay34]
  have hterm : ∀ y : Fin 128, Scalar.select (IntOp.cmpi .sge (BitVec.ofNat 32 y.val) 64#32) (q (ix2 r y) * Ideal.ofBits .bf16 15872#16 * (blk x1 m) (ix2 x y)) (0 : EReal)
      = if 64 ≤ y.val then (((ent A (b.val * 2048 + (n * 256 + r.val)) (2 * p.val * 64 + y.val) * ent A (b.val * 2048 + (m * 256 + x.val)) (1024 + (2 * p.val * 64 + y.val))) * 0.125 : ℝ) : EReal) else 0 := by
    intro y
    refine (sel_sge y.val 64 (by omega) (by omega) _ _).trans ?_
    split
    · next hy =>
      rw [hq, show (blk x1 m) (ix2 x y) = x1 (ix2 ⟨(m * 256 + x.val) % 2048, Nat.mod_lt _ (by decide)⟩ y) from rfl, h1,
        ent_eq A hA (b.val * 2048 + (n * 256 + r.val)) (2 * p.val * 64 + y.val) (by omega) (by omega) _ _ (by show (b.val * 8 + n) * 256 + r.val = _; omega) (by show p.val * 128 + y.val = _; omega),
        ent_eq A hA (b.val * 2048 + (m * 256 + x.val)) (1024 + (2 * p.val * 64 + y.val)) (by omega) (by omega) _ _ (by show b.val * 2048 + (m * 256 + x.val) % 2048 = _; omega) (by show (8 + p.val) * 128 + y.val = _; omega),
        eighth_bf16, ← EReal.coe_mul, ← EReal.coe_mul]
      congr 1; ring
    · rfl
  refine (Finset.sum_congr rfl fun y _ => hterm y).trans ?_
  rw [sum_hi (fun y => (((ent A (b.val * 2048 + (n * 256 + r.val)) (2 * p.val * 64 + y) * ent A (b.val * 2048 + (m * 256 + x.val)) (1024 + (2 * p.val * 64 + y))) * 0.125 : ℝ) : EReal)), ← coe_sum]
  unfold score
  rw [Finset.sum_mul]
  congr 1
  refine Finset.sum_congr rfl fun d _ => ?_
  rw [show 2 * p.val * 64 + (64 + d.val) = (2 * p.val + 1) * 64 + d.val by omega]

end Score

/-! ## The sums over the keys read and over all keys -/

/-- Keys at or after the query weigh nothing and break nothing, so the keys below `N` are enough. -/
theorem wt_all (Z : ℕ → ℝ) (t N : ℕ) (ht : t < N) (hN : N ≤ 2048) (j : ℕ) : wt Z t N j = wt Z t 2048 j := by
  unfold wt
  split
  · next h =>
    rw [← Finset.sum_Ico_consecutive (lg Z t) (show j + 1 ≤ N by omega) hN]
    rw [show ∑ i ∈ Finset.Ico N 2048, lg Z t i = 0 from Finset.sum_eq_zero fun i hi => if_neg (by have := (Finset.mem_Ico.mp hi).1; omega), add_zero]
  · rfl

theorem sum_all (Z : ℕ → ℝ) (t N : ℕ) (ht : t < N) (hN : N ≤ 2048) (v : ℕ → EReal) :
    ∑ j ∈ Finset.range N, (wt Z t N j : EReal) * v j = ∑ k : Fin 2048, (wt Z t 2048 k.val : EReal) * v k.val := by
  rw [← Finset.sum_range (fun k => (wt Z t 2048 k : EReal) * v k)]
  refine (Finset.sum_congr rfl fun j _ => by rw [wt_all Z t N ht hN]).trans
    (Finset.sum_subset (Finset.range_mono hN) fun j _ hj => ?_)
  have : ¬ j < t := by simp only [Finset.mem_range] at hj; omega
  unfold wt
  rw [if_neg this, EReal.coe_zero, zero_mul]

section Block

variable (A : Vec Ideal S16384x3072 .bf16)
  (hA : ∀ (R : Fin 16384) (C : Fin 3072), C.val < 2048 → ∃ r : ℝ, (A (ix2 R C) : EReal) = (r : EReal))
include hA

theorem ref_score (b : Fin 8) (h : Fin 16) (t k : Fin 2048) :
    Cert.SbRefIdeal.Read.val_main_v15 (F := Ideal) A (Cert.SbRefIdeal.At.q4 b h t k) = (score A b.val h.val t.val k.val : EReal) := by
  rw [Cert.SbRefIdeal.At.v15_at]
  unfold score
  rw [EReal.coe_mul, coe_sum]
  congr 1
  refine Finset.sum_congr rfl fun d _ => ?_
  rw [ent_eq A hA (b.val * 2048 + t.val) (h.val * 64 + d.val) (by omega) (by omega) _ _ rfl rfl,
    ent_eq A hA (b.val * 2048 + k.val) (1024 + (h.val * 64 + d.val)) (by omega) (by omega) _ _ rfl rfl, EReal.coe_mul]

variable (b : Fin 8) (p : Fin 8) (n : ℕ) (hn : n < 8)
  (q : Vec Ideal S256x128 .bf16) (hq : ∀ (r : Fin 256) (l : Fin 128), q (ix2 r l) = A (ix2 ⟨(b.val * 8 + n) * 256 + r.val, by omega⟩ ⟨p.val * 128 + l.val, by omega⟩))
  (x1 : Vec Ideal S2048x128 .bf16) (h1 : ∀ (k : Fin 2048) (l : Fin 128), x1 (ix2 k l) = A (ix2 ⟨b.val * 2048 + k.val, by omega⟩ ⟨(8 + p.val) * 128 + l.val, by omega⟩))
  (x2 : Vec Ideal S2048x128 .bf16) (h2 : ∀ (k : Fin 2048) (l : Fin 128), x2 (ix2 k l) = A (ix2 ⟨b.val * 2048 + k.val, by omega⟩ ⟨(16 + p.val) * 128 + l.val, by omega⟩))
include hq h1 h2

/-- One output block is the reference's block. -/
theorem block_eq (r : Fin 256) (l : Fin 128) :
    k0_pay1 (st q x1 x2 n n).2 (ix2 r l)
      = Cert.SbRefIdeal.Read.val_main_v28 (F := Ideal) A (ix2 ⟨(b.val * 8 + n) * 256 + r.val, by omega⟩ ⟨p.val * 128 + l.val, by omega⟩) := by
  have hh : (2 * p.val + l.val / 64) < 16 := by omega
  have ht : n * 256 + r.val < 2048 := by omega
  rw [Cert.SbRefIdeal.At.v28_at A b ⟨2 * p.val + l.val / 64, hh⟩ ⟨n * 256 + r.val, ht⟩ (score A b.val (2 * p.val + l.val / 64) (n * 256 + r.val))
    (fun k => ref_score A hA b ⟨2 * p.val + l.val / 64, hh⟩ ⟨n * 256 + r.val, ht⟩ k) _ _ (by show ((b.val * 8 + n) * 256 + r.val) / 2048 = _; omega)
    (by show ((b.val * 8 + n) * 256 + r.val) % 2048 = n * 256 + r.val; omega) (by show (p.val * 128 + l.val) / 64 = 2 * p.val + l.val / 64; omega)]
  refine (out_at q x1 x2 n (fun r j => score A b.val (2 * p.val) (n * 256 + r.val) j) (fun r j => score A b.val (2 * p.val + 1) (n * 256 + r.val) j)
    (fun m r x hm => score0 A hA b p n hn q hq x1 h1 m r x hm) (fun m r x hm => score1 A hA b p n hn q hq x1 h1 m r x hm) r l).trans ?_
  have hv : ∀ k : Fin 2048, val x2 k.val l = A (ix2 ⟨b.val * 2048 + k.val, by omega⟩ ⟨2048 + (p.val * 128 + l.val), by omega⟩) := by
    intro k
    unfold val
    rw [h2]
    congr 2
    · exact Fin.ext (show b.val * 2048 + k.val % 2048 = b.val * 2048 + k.val by omega)
    · exact Fin.ext (show (16 + p.val) * 128 + l.val = 2048 + (p.val * 128 + l.val) by omega)
  by_cases hl : l.val < 64
  · have h64 : ¬ 64 ≤ l.val := by omega
    have e0 : l.val / 64 = 0 := by omega
    simp only [if_pos hl, if_neg h64, mul_zero, Finset.sum_const_zero, add_zero, e0]
    refine (sum_all _ (n * 256 + r.val) ((n + 1) * 256) (by omega) (by omega) (fun j => val x2 j l)).trans ?_
    exact Finset.sum_congr rfl fun k _ => by rw [hv]
  · have h64 : 64 ≤ l.val := by omega
    have e0 : l.val / 64 = 1 := by omega
    simp only [if_neg hl, if_pos h64, mul_zero, Finset.sum_const_zero, zero_add, e0]
    refine (sum_all _ (n * 256 + r.val) ((n + 1) * 256) (by omega) (by omega) (fun j => val x2 j l)).trans ?_
    exact Finset.sum_congr rfl fun k _ => by rw [hv]

end Block

/-! ## The result array -/

variable (m : (ℓ : Loc nD τ sig) → Buf (Elt Ideal) ℓ) (ρ : Dev nD → PrngReg)

/-- The projected array of a device. -/
abbrev arg (c : Dev nD) : Vec Ideal S16384x3072 .bf16 := m ((c : Thread nD τ).loc main_arg0)

theorem blk0 (c : Dev nD) (t : Fin cfg0.N) (r : Fin 256) (l : Fin 128) :
    (iblk m c 0 t : Vec Ideal S256x128 .bf16) (ix2 r l)
      = arg m c (ix2 ⟨((grid0.coords t 0).val * 8 + (grid0.coords t 2).val) * 256 + r.val, by have : (grid0.coords t 0).val < 8 := (grid0.coords t 0).isLt; have : (grid0.coords t 2).val < 8 := (grid0.coords t 2).isLt; omega⟩
          ⟨(grid0.coords t 1).val * 128 + l.val, by have : (grid0.coords t 1).val < 8 := (grid0.coords t 1).isLt; omega⟩) := by
  have hi := tr0 (grid0.coords t)
  unfold iblk
  rw [View.read_apply]
  show V m c main_arg0 _ = m (c.tc.loc main_arg0) _
  unfold V
  congr 1
  funext a
  apply Fin.ext
  match a with
  | ⟨0, _⟩ => show cc0_transform_0 (grid0.coords t) 0 * 256 + 1 * r.val = _; rw [hi.1, one_mul]; rfl
  | ⟨1, _⟩ => show cc0_transform_0 (grid0.coords t) 1 * 128 + 1 * l.val = _; rw [hi.2, one_mul]; rfl

theorem blk1 (c : Dev nD) (t : Fin cfg0.N) (k : Fin 2048) (l : Fin 128) :
    (iblk m c 1 t : Vec Ideal S2048x128 .bf16) (ix2 k l)
      = arg m c (ix2 ⟨(grid0.coords t 0).val * 2048 + k.val, by have : (grid0.coords t 0).val < 8 := (grid0.coords t 0).isLt; omega⟩
          ⟨(8 + (grid0.coords t 1).val) * 128 + l.val, by have : (grid0.coords t 1).val < 8 := (grid0.coords t 1).isLt; omega⟩) := by
  have hi := tr1 (grid0.coords t)
  unfold iblk
  rw [View.read_apply]
  show V m c main_arg0 _ = m (c.tc.loc main_arg0) _
  unfold V
  congr 1
  funext a
  apply Fin.ext
  match a with
  | ⟨0, _⟩ => show cc0_transform_1 (grid0.coords t) 0 * 2048 + 1 * k.val = _; rw [hi.1, one_mul]; rfl
  | ⟨1, _⟩ => show cc0_transform_1 (grid0.coords t) 1 * 128 + 1 * l.val = _; rw [hi.2, one_mul]; rfl

theorem blk2 (c : Dev nD) (t : Fin cfg0.N) (k : Fin 2048) (l : Fin 128) :
    (iblk m c 2 t : Vec Ideal S2048x128 .bf16) (ix2 k l)
      = arg m c (ix2 ⟨(grid0.coords t 0).val * 2048 + k.val, by have : (grid0.coords t 0).val < 8 := (grid0.coords t 0).isLt; omega⟩
          ⟨(16 + (grid0.coords t 1).val) * 128 + l.val, by have : (grid0.coords t 1).val < 8 := (grid0.coords t 1).isLt; omega⟩) := by
  have hi := tr2 (grid0.coords t)
  unfold iblk
  rw [View.read_apply]
  show V m c main_arg0 _ = m (c.tc.loc main_arg0) _
  unfold V
  congr 1
  funext a
  apply Fin.ext
  match a with
  | ⟨0, _⟩ => show cc0_transform_2 (grid0.coords t) 0 * 2048 + 1 * k.val = _; rw [hi.1, one_mul]; rfl
  | ⟨1, _⟩ => show cc0_transform_2 (grid0.coords t) 1 * 128 + 1 * l.val = _; rw [hi.2, one_mul]; rfl

/-- The reference's result, as contents of the kernel's result array. -/
abbrev out (c : Dev nD) : Buf (Elt Ideal) ((c : Thread nD τ).loc main_v0) := Cert.SbRefIdeal.Read.val_main_v28 (F := Ideal) (arg m c)

/-- What a point writes back is its block of the reference's result. -/
theorem flushed_eq (c : Dev nD) (hA : ∀ (R : Fin 16384) (C : Fin 3072), C.val < 2048 → ∃ r : ℝ, (arg m c (ix2 R C) : EReal) = (r : EReal)) (t : Fin cfg0.N) :
    (dats m 0 c).flushed 3 t = ((cfg0.win 3).blk t).view.read (Elt Ideal) (out m c) := by
  have b0 : (grid0.coords t 0).val < 8 := (grid0.coords t 0).isLt
  have b1 : (grid0.coords t 1).val < 8 := (grid0.coords t 1).isLt
  have b2 : (grid0.coords t 2).val < 8 := (grid0.coords t 2).isLt
  have hi := tr0 (grid0.coords t)
  rw [Value.flushed3_A, out_eq]
  funext j
  rw [View.read_apply]
  show k0_pay1 (st (iblk m c 0 t) (iblk m c 1 t) (iblk m c 2 t) (grid0.coords t 2).val (grid0.coords t 2).val).2 j = _
  have hj : j = ix2 (n0 := 256) (n1 := 128) (j 0) (j 1) := funext fun a => match a with | ⟨0, _⟩ => rfl | ⟨1, _⟩ => rfl
  refine (congrArg _ hj).trans ((block_eq (arg m c) hA ⟨(grid0.coords t 0).val, b0⟩ ⟨(grid0.coords t 1).val, b1⟩ (grid0.coords t 2).val b2 _ (blk0 m c t) _ (blk1 m c t) _ (blk2 m c t) (j 0) (j 1)).trans ?_)
  show Cert.SbRefIdeal.Read.val_main_v28 (F := Ideal) (arg m c) _ = Cert.SbRefIdeal.Read.val_main_v28 (F := Ideal) (arg m c) _
  congr 1
  funext a
  apply Fin.ext
  match a with
  | ⟨0, _⟩ => show ((grid0.coords t 0).val * 8 + (grid0.coords t 2).val) * 256 + (j 0).val = cc0_transform_0 (grid0.coords t) 0 * 256 + 1 * (j 0).val; rw [hi.1, one_mul]
  | ⟨1, _⟩ => show (grid0.coords t 1).val * 128 + (j 1).val = cc0_transform_0 (grid0.coords t) 1 * 128 + 1 * (j 1).val; rw [hi.2, one_mul]

/-- The blocks cover the result array. -/
theorem cover (i : S16384x1024.Idx) : ∃ t : Fin cfg0.N, (cfg0.win 3).flush t = true ∧ i ∈ ((cfg0.win 3).blk t).view.set := by
  have h0 : (i 0 : Nat) < 16384 := (i 0).isLt
  have h1 : (i 1 : Nat) < 1024 := (i 1).isLt
  obtain ⟨t, ht⟩ := Pipeline.Grid.coords_surjective grid0 (fun a => match a with
    | ⟨0, _⟩ => (⟨(i 0).val / 2048, by omega⟩ : Fin 8)
    | ⟨1, _⟩ => (⟨(i 1).val / 128, by omega⟩ : Fin 8)
    | ⟨2, _⟩ => (⟨(i 0).val / 256 % 8, by omega⟩ : Fin 8))
  have e0 : (grid0.coords t 0).val = (i 0).val / 2048 := by rw [ht]
  have e1 : (grid0.coords t 1).val = (i 1).val / 128 := by rw [ht]
  have e2 : (grid0.coords t 2).val = (i 0).val / 256 % 8 := by rw [ht]
  have hi := tr0 (grid0.coords t)
  refine ⟨t, flush0_3 t, ?_⟩
  show i ∈ ((View.whole main_v0).slice (win0_3.rect t)).set
  rw [View.set_slice_whole, Rect.mem_set_unit]
  intro a
  match a with
  | ⟨0, _⟩ => show cc0_transform_0 (grid0.coords t) 0 * 256 ≤ (i 0 : Nat) ∧ (i 0 : Nat) < cc0_transform_0 (grid0.coords t) 0 * 256 + 256
              rw [hi.1, e0, e2]; omega
  | ⟨1, _⟩ => show cc0_transform_0 (grid0.coords t) 1 * 128 ≤ (i 1 : Nat) ∧ (i 1 : Nat) < cc0_transform_0 (grid0.coords t) 1 * 128 + 128
              rw [hi.2, e1]; omega

/-- The result array ends holding the reference's result. -/
theorem final (c : Dev nD) (hA : ∀ (R : Fin 16384) (C : Fin 3072), C.val < 2048 → ∃ r : ℝ, (arg m c (ix2 R C) : EReal) = (r : EReal)) :
    (dats m 0 c).arrAt 3 cfg0.N = out m c :=
  (dats m 0 c).arrAt_eq_of_cover 3 (out m c) (fun t _ => flushed_eq m c hA t) cover

end Cert.SbIdeal.Whole

/-! ## The claim -/

namespace Cert.SbClaim

open Idealize.ShloMosaic Idealize.ShloMosaic.TcCoe Idealize.SL.Sem

instance preFacts : Cert.Pre_qk_finite.Facts where
  slices_S16384x3072_S16384x2048_0_0 := by decide
  bitsLt_bf16_f32 := by decide
  bcast_S_S16384x2048 := by decide

/-- The precondition says that every query and key entry is a real number. -/
theorem real_of_pre (x : FVec Ideal Cert.Pre_qk_finite.S16384x3072 .bf16) (h : Cert.Pre_qk_finite.fn (F := Ideal) x = fun _ => 1#1)
    (R : Fin 16384) (C : Fin 3072) (hC : C.val < 2048) : ∃ r : ℝ, (x (ix2 R C) : EReal) = (r : EReal) := by
  have h1 := congrFun h (ix2 R (⟨C.val, hC⟩ : Fin 2048))
  apply EMath.real_of_abs_lt
  have e : Cert.Pre_qk_finite.fn (F := Ideal) x (ix2 R (⟨C.val, hC⟩ : Fin 2048))
      = BitVec.ofBool (decide (max (x (ix2 R C) : EReal) (-(x (ix2 R C) : EReal)) < Ideal.ofBits .f32 0x7F800000#32)) := by
    refine Eq.trans (b := BitVec.ofBool (decide (max ((extractStridedSlice Cert.Pre_qk_finite.S16384x2048 ![0, 0] x preFacts.slices_S16384x3072_S16384x2048_0_0) (ix2 R (⟨C.val, hC⟩ : Fin 2048)) : EReal)
      (-((extractStridedSlice Cert.Pre_qk_finite.S16384x2048 ![0, 0] x preFacts.slices_S16384x3072_S16384x2048_0_0) (ix2 R (⟨C.val, hC⟩ : Fin 2048)) : EReal)) < Ideal.ofBits .f32 0x7F800000#32))) rfl ?_
    rw [extractStridedSlice_apply ![0, 0] x preFacts.slices_S16384x3072_S16384x2048_0_0 (ix2 R (⟨C.val, hC⟩ : Fin 2048)) (ix2 R C) (fun a => match a with
      | ⟨0, _⟩ => by show R.val = 0 + R.val; omega
      | ⟨1, _⟩ => by show C.val = 0 + C.val; omega)]
  rw [e, EMath.inf_f32] at h1
  by_contra hn
  rw [decide_eq_false hn] at h1
  exact absurd h1 (by decide)

/-- From finite queries and keys, the kernel's result array is the reference's, on every device. -/
theorem algebraic : Cert.algebraic_SbIdeal_SbRefIdeal_pre_qk_finite (hSbIdeal := Cert.SbIdeal.Gen.facts) (hSbRefIdeal := Cert.SbRefIdeal.Gen.facts) (hPre_qk_finite := preFacts) :=
  fun m ρ m' ρ' hpre hag => ⟨fun c => Cert.SbIdeal.Whole.out m c,
    (θ_run _ _ _).mono (fun _ h c => ⟨(h c).1.trans (Cert.SbIdeal.Whole.final m c (real_of_pre _ (hpre c))), (h c).2⟩) (Cert.SbIdeal.Value.run_blocks m ρ),
    (θ_run _ _ _).mono (fun _ h c => ⟨(h c).1.trans ((Cert.SbRefIdeal.Read.val_main_v28_eq m' c).trans
      (congrArg (Cert.SbRefIdeal.Read.val_main_v28 (F := Ideal)) (hag c))), (h c).2⟩) (Cert.SbRefIdeal.Value.run m' ρ')⟩

end Cert.SbClaim

end
-- ==== Proof.ProjValue.lean ====
module

public import proofs.«01_k».proof.Defs
public import proofs.«01_k».proof.Proof.EMath
public import proofs.«01_k».proof.Proof.Gen.ProjIdeal
public import proofs.«01_k».proof.Proof.Gen.ProjIdeal.Value
public import proofs.«01_k».proof.Proof.Gen.ProjRefIdeal
public import proofs.«01_k».proof.Proof.Gen.ProjRefIdeal.Read
public import Idealize.ShloMosaic.Lib.Pipeline.Covers

/-! # The attention projections: the kernel's result is the reference's matrix product -/

@[expose] public section

set_option maxRecDepth 16384

noncomputable section

namespace Cert.ProjIdeal.Whole

open Cert.ProjIdeal Cert.ProjIdeal.Gen Cert.EMath Idealize.ShloMosaic Idealize.ShloMosaic.TcCoe Idealize.SL.Sem

/-- The product of a row block with the weights, entry by entry. -/
def prod {n : ℕ} (x0 : Vec Ideal ⟨2, ![n, 1024]⟩ .bf16) (x1 : Vec Ideal S1024x3072 .bf16) (r : Fin n) (l : Fin 3072) : EReal :=
  ∑ k : Fin 1024, (x0 (ix2 r k) : EReal) * (x1 (ix2 k l) : EReal)

theorem pay1_at (a : Vec Ideal S512x1024 .bf16) (w : Vec Ideal S1024x512 .bf16) (r c : Fin 512) :
    k0_pay1 a w (ix2 r c) = ∑ k : Fin 1024, (a (ix2 r k) : EReal) * (w (ix2 k c) : EReal) := by
  pointwise [k0_pay1]

/-- One column chunk of the product. -/
theorem chunk (x0 : Vec Ideal S512x1024 .bf16) (x1 : Vec Ideal S1024x3072 .bf16) (o : ℕ)
    (h : ∀ a, (![0, o] : Fin 2 → ℕ) a + S1024x512.size a ≤ S1024x3072.size a) (h' : ∀ a, (![0, o] : Fin 2 → ℕ) a + S512x512.size a ≤ S512x3072.size a)
    (x : S512x512.Idx) :
    k0_pay1 (View.ld x0 r0_0) (View.ld x1 (Rect.unit (s := S1024x3072) ![0, o] S1024x512.size h)) x
      = (fun y : S512x3072.Idx => prod (n := 512) x0 x1 (y 0) (y 1)) ((Rect.unit (s := S512x3072) ![0, o] S512x512.size h').idx x) := by
  have hx : x = ix2 (n0 := 512) (n1 := 512) (x 0) (x 1) := funext fun a => match a with | ⟨0, _⟩ => rfl | ⟨1, _⟩ => rfl
  refine (congrArg _ hx).trans ((pay1_at _ _ (x 0) (x 1)).trans ?_)
  unfold prod
  refine Finset.sum_congr rfl fun k _ => ?_
  show (x0 _ : EReal) * (x1 _ : EReal) = (x0 _ : EReal) * (x1 _ : EReal)
  congr 2
  · funext a
    match a with
    | ⟨0, _⟩ => exact Fin.ext (show 0 + 1 * (x 0).val = 0 + 1 * (x 0).val from rfl)
    | ⟨1, _⟩ => exact Fin.ext (show 0 + 1 * k.val = k.val by omega)
  · funext a
    match a with
    | ⟨0, _⟩ => exact Fin.ext (show 0 + 1 * k.val = k.val by omega)
    | ⟨1, _⟩ => exact Fin.ext (show o + 1 * (x 1).val = o + 1 * (x 1).val from rfl)

/-- What a point leaves in its output block. -/
theorem out_at (x0 : Vec Ideal S512x1024 .bf16) (x1 : Vec Ideal S1024x3072 .bf16) (y : S512x3072.Idx) :
    out0_2 x0 x1 y = prod (n := 512) x0 x1 (y 0) (y 1) := by
  unfold out0_2
  refine View.canon_apply_of_pieces (Val := Elt Ideal) (e := .bf16) (fun y => prod (n := 512) x0 x1 (y 0) (y 1)) _ ?_ y (cover0_2 _ _ _ _ _ _ y)
  intro pc hpc
  rcases List.mem_cons.mp hpc with rfl | hpc
  · exact fun x => chunk x0 x1 2560 (by decide) (by decide) x
  rcases List.mem_cons.mp hpc with rfl | hpc
  · exact fun x => chunk x0 x1 2048 (by decide) (by decide) x
  rcases List.mem_cons.mp hpc with rfl | hpc
  · exact fun x => chunk x0 x1 1536 (by decide) (by decide) x
  rcases List.mem_cons.mp hpc with rfl | hpc
  · exact fun x => chunk x0 x1 1024 (by decide) (by decide) x
  rcases List.mem_cons.mp hpc with rfl | hpc
  · exact fun x => chunk x0 x1 512 (by decide) (by decide) x
  rcases List.mem_cons.mp hpc with rfl | hpc
  · exact fun x => chunk x0 x1 0 (by decide) (by decide) x
  nomatch hpc

variable (m : (ℓ : Loc nD τ sig) → Buf (Elt Ideal) ℓ) (ρ : Dev nD → PrngReg)

/-- The reference's result, as contents of the kernel's result array. -/
abbrev out (c : Dev nD) : Buf (Elt Ideal) ((c : Thread nD τ).loc main_v1) :=
  Cert.ProjRefIdeal.Read.val_main_v2 (F := Ideal) (m ((c : Thread nD τ).loc main_arg0)) (m ((c : Thread nD τ).loc main_arg1))

theorem out_prod (c : Dev nD) (i : S16384x3072.Idx) :
    out m c i = prod (n := 16384) (m ((c : Thread nD τ).loc main_arg0)) (m ((c : Thread nD τ).loc main_arg1)) (i 0) (i 1) := by
  refine (Cert.ProjRefIdeal.Read.val_main_v1_apply _ _ _).trans ?_
  unfold prod
  refine Finset.sum_congr rfl fun k _ => ?_
  refine congrArg₂ (fun a b : EReal => a * b) (congrArg (m ((c : Thread nD τ).loc main_arg0)) ?_) (congrArg (m ((c : Thread nD τ).loc main_arg1)) ?_)
  · funext a
    match a with
    | ⟨0, _⟩ => rfl
    | ⟨1, _⟩ => rfl
  · funext a
    match a with
    | ⟨0, _⟩ => rfl
    | ⟨1, _⟩ => rfl

/-- The cast weights the kernel is launched on. -/
theorem V_v0 (c : Dev nD) : V m c main_v0 = (m ((c : Thread nD τ).loc main_arg1) : S1024x3072.Idx → EReal) := by
  show StableHlo.after hostOps0 _ main_v0 = _
  after_results
  rfl

theorem tr (i : grid0.Coords) : cc0_transform_0 i 0 = (i 0).val := by
  have h0 : (i 0).val < 32 := (i 0).isLt
  show (BitVec.ofNat 32 (i 0).val).toNat = _
  simp only [BitVec.toNat_ofNat]; omega

/-- What a point writes back is its block of the reference's result. -/
theorem flushed_eq (c : Dev nD) (t : Fin cfg0.N) :
    (dats m 0 c).flushed 2 t = ((cfg0.win 2).blk t).view.read (Elt Ideal) (out m c) := by
  have hi := tr (grid0.coords t)
  rw [Value.flushed2]
  funext j
  rw [View.read_apply]
  refine (out_at _ _ j).trans ((?_ : _ = _).trans (out_prod m c _).symm)
  unfold prod
  refine Finset.sum_congr rfl fun k _ => ?_
  have e0 : (iblk m c 0 t : Vec Ideal S512x1024 .bf16) (ix2 (j 0) k) = (m ((c : Thread nD τ).loc main_arg0) : Vec Ideal S16384x1024 .bf16) (ix2 ((((cfg0.win 2).blk t).view.emb j) 0) k) := by
    unfold iblk
    rw [View.read_apply]
    show V m c main_arg0 _ = _
    rw [V_main_arg0]
    congr 1
    funext a
    match a with
    | ⟨0, _⟩ => rfl
    | ⟨1, _⟩ => exact Fin.ext (show 0 * 1024 + 1 * k.val = k.val by omega)
  have e1 : (iblk m c 1 t : Vec Ideal S1024x3072 .bf16) (ix2 k (j 1)) = (m ((c : Thread nD τ).loc main_arg1) : S1024x3072.Idx → EReal) (ix2 k ((((cfg0.win 2).blk t).view.emb j) 1)) := by
    unfold iblk
    rw [View.read_apply]
    show V m c main_v0 _ = _
    rw [V_v0]
    congr 1
    funext a
    match a with
    | ⟨0, _⟩ => exact Fin.ext (show 0 * 1024 + 1 * k.val = k.val by omega)
    | ⟨1, _⟩ => rfl
  rw [e0, e1]

/-- The blocks cover the result array. -/
theorem cover (i : S16384x3072.Idx) : ∃ t : Fin cfg0.N, (cfg0.win 2).flush t = true ∧ i ∈ ((cfg0.win 2).blk t).view.set := by
  have h0 : (i 0 : Nat) < 16384 := (i 0).isLt
  have h1 : (i 1 : Nat) < 3072 := (i 1).isLt
  obtain ⟨t, ht⟩ := Pipeline.Grid.coords_surjective grid0 (fun a => match a with
    | ⟨0, _⟩ => (⟨(i 0).val / 512, by omega⟩ : Fin 32))
  have e0 : (grid0.coords t 0).val = (i 0).val / 512 := by rw [ht]
  have hi := tr (grid0.coords t)
  refine ⟨t, flush0_2 t, ?_⟩
  show i ∈ ((View.whole main_v1).slice (win0_2.rect t)).set
  rw [View.set_slice_whole, Rect.mem_set_unit]
  intro a
  match a with
  | ⟨0, _⟩ => show cc0_transform_0 (grid0.coords t) 0 * 512 ≤ (i 0 : Nat) ∧ (i 0 : Nat) < cc0_transform_0 (grid0.coords t) 0 * 512 + 512
              rw [hi, e0]; omega
  | ⟨1, _⟩ => show 0 * 3072 ≤ (i 1 : Nat) ∧ (i 1 : Nat) < 0 * 3072 + 3072
              omega

/-- The result array ends holding the reference's result. -/
theorem final (c : Dev nD) : (dats m 0 c).arrAt 2 cfg0.N = out m c :=
  (dats m 0 c).arrAt_eq_of_cover 2 (out m c) (fun t _ => flushed_eq m c t) cover

end Cert.ProjIdeal.Whole

/-! ## The claim -/

namespace Cert.ProjClaim

open Idealize.ShloMosaic Idealize.ShloMosaic.TcCoe Idealize.SL.Sem

/-- The kernel's result array is the reference's, on every device. -/
theorem algebraic : Cert.algebraic_ProjIdeal_ProjRefIdeal (hProjIdeal := Cert.ProjIdeal.Gen.facts) (hProjRefIdeal := Cert.ProjRefIdeal.Gen.facts) :=
  fun m ρ m' ρ' _ hag => ⟨fun c => Cert.ProjIdeal.Whole.out m c,
    (θ_run _ _ _).mono (fun _ h c => ⟨(h c).1.trans (Cert.ProjIdeal.Whole.final m c), (h c).2⟩) (Cert.ProjIdeal.Value.run_blocks m ρ),
    (θ_run _ _ _).mono (fun _ h c => ⟨(h c).1.trans (by rw [(hag c).1, (hag c).2]; rfl), (h c).2⟩) (Cert.ProjRefIdeal.Value.run m' ρ')⟩

end Cert.ProjClaim

end
-- ==== Proof.Norm.lean ====
module

public import proofs.«01_k».proof.Proof.EMath

/-! # The root-mean-square normalisation of a row -/

@[expose] public section

noncomputable section

namespace Cert.EMath

open Idealize.ShloMosaic

/-- Entry `c` of the row `f` divided by the root of its mean square (1024 entries, with the small constant of the
normalisation added under the root), times the gain `g`. -/
def rmsAt (f : Fin 1024 → EReal) (g : EReal) (c : Fin 1024) : EReal :=
  f c * Ideal.rsqrt (Ideal.div (∑ k, f k * f k) (Ideal.ofBits .f32 1149239296#32) + Ideal.ofBits .f32 897988541#32) * g

end Cert.EMath

end
-- ==== Proof.WoValue.lean ====
module

public import proofs.«01_k».proof.Defs
public import proofs.«01_k».proof.Proof.Norm
public import proofs.«01_k».proof.Proof.Gen.WoIdeal
public import proofs.«01_k».proof.Proof.Gen.WoIdeal.Value
public import proofs.«01_k».proof.Proof.Gen.WoRefIdeal
public import proofs.«01_k».proof.Proof.Gen.WoRefIdeal.Read
public import Idealize.ShloMosaic.Lib.Pipeline.Covers

/-! # The output projection: the kernel's two results are the reference's -/

@[expose] public section

set_option maxRecDepth 16384

noncomputable section

namespace Cert.WoRefIdeal.At

open Cert.WoRefIdeal Cert.WoRefIdeal.Gen Cert.WoRefIdeal.Read Cert.EMath Idealize.ShloMosaic Idealize.ShloMosaic.TcCoe

/-- The residual sum at an entry: the stream plus the row-by-column product. -/
def res {n : ℕ} (x0 : Vec Ideal ⟨2, ![n, 1024]⟩ .bf16) (x1 : (⟨2, ![1024, 1024]⟩ : Shape).Idx → EReal) (x2 : Vec Ideal ⟨2, ![n, 1024]⟩ .f32) (r : Fin n) (l : Fin 1024) : EReal :=
  (x2 (ix2 r l) : EReal) + ∑ k : Fin 1024, (x0 (ix2 r k) : EReal) * x1 (ix2 k l)

/-- The reference's first result at an entry. -/
theorem v2_at (x0 : (⟨S16384x1024, .bf16⟩ : BufTy).Contents (Elt Ideal)) (x1 : (⟨S1024x1024, .f32⟩ : BufTy).Contents (Elt Ideal)) (x2 : (⟨S16384x1024, .f32⟩ : BufTy).Contents (Elt Ideal)) (r : Fin 16384) (c : Fin 1024) :
    val_main_v2 (F := Ideal) x0 x1 x2 (ix2 r c) = res (n := 16384) x0 x1 x2 r c := by
  rw [val_main_v2_apply, val_main_v1_apply]
  unfold res
  refine congrArg (fun e : EReal => (x2 (ix2 r c) : EReal) + e) (Finset.sum_congr rfl fun k _ => ?_)
  refine congrArg₂ (fun a b : EReal => a * b) (congrArg x0 ?_) (congrArg x1 ?_)
  · funext a
    match a with
    | ⟨0, _⟩ => rfl
    | ⟨1, _⟩ => rfl
  · funext a
    match a with
    | ⟨0, _⟩ => rfl
    | ⟨1, _⟩ => rfl

/-- The reference's second result at an entry: the normalised row of the first. -/
theorem v16_at (x0 : (⟨S16384x1024, .bf16⟩ : BufTy).Contents (Elt Ideal)) (x1 : (⟨S1024x1024, .f32⟩ : BufTy).Contents (Elt Ideal)) (x2 : (⟨S16384x1024, .f32⟩ : BufTy).Contents (Elt Ideal)) (x3 : (⟨S1024, .f32⟩ : BufTy).Contents (Elt Ideal)) (r : Fin 16384) (c : Fin 1024) :
    val_main_v16 (F := Ideal) x0 x1 x2 x3 (ix2 r c) = rmsAt (res (n := 16384) x0 x1 x2 r) (x3 (ix1 c)) c := by
  rw [val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply]
  simp only [val_main_v3_apply, val_main_cst_apply]
  have hz : (FloatOps.ofBits (F := Ideal) .f32 0x00000000#32 : EReal) = 0 := Ideal.ofBits_zero_f32
  have hr : ∀ k, idx_main_v4 (idx_main_v5 (idx_main_v11 (ix2 r c))) k = ix2 (n0 := 16384) (n1 := 1024) r k := fun k => funext fun a => match a with | ⟨0, _⟩ => rfl | ⟨1, _⟩ => rfl
  have hc : idx_main_v13 (idx_main_v14 (ix2 r c)) = (ix1 c) := funext fun a => match a with | ⟨0, _⟩ => rfl
  simp only [hr, hc, v2_at]
  unfold rmsAt
  generalize res (n := 16384) x0 x1 x2 r = f
  show f c * Ideal.rsqrt (Ideal.div ((FloatOps.ofBits (F := Ideal) .f32 0x00000000#32 : EReal) + ∑ k, f k * f k) _ + _) * _ = _
  rw [hz, zero_add]
  rfl

end Cert.WoRefIdeal.At

namespace Cert.WoIdeal.Whole

open Cert.WoIdeal Cert.WoIdeal.Gen Cert.EMath Idealize.ShloMosaic Idealize.ShloMosaic.TcCoe Idealize.SL.Sem
open Cert.WoRefIdeal.At (res)

theorem pay1_at (x : Vec Ideal S512x1024 .f32) (a : Vec Ideal S512x1024 .bf16) (w : Vec Ideal S1024x1024 .bf16) (r : Fin 512) (c : Fin 1024) :
    k0_pay1 x a w (ix2 r c) = res (n := 512) a w x r c := by
  pointwise [k0_pay1]
  rfl

theorem pay2_at (x : Vec Ideal S512x1024 .f32) (a : Vec Ideal S512x1024 .bf16) (w : Vec Ideal S1024x1024 .bf16) (g : Vec Ideal S1x1024 .f32) (r : Fin 512) (c : Fin 1024) :
    k0_pay2 x a w g (ix2 r c) = rmsAt (res (n := 512) a w x r) (g (ix2 0 c)) c := by
  have h : ∀ k, k0_pay1 x a w (ix2 r k) = res (n := 512) a w x r k := fun k => pay1_at x a w r k
  unfold k0_pay2
  generalize k0_pay1 x a w = p at h ⊢
  have hp : res (n := 512) a w x r = fun k => p (ix2 r k) := funext fun k => (h k).symm
  rw [hp]
  pointwise []
  rfl

/-- A whole-block load of a row block is the block. -/
theorem ld_row {e : EltTy} (X : Vec Ideal S512x1024 e) : View.ld X r0_0 = X :=
  funext fun x => congrArg X (funext fun a => match a with
    | ⟨0, _⟩ => Fin.ext (show 0 + 1 * (x 0).val = (x 0).val by omega)
    | ⟨1, _⟩ => Fin.ext (show 0 + 1 * (x 1).val = (x 1).val by omega))

theorem ld_w {e : EltTy} (X : Vec Ideal S1024x1024 e) : View.ld X r0_1 = X :=
  funext fun x => congrArg X (funext fun a => match a with
    | ⟨0, _⟩ => Fin.ext (show 0 + 1 * (x 0).val = (x 0).val by omega)
    | ⟨1, _⟩ => Fin.ext (show 0 + 1 * (x 1).val = (x 1).val by omega))

theorem ld_g {e : EltTy} (X : Vec Ideal S1x1024 e) : View.ld X r0_2 = X :=
  funext fun x => congrArg X (funext fun a => match a with
    | ⟨0, _⟩ => Fin.ext (show 0 + 1 * (x 0).val = (x 0).val by omega)
    | ⟨1, _⟩ => Fin.ext (show 0 + 1 * (x 1).val = (x 1).val by omega))

theorem idx_row (x : S512x1024.Idx) : r0_0.idx x = x := funext fun a => match a with
  | ⟨0, _⟩ => Fin.ext (show 0 + 1 * (x 0).val = (x 0).val by omega)
  | ⟨1, _⟩ => Fin.ext (show 0 + 1 * (x 1).val = (x 1).val by omega)

theorem split (y : S512x1024.Idx) : y = ix2 (n0 := 512) (n1 := 1024) (y 0) (y 1) :=
  funext fun a => match a with | ⟨0, _⟩ => rfl | ⟨1, _⟩ => rfl

/-- What a point leaves in its first output block. -/
theorem out4_at (x0 : Vec Ideal S512x1024 .bf16) (x1 : Vec Ideal S1024x1024 .bf16) (x2 : Vec Ideal S512x1024 .f32) (x3 : Vec Ideal S1x1024 .f32) (y : S512x1024.Idx) :
    out0_4 x0 x1 x2 x3 y = res (n := 512) x0 x1 x2 (y 0) (y 1) := by
  unfold out0_4
  rw [ld_row, ld_row, ld_w]
  refine (View.canon_apply_of_pieces (Val := Elt Ideal) (e := .f32) (k0_pay1 x2 x0 x1) _ ?_ y (cover0_4 _ y)).trans ((congrArg _ (split y)).trans (pay1_at x2 x0 x1 (y 0) (y 1)))
  intro pc hpc
  rcases List.mem_cons.mp hpc with rfl | hpc
  · exact fun x => congrArg (k0_pay1 x2 x0 x1) (idx_row x).symm
  nomatch hpc

/-- What a point leaves in its second output block. -/
theorem out5_at (x0 : Vec Ideal S512x1024 .bf16) (x1 : Vec Ideal S1024x1024 .bf16) (x2 : Vec Ideal S512x1024 .f32) (x3 : Vec Ideal S1x1024 .f32) (y : S512x1024.Idx) :
    out0_5 x0 x1 x2 x3 y = rmsAt (res (n := 512) x0 x1 x2 (y 0)) (x3 (ix2 (n0 := 1) (n1 := 1024) 0 (y 1))) (y 1) := by
  unfold out0_5
  rw [ld_row, ld_row, ld_w, ld_g]
  refine (View.canon_apply_of_pieces (Val := Elt Ideal) (e := .bf16) (k0_pay2 x2 x0 x1 x3) _ ?_ y (cover0_5 _ y)).trans ((congrArg _ (split y)).trans (pay2_at x2 x0 x1 x3 (y 0) (y 1)))
  intro pc hpc
  rcases List.mem_cons.mp hpc with rfl | hpc
  · exact fun x => congrArg (k0_pay2 x2 x0 x1 x3) (idx_row x).symm
  nomatch hpc

variable (m : (ℓ : Loc nD τ sig) → Buf (Elt Ideal) ℓ) (ρ : Dev nD → PrngReg)

/-- The reference's first result, as contents of the kernel's first result array. -/
abbrev out0 (c : Dev nD) : Buf (Elt Ideal) ((c : Thread nD τ).loc main_v2_0) :=
  Cert.WoRefIdeal.Read.val_main_v2 (F := Ideal) (m ((c : Thread nD τ).loc main_arg0)) (m ((c : Thread nD τ).loc main_arg1)) (m ((c : Thread nD τ).loc main_arg2))

/-- The reference's second result, as contents of the kernel's second result array. -/
abbrev out1 (c : Dev nD) : Buf (Elt Ideal) ((c : Thread nD τ).loc main_v2_1) :=
  Cert.WoRefIdeal.Read.val_main_v16 (F := Ideal) (m ((c : Thread nD τ).loc main_arg0)) (m ((c : Thread nD τ).loc main_arg1)) (m ((c : Thread nD τ).loc main_arg2)) (m ((c : Thread nD τ).loc main_arg3))

/-- The residual sum over the whole arrays. -/
abbrev resM (c : Dev nD) (r : Fin 16384) (l : Fin 1024) : EReal :=
  res (n := 16384) (m ((c : Thread nD τ).loc main_arg0)) (m ((c : Thread nD τ).loc main_arg1)) (m ((c : Thread nD τ).loc main_arg2)) r l

theorem splitM (i : S16384x1024.Idx) : i = ix2 (n0 := 16384) (n1 := 1024) (i 0) (i 1) :=
  funext fun a => match a with | ⟨0, _⟩ => rfl | ⟨1, _⟩ => rfl

theorem out0_res (c : Dev nD) (i : S16384x1024.Idx) : out0 m c i = resM m c (i 0) (i 1) :=
  (congrArg (out0 m c) (splitM i)).trans (Cert.WoRefIdeal.At.v2_at _ _ _ (i 0) (i 1))

theorem out1_rms (c : Dev nD) (i : S16384x1024.Idx) :
    out1 m c i = rmsAt (resM m c (i 0)) ((m ((c : Thread nD τ).loc main_arg3) : S1024.Idx → EReal) (ix1 (n0 := 1024) (i 1))) (i 1) :=
  (congrArg (out1 m c) (splitM i)).trans (Cert.WoRefIdeal.At.v16_at _ _ _ _ (i 0) (i 1))

/-- The cast weights the kernel is launched on. -/
theorem V_v0 (c : Dev nD) : V m c main_v0 = (m ((c : Thread nD τ).loc main_arg1) : S1024x1024.Idx → EReal) := by
  show StableHlo.after hostOps0 _ main_v0 = _
  after_results
  rfl

/-- The gain the kernel is launched on: the argument as a row. -/
theorem V_v1 (c : Dev nD) (k : Fin 1024) : (V m c main_v1 : S1x1024.Idx → EReal) (ix2 (n0 := 1) (n1 := 1024) 0 k) = (m ((c : Thread nD τ).loc main_arg3) : S1024.Idx → EReal) (ix1 k) := by
  have h : V m c main_v1 = shapeCast S1x1024 (m ((c : Thread nD τ).loc main_arg3) : S1024.Idx → EReal) shapeCasts_S1024_S1x1024 := by
    show StableHlo.after hostOps0 _ main_v1 = _
    after_results
    rfl
  rw [h]
  pointwise []

theorem tr (i : grid0.Coords) : cc0_transform_0 i 0 = (i 0).val := by
  have h0 : (i 0).val < 32 := (i 0).isLt
  show (BitVec.ofNat 32 (i 0).val).toNat = _
  simp only [BitVec.toNat_ofNat]; omega

/-- The array row of a block row of the point `t`. -/
def rowOf (t : Fin cfg0.N) (r : Fin 512) : Fin 16384 :=
  ⟨cc0_transform_0 (grid0.coords t) 0 * 512 + 1 * r.val, by
    have hi := tr (grid0.coords t)
    have h0 : (grid0.coords t 0).val < 32 := (grid0.coords t 0).isLt
    have := r.isLt
    omega⟩

/-- The residual sum of a point's blocks is that of the arrays at the block's rows. -/
theorem res_blk (c : Dev nD) (t : Fin cfg0.N) (r : Fin 512) :
    res (n := 512) (iblk m c 0 t) (iblk m c 1 t) (iblk m c 2 t) r = resM m c (rowOf t r) := by
  funext l
  unfold resM res
  have e2 : (iblk m c 2 t : Vec Ideal S512x1024 .f32) (ix2 r l) = (m ((c : Thread nD τ).loc main_arg2) : S16384x1024.Idx → EReal) (ix2 (rowOf t r) l) := by
    unfold iblk
    rw [View.read_apply]
    show V m c main_arg2 _ = _
    rw [V_main_arg2]
    congr 1
    funext a
    match a with
    | ⟨0, _⟩ => rfl
    | ⟨1, _⟩ => exact Fin.ext (show 0 * 1024 + 1 * l.val = l.val by omega)
  refine congrArg₂ (fun a b : EReal => a + b) e2 (Finset.sum_congr rfl fun k _ => ?_)
  have e0 : (iblk m c 0 t : Vec Ideal S512x1024 .bf16) (ix2 r k) = (m ((c : Thread nD τ).loc main_arg0) : S16384x1024.Idx → EReal) (ix2 (rowOf t r) k) := by
    unfold iblk
    rw [View.read_apply]
    show V m c main_arg0 _ = _
    rw [V_main_arg0]
    congr 1
    funext a
    match a with
    | ⟨0, _⟩ => rfl
    | ⟨1, _⟩ => exact Fin.ext (show 0 * 1024 + 1 * k.val = k.val by omega)
  have e1 : (iblk m c 1 t : Vec Ideal S1024x1024 .bf16) (ix2 k l) = (m ((c : Thread nD τ).loc main_arg1) : S1024x1024.Idx → EReal) (ix2 k l) := by
    unfold iblk
    rw [View.read_apply]
    show V m c main_v0 _ = _
    rw [V_v0]
    congr 1
    funext a
    match a with
    | ⟨0, _⟩ => exact Fin.ext (show 0 * 1024 + 1 * k.val = k.val by omega)
    | ⟨1, _⟩ => exact Fin.ext (show 0 * 1024 + 1 * l.val = l.val by omega)
  exact congrArg₂ (fun a b : EReal => a * b) e0 e1

/-- What a point writes back to the first array is its block of the reference's first result. -/
theorem flushed4_eq (c : Dev nD) (t : Fin cfg0.N) :
    (dats m 0 c).flushed 4 t = ((cfg0.win 4).blk t).view.read (Elt Ideal) (out0 m c) := by
  rw [Value.flushed4]
  funext j
  rw [View.read_apply]
  refine (out4_at _ _ _ _ j).trans ((?_ : _ = _).trans (out0_res m c _).symm)
  have e : (((cfg0.win 4).blk t).view.emb j) 1 = j 1 := Fin.ext (show 0 * 1024 + 1 * (j 1).val = (j 1).val by omega)
  rw [e]
  exact congrFun (res_blk m c t (j 0)) (j 1)

/-- What a point writes back to the second array is its block of the reference's second result. -/
theorem flushed5_eq (c : Dev nD) (t : Fin cfg0.N) :
    (dats m 0 c).flushed 5 t = ((cfg0.win 5).blk t).view.read (Elt Ideal) (out1 m c) := by
  rw [Value.flushed5]
  funext j
  rw [View.read_apply]
  refine (out5_at _ _ _ _ j).trans ((?_ : _ = _).trans (out1_rms m c _).symm)
  have e : (((cfg0.win 5).blk t).view.emb j) 1 = j 1 := Fin.ext (show 0 * 1024 + 1 * (j 1).val = (j 1).val by omega)
  have h1 : (iblk m c 3 t : Vec Ideal S1x1024 .f32) (ix2 (n0 := 1) (n1 := 1024) 0 (j 1)) = (m ((c : Thread nD τ).loc main_arg3) : S1024.Idx → EReal) (ix1 (n0 := 1024) (j 1)) := by
    refine Eq.trans ?_ (V_v1 m c (j 1))
    unfold iblk
    rw [View.read_apply]
    show V m c main_v1 _ = V m c main_v1 _
    congr 1
    funext a
    match a with
    | ⟨0, _⟩ => rfl
    | ⟨1, _⟩ => exact Fin.ext (show 0 * 1024 + 1 * (j 1).val = (j 1).val by omega)
  rw [e]
  exact congrArg₂ (fun f g => rmsAt f g (j 1)) (res_blk m c t (j 0)) h1

/-- The blocks cover the first result array. -/
theorem cover4 (i : S16384x1024.Idx) : ∃ t : Fin cfg0.N, (cfg0.win 4).flush t = true ∧ i ∈ ((cfg0.win 4).blk t).view.set := by
  have h0 : (i 0 : Nat) < 16384 := (i 0).isLt
  have h1 : (i 1 : Nat) < 1024 := (i 1).isLt
  obtain ⟨t, ht⟩ := Pipeline.Grid.coords_surjective grid0 (fun a => match a with
    | ⟨0, _⟩ => (⟨(i 0).val / 512, by omega⟩ : Fin 32))
  have e0 : (grid0.coords t 0).val = (i 0).val / 512 := by rw [ht]
  have hi := tr (grid0.coords t)
  refine ⟨t, flush0_4 t, ?_⟩
  show i ∈ ((View.whole main_v2_0).slice (win0_4.rect t)).set
  rw [View.set_slice_whole, Rect.mem_set_unit]
  intro a
  match a with
  | ⟨0, _⟩ => show cc0_transform_0 (grid0.coords t) 0 * 512 ≤ (i 0 : Nat) ∧ (i 0 : Nat) < cc0_transform_0 (grid0.coords t) 0 * 512 + 512
              rw [hi, e0]; omega
  | ⟨1, _⟩ => show 0 * 1024 ≤ (i 1 : Nat) ∧ (i 1 : Nat) < 0 * 1024 + 1024
              omega

/-- The blocks cover the second result array. -/
theorem cover5 (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  obtain ⟨t, ht⟩ := Pipeline.Grid.coords_surjective grid0 (fun a => match a with
    | ⟨0, _⟩ => (⟨(i 0).val / 512, by omega⟩ : Fin 32))
  have e0 : (grid0.coords t 0).val = (i 0).val / 512 := by rw [ht]
  have hi := tr (grid0.coords t)
  refine ⟨t, flush0_5 t, ?_⟩
  show i ∈ ((View.whole main_v2_1).slice (win0_5.rect t)).set
  rw [View.set_slice_whole, Rect.mem_set_unit]
  intro a
  match a with
  | ⟨0, _⟩ => show cc0_transform_0 (grid0.coords t) 0 * 512 ≤ (i 0 : Nat) ∧ (i 0 : Nat) < cc0_transform_0 (grid0.coords t) 0 * 512 + 512
              rw [hi, e0]; omega
  | ⟨1, _⟩ => show 0 * 1024 ≤ (i 1 : Nat) ∧ (i 1 : Nat) < 0 * 1024 + 1024
              omega

/-- The first result array ends holding the reference's first result. -/
theorem final4 (c : Dev nD) : (dats m 0 c).arrAt 4 cfg0.N = out0 m c :=
  (dats m 0 c).arrAt_eq_of_cover 4 (out0 m c) (fun t _ => flushed4_eq m c t) cover4

/-- The second result array ends holding the reference's second result. -/
theorem final5 (c : Dev nD) : (dats m 0 c).arrAt 5 cfg0.N = out1 m c :=
  (dats m 0 c).arrAt_eq_of_cover 5 (out1 m c) (fun t _ => flushed5_eq m c t) cover5

end Cert.WoIdeal.Whole

/-! ## The claim -/

namespace Cert.WoClaim

open Idealize.ShloMosaic Idealize.ShloMosaic.TcCoe Idealize.SL.Sem

/-- The kernel's two result arrays are the reference's, on every device. -/
theorem algebraic : Cert.algebraic_WoIdeal_WoRefIdeal (hWoIdeal := Cert.WoIdeal.Gen.facts) (hWoRefIdeal := Cert.WoRefIdeal.Gen.facts) :=
  fun m ρ m' ρ' _ hag => ⟨fun c => Cert.WoIdeal.Whole.out0 m c, fun c => Cert.WoIdeal.Whole.out1 m c,
    (θ_run _ _ _).mono (fun _ h c => ⟨(h c).1.trans (Cert.WoIdeal.Whole.final4 m c), (h c).2.1.trans (Cert.WoIdeal.Whole.final5 m c), (h c).2.2⟩) (Cert.WoIdeal.Value.run_blocks m ρ),
    (θ_run _ _ _).mono (fun _ h c => ⟨(h c).1.trans (by rw [(hag c).1, (hag c).2.1, (hag c).2.2.1]; rfl),
      (h c).2.1.trans (by rw [(hag c).1, (hag c).2.1, (hag c).2.2.1, (hag c).2.2.2]; rfl), (h c).2.2⟩) (Cert.WoRefIdeal.Value.run m' ρ')⟩

end Cert.WoClaim

end
-- ==== Proof.RmsValue.lean ====
module

public import proofs.«01_k».proof.Defs
public import proofs.«01_k».proof.Proof.Norm
public import proofs.«01_k».proof.Proof.Gen.RmsIdeal
public import proofs.«01_k».proof.Proof.Gen.RmsIdeal.Value
public import proofs.«01_k».proof.Proof.Gen.RmsRefIdeal
public import proofs.«01_k».proof.Proof.Gen.RmsRefIdeal.Read
public import Idealize.ShloMosaic.Lib.Pipeline.Covers

/-! # The normalisation call: the kernel's result is the reference's -/

@[expose] public section

set_option maxRecDepth 16384

noncomputable section

namespace Cert.RmsRefIdeal.At

open Cert.RmsRefIdeal Cert.RmsRefIdeal.Gen Cert.RmsRefIdeal.Read Cert.EMath Idealize.ShloMosaic Idealize.ShloMosaic.TcCoe

/-- The reference's result at an entry: the normalised row. -/
theorem v13_at (x0 : (⟨S16384x1024, .f32⟩ : BufTy).Contents (Elt Ideal)) (x1 : (⟨S1024, .f32⟩ : BufTy).Contents (Elt Ideal)) (r : Fin 16384) (c : Fin 1024) :
    val_main_v13 (F := Ideal) x0 x1 (ix2 r c) = rmsAt (fun k => x0 (ix2 r k)) (x1 (ix1 c)) c := by
  rw [val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply]
  simp only [val_main_v0_apply, val_main_cst_apply]
  have hz : (FloatOps.ofBits (F := Ideal) .f32 0x00000000#32 : EReal) = 0 := Ideal.ofBits_zero_f32
  have hr : ∀ k, idx_main_v1 (idx_main_v2 (idx_main_v8 (ix2 r c))) k = ix2 (n0 := 16384) (n1 := 1024) r k := fun k => funext fun a => match a with | ⟨0, _⟩ => rfl | ⟨1, _⟩ => rfl
  have hc : idx_main_v10 (idx_main_v11 (ix2 r c)) = (ix1 c) := funext fun a => match a with | ⟨0, _⟩ => rfl
  simp only [hr, hc]
  refine Eq.trans ?_ (b := rmsAt (fun k => x0 (ix2 r k)) (x1 (ix1 c)) c) rfl
  unfold rmsAt
  show x0 (ix2 r c) * Ideal.rsqrt (Ideal.div ((FloatOps.ofBits (F := Ideal) .f32 0x00000000#32 : EReal) + ∑ k, x0 (ix2 r k) * x0 (ix2 r k)) _ + _) * _ = _
  rw [hz, zero_add]
  rfl

end Cert.RmsRefIdeal.At

namespace Cert.RmsIdeal.Whole

open Cert.RmsIdeal Cert.RmsIdeal.Gen Cert.EMath Idealize.ShloMosaic Idealize.ShloMosaic.TcCoe Idealize.SL.Sem

theorem pay1_at (a : Vec Ideal S512x1024 .f32) (g : Vec Ideal S1x1024 .f32) (r : Fin 512) (c : Fin 1024) :
    k0_pay1 a g (ix2 r c) = rmsAt (fun k => a (ix2 r k)) (g (ix2 0 c)) c := by
  pointwise [k0_pay1]
  rfl

/-- What a point leaves in its output block. -/
theorem out_at (x0 : Vec Ideal S512x1024 .f32) (x1 : Vec Ideal S1x1024 .f32) (y : S512x1024.Idx) :
    out0_2 x0 x1 y = rmsAt (fun k => x0 (ix2 (n0 := 512) (n1 := 1024) (y 0) k)) (x1 (ix2 (n0 := 1) (n1 := 1024) 0 (y 1))) (y 1) := by
  unfold out0_2
  refine View.canon_apply_of_pieces (Val := Elt Ideal) (e := .bf16) (fun y => rmsAt (fun k => x0 (ix2 (n0 := 512) (n1 := 1024) (y 0) k)) (x1 (ix2 (n0 := 1) (n1 := 1024) 0 (y 1))) (y 1)) _ ?_ y (cover0_2 _ y)
  intro pc hpc
  rcases List.mem_cons.mp hpc with rfl | hpc
  · intro x
    have hx : x = ix2 (n0 := 512) (n1 := 1024) (x 0) (x 1) := funext fun a => match a with | ⟨0, _⟩ => rfl | ⟨1, _⟩ => rfl
    have hy : r0_0.idx x = x := funext fun a => match a with
      | ⟨0, _⟩ => Fin.ext (show 0 + 1 * (x 0).val = (x 0).val by omega)
      | ⟨1, _⟩ => Fin.ext (show 0 + 1 * (x 1).val = (x 1).val by omega)
    show k0_pay1 (View.ld x0 r0_0) (View.ld x1 r0_1) x = (fun y : S512x1024.Idx => rmsAt (fun k => x0 (ix2 (n0 := 512) (n1 := 1024) (y 0) k)) (x1 (ix2 (n0 := 1) (n1 := 1024) 0 (y 1))) (y 1)) (r0_0.idx x)
    rw [hy]
    refine (congrArg _ hx).trans ((pay1_at _ _ (x 0) (x 1)).trans ?_)
    have h0 : (fun k : Fin 1024 => View.ld x0 r0_0 (ix2 (n0 := 512) (n1 := 1024) (x 0) k)) = fun k => x0 (ix2 (n0 := 512) (n1 := 1024) (x 0) k) := by
      funext k
      exact congrArg x0 (funext fun a => match a with
        | ⟨0, _⟩ => Fin.ext (show 0 + 1 * (x 0).val = (x 0).val by omega)
        | ⟨1, _⟩ => Fin.ext (show 0 + 1 * k.val = k.val by omega))
    have h1 : View.ld x1 r0_1 (ix2 (n0 := 1) (n1 := 1024) 0 (x 1)) = x1 (ix2 (n0 := 1) (n1 := 1024) 0 (x 1)) :=
      congrArg x1 (funext fun a => match a with
        | ⟨0, _⟩ => Fin.ext rfl
        | ⟨1, _⟩ => Fin.ext (show 0 + 1 * (x 1).val = (x 1).val by omega))
    exact congrArg₂ (fun f g => rmsAt f g (x 1)) h0 h1
  nomatch hpc

variable (m : (ℓ : Loc nD τ sig) → Buf (Elt Ideal) ℓ) (ρ : Dev nD → PrngReg)

/-- The reference's result, as contents of the kernel's result array. -/
abbrev out (c : Dev nD) : Buf (Elt Ideal) ((c : Thread nD τ).loc main_v1) :=
  Cert.RmsRefIdeal.Read.val_main_v13 (F := Ideal) (m ((c : Thread nD τ).loc main_arg0)) (m ((c : Thread nD τ).loc main_arg1))

theorem out_rms (c : Dev nD) (i : S16384x1024.Idx) :
    out m c i = rmsAt (fun k => (m ((c : Thread nD τ).loc main_arg0) : S16384x1024.Idx → EReal) (ix2 (n0 := 16384) (n1 := 1024) (i 0) k))
      ((m ((c : Thread nD τ).loc main_arg1) : S1024.Idx → EReal) (ix1 (n0 := 1024) (i 1))) (i 1) :=
  (congrArg (out m c) (show i = ix2 (n0 := 16384) (n1 := 1024) (i 0) (i 1) from funext fun a => match a with | ⟨0, _⟩ => rfl | ⟨1, _⟩ => rfl)).trans
    (Cert.RmsRefIdeal.At.v13_at _ _ (i 0) (i 1))

/-- The gain the kernel is launched on: the argument as a row. -/
theorem V_v0 (c : Dev nD) (k : Fin 1024) : (V m c main_v0 : S1x1024.Idx → EReal) (ix2 (n0 := 1) (n1 := 1024) 0 k) = (m ((c : Thread nD τ).loc main_arg1) : S1024.Idx → EReal) (ix1 k) := by
  have h : V m c main_v0 = shapeCast S1x1024 (m ((c : Thread nD τ).loc main_arg1) : S1024.Idx → EReal) shapeCasts_S1024_S1x1024 := by
    show StableHlo.after hostOps0 _ main_v0 = _
    after_results
    rfl
  rw [h]
  pointwise []

theorem tr (i : grid0.Coords) : cc0_transform_0 i 0 = (i 0).val := by
  have h0 : (i 0).val < 32 := (i 0).isLt
  show (BitVec.ofNat 32 (i 0).val).toNat = _
  simp only [BitVec.toNat_ofNat]; omega

/-- What a point writes back is its block of the reference's result. -/
theorem flushed_eq (c : Dev nD) (t : Fin cfg0.N) :
    (dats m 0 c).flushed 2 t = ((cfg0.win 2).blk t).view.read (Elt Ideal) (out m c) := by
  rw [Value.flushed2]
  funext j
  rw [View.read_apply]
  have e : (((cfg0.win 2).blk t).view.emb j) 1 = j 1 := Fin.ext (show 0 * 1024 + 1 * (j 1).val = (j 1).val by omega)
  refine (out_at _ _ j).trans ((?_ : _ = _).trans (out_rms m c _).symm)
  have h0 : (fun k : Fin 1024 => (iblk m c 0 t : Vec Ideal S512x1024 .f32) (ix2 (n0 := 512) (n1 := 1024) (j 0) k))
      = fun k => (m ((c : Thread nD τ).loc main_arg0) : S16384x1024.Idx → EReal) (ix2 (n0 := 16384) (n1 := 1024) ((((cfg0.win 2).blk t).view.emb j) 0) k) := by
    funext k
    unfold iblk
    rw [View.read_apply]
    show V m c main_arg0 _ = _
    rw [V_main_arg0]
    congr 1
    funext a
    match a with
    | ⟨0, _⟩ => rfl
    | ⟨1, _⟩ => exact Fin.ext (show 0 * 1024 + 1 * k.val = k.val by omega)
  have h1 : (iblk m c 1 t : Vec Ideal S1x1024 .f32) (ix2 (n0 := 1) (n1 := 1024) 0 (j 1)) = (m ((c : Thread nD τ).loc main_arg1) : S1024.Idx → EReal) (ix1 (n0 := 1024) (j 1)) := by
    refine Eq.trans ?_ (V_v0 m c (j 1))
    unfold iblk
    rw [View.read_apply]
    show V m c main_v0 _ = V m c main_v0 _
    congr 1
    funext a
    match a with
    | ⟨0, _⟩ => rfl
    | ⟨1, _⟩ => exact Fin.ext (show 0 * 1024 + 1 * (j 1).val = (j 1).val by omega)
  rw [e]
  exact congrArg₂ (fun f g => rmsAt f g (j 1)) h0 h1

/-- The blocks cover the result array. -/
theorem cover (i : S16384x1024.Idx) : ∃ t : Fin cfg0.N, (cfg0.win 2).flush t = true ∧ i ∈ ((cfg0.win 2).blk t).view.set := by
  have h0 : (i 0 : Nat) < 16384 := (i 0).isLt
  have h1 : (i 1 : Nat) < 1024 := (i 1).isLt
  obtain ⟨t, ht⟩ := Pipeline.Grid.coords_surjective grid0 (fun a => match a with
    | ⟨0, _⟩ => (⟨(i 0).val / 512, by omega⟩ : Fin 32))
  have e0 : (grid0.coords t 0).val = (i 0).val / 512 := by rw [ht]
  have hi := tr (grid0.coords t)
  refine ⟨t, flush0_2 t, ?_⟩
  show i ∈ ((View.whole main_v1).slice (win0_2.rect t)).set
  rw [View.set_slice_whole, Rect.mem_set_unit]
  intro a
  match a with
  | ⟨0, _⟩ => show cc0_transform_0 (grid0.coords t) 0 * 512 ≤ (i 0 : Nat) ∧ (i 0 : Nat) < cc0_transform_0 (grid0.coords t) 0 * 512 + 512
              rw [hi, e0]; omega
  | ⟨1, _⟩ => show 0 * 1024 ≤ (i 1 : Nat) ∧ (i 1 : Nat) < 0 * 1024 + 1024
              omega

/-- The result array ends holding the reference's result. -/
theorem final (c : Dev nD) : (dats m 0 c).arrAt 2 cfg0.N = out m c :=
  (dats m 0 c).arrAt_eq_of_cover 2 (out m c) (fun t _ => flushed_eq m c t) cover

end Cert.RmsIdeal.Whole

/-! ## The claim -/

namespace Cert.RmsClaim

open Idealize.ShloMosaic Idealize.ShloMosaic.TcCoe Idealize.SL.Sem

/-- The kernel's result array is the reference's, on every device. -/
theorem algebraic : Cert.algebraic_RmsIdeal_RmsRefIdeal (hRmsIdeal := Cert.RmsIdeal.Gen.facts) (hRmsRefIdeal := Cert.RmsRefIdeal.Gen.facts) :=
  fun m ρ m' ρ' _ hag => ⟨fun c => Cert.RmsIdeal.Whole.out m c,
    (θ_run _ _ _).mono (fun _ h c => ⟨(h c).1.trans (Cert.RmsIdeal.Whole.final m c), (h c).2⟩) (Cert.RmsIdeal.Value.run_blocks m ρ),
    (θ_run _ _ _).mono (fun _ h c => ⟨(h c).1.trans (by rw [(hag c).1, (hag c).2]; rfl), (h c).2⟩) (Cert.RmsRefIdeal.Value.run m' ρ')⟩

end Cert.RmsClaim

end
-- ==== Proof.FfnIdealBody.lean ====
/-
  The body of the feed-forward kernel at one grid point: from any contents of the staged blocks, of the running sum and of
  the rows carried from the row tile before, what it leaves in each. Six cases: the column tile the first of its row tile,
  a middle one or the last, and the row tile the first of its sequence or a later one.
-/
module

public import proofs.«01_k».proof.Proof.Gen.FfnIdeal.Frame
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.FfnBody

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What one grid point computes -/

/-- Whether the point is the first column tile of its row tile, as the body tests it. -/
def isFirst (i : grid0.Coords) : BitVec 1 :=
  Scalar.cmpi .ne (Scalar.extui (Scalar.cmpi .eq (BitVec.ofNat 32 (i 1).val) 0#32) : BitVec 32) 0#32

/-- Whether the point is a later column tile of its row tile, as the body tests it. -/
def isLater (i : grid0.Coords) : BitVec 1 :=
  Scalar.cmpi .ne (Scalar.extui (Scalar.cmpi .sgt (BitVec.ofNat 32 (i 1).val) 0#32) : BitVec 32) 0#32

/-- The carried rows as the point uses them: at the first row tile of a sequence those of the column tile are zeros. -/
def carried (i : grid0.Coords) (k : Vec F S2x11x8x256 .f32) : Vec F S2x11x8x256 .f32 :=
  if k0_cond1 i = 1#1 then VecWindow.put k (k0_off1 i) S2x1x8x256.size (k0_pay5 (F := F)) else k

/-- The gate half's carried rows of the point's column tile. -/
def prevG (i : grid0.Coords) (k : Vec F S2x11x8x256 .f32) : Vec F S1x1x8x256 .f32 :=
  VecWindow.window (carried i k) (k0_off2 i) S1x1x8x256.size (k0_off2_inb i)

/-- The value half's carried rows of the point's column tile. -/
def prevV (i : grid0.Coords) (k : Vec F S2x11x8x256 .f32) : Vec F S1x1x8x256 .f32 :=
  VecWindow.window (carried i k) (k0_off3 i) S1x1x8x256.size (k0_off3_inb i)

/-- The carried rows the point leaves: those of its column tile are the last rows of its two products. -/
def nextK (i : grid0.Coords) (x0 : Vec F S1024x1024 .bf16) (x2 x3 : Vec F S1024x256 .bf16) (k : Vec F S2x11x8x256 .f32) :
    Vec F S2x11x8x256 .f32 :=
  VecWindow.put (VecWindow.put (carried i k) (k0_off2 i) S1x1x8x256.size (k0_pay10 x0 x2)) (k0_off3 i) S1x1x8x256.size
    (k0_pay11 (k0_pay7 x0 x3))

/-- The point's part of the second product. -/
def partAt (i : grid0.Coords) (x0 : Vec F S1024x1024 .bf16) (x2 x3 : Vec F S1024x256 .bf16) (x4 x5 : Vec F S3x256 .f32)
    (x6 x7 : Vec F S1x256 .f32) (x8 : Vec F S256x1024 .bf16) (k : Vec F S2x11x8x256 .f32) : Vec F S1024x1024 .f32 :=
  k0_pay14 (k0_pay7 x0 x3) (k0_pay9 (prevV i k)) (k0_pay12 (k0_pay6 x0 x2) (k0_pay8 (prevG i k)) x4 x6) (k0_pay13 x5) x7 x8

/-- The sum the point leaves: its part alone at the first column tile, added to what was held at a later one. -/
def nextA (i : grid0.Coords) (p a : Vec F S1024x1024 .f32) : Vec F S1024x1024 .f32 :=
  if isFirst i = 1#1 then k0_pay1 p else k0_pay2 p a

/-! ## Reading loads and stores -/

/-- A load of a whole buffer reads what the buffer holds. -/
theorem load_full {sp : Space} {s : Shape} {e : EltTy} {M : Memref sig .tc sp s e} (h : M.IsWhole) (x : s.Idx → Elt F e)
    {off : Fin s.rank → ℕ} (inb : ∀ a, off a + s.size a ≤ s.size a) :
    M.view.readAt (Elt F) (Rect.unit off s.size inb).toLoadRect (h.unread x) = x := by
  rw [View.readAt_full, h.read_unread]

/-- A load of a rectangle of a buffer reads the window there of what the buffer holds. -/
theorem load_window {sp : Space} {s : Shape} {e : EltTy} {M : Memref sig .tc sp s e} (h : M.IsWhole) (x : s.Idx → Elt F e)
    {off size : Fin s.rank → ℕ} (inb : ∀ a, off a + size a ≤ s.size a) :
    M.view.readAt (Elt F) (Rect.unit off size inb).toLoadRect (h.unread x) = VecWindow.window x off size inb := by
  rw [View.readAt_unit _ _ inb rfl inb, h.read_unread]

/-- A load of a rectangle inside one just stored reads the stored payload there, whatever lay under it. -/
theorem load_inside {sp : Space} {s : Shape} {e : EltTy} {M : Memref sig .tc sp s e} (x : s.Idx → Elt F e)
    {off size off' size' : Fin s.rank → ℕ} (inb : ∀ a, off a + size a ≤ s.size a) (inb' : ∀ a, off' a + size' a ≤ s.size a)
    (w : (Rect.unit off size inb).shape.Idx → Elt F e) (h : ∀ a, off a ≤ off' a ∧ off' a + size' a ≤ off a + size a) :
    M.view.readCov [⟨Rect.unit off size inb, w⟩] (Rect.unit off' size' inb').toLoadRect
      = VecWindow.window (VecWindow.put x off size w) off' size' inb' := by
  unfold View.readCov
  rw [View.readAt_unit _ _ inb' rfl inb', View.read_writes_cons_put _ _ inb w [] rfl,
    VecWindow.window_put_of_inside _ _ _ _ _ _ _ h, VecWindow.window_put_of_inside _ _ _ _ _ _ _ h]

/-- The gate half's rows of a column tile lie among the rows of both halves. -/
theorem off2_in (i : grid0.Coords) (a : Fin 4) :
    k0_off1 i a ≤ k0_off2 i a ∧ k0_off2 i a + S1x1x8x256.size a ≤ k0_off1 i a + S2x1x8x256.size a := by
  match a with
  | ⟨0, _⟩ => exact ⟨Nat.le_refl _, by show 0 + 1 ≤ 0 + 2; omega⟩
  | ⟨1, _⟩ => exact ⟨Nat.le_refl _, Nat.le_refl _⟩
  | ⟨2, _⟩ => exact ⟨Nat.le_refl _, Nat.le_refl _⟩
  | ⟨3, _⟩ => exact ⟨Nat.le_refl _, Nat.le_refl _⟩

/-- The value half's rows of a column tile lie among the rows of both halves. -/
theorem off3_in (i : grid0.Coords) (a : Fin 4) :
    k0_off1 i a ≤ k0_off3 i a ∧ k0_off3 i a + S1x1x8x256.size a ≤ k0_off1 i a + S2x1x8x256.size a := by
  match a with
  | ⟨0, _⟩ => exact ⟨by show 0 ≤ 1; omega, by show 1 + 1 ≤ 0 + 2; omega⟩
  | ⟨1, _⟩ => exact ⟨Nat.le_refl _, Nat.le_refl _⟩
  | ⟨2, _⟩ => exact ⟨Nat.le_refl _, Nat.le_refl _⟩
  | ⟨3, _⟩ => exact ⟨Nat.le_refl _, Nat.le_refl _⟩

/-- The gate half's carried rows as loaded after the reset at the first row tile of a sequence. -/
theorem prevG_reset (i : grid0.Coords) (hc1 : k0_cond1 i = 1#1) {M : Memref sig .tc .vmem S2x11x8x256 .f32} (k : Vec F S2x11x8x256 .f32) :
    M.view.readCov [⟨Rect.unit (s := S2x11x8x256) (k0_off1 i) S2x1x8x256.size (k0_off1_inb i hc1), k0_pay5 (F := F)⟩]
      (Rect.unit (s := S2x11x8x256) (k0_off2 i) S1x1x8x256.size (k0_off2_inb i)).toLoadRect = prevG i k := by
  unfold prevG carried
  rw [if_pos hc1]
  exact load_inside k (k0_off1_inb i hc1) (k0_off2_inb i) (k0_pay5 (F := F)) (off2_in i)

/-- The value half's carried rows as loaded after the reset at the first row tile of a sequence. -/
theorem prevV_reset (i : grid0.Coords) (hc1 : k0_cond1 i = 1#1) {M : Memref sig .tc .vmem S2x11x8x256 .f32} (k : Vec F S2x11x8x256 .f32) :
    M.view.readCov [⟨Rect.unit (s := S2x11x8x256) (k0_off1 i) S2x1x8x256.size (k0_off1_inb i hc1), k0_pay5 (F := F)⟩]
      (Rect.unit (s := S2x11x8x256) (k0_off3 i) S1x1x8x256.size (k0_off3_inb i)).toLoadRect = prevV i k := by
  unfold prevV carried
  rw [if_pos hc1]
  exact load_inside k (k0_off1_inb i hc1) (k0_off3_inb i) (k0_pay5 (F := F)) (off3_in i)

/-- The gate half's carried rows as loaded at a later row tile of a sequence. -/
theorem prevG_kept (i : grid0.Coords) (hc1 : ¬k0_cond1 i = 1#1) {M : Memref sig .tc .vmem S2x11x8x256 .f32} (h : M.IsWhole)
    (k : Vec F S2x11x8x256 .f32) :
    M.view.readAt (Elt F) (Rect.unit (s := S2x11x8x256) (k0_off2 i) S1x1x8x256.size (k0_off2_inb i)).toLoadRect (h.unread k) = prevG i k := by
  unfold prevG carried
  rw [if_neg hc1]
  exact load_window h k (k0_off2_inb i)

/-- The value half's carried rows as loaded at a later row tile of a sequence. -/
theorem prevV_kept (i : grid0.Coords) (hc1 : ¬k0_cond1 i = 1#1) {M : Memref sig .tc .vmem S2x11x8x256 .f32} (h : M.IsWhole)
    (k : Vec F S2x11x8x256 .f32) :
    M.view.readAt (Elt F) (Rect.unit (s := S2x11x8x256) (k0_off3 i) S1x1x8x256.size (k0_off3_inb i)).toLoadRect (h.unread k) = prevV i k := by
  unfold prevV carried
  rw [if_neg hc1]
  exact load_window h k (k0_off3_inb i)

/-- The point's part of the second product, from what each load read. -/
theorem part_of (i : grid0.Coords) {x0 l0 : Vec F S1024x1024 .bf16} {x2 x3 l2 l3 : Vec F S1024x256 .bf16}
    {x4 x5 l4 l5 : Vec F S3x256 .f32} {x6 x7 l6 l7 : Vec F S1x256 .f32} {x8 l8 : Vec F S256x1024 .bf16}
    {k : Vec F S2x11x8x256 .f32} {lg lv : Vec F S1x1x8x256 .f32}
    (h0 : l0 = x0) (h2 : l2 = x2) (h3 : l3 = x3) (h4 : l4 = x4) (h5 : l5 = x5) (h6 : l6 = x6) (h7 : l7 = x7) (h8 : l8 = x8)
    (hg : lg = prevG i k) (hv : lv = prevV i k) :
    k0_pay14 (k0_pay7 l0 l3) (k0_pay9 lv) (k0_pay12 (k0_pay6 l0 l2) (k0_pay8 lg) l4 l6) (k0_pay13 l5) l7 l8
      = partAt i x0 x2 x3 x4 x5 x6 x7 x8 k := by
  subst h0 h2 h3 h4 h5 h6 h7 h8 hg hv; rfl

/-- The sum a first column tile leaves. -/
theorem next_first (i : grid0.Coords) (h : isFirst i = 1#1) {p q a : Vec F S1024x1024 .f32} (hp : p = q) : k0_pay1 p = nextA i q a := by
  subst hp; unfold nextA; rw [if_pos h]

/-- The sum a later column tile leaves. -/
theorem next_later (i : grid0.Coords) (h : ¬isFirst i = 1#1) {p q a b : Vec F S1024x1024 .f32} (hp : p = q) (ha : b = a) :
    k0_pay2 p b = nextA i q a := by
  subst hp ha; unfold nextA; rw [if_neg h]

/-- The first result's block, from what each load read. -/
theorem out3_of {x l a b : Vec F S1024x1024 .f32} (h : l = x) (ha : b = a) : k0_pay3 l b = k0_pay3 x a := by
  subst h ha; rfl

/-- The second result's block, from what each load read. -/
theorem out4_of {x l a b : Vec F S1024x1024 .f32} {g lg : Vec F S1x1024 .f32} (h : l = x) (ha : b = a) (hg : lg = g) :
    k0_pay4 l b lg = k0_pay4 x a g := by
  subst h ha hg; rfl

/-- The carried rows left at the first row tile of a sequence. -/
theorem nextK_reset (i : grid0.Coords) (hc1 : k0_cond1 i = 1#1) {M : Memref sig .tc .vmem S2x11x8x256 .f32} (h : M.IsWhole)
    {x0 l0 l0' : Vec F S1024x1024 .bf16} {x2 x3 l2 l3 : Vec F S1024x256 .bf16} (k : Vec F S2x11x8x256 .f32)
    (h0 : l0 = x0) (h0' : l0' = x0) (h2 : l2 = x2) (h3 : l3 = x3) :
    M.view.read (Elt F) (M.view.writes (Elt F) (h.unread k)
      [⟨Rect.unit (s := S2x11x8x256) (k0_off3 i) S1x1x8x256.size (k0_off3_inb i), k0_pay11 (k0_pay7 l0 l3)⟩,
        ⟨Rect.unit (s := S2x11x8x256) (k0_off2 i) S1x1x8x256.size (k0_off2_inb i), k0_pay10 l0' l2⟩,
        ⟨Rect.unit (s := S2x11x8x256) (k0_off1 i) S2x1x8x256.size (k0_off1_inb i hc1), k0_pay5 (F := F)⟩]) = nextK i x0 x2 x3 k := by
  subst h0 h0' h2 h3
  unfold nextK carried
  rw [if_pos hc1, View.read_writes_cons_put _ _ _ _ _ rfl, View.read_writes_cons_put _ _ _ _ _ rfl,
    View.read_writes_cons_put _ _ _ _ _ rfl, View.writes_nil, h.read_unread]

/-- The carried rows left at a later row tile of a sequence. -/
theorem nextK_kept (i : grid0.Coords) (hc1 : ¬k0_cond1 i = 1#1) {M : Memref sig .tc .vmem S2x11x8x256 .f32} (h : M.IsWhole)
    {x0 l0 l0' : Vec F S1024x1024 .bf16} {x2 x3 l2 l3 : Vec F S1024x256 .bf16} (k : Vec F S2x11x8x256 .f32)
    (h0 : l0 = x0) (h0' : l0' = x0) (h2 : l2 = x2) (h3 : l3 = x3) :
    M.view.read (Elt F) (M.view.writes (Elt F) (h.unread k)
      [⟨Rect.unit (s := S2x11x8x256) (k0_off3 i) S1x1x8x256.size (k0_off3_inb i), k0_pay11 (k0_pay7 l0 l3)⟩,
        ⟨Rect.unit (s := S2x11x8x256) (k0_off2 i) S1x1x8x256.size (k0_off2_inb i), k0_pay10 l0' l2⟩]) = nextK i x0 x2 x3 k := by
  subst h0 h0' h2 h3
  unfold nextK carried
  rw [if_neg hc1, View.read_writes_cons_put _ _ _ _ _ rfl, View.read_writes_cons_put _ _ _ _ _ rfl,
    View.writes_nil, h.read_unread]

/-! ## The six cases -/

section Cases

variable (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S3x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .f32) (harg14 : arg14.IsWhole) (arg15 : Memref sig .tc .vmem S2x11x8x256 .f32) (harg15 : arg15.IsWhole)
    (x0 : Vec F S1024x1024 .bf16) (x1 : Vec F S1024x1024 .f32) (x2 : Vec F S1024x256 .bf16) (x3 : Vec F S1024x256 .bf16) (x4 : Vec F S3x256 .f32) (x5 : Vec F S3x256 .f32) (x6 : Vec F S1x256 .f32) (x7 : Vec F S1x256 .f32) (x8 : Vec F S256x1024 .bf16) (x9 : Vec F S1x1024 .f32) (xa : Vec F S1024x1024 .f32) (xk : Vec F S2x11x8x256 .f32)

set_option quotPrecheck false

local notation "body₀" => (cc0_conv_gated_ffn i arg2 harg2 arg3 harg3 arg4 harg4 arg5 harg5 arg6 harg6 arg7 harg7 arg8 harg8 arg9 harg9 arg10 harg10 arg11 harg11 arg12 harg12 arg13 harg13 arg14 harg14 arg15 harg15)

local notation "withIns₀ " P:max => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ P)

set_option maxHeartbeats 1000000 in
/-- The body at the first column tile of the first row tile of a sequence: the inputs stay as they were, the sum and the carried rows end at what
    the point computes. -/
theorem runFirst1
    (hc1 : k0_cond1 i = 1#1) (hc2 : isFirst i = 1#1) (hc3 : ¬isLater i = 1#1) (hc4 : ¬k0_cond4 i = 1#1)
    (E : Set ℕ) (K : PUnit → sProp 𝕄) :
    withIns₀ iprop(owns (c : Thread nD τ) arg14 fullShare xa ∗ owns (c : Thread nD τ) arg15 fullShare xk
        ∗ (withIns₀ iprop(owns (c : Thread nD τ) arg14 fullShare (nextA i (partAt i x0 x2 x3 x4 x5 x6 x7 x8 xk) xa) ∗ owns (c : Thread nD τ) arg15 fullShare (nextK i x0 x2 x3 xk)) -∗ K ⟨⟩))
      ⊢ wp frame (wpE (defs₀ (F := F)) Variants.none c none) E body₀ K := by
  simp only [cc0_conv_gated_ffn_eq_skeleton]; unfold cc0_conv_gated_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HSa⟩, ⟨%fk, %hfk, HSk⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfa; obtain rfl := harg15.eq_unread hfk
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HSa]
  · iexists _; isplitr; swap; · iexact HSa
    ipureintro
    sl_unfold_words
    exact (View.read_writes_full _ _ _ _ _).trans (next_first i hc2 (part_of i (load_full harg2 x0 _) (load_full harg4 x2 _) (load_full harg5 x3 _) (load_full harg6 x4 _) (load_full harg7 x5 _) (load_full harg8 x6 _) (load_full harg9 x7 _) (load_full harg10 x8 _) (prevG_reset i hc1 xk) (prevV_reset i hc1 xk)))
  iexists _; isplitr; swap; · iexact HSk
  ipureintro
  sl_unfold_words
  exact nextK_reset i hc1 harg15 xk (load_full harg2 x0 _) (load_full harg2 x0 _) (load_full harg4 x2 _) (load_full harg5 x3 _)

set_option maxHeartbeats 1000000 in
/-- The body at the middle column tile of the first row tile of a sequence: the inputs stay as they were, the sum and the carried rows end at what
    the point computes. -/
theorem runMid1
    (hc1 : k0_cond1 i = 1#1) (hc2 : ¬isFirst i = 1#1) (hc3 : isLater i = 1#1) (hc4 : ¬k0_cond4 i = 1#1)
    (E : Set ℕ) (K : PUnit → sProp 𝕄) :
    withIns₀ iprop(owns (c : Thread nD τ) arg14 fullShare xa ∗ owns (c : Thread nD τ) arg15 fullShare xk
        ∗ (withIns₀ iprop(owns (c : Thread nD τ) arg14 fullShare (nextA i (partAt i x0 x2 x3 x4 x5 x6 x7 x8 xk) xa) ∗ owns (c : Thread nD τ) arg15 fullShare (nextK i x0 x2 x3 xk)) -∗ K ⟨⟩))
      ⊢ wp frame (wpE (defs₀ (F := F)) Variants.none c none) E body₀ K := by
  simp only [cc0_conv_gated_ffn_eq_skeleton]; unfold cc0_conv_gated_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HSa⟩, ⟨%fk, %hfk, HSk⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfa; obtain rfl := harg15.eq_unread hfk
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HSa]
  · iexists _; isplitr; swap; · iexact HSa
    ipureintro
    sl_unfold_words
    exact (View.read_writes_full _ _ _ _ _).trans (next_later i hc2 (part_of i (load_full harg2 x0 _) (load_full harg4 x2 _) (load_full harg5 x3 _) (load_full harg6 x4 _) (load_full harg7 x5 _) (load_full harg8 x6 _) (load_full harg9 x7 _) (load_full harg10 x8 _) (prevG_reset i hc1 xk) (prevV_reset i hc1 xk)) (load_full harg14 xa _))
  iexists _; isplitr; swap; · iexact HSk
  ipureintro
  sl_unfold_words
  exact nextK_reset i hc1 harg15 xk (load_full harg2 x0 _) (load_full harg2 x0 _) (load_full harg4 x2 _) (load_full harg5 x3 _)

set_option maxHeartbeats 1000000 in
/-- The body at the last column tile of the first row tile of a sequence: the inputs stay as they were, the sum and the carried rows end at what
    the point computes, and the two results are stored from the finished sum. -/
theorem runLast1
    (hc1 : k0_cond1 i = 1#1) (hc2 : ¬isFirst i = 1#1) (hc3 : isLater i = 1#1) (hc4 : k0_cond4 i = 1#1)
    (E : Set ℕ) (K : PUnit → sProp 𝕄) :
    withIns₀ iprop((∃ d, owns (c : Thread nD τ) arg12 fullShare d) ∗ (∃ d, owns (c : Thread nD τ) arg13 fullShare d) ∗ owns (c : Thread nD τ) arg14 fullShare xa ∗ owns (c : Thread nD τ) arg15 fullShare xk
        ∗ (withIns₀ iprop(owns (c : Thread nD τ) arg12 fullShare (k0_pay3 x1 (nextA i (partAt i x0 x2 x3 x4 x5 x6 x7 x8 xk) xa)) ∗ owns (c : Thread nD τ) arg13 fullShare (k0_pay4 x1 (nextA i (partAt i x0 x2 x3 x4 x5 x6 x7 x8 xk) xa) x9) ∗ owns (c : Thread nD τ) arg14 fullShare (nextA i (partAt i x0 x2 x3 x4 x5 x6 x7 x8 xk) xa) ∗ owns (c : Thread nD τ) arg15 fullShare (nextK i x0 x2 x3 xk)) -∗ K ⟨⟩))
      ⊢ wp frame (wpE (defs₀ (F := F)) Variants.none c none) E body₀ K := by
  simp only [cc0_conv_gated_ffn_eq_skeleton]; unfold cc0_conv_gated_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d13, %f13, -, H13⟩, ⟨%fa, %hfa, HSa⟩, ⟨%fk, %hfk, HSk⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfa; obtain rfl := harg15.eq_unread hfk
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H12]
  · iexists _; isplitr; swap; · iexact H12
    ipureintro
    sl_unfold_words
    exact (View.read_writes_full _ _ _ _ _).trans (out3_of (load_full harg3 x1 _) ((View.readCov_full _ _ _ _ _).trans (next_later i hc2 (part_of i (load_full harg2 x0 _) (load_full harg4 x2 _) (load_full harg5 x3 _) (load_full harg6 x4 _) (load_full harg7 x5 _) (load_full harg8 x6 _) (load_full harg9 x7 _) (load_full harg10 x8 _) (prevG_reset i hc1 xk) (prevV_reset i hc1 xk)) (load_full harg14 xa _))))
  isplitl [H13]
  · iexists _; isplitr; swap; · iexact H13
    ipureintro
    sl_unfold_words
    exact (View.read_writes_full _ _ _ _ _).trans (out4_of (load_full harg3 x1 _) ((View.readCov_full _ _ _ _ _).trans (next_later i hc2 (part_of i (load_full harg2 x0 _) (load_full harg4 x2 _) (load_full harg5 x3 _) (load_full harg6 x4 _) (load_full harg7 x5 _) (load_full harg8 x6 _) (load_full harg9 x7 _) (load_full harg10 x8 _) (prevG_reset i hc1 xk) (prevV_reset i hc1 xk)) (load_full harg14 xa _))) (load_full harg11 x9 _))
  isplitl [HSa]
  · iexists _; isplitr; swap; · iexact HSa
    ipureintro
    sl_unfold_words
    exact (View.read_writes_full _ _ _ _ _).trans (next_later i hc2 (part_of i (load_full harg2 x0 _) (load_full harg4 x2 _) (load_full harg5 x3 _) (load_full harg6 x4 _) (load_full harg7 x5 _) (load_full harg8 x6 _) (load_full harg9 x7 _) (load_full harg10 x8 _) (prevG_reset i hc1 xk) (prevV_reset i hc1 xk)) (load_full harg14 xa _))
  iexists _; isplitr; swap; · iexact HSk
  ipureintro
  sl_unfold_words
  exact nextK_reset i hc1 harg15 xk (load_full harg2 x0 _) (load_full harg2 x0 _) (load_full harg4 x2 _) (load_full harg5 x3 _)

set_option maxHeartbeats 1000000 in
/-- The body at the first column tile of a later row tile of a sequence: the inputs stay as they were, the sum and the carried rows end at what
    the point computes. -/
theorem runFirst0
    (hc1 : ¬k0_cond1 i = 1#1) (hc2 : isFirst i = 1#1) (hc3 : ¬isLater i = 1#1) (hc4 : ¬k0_cond4 i = 1#1)
    (E : Set ℕ) (K : PUnit → sProp 𝕄) :
    withIns₀ iprop(owns (c : Thread nD τ) arg14 fullShare xa ∗ owns (c : Thread nD τ) arg15 fullShare xk
        ∗ (withIns₀ iprop(owns (c : Thread nD τ) arg14 fullShare (nextA i (partAt i x0 x2 x3 x4 x5 x6 x7 x8 xk) xa) ∗ owns (c : Thread nD τ) arg15 fullShare (nextK i x0 x2 x3 xk)) -∗ K ⟨⟩))
      ⊢ wp frame (wpE (defs₀ (F := F)) Variants.none c none) E body₀ K := by
  simp only [cc0_conv_gated_ffn_eq_skeleton]; unfold cc0_conv_gated_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HSa⟩, ⟨%fk, %hfk, HSk⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfa; obtain rfl := harg15.eq_unread hfk
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HSa]
  · iexists _; isplitr; swap; · iexact HSa
    ipureintro
    sl_unfold_words
    exact (View.read_writes_full _ _ _ _ _).trans (next_first i hc2 (part_of i (load_full harg2 x0 _) (load_full harg4 x2 _) (load_full harg5 x3 _) (load_full harg6 x4 _) (load_full harg7 x5 _) (load_full harg8 x6 _) (load_full harg9 x7 _) (load_full harg10 x8 _) (prevG_kept i hc1 harg15 xk) (prevV_kept i hc1 harg15 xk)))
  iexists _; isplitr; swap; · iexact HSk
  ipureintro
  sl_unfold_words
  exact nextK_kept i hc1 harg15 xk (load_full harg2 x0 _) (load_full harg2 x0 _) (load_full harg4 x2 _) (load_full harg5 x3 _)

set_option maxHeartbeats 1000000 in
/-- The body at the middle column tile of a later row tile of a sequence: the inputs stay as they were, the sum and the carried rows end at what
    the point computes. -/
theorem runMid0
    (hc1 : ¬k0_cond1 i = 1#1) (hc2 : ¬isFirst i = 1#1) (hc3 : isLater i = 1#1) (hc4 : ¬k0_cond4 i = 1#1)
    (E : Set ℕ) (K : PUnit → sProp 𝕄) :
    withIns₀ iprop(owns (c : Thread nD τ) arg14 fullShare xa ∗ owns (c : Thread nD τ) arg15 fullShare xk
        ∗ (withIns₀ iprop(owns (c : Thread nD τ) arg14 fullShare (nextA i (partAt i x0 x2 x3 x4 x5 x6 x7 x8 xk) xa) ∗ owns (c : Thread nD τ) arg15 fullShare (nextK i x0 x2 x3 xk)) -∗ K ⟨⟩))
      ⊢ wp frame (wpE (defs₀ (F := F)) Variants.none c none) E body₀ K := by
  simp only [cc0_conv_gated_ffn_eq_skeleton]; unfold cc0_conv_gated_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fa, %hfa, HSa⟩, ⟨%fk, %hfk, HSk⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfa; obtain rfl := harg15.eq_unread hfk
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HSa]
  · iexists _; isplitr; swap; · iexact HSa
    ipureintro
    sl_unfold_words
    exact (View.read_writes_full _ _ _ _ _).trans (next_later i hc2 (part_of i (load_full harg2 x0 _) (load_full harg4 x2 _) (load_full harg5 x3 _) (load_full harg6 x4 _) (load_full harg7 x5 _) (load_full harg8 x6 _) (load_full harg9 x7 _) (load_full harg10 x8 _) (prevG_kept i hc1 harg15 xk) (prevV_kept i hc1 harg15 xk)) (load_full harg14 xa _))
  iexists _; isplitr; swap; · iexact HSk
  ipureintro
  sl_unfold_words
  exact nextK_kept i hc1 harg15 xk (load_full harg2 x0 _) (load_full harg2 x0 _) (load_full harg4 x2 _) (load_full harg5 x3 _)

set_option maxHeartbeats 1000000 in
/-- The body at the last column tile of a later row tile of a sequence: the inputs stay as they were, the sum and the carried rows end at what
    the point computes, and the two results are stored from the finished sum. -/
theorem runLast0
    (hc1 : ¬k0_cond1 i = 1#1) (hc2 : ¬isFirst i = 1#1) (hc3 : isLater i = 1#1) (hc4 : k0_cond4 i = 1#1)
    (E : Set ℕ) (K : PUnit → sProp 𝕄) :
    withIns₀ iprop((∃ d, owns (c : Thread nD τ) arg12 fullShare d) ∗ (∃ d, owns (c : Thread nD τ) arg13 fullShare d) ∗ owns (c : Thread nD τ) arg14 fullShare xa ∗ owns (c : Thread nD τ) arg15 fullShare xk
        ∗ (withIns₀ iprop(owns (c : Thread nD τ) arg12 fullShare (k0_pay3 x1 (nextA i (partAt i x0 x2 x3 x4 x5 x6 x7 x8 xk) xa)) ∗ owns (c : Thread nD τ) arg13 fullShare (k0_pay4 x1 (nextA i (partAt i x0 x2 x3 x4 x5 x6 x7 x8 xk) xa) x9) ∗ owns (c : Thread nD τ) arg14 fullShare (nextA i (partAt i x0 x2 x3 x4 x5 x6 x7 x8 xk) xa) ∗ owns (c : Thread nD τ) arg15 fullShare (nextK i x0 x2 x3 xk)) -∗ K ⟨⟩))
      ⊢ wp frame (wpE (defs₀ (F := F)) Variants.none c none) E body₀ K := by
  simp only [cc0_conv_gated_ffn_eq_skeleton]; unfold cc0_conv_gated_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d13, %f13, -, H13⟩, ⟨%fa, %hfa, HSa⟩, ⟨%fk, %hfk, HSk⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfa; obtain rfl := harg15.eq_unread hfk
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H12]
  · iexists _; isplitr; swap; · iexact H12
    ipureintro
    sl_unfold_words
    exact (View.read_writes_full _ _ _ _ _).trans (out3_of (load_full harg3 x1 _) ((View.readCov_full _ _ _ _ _).trans (next_later i hc2 (part_of i (load_full harg2 x0 _) (load_full harg4 x2 _) (load_full harg5 x3 _) (load_full harg6 x4 _) (load_full harg7 x5 _) (load_full harg8 x6 _) (load_full harg9 x7 _) (load_full harg10 x8 _) (prevG_kept i hc1 harg15 xk) (prevV_kept i hc1 harg15 xk)) (load_full harg14 xa _))))
  isplitl [H13]
  · iexists _; isplitr; swap; · iexact H13
    ipureintro
    sl_unfold_words
    exact (View.read_writes_full _ _ _ _ _).trans (out4_of (load_full harg3 x1 _) ((View.readCov_full _ _ _ _ _).trans (next_later i hc2 (part_of i (load_full harg2 x0 _) (load_full harg4 x2 _) (load_full harg5 x3 _) (load_full harg6 x4 _) (load_full harg7 x5 _) (load_full harg8 x6 _) (load_full harg9 x7 _) (load_full harg10 x8 _) (prevG_kept i hc1 harg15 xk) (prevV_kept i hc1 harg15 xk)) (load_full harg14 xa _))) (load_full harg11 x9 _))
  isplitl [HSa]
  · iexists _; isplitr; swap; · iexact HSa
    ipureintro
    sl_unfold_words
    exact (View.read_writes_full _ _ _ _ _).trans (next_later i hc2 (part_of i (load_full harg2 x0 _) (load_full harg4 x2 _) (load_full harg5 x3 _) (load_full harg6 x4 _) (load_full harg7 x5 _) (load_full harg8 x6 _) (load_full harg9 x7 _) (load_full harg10 x8 _) (prevG_kept i hc1 harg15 xk) (prevV_kept i hc1 harg15 xk)) (load_full harg14 xa _))
  iexists _; isplitr; swap; · iexact HSk
  ipureintro
  sl_unfold_words
  exact nextK_kept i hc1 harg15 xk (load_full harg2 x0 _) (load_full harg2 x0 _) (load_full harg4 x2 _) (load_full harg5 x3 _)

end Cases

end Cert.FfnIdeal.Hand

end
-- ==== Proof.FfnIdealFrame.lean ====
/-
  The run of the feed-forward kernel over its grid. Between points it keeps the running sum of a row tile and, per column
  tile, the last rows of the two products; both are tracked at what the blocks give, so that the two results' blocks are
  known in closed form. From the run: the arguments unchanged, the counters at zero, the results' arrays.
-/
module

public import proofs.«01_k».proof.Proof.FfnIdealBody
public import proofs.«01_k».proof.Proof.Gen.FfnIdeal.Frame
public import proofs.«01_k».proof.Proof.Gen.FfnIdeal.Skeleton
public import proofs.«01_k».proof.Proof.Gen.FfnIdeal.Points
public import Idealize.ShloMosaic.Lib.Claim
public import proofs.«01_k».proof.Proof.FfnFrame

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The grid point of a row tile and a column tile. -/
def pt (a : Fin 16) (b : Fin 11) : grid0.Coords := fun k => match k with | ⟨0, _⟩ => a | ⟨1, _⟩ => b

/-- A window at equal offsets is the same window. -/
theorem window_at_eq (k : Vec F S2x11x8x256 .f32) {off off' : Fin 4 → ℕ} (e : off = off')
    (inb : ∀ a, off a + S1x1x8x256.size a ≤ S2x11x8x256.size a) (inb' : ∀ a, off' a + S1x1x8x256.size a ≤ S2x11x8x256.size a) :
    VecWindow.window k off S1x1x8x256.size inb = VecWindow.window k off' S1x1x8x256.size inb' := by
  subst e; rfl

variable (m : (ℓ : Loc nD τ sig) → Buf (Elt F) ℓ) (ρ : Dev nD → PrngReg)

/-! ## The points -/

/-- The row tile of a point. -/
theorem coords0 (t : Fin cfg0.N) : (grid0.coords t 0).val = t.val / 11 := by
  have h : (grid0.coords t 0).val = t.val / 11 % 16 := Pipeline.Grid.coords_val t 0 (by decide) rfl
  have := t.isLt
  have hN : cfg0.N = 176 := N_0
  omega

/-- The column tile of a point. -/
theorem coords1 (t : Fin cfg0.N) : (grid0.coords t 1).val = t.val % 11 := by
  have h : (grid0.coords t 1).val = t.val / 1 % 11 := Pipeline.Grid.coords_val t 1 (by decide) rfl
  omega

/-- The carried rows are set to zero at the even row tiles: those that start a sequence. -/
theorem cond1_iff (t : Fin cfg0.N) : k0_cond1 (grid0.coords t) = 1#1 ↔ (t.val / 11) % 2 = 0 := by
  have key : ∀ a : Fin 16, k0_cond1 (pt a 0) = 1#1 ↔ a.val % 2 = 0 := by decide
  rw [← coords0 t]
  exact key (grid0.coords t 0)

/-- The sum starts at the first column tile. -/
theorem first_iff (t : Fin cfg0.N) : isFirst (grid0.coords t) = 1#1 ↔ t.val % 11 = 0 := by
  have key : ∀ a : Fin 11, Scalar.cmpi .ne (Scalar.extui (Scalar.cmpi .eq (BitVec.ofNat 32 a.val) 0#32) : BitVec 32) 0#32 = 1#1 ↔ a.val = 0 := by decide
  rw [← coords1 t]
  exact key (grid0.coords t 1)

/-- The sum is added to at the later column tiles. -/
theorem later_iff (t : Fin cfg0.N) : isLater (grid0.coords t) = 1#1 ↔ t.val % 11 ≠ 0 := by
  have key : ∀ a : Fin 11, Scalar.cmpi .ne (Scalar.extui (Scalar.cmpi .sgt (BitVec.ofNat 32 a.val) 0#32) : BitVec 32) 0#32 = 1#1 ↔ a.val ≠ 0 := by decide
  rw [← coords1 t]
  exact key (grid0.coords t 1)

/-- The results are stored at the last column tile. -/
theorem cond4_iff (t : Fin cfg0.N) : k0_cond4 (grid0.coords t) = 1#1 ↔ t.val % 11 = 10 := by
  have key : ∀ a : Fin 11, k0_cond4 (pt 0 a) = 1#1 ↔ a.val = 10 := by decide
  rw [← coords1 t]
  exact key (grid0.coords t 1)

/-! ## The carried rows and the sum, from the blocks -/

/-- The rows point `t` leaves for the next row tile: the last rows of its gate product. -/
def gRows (c : Dev nD) (t : Fin cfg0.N) : Vec F S1x1x8x256 .f32 := k0_pay10 (iblk m c 0 t) (iblk m c 2 t)

/-- The rows point `t` leaves for the next row tile: the last rows of its value product. -/
def vRows (c : Dev nD) (t : Fin cfg0.N) : Vec F S1x1x8x256 .f32 := k0_pay11 (k0_pay7 (iblk m c 0 t) (iblk m c 3 t))

/-- Rows of zeros. -/
def zRows : Vec F S1x1x8x256 .f32 := fun _ => Scalar.ofBits .f32 0x00000000#32

/-- The point of the same column tile in the row tile before. -/
def back (t : Fin cfg0.N) : Fin cfg0.N := ⟨t.val - 11, Nat.lt_of_le_of_lt (Nat.sub_le _ _) t.isLt⟩

/-- The gate rows point `t` uses from before its row tile: zeros where a sequence starts, else those the row tile before left. -/
def gPrev (c : Dev nD) (t : Fin cfg0.N) : Vec F S1x1x8x256 .f32 :=
  if (t.val / 11) % 2 = 0 then zRows else gRows m c (back t)

/-- The value rows point `t` uses from before its row tile. -/
def vPrev (c : Dev nD) (t : Fin cfg0.N) : Vec F S1x1x8x256 .f32 :=
  if (t.val / 11) % 2 = 0 then zRows else vRows m c (back t)

/-- Point `t`'s part of the second product, from the blocks alone. -/
def partOf (c : Dev nD) (t : Fin cfg0.N) : Vec F S1024x1024 .f32 :=
  k0_pay14 (k0_pay7 (iblk m c 0 t) (iblk m c 3 t)) (k0_pay9 (vPrev m c t))
    (k0_pay12 (k0_pay6 (iblk m c 0 t) (iblk m c 2 t)) (k0_pay8 (gPrev m c t)) (iblk m c 4 t) (iblk m c 6 t))
    (k0_pay13 (iblk m c 5 t)) (iblk m c 7 t) (iblk m c 8 t)

/-- The sum after point `n`: the parts of its row tile's column tiles up to it. -/
def accAt (c : Dev nD) : (n : ℕ) → n < cfg0.N → Vec F S1024x1024 .f32
  | 0, h => k0_pay1 (partOf m c ⟨0, h⟩)
  | n + 1, h => nextA (grid0.coords ⟨n + 1, h⟩) (partOf m c ⟨n + 1, h⟩) (accAt c n (Nat.lt_of_succ_lt h))

/-- Before point `n` the carried rows hold, for every column tile, what its last point before left. -/
def Held (c : Dev nD) (n : ℕ) (k : Vec F S2x11x8x256 .f32) : Prop :=
  ∀ t : Fin cfg0.N, t.val < n → n ≤ t.val + 11 →
    VecWindow.window k (k0_off2 (grid0.coords t)) S1x1x8x256.size (k0_off2_inb (grid0.coords t)) = gRows m c t
    ∧ VecWindow.window k (k0_off3 (grid0.coords t)) S1x1x8x256.size (k0_off3_inb (grid0.coords t)) = vRows m c t

/-- Before point `n` the sum is that of the row tile so far. -/
def Summed (c : Dev nD) (n : ℕ) (a : Vec F S1024x1024 .f32) : Prop :=
  ∀ (p : ℕ) (h : p < cfg0.N), n = p + 1 → n % 11 ≠ 0 → a = accAt m c p h

/-- What the two buffers kept between points hold before point `n`. -/
def Good (c : Dev nD) (n : ℕ) (a : Vec F S1024x1024 .f32) (k : Vec F S2x11x8x256 .f32) : Prop :=
  Summed m c n a ∧ Held m c n k

/-- The column coordinate of the rows both halves hold for a point. -/
theorem off1_col (t : Fin cfg0.N) : k0_off1 (grid0.coords t) 1 = t.val % 11 := by
  have key : ∀ a : Fin 11, k0_off1 (pt 0 a) 1 = a.val := by decide
  rw [← coords1 t]
  exact key (grid0.coords t 1)

/-- The column coordinate of the gate half's rows. -/
theorem off2_col (t : Fin cfg0.N) : k0_off2 (grid0.coords t) 1 = t.val % 11 := off1_col t

/-- The column coordinate of the value half's rows. -/
theorem off3_col (t : Fin cfg0.N) : k0_off3 (grid0.coords t) 1 = t.val % 11 := off1_col t

/-- Setting a column tile's rows to zero leaves the rows of another column tile. -/
theorem window_carried (t : Fin cfg0.N) (k : Vec F S2x11x8x256 .f32) (off : Fin 4 → ℕ)
    (inb : ∀ a, off a + S1x1x8x256.size a ≤ S2x11x8x256.size a) (h : off 1 ≠ t.val % 11) :
    VecWindow.window (carried (grid0.coords t) k) off S1x1x8x256.size inb = VecWindow.window k off S1x1x8x256.size inb := by
  unfold carried
  split
  · refine VecWindow.window_put_of_disjoint k (k0_off1 (grid0.coords t)) S2x1x8x256.size off S1x1x8x256.size inb _ (1 : Fin 4) ?_
    rw [off1_col]
    show off 1 + 1 ≤ t.val % 11 ∨ t.val % 11 + 1 ≤ off 1
    omega
  · rfl

/-- Storing a point's rows leaves the rows of another column tile. -/
theorem window_nextK (t : Fin cfg0.N) (x0 : Vec F S1024x1024 .bf16) (x2 x3 : Vec F S1024x256 .bf16)
    (k : Vec F S2x11x8x256 .f32) (off : Fin 4 → ℕ)
    (inb : ∀ a, off a + S1x1x8x256.size a ≤ S2x11x8x256.size a) (h : off 1 ≠ t.val % 11) :
    VecWindow.window (nextK (grid0.coords t) x0 x2 x3 k) off S1x1x8x256.size inb = VecWindow.window k off S1x1x8x256.size inb := by
  unfold nextK
  refine (VecWindow.window_put_of_disjoint (s := S2x11x8x256) _ (k0_off3 (grid0.coords t)) S1x1x8x256.size off S1x1x8x256.size inb _ (1 : Fin 4) ?_).trans
    ((VecWindow.window_put_of_disjoint (s := S2x11x8x256) _ (k0_off2 (grid0.coords t)) S1x1x8x256.size off S1x1x8x256.size inb _ (1 : Fin 4) ?_).trans
      (window_carried t k off inb h))
  · rw [off3_col]; show off 1 + 1 ≤ t.val % 11 ∨ t.val % 11 + 1 ≤ off 1; omega
  · rw [off2_col]; show off 1 + 1 ≤ t.val % 11 ∨ t.val % 11 + 1 ≤ off 1; omega

/-- After a point the carried rows hold what its column tile's last point, and every other's, left. -/
theorem held_next (c : Dev nD) (t : Fin cfg0.N) (k : Vec F S2x11x8x256 .f32) (h : Held m c t.val k) :
    Held m c (t.val + 1) (nextK (grid0.coords t) (iblk m c 0 t) (iblk m c 2 t) (iblk m c 3 t) k) := by
  intro u hu hu'
  by_cases e : u = t
  · subst e
    unfold nextK
    refine ⟨(VecWindow.window_put_of_disjoint (s := S2x11x8x256) _ (k0_off3 (grid0.coords u)) S1x1x8x256.size (k0_off2 (grid0.coords u)) S1x1x8x256.size
      (k0_off2_inb _) _ (0 : Fin 4) (Or.inl (show 0 + 1 ≤ 1 from Nat.le_refl _))).trans
      (VecWindow.window_put_same (s := S2x11x8x256) _ _ _ (k0_off2_inb _) _), VecWindow.window_put_same (s := S2x11x8x256) _ _ _ (k0_off3_inb _) _⟩
  · have hne : u.val ≠ t.val := fun h => e (Fin.ext h)
    have hmod : u.val % 11 ≠ t.val % 11 := by omega
    have hh := h u (by omega) (by omega)
    exact ⟨(window_nextK t _ _ _ k _ (k0_off2_inb _) (by rw [off2_col]; exact hmod)).trans hh.1,
      (window_nextK t _ _ _ k _ (k0_off3_inb _) (by rw [off3_col]; exact hmod)).trans hh.2⟩

/-- A point of a later row tile has the same offsets as the point of its column tile in the row tile before. -/
theorem back_col (t : Fin cfg0.N) (h : (t.val / 11) % 2 ≠ 0) : (grid0.coords (back t) 1) = grid0.coords t 1 := by
  apply Fin.ext
  rw [coords1, coords1]
  show (t.val - 11) % 11 = t.val % 11
  omega

/-- The gate rows the point loads are those the blocks give. -/
theorem prevG_eq (c : Dev nD) (t : Fin cfg0.N) (k : Vec F S2x11x8x256 .f32) (h : Held m c t.val k) :
    prevG (grid0.coords t) k = gPrev m c t := by
  unfold prevG carried gPrev
  by_cases h1 : (t.val / 11) % 2 = 0
  · rw [if_pos ((cond1_iff t).mpr h1), if_pos h1]
    exact (VecWindow.window_put_of_inside k _ _ _ _ (k0_off2_inb _) _ (off2_in (grid0.coords t))).trans rfl
  · rw [if_neg (fun hc => h1 ((cond1_iff t).mp hc)), if_neg h1]
    have hh := (h (back t) (by show t.val - 11 < t.val; omega) (by show t.val ≤ t.val - 11 + 11; omega)).1
    rw [← hh]
    have ho : k0_off2 (grid0.coords (back t)) = k0_off2 (grid0.coords t) := by
      unfold k0_off2; rw [back_col t h1]
    exact window_at_eq k ho.symm _ _

/-- The value rows the point loads are those the blocks give. -/
theorem prevV_eq (c : Dev nD) (t : Fin cfg0.N) (k : Vec F S2x11x8x256 .f32) (h : Held m c t.val k) :
    prevV (grid0.coords t) k = vPrev m c t := by
  unfold prevV carried vPrev
  by_cases h1 : (t.val / 11) % 2 = 0
  · rw [if_pos ((cond1_iff t).mpr h1), if_pos h1]
    exact (VecWindow.window_put_of_inside k _ _ _ _ (k0_off3_inb _) _ (off3_in (grid0.coords t))).trans rfl
  · rw [if_neg (fun hc => h1 ((cond1_iff t).mp hc)), if_neg h1]
    have hh := (h (back t) (by show t.val - 11 < t.val; omega) (by show t.val ≤ t.val - 11 + 11; omega)).2
    rw [← hh]
    have ho : k0_off3 (grid0.coords (back t)) = k0_off3 (grid0.coords t) := by
      unfold k0_off3; rw [back_col t h1]
    exact window_at_eq k ho.symm _ _

/-- The part the point computes is the one the blocks give. -/
theorem partAt_eq (c : Dev nD) (t : Fin cfg0.N) (k : Vec F S2x11x8x256 .f32) (h : Held m c t.val k) :
    partAt (grid0.coords t) (iblk m c 0 t) (iblk m c 2 t) (iblk m c 3 t) (iblk m c 4 t) (iblk m c 5 t) (iblk m c 6 t)
      (iblk m c 7 t) (iblk m c 8 t) k = partOf m c t := by
  unfold partAt partOf
  rw [prevG_eq m c t k h, prevV_eq m c t k h]

/-- The sum the point leaves is the one the blocks give. -/
theorem out_acc (c : Dev nD) (t : Fin cfg0.N) (a : Vec F S1024x1024 .f32) (k : Vec F S2x11x8x256 .f32) (h : Good m c t.val a k) :
    nextA (grid0.coords t) (partAt (grid0.coords t) (iblk m c 0 t) (iblk m c 2 t) (iblk m c 3 t) (iblk m c 4 t) (iblk m c 5 t)
      (iblk m c 6 t) (iblk m c 7 t) (iblk m c 8 t) k) a = accAt m c t.val t.isLt := by
  rw [partAt_eq m c t k h.2]
  obtain ⟨n, hn⟩ := t
  cases n with
  | zero =>
    show nextA _ _ _ = k0_pay1 _
    unfold nextA
    rw [if_pos ((first_iff ⟨0, hn⟩).mpr rfl)]
  | succ n =>
    show _ = nextA _ _ _
    by_cases h0 : (n + 1) % 11 = 0
    · unfold nextA
      rw [if_pos ((first_iff ⟨n + 1, hn⟩).mpr h0), if_pos ((first_iff ⟨n + 1, hn⟩).mpr h0)]
    · rw [h.1 n (Nat.lt_of_succ_lt hn) rfl h0]

/-- What the kept buffers hold before a point gives what they hold after it. -/
theorem good_next (c : Dev nD) (t : Fin cfg0.N) (a : Vec F S1024x1024 .f32) (k : Vec F S2x11x8x256 .f32) (h : Good m c t.val a k) :
    Good m c (t.val + 1)
      (nextA (grid0.coords t) (partAt (grid0.coords t) (iblk m c 0 t) (iblk m c 2 t) (iblk m c 3 t) (iblk m c 4 t) (iblk m c 5 t)
        (iblk m c 6 t) (iblk m c 7 t) (iblk m c 8 t) k) a)
      (nextK (grid0.coords t) (iblk m c 0 t) (iblk m c 2 t) (iblk m c 3 t) k) := by
  refine ⟨?_, held_next m c t k h.2⟩
  intro p hp e _
  have e' : t.val = p := by omega
  subst e'
  exact out_acc m c t a k h

/-! ## The pipeline's proof data -/

/-- What holds before point `n` of the two kept buffers and the core's generator register. -/
def PhiS (c : Dev nD) (n : ℕ) (_ : n ≤ cfg0.N) : sProp 𝕄 :=
  iprop((∃ a k, ⌜Good m c n a k⌝ ∗ owns (c : Thread nD τ) (Memref.whole cc0_scratch0) fullShare a ∗ owns (c : Thread nD τ) (Memref.whole cc0_scratch1) fullShare k)
    ∗ (∃ r, prngReg c r))

/-- The proof data: each input's buffer at its block, the two results' at the row tile's values from the finished sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay3 (iblk m c 1 t) (accAt m c t.val t.isLt)
    | ⟨11, _⟩ => k0_pay4 (iblk m c 1 t) (accAt m c t.val t.isLt) (iblk m c 9 t)
  Φ t := PhiS m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]

/-- Input 0's buffer keeps its block, -/
theorem after0_0 (c : Dev nD) (t : Fin cfg0.N) : (dats m 0 c).after 0 t = iblk m c 0 t := by dsimp only [dats]
/-- and the body finds it there. -/
theorem before0_0 (c : Dev nD) (t : Fin cfg0.N) (d) : (dats m 0 c).before 0 t d = iblk m c 0 t :=
  before0_0_of m (dats m 0 c) (A_eq m c 0) (after0_0 m c) t d
/-- Input 1's buffer keeps its block, -/
theorem after0_1 (c : Dev nD) (t : Fin cfg0.N) : (dats m 0 c).after 1 t = iblk m c 1 t := by dsimp only [dats]
/-- and the body finds it there. -/
theorem before0_1 (c : Dev nD) (t : Fin cfg0.N) (d) : (dats m 0 c).before 1 t d = iblk m c 1 t :=
  before0_1_of m (dats m 0 c) (A_eq m c 1) (after0_1 m c) t d
/-- Input 2's buffer keeps its block, -/
theorem after0_2 (c : Dev nD) (t : Fin cfg0.N) : (dats m 0 c).after 2 t = iblk m c 2 t := by dsimp only [dats]
/-- and the body finds it there. -/
theorem before0_2 (c : Dev nD) (t : Fin cfg0.N) (d) : (dats m 0 c).before 2 t d = iblk m c 2 t :=
  before0_2_of m (dats m 0 c) (A_eq m c 2) (after0_2 m c) t d
/-- Input 3's buffer keeps its block, -/
theorem after0_3 (c : Dev nD) (t : Fin cfg0.N) : (dats m 0 c).after 3 t = iblk m c 3 t := by dsimp only [dats]
/-- and the body finds it there. -/
theorem before0_3 (c : Dev nD) (t : Fin cfg0.N) (d) : (dats m 0 c).before 3 t d = iblk m c 3 t :=
  before0_3_of m (dats m 0 c) (A_eq m c 3) (after0_3 m c) t d
/-- Input 4's buffer keeps its block, -/
theorem after0_4 (c : Dev nD) (t : Fin cfg0.N) : (dats m 0 c).after 4 t = iblk m c 4 t := by dsimp only [dats]
/-- and the body finds it there. -/
theorem before0_4 (c : Dev nD) (t : Fin cfg0.N) (d) : (dats m 0 c).before 4 t d = iblk m c 4 t :=
  before0_4_of m (dats m 0 c) (A_eq m c 4) (after0_4 m c) t d
/-- Input 5's buffer keeps its block, -/
theorem after0_5 (c : Dev nD) (t : Fin cfg0.N) : (dats m 0 c).after 5 t = iblk m c 5 t := by dsimp only [dats]
/-- and the body finds it there. -/
theorem before0_5 (c : Dev nD) (t : Fin cfg0.N) (d) : (dats m 0 c).before 5 t d = iblk m c 5 t :=
  before0_5_of m (dats m 0 c) (A_eq m c 5) (after0_5 m c) t d
/-- Input 6's buffer keeps its block, -/
theorem after0_6 (c : Dev nD) (t : Fin cfg0.N) : (dats m 0 c).after 6 t = iblk m c 6 t := by dsimp only [dats]
/-- and the body finds it there. -/
theorem before0_6 (c : Dev nD) (t : Fin cfg0.N) (d) : (dats m 0 c).before 6 t d = iblk m c 6 t :=
  before0_6_of m (dats m 0 c) (A_eq m c 6) (after0_6 m c) t d
/-- Input 7's buffer keeps its block, -/
theorem after0_7 (c : Dev nD) (t : Fin cfg0.N) : (dats m 0 c).after 7 t = iblk m c 7 t := by dsimp only [dats]
/-- and the body finds it there. -/
theorem before0_7 (c : Dev nD) (t : Fin cfg0.N) (d) : (dats m 0 c).before 7 t d = iblk m c 7 t :=
  before0_7_of m (dats m 0 c) (A_eq m c 7) (after0_7 m c) t d
/-- Input 8's buffer keeps its block, -/
theorem after0_8 (c : Dev nD) (t : Fin cfg0.N) : (dats m 0 c).after 8 t = iblk m c 8 t := by dsimp only [dats]
/-- and the body finds it there. -/
theorem before0_8 (c : Dev nD) (t : Fin cfg0.N) (d) : (dats m 0 c).before 8 t d = iblk m c 8 t :=
  before0_8_of m (dats m 0 c) (A_eq m c 8) (after0_8 m c) t d
/-- Input 9's buffer keeps its block, -/
theorem after0_9 (c : Dev nD) (t : Fin cfg0.N) : (dats m 0 c).after 9 t = iblk m c 9 t := by dsimp only [dats]
/-- and the body finds it there. -/
theorem before0_9 (c : Dev nD) (t : Fin cfg0.N) (d) : (dats m 0 c).before 9 t d = iblk m c 9 t :=
  before0_9_of m (dats m 0 c) (A_eq m c 9) (after0_9 m c) t d

/-- The first result's block after a point. -/
theorem after0_10 (c : Dev nD) (t : Fin cfg0.N) : (dats m 0 c).after 10 t = k0_pay3 (iblk m c 1 t) (accAt m c t.val t.isLt) := by dsimp only [dats]
/-- The second result's block after a point. -/
theorem after0_11 (c : Dev nD) (t : Fin cfg0.N) : (dats m 0 c).after 11 t = k0_pay4 (iblk m c 1 t) (accAt m c t.val t.isLt) (iblk m c 9 t) := by dsimp only [dats]

/-- The invariant where a point starts. -/
theorem Phi_pre (c : Dev nD) (t : Fin cfg0.N) : (dats m 0 c).Φ t.castSucc = PhiS m c t.val (Nat.le_of_lt t.isLt) := by
  dsimp only [dats]
  exact Pipeline.Dat.Φ_castSucc (PhiS m c) t

/-- The invariant where a point ends. -/
theorem Phi_post (c : Dev nD) (t : Fin cfg0.N) : (dats m 0 c).Φ t.succ = PhiS m c (t.val + 1) t.isLt := by
  dsimp only [dats]
  rfl

/-- A result's buffer at a point that does not store it is as found. -/
theorem leaves_kept (c : Dev nD) (w : Fin cfg0.W) (t : Fin cfg0.N) (hw : w = 10 ∨ w = 11) (h : t.val % 11 ≠ 10) :
    (dats m 0 c).leavesExact w t = iprop(∃ d, owns (c : Thread nD τ) ((cfg0.win w).stage (cfg0.slots t w)) fullShare ((dats m 0 c).before w t d)) := by
  have hi : ∀ b : BitVec 1, ¬ b = 1#1 → (!(b == 1#1)) = true := by decide
  have hc := hi _ (fun hc => h ((cond4_iff t).mp hc))
  have hf : ∀ b : Bool, ¬ b = true → b = false := by decide
  rcases hw with rfl | rfl
  · exact Pipeline.Dat.leavesExact_idle _ 10 t hc (hf _ (fun hb => h ((flush0_10 t).mp hb)))
  · exact Pipeline.Dat.leavesExact_idle _ 11 t hc (hf _ (fun hb => h ((flush0_11 t).mp hb)))

/-- A result's buffer at a point that stores it holds the stored block. -/
theorem leaves_last (c : Dev nD) (w : Fin cfg0.W) (t : Fin cfg0.N) (hw : w = 10 ∨ w = 11) (h : t.val % 11 = 10) :
    (dats m 0 c).leavesExact w t = owns (c : Thread nD τ) ((cfg0.win w).stage (cfg0.slots t w)) fullShare ((dats m 0 c).after w t) := by
  have hi : ∀ b : BitVec 1, b = 1#1 → (!(b == 1#1)) = false := by decide
  have hc := hi _ ((cond4_iff t).mpr h)
  have hw' : cfg0.idle w (cfg0.grid.coords t) = false := by
    rcases hw with rfl | rfl
    · exact hc
    · exact hc
  unfold Pipeline.Dat.leavesExact
  rw [hw']

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ (dats m 0 c).leavesExact 10 t
    ∗ (dats m 0 c).leavesExact 11 t)

set_option maxHeartbeats 1000000 in
/-- The body at the first column tile of the first row tile of a sequence: from what the proof data say it is called with to what they say it leaves. -/
theorem soundFirst1 (c : Dev nD) (t : Fin cfg0.N) (h1 : (t.val / 11) % 2 = 0) (h2 : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [leaves_kept m c 10 t (Or.inl rfl) (by omega : t.val % 11 ≠ 10), leaves_kept m c 11 t (Or.inr rfl) (by omega : t.val % 11 ≠ 10)]
  rw [show (dats m 0 c).owesAt () t.succ = (dats m 0 c).owesAt () t.castSucc from rfl,
    after0_0, after0_1, after0_2, after0_3, after0_4, after0_5, after0_6, after0_7, after0_8, after0_9]
  rw [Phi_pre, Phi_post]
  unfold PhiS
  iintro ⟨⟨⟨%a, %k, %hg, HSa, HSk⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (runFirst1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) a k
    ((cond1_iff t).mpr h1) ((first_iff t).mpr h2) (fun h => (later_iff t).mp h h2) (fun h => by have := (cond4_iff t).mp h; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HSa]; · iexact HSa
  isplitl [HSk]; · iexact HSk
  iintro ⟨H0, H1, H2, H3, H4, H5, H6, H7, H8, H9, HSa, HSk⟩
  isplitl [HSa HSk Hg]
  · isplitl [HSa HSk]
    · iexists _; iexists _; isplitr
      · ipureintro; exact good_next m c t a k hg
      isplitl [HSa]; · iexact HSa
      iexact HSk
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- The body at the middle column tile of the first row tile of a sequence: from what the proof data say it is called with to what they say it leaves. -/
theorem soundMid1 (c : Dev nD) (t : Fin cfg0.N) (h1 : (t.val / 11) % 2 = 0) (h2 : t.val % 11 ≠ 0) (h3 : t.val % 11 ≠ 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [leaves_kept m c 10 t (Or.inl rfl) h3, leaves_kept m c 11 t (Or.inr rfl) h3]
  rw [show (dats m 0 c).owesAt () t.succ = (dats m 0 c).owesAt () t.castSucc from rfl,
    after0_0, after0_1, after0_2, after0_3, after0_4, after0_5, after0_6, after0_7, after0_8, after0_9]
  rw [Phi_pre, Phi_post]
  unfold PhiS
  iintro ⟨⟨⟨%a, %k, %hg, HSa, HSk⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (runMid1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) a k
    ((cond1_iff t).mpr h1) (fun h => h2 ((first_iff t).mp h)) ((later_iff t).mpr h2) (fun h => h3 ((cond4_iff t).mp h)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HSa]; · iexact HSa
  isplitl [HSk]; · iexact HSk
  iintro ⟨H0, H1, H2, H3, H4, H5, H6, H7, H8, H9, HSa, HSk⟩
  isplitl [HSa HSk Hg]
  · isplitl [HSa HSk]
    · iexists _; iexists _; isplitr
      · ipureintro; exact good_next m c t a k hg
      isplitl [HSa]; · iexact HSa
      iexact HSk
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- The body at the last column tile of the first row tile of a sequence: from what the proof data say it is called with to what they say it leaves. -/
theorem soundLast1 (c : Dev nD) (t : Fin cfg0.N) (h1 : (t.val / 11) % 2 = 0) (h3 : t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [leaves_last m c 10 t (Or.inl rfl) h3, leaves_last m c 11 t (Or.inr rfl) h3]
  rw [show (dats m 0 c).owesAt () t.succ = (dats m 0 c).owesAt () t.castSucc from rfl,
    after0_0, after0_1, after0_2, after0_3, after0_4, after0_5, after0_6, after0_7, after0_8, after0_9]
  rw [after0_10, after0_11]
  rw [Phi_pre, Phi_post]
  unfold PhiS
  iintro ⟨⟨⟨%a, %k, %hg, HSa, HSk⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runLast1 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) a k
    ((cond1_iff t).mpr h1) (fun h => (by omega : t.val % 11 ≠ 0) ((first_iff t).mp h)) ((later_iff t).mpr (by omega)) ((cond4_iff t).mpr h3) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HSa]; · iexact HSa
  isplitl [HSk]; · iexact HSk
  iintro ⟨H0, H1, H2, H3, H4, H5, H6, H7, H8, H9, H10, H11, HSa, HSk⟩
  isplitl [HSa HSk Hg]
  · isplitl [HSa HSk]
    · iexists _; iexists _; isplitr
      · ipureintro; exact good_next m c t a k hg
      isplitl [HSa]; · iexact HSa
      iexact HSk
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [out_acc m c t a k hg]; iexact H10
  rw [out_acc m c t a k hg]; iexact H11

set_option maxHeartbeats 1000000 in
/-- The body at the first column tile of a later row tile of a sequence: from what the proof data say it is called with to what they say it leaves. -/
theorem soundFirst0 (c : Dev nD) (t : Fin cfg0.N) (h1 : (t.val / 11) % 2 ≠ 0) (h2 : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [leaves_kept m c 10 t (Or.inl rfl) (by omega : t.val % 11 ≠ 10), leaves_kept m c 11 t (Or.inr rfl) (by omega : t.val % 11 ≠ 10)]
  rw [show (dats m 0 c).owesAt () t.succ = (dats m 0 c).owesAt () t.castSucc from rfl,
    after0_0, after0_1, after0_2, after0_3, after0_4, after0_5, after0_6, after0_7, after0_8, after0_9]
  rw [Phi_pre, Phi_post]
  unfold PhiS
  iintro ⟨⟨⟨%a, %k, %hg, HSa, HSk⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (runFirst0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) a k
    (fun h => h1 ((cond1_iff t).mp h)) ((first_iff t).mpr h2) (fun h => (later_iff t).mp h h2) (fun h => by have := (cond4_iff t).mp h; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HSa]; · iexact HSa
  isplitl [HSk]; · iexact HSk
  iintro ⟨H0, H1, H2, H3, H4, H5, H6, H7, H8, H9, HSa, HSk⟩
  isplitl [HSa HSk Hg]
  · isplitl [HSa HSk]
    · iexists _; iexists _; isplitr
      · ipureintro; exact good_next m c t a k hg
      isplitl [HSa]; · iexact HSa
      iexact HSk
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- The body at the middle column tile of a later row tile of a sequence: from what the proof data say it is called with to what they say it leaves. -/
theorem soundMid0 (c : Dev nD) (t : Fin cfg0.N) (h1 : (t.val / 11) % 2 ≠ 0) (h2 : t.val % 11 ≠ 0) (h3 : t.val % 11 ≠ 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [leaves_kept m c 10 t (Or.inl rfl) h3, leaves_kept m c 11 t (Or.inr rfl) h3]
  rw [show (dats m 0 c).owesAt () t.succ = (dats m 0 c).owesAt () t.castSucc from rfl,
    after0_0, after0_1, after0_2, after0_3, after0_4, after0_5, after0_6, after0_7, after0_8, after0_9]
  rw [Phi_pre, Phi_post]
  unfold PhiS
  iintro ⟨⟨⟨%a, %k, %hg, HSa, HSk⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (runMid0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) a k
    (fun h => h1 ((cond1_iff t).mp h)) (fun h => h2 ((first_iff t).mp h)) ((later_iff t).mpr h2) (fun h => h3 ((cond4_iff t).mp h)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HSa]; · iexact HSa
  isplitl [HSk]; · iexact HSk
  iintro ⟨H0, H1, H2, H3, H4, H5, H6, H7, H8, H9, HSa, HSk⟩
  isplitl [HSa HSk Hg]
  · isplitl [HSa HSk]
    · iexists _; iexists _; isplitr
      · ipureintro; exact good_next m c t a k hg
      isplitl [HSa]; · iexact HSa
      iexact HSk
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- The body at the last column tile of a later row tile of a sequence: from what the proof data say it is called with to what they say it leaves. -/
theorem soundLast0 (c : Dev nD) (t : Fin cfg0.N) (h1 : (t.val / 11) % 2 ≠ 0) (h3 : t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [leaves_last m c 10 t (Or.inl rfl) h3, leaves_last m c 11 t (Or.inr rfl) h3]
  rw [show (dats m 0 c).owesAt () t.succ = (dats m 0 c).owesAt () t.castSucc from rfl,
    after0_0, after0_1, after0_2, after0_3, after0_4, after0_5, after0_6, after0_7, after0_8, after0_9]
  rw [after0_10, after0_11]
  rw [Phi_pre, Phi_post]
  unfold PhiS
  iintro ⟨⟨⟨%a, %k, %hg, HSa, HSk⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runLast0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) a k
    (fun h => h1 ((cond1_iff t).mp h)) (fun h => (by omega : t.val % 11 ≠ 0) ((first_iff t).mp h)) ((later_iff t).mpr (by omega)) ((cond4_iff t).mpr h3) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HSa]; · iexact HSa
  isplitl [HSk]; · iexact HSk
  iintro ⟨H0, H1, H2, H3, H4, H5, H6, H7, H8, H9, H10, H11, HSa, HSk⟩
  isplitl [HSa HSk Hg]
  · isplitl [HSa HSk]
    · iexists _; iexists _; isplitr
      · ipureintro; exact good_next m c t a k hg
      isplitl [HSa]; · iexact HSa
      iexact HSk
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [out_acc m c t a k hg]; iexact H10
  rw [out_acc m c t a k hg]; iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : (t.val / 11) % 2 = 0
  · by_cases h2 : t.val % 11 = 0
    · exact soundFirst1 m c t h1 h2
    by_cases h3 : t.val % 11 = 10
    · exact soundLast1 m c t h1 h3
    exact soundMid1 m c t h1 h2 h3
  · by_cases h2 : t.val % 11 = 0
    · exact soundFirst0 m c t h1 h2
    by_cases h3 : t.val % 11 = 10
    · exact soundLast0 m c t h1 h3
    exact soundMid0 m c t h1 h2 h3

/-- The body table's row at a point's buffers is the body called on them. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The kept buffers at some contents, with the generator register, are what the region starts from and ends with. -/
theorem PhiA_eq (c : Dev nD) : (Pipeline.ΦA spec0 c : sProp 𝕄) = iprop(iprop((∃ d, owns (c : Thread nD τ) (Memref.whole cc0_scratch0) fullShare d)
    ∗ (∃ d, owns (c : Thread nD τ) (Memref.whole cc0_scratch1) fullShare d)) ∗ (∃ r, prngReg c r)) := by
  unfold Pipeline.ΦA; rw [scopedRest0_eq]; simp only [owns_whole]; try rfl

/-- Nothing is asked of the kept buffers before the first point. -/
theorem enter (c : Dev nD) : (Pipeline.ΦA spec0 c : sProp 𝕄) ⊢ (dats m 0 c).Φ 0 := by
  rw [PhiA_eq]
  show _ ⊢ PhiS m c 0 (Nat.zero_le _)
  unfold PhiS
  iintro ⟨⟨⟨%a, Ha⟩, ⟨%k, Hk⟩⟩, Hg⟩
  isplitl [Ha Hk]
  · iexists a; iexists k; isplitr
    · ipureintro
      exact ⟨fun p _ h _ => absurd h (Nat.succ_ne_zero p).symm, fun t h _ => absurd h (Nat.not_lt_zero _)⟩
    isplitl [Ha]; · iexact Ha
    iexact Hk
  iexact Hg

/-- After the last point what the kept buffers hold is forgotten. -/
theorem leave (c : Dev nD) : (dats m 0 c).Φ (Fin.last cfg0.N) ⊢ (Pipeline.ΦA spec0 c : sProp 𝕄) := by
  rw [PhiA_eq]
  show PhiS m c cfg0.N (Nat.le_refl _) ⊢ _
  unfold PhiS
  iintro ⟨⟨%a, %k, -, Ha, Hk⟩, Hg⟩
  isplitl [Ha Hk]
  · isplitl [Ha]
    · iexists a; iexact Ha
    iexists k; iexact Hk
  iexact Hg

-- the launch theorem's implicit arguments are found by unifying its conclusion with this one, which takes unfolding plain
-- definitions in a metavariable's type
set_option backward.isDefEq.respectTransparency.types false in
/-- The run: every array at what the proof data give, every other buffer as the region found it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => (by unfold Dat.share; exact ite_self _))
    (howed := fun _ _ => rfl) (V := V m) (hmain := hmain m Variants.none) (hA := A_eq m) (hin := enter m) (hout := leave m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnIdeal.Hand

end
-- ==== Proof.FfnRef.lean ====
module

public import proofs.«01_k».proof.Proof.Norm
public import proofs.«01_k».proof.Proof.Gen.FfnRefIdeal.Read
public import Idealize.ShloMosaic.Lib.KernelVsHost

/-! # The feed-forward layer: the reference's results at an entry -/

@[expose] public section

set_option maxRecDepth 16384

noncomputable section

namespace Cert.FfnRefIdeal.At

open Cert.FfnRefIdeal Cert.FfnRefIdeal.Gen Cert.FfnRefIdeal.Read Cert.EMath Idealize.ShloMosaic Idealize.ShloMosaic.TcCoe

variable (x0 : S16384x1024.Idx → EReal) (x1 : S16384x1024.Idx → EReal) (x2 : S1024x5504.Idx → EReal) (x3 : S3x5504.Idx → EReal)
  (x4 : S5504.Idx → EReal) (x5 : S2752x1024.Idx → EReal) (x6 : S1024.Idx → EReal)

/-- The up projection at row `r` and column `c`. -/
def up (r : Fin 16384) (c : Fin 5504) : EReal := ∑ k : Fin 1024, x0 (ix2 r k) * x2 (ix2 k c)

/-- The up projection `d` rows before row `r` of the same sequence of 2048 rows; zero before the sequence begins. -/
def before (d : ℕ) (r : Fin 16384) (c : Fin 5504) : EReal :=
  if d ≤ r.val % 2048 then up x0 x2 ⟨r.val - d, lt_of_le_of_lt (Nat.sub_le _ _) r.isLt⟩ c else 0

/-- The causal convolution of three taps with its bias. -/
def conv (r : Fin 16384) (c : Fin 5504) : EReal :=
  before x0 x2 2 r c * x3 (ix2 0 c) + before x0 x2 1 r c * x3 (ix2 1 c) + before x0 x2 0 r c * x3 (ix2 2 c) + x4 (ix1 c)

/-- The sigmoid-weighted gate. -/
def silu (y : EReal) : EReal :=
  y * Ideal.div (Ideal.ofBits .f32 0x3F800000#32) (Ideal.ofBits .f32 0x3F800000#32 + Ideal.exp (-y))

/-- The gated activation at row `r` and column `f` of the half width. -/
def act (r : Fin 16384) (f : Fin 2752) : EReal :=
  silu (conv x0 x2 x3 x4 r ⟨f.val, by omega⟩) * conv x0 x2 x3 x4 r ⟨2752 + f.val, by omega⟩

/-- The first result at an entry: the stream plus the down projection of the activation. -/
def res (r : Fin 16384) (c : Fin 1024) : EReal :=
  x1 (ix2 r c) + ∑ f : Fin 2752, act x0 x2 x3 x4 r f * x5 (ix2 f c)

/-- The padding value is zero. -/
theorem pad_zero (i : S_.Idx) : val_main_call0_v0 (F := Ideal) i = (0 : EReal) := by
  rw [val_main_call0_v0_apply, val_main_c_apply]
  show ((((0#32 : BitVec 32).toInt : ℝ)) : EReal) = 0
  simp

theorem v2_at (i : S8x2048x5504.Idx) (r : Fin 16384) (c : Fin 5504) (hr : (i 0).val * 2048 + (i 1).val = r.val) (hc : (i 2).val = c.val) :
    val_main_v2 (F := Ideal) x0 x2 i = up x0 x2 r c := by
  rw [val_main_v2_apply, val_main_v1_apply]
  unfold up
  have h2 : (i 2).val < 5504 := (i 2).isLt
  refine Finset.sum_congr rfl fun k _ => congrArg₂ (fun a b : EReal => a * b) (congrArg x0 ?_) (congrArg x2 ?_)
  · funext a
    match a with
    | ⟨0, _⟩ => exact Fin.ext (show (((i 0).val * 2048 + (i 1).val) * 5504 + (i 2).val) / 5504 = r.val by omega)
    | ⟨1, _⟩ => rfl
  · funext a
    match a with
    | ⟨0, _⟩ => rfl
    | ⟨1, _⟩ => exact Fin.ext (show (((i 0).val * 2048 + (i 1).val) * 5504 + (i 2).val) % 5504 = c.val by omega)

/-- The padded projection at an entry. -/
theorem v3_at (d : ℕ) (hd : d ≤ 2) (i : S8x2050x5504.Idx) (r : Fin 16384) (c : Fin 5504) (h0 : (i 0).val = r.val / 2048) (h1 : (i 1).val = r.val % 2048 + (2 - d)) (h2 : (i 2).val = c.val) :
    val_main_v3 (F := Ideal) x0 x2 i = before x0 x2 d r c := by
  unfold val_main_v3 before
  have hr := r.isLt
  have hc := c.isLt
  by_cases h : d ≤ r.val % 2048
  · rw [if_pos h]
    refine (pad_apply_of_inside _ _ _ _ _ _ _ i (ix3 (n0 := 8) (n1 := 2048) (n2 := 5504) ⟨r.val / 2048, by omega⟩ ⟨r.val % 2048 - d, by omega⟩ c) ?_).trans (v2_at x0 x2 _ _ _ ?_ rfl)
    · intro a
      match a with
      | ⟨0, _⟩ => show (i 0).val = 0 + r.val / 2048 * (0 + 1); omega
      | ⟨1, _⟩ => show (i 1).val = 2 + (r.val % 2048 - d) * (0 + 1); omega
      | ⟨2, _⟩ => show (i 2).val = 0 + c.val * (0 + 1); omega
    · show r.val / 2048 * 2048 + (r.val % 2048 - d) = r.val - d
      omega
  · rw [if_neg h]
    refine (pad_apply_of_not_inside _ _ _ _ _ _ _ i 1 ?_).trans (pad_zero _)
    intro hh
    have : 2 ≤ (i 1).val := hh.1
    omega

/-- The convolution at an entry. -/
theorem v26_at (i : S8x2048x5504.Idx) (r : Fin 16384) (c : Fin 5504) (h0 : (i 0).val = r.val / 2048) (h1 : (i 1).val = r.val % 2048) (h2 : (i 2).val = c.val) :
    val_main_v26 (F := Ideal) x0 x2 x3 x4 i = conv x0 x2 x3 x4 r c := by
  rw [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply]
  have hi2 : (i 2).val < 5504 := (i 2).isLt
  have hi1 : (i 1).val < 2048 := (i 1).isLt
  rw [v3_at x0 x2 2 (by omega) (idx_main_v4 i) r c h0 (show (i 1).val = _ by omega) h2,
    v3_at x0 x2 1 (by omega) (idx_main_v10 i) r c h0 (show 1 + (i 1).val = _ by omega) h2,
    v3_at x0 x2 0 (by omega) (idx_main_v17 i) r c h0 (show 2 + (i 1).val = _ by omega) h2]
  have e0 : idx_main_v5 (idx_main_v6 (idx_main_v7 (idx_main_v8 i))) = ix2 0 c := funext fun a => match a with
    | ⟨0, _⟩ => rfl
    | ⟨1, _⟩ => Fin.ext (show (i 2).val % 5504 = c.val by omega)
  have e1 : idx_main_v11 (idx_main_v12 (idx_main_v13 (idx_main_v14 i))) = ix2 1 c := funext fun a => match a with
    | ⟨0, _⟩ => rfl
    | ⟨1, _⟩ => Fin.ext (show (i 2).val % 5504 = c.val by omega)
  have e2 : idx_main_v18 (idx_main_v19 (idx_main_v20 (idx_main_v21 i))) = ix2 2 c := funext fun a => match a with
    | ⟨0, _⟩ => rfl
    | ⟨1, _⟩ => Fin.ext (show (i 2).val % 5504 = c.val by omega)
  have e3 : idx_main_v24 (idx_main_v25 i) = ix1 c := funext fun a => match a with
    | ⟨0, _⟩ => Fin.ext h2
  rw [e0, e1, e2, e3]
  rfl

/-- The activation at an entry. -/
theorem v31_at (i : S16384x2752.Idx) :
    val_main_v31 (F := Ideal) x0 x2 x3 x4 i = act x0 x2 x3 x4 (i 0) (i 1) := by
  rw [val_main_v31_apply, val_main_v30_apply, val_main_v29_apply, val_main_v28_apply, val_main_call1_v5_apply, val_main_call1_v4_apply, val_main_call1_v3_apply, val_main_call1_v2_apply, val_main_call1_v1_apply, val_main_call1_v0_apply, val_main_v27_apply, val_main_call1_cst_apply, val_main_call1_cst_0_apply]
  have hi0 : (i 0).val < 16384 := (i 0).isLt
  have hi1 : (i 1).val < 2752 := (i 1).isLt
  rw [v26_at x0 x2 x3 x4 (idx_main_v27 (idx_main_v31 i)) (i 0) ⟨(i 1).val, by omega⟩
      (show ((i 0).val * 2752 + (i 1).val) / 5636096 = (i 0).val / 2048 by omega)
      (show ((i 0).val * 2752 + (i 1).val) / 2752 % 2048 = (i 0).val % 2048 by omega)
      (show ((i 0).val * 2752 + (i 1).val) % 2752 = (i 1).val by omega),
    v26_at x0 x2 x3 x4 (idx_main_v28 (idx_main_v31 i)) (i 0) ⟨2752 + (i 1).val, by omega⟩
      (show ((i 0).val * 2752 + (i 1).val) / 5636096 = (i 0).val / 2048 by omega)
      (show ((i 0).val * 2752 + (i 1).val) / 2752 % 2048 = (i 0).val % 2048 by omega)
      (show 2752 + ((i 0).val * 2752 + (i 1).val) % 2752 = 2752 + (i 1).val by omega)]
  unfold act silu
  generalize conv x0 x2 x3 x4 (i 0) _ = a
  generalize conv x0 x2 x3 x4 (i 0) _ = b
  rfl

/-- The reference's first result at an entry. -/
theorem v33_at (r : Fin 16384) (c : Fin 1024) :
    val_main_v33 (F := Ideal) x0 x1 x2 x3 x4 x5 (ix2 r c) = res x0 x1 x2 x3 x4 x5 r c := by
  rw [val_main_v33_apply, val_main_v32_apply]
  unfold res
  refine congrArg (fun e : EReal => (x1 (ix2 r c) : EReal) + e) (Finset.sum_congr rfl fun k _ => ?_)
  rw [v31_at]
  refine congrArg₂ (fun a b : EReal => a * b) rfl (congrArg x5 ?_)
  funext a
  match a with
  | ⟨0, _⟩ => rfl
  | ⟨1, _⟩ => rfl

/-- The reference's second result at an entry: the normalised row of the first. -/
theorem v46_at (r : Fin 16384) (c : Fin 1024) :
    val_main_v46 (F := Ideal) x0 x1 x2 x3 x4 x5 x6 (ix2 r c) = rmsAt (res x0 x1 x2 x3 x4 x5 r) (x6 (ix1 c)) c := by
  rw [val_main_v46_apply, val_main_v45_apply, val_main_v44_apply, val_main_v43_apply, val_main_v42_apply, val_main_v41_apply, val_main_v40_apply, val_main_v39_apply, val_main_v38_apply, val_main_v37_apply, val_main_v36_apply, val_main_v35_apply, val_main_cst_apply, val_main_cst_0_apply, val_main_cst_1_apply]
  simp only [val_main_v34_apply]
  have hz : (FloatOps.ofBits (F := Ideal) .f32 0x00000000#32 : EReal) = 0 := Ideal.ofBits_zero_f32
  have hr : ∀ k, idx_main_v35 (idx_main_v36 (idx_main_v42 (ix2 r c))) k = ix2 (n0 := 16384) (n1 := 1024) r k := fun k => funext fun a => match a with | ⟨0, _⟩ => rfl | ⟨1, _⟩ => rfl
  have hc : idx_main_v44 (idx_main_v45 (ix2 r c)) = (ix1 c) := funext fun a => match a with | ⟨0, _⟩ => rfl
  simp only [hr, hc, v33_at]
  unfold rmsAt
  generalize res x0 x1 x2 x3 x4 x5 r = f
  show f c * Ideal.rsqrt (Ideal.div ((FloatOps.ofBits (F := Ideal) .f32 0x00000000#32 : EReal) + ∑ k, f k * f k) _ + _) * _ = _
  rw [hz, zero_add]
  rfl

end Cert.FfnRefIdeal.At

end
-- ==== Proof.FfnTile.lean ====
module

public import proofs.«01_k».proof.Proof.FfnRef
public import proofs.«01_k».proof.Proof.Gen.FfnIdeal.Skeleton
public import Idealize.ShloMosaic.Lib.Pointwise

/-! # The feed-forward layer: the kernel's block computations at an entry -/

@[expose] public section

set_option maxRecDepth 16384

noncomputable section

namespace Cert.FfnIdeal.Tile

open Cert.FfnIdeal Cert.FfnIdeal.Gen Cert.EMath Idealize.ShloMosaic Idealize.ShloMosaic.TcCoe
open Cert.FfnRefIdeal.At (silu)

/-- The tile's entry `d` rows before row `r`: of the tile itself, or of the eight rows carried from before it. -/
def tileBefore (u : S1024x256.Idx → EReal) (p : S8x256.Idx → EReal) (d : ℕ) (r : Fin 1024) (l : Fin 256) : EReal :=
  if h : d ≤ r.val then u (ix2 ⟨r.val - d, lt_of_le_of_lt (Nat.sub_le _ _) r.isLt⟩ l)
  else p (ix2 ⟨8 + r.val - d, by omega⟩ l)

/-- The three-tap convolution of a tile with its carried rows. -/
def tileConv (u : S1024x256.Idx → EReal) (p : S8x256.Idx → EReal) (w : S3x256.Idx → EReal) (b : S1x256.Idx → EReal) (r : Fin 1024) (l : Fin 256) : EReal :=
  tileBefore u p 2 r l * w (ix2 0 l) + tileBefore u p 1 r l * w (ix2 1 l) + tileBefore u p 0 r l * w (ix2 2 l) + b (ix2 0 l)

theorem silu_eq (y : EReal) : silu y = y * Ideal.div 1 (1 + Ideal.exp (0 - y)) := by
  unfold silu
  rw [zero_sub]
  pointwise []

theorem pay6_at (a : Vec Ideal S1024x1024 .bf16) (w : Vec Ideal S1024x256 .bf16) (r : Fin 1024) (l : Fin 256) :
    k0_pay6 a w (ix2 r l) = ∑ k : Fin 1024, (a (ix2 r k) : EReal) * (w (ix2 k l) : EReal) := by
  pointwise [k0_pay6]

theorem pay7_eq (a : Vec Ideal S1024x1024 .bf16) (w : Vec Ideal S1024x256 .bf16) : k0_pay7 a w = k0_pay6 a w := rfl

theorem pay8_at (v : Vec Ideal S1x1x8x256 .f32) (p : Fin 8) (l : Fin 256) :
    k0_pay8 v (ix2 p l) = v (ix4 0 0 p l) := by
  pointwise [k0_pay8]

theorem pay10_at (a : Vec Ideal S1024x1024 .bf16) (w : Vec Ideal S1024x256 .bf16) (p : Fin 8) (l : Fin 256) :
    k0_pay10 a w (ix4 0 0 p l) = k0_pay6 a w (ix2 ⟨1016 + p.val, by omega⟩ l) := by
  unfold k0_pay10
  generalize k0_pay6 a w = u
  pointwise []

theorem pay12_at (u : FVec Ideal S1024x256 .f32) (p : FVec Ideal S8x256 .f32) (w : Vec Ideal S3x256 .f32) (b : Vec Ideal S1x256 .f32) (r : Fin 1024) (l : Fin 256) :
    k0_pay12 u p w b (ix2 r l) = tileConv u p w b r l := by
  pointwise [k0_pay12]
  have tu : ∀ (d : ℕ) (q : Fin 1024), d ≤ r.val → q.val = r.val - d → u (ix2 q l) = tileBefore u p d r l := fun d q h e => by
    unfold tileBefore
    rw [dif_pos h]
    exact congrArg (fun q => u (ix2 q l)) (Fin.ext e)
  have tp : ∀ (d : ℕ) (q : Fin 8), ¬ d ≤ r.val → q.val = 8 + r.val - d → p (ix2 q l) = tileBefore u p d r l := fun d q h e => by
    unfold tileBefore
    rw [dif_neg h]
    exact congrArg (fun q => p (ix2 q l)) (Fin.ext e)
  have hr := r.isLt
  unfold tileConv
  have sw : ∀ a b c d : EReal, a + b + c + d = c + b + a + d := fun a b c d => congrArg (fun e : EReal => e + d) (by rw [add_right_comm, add_comm a c, add_right_comm])
  by_cases h8 : r.val < 8
  · rw [dif_pos h8, sw]
    refine congrArg (fun e : EReal => e + b (ix2 0 l)) (congrArg₂ (fun x y : EReal => x + y) (congrArg₂ (fun x y : EReal => x + y) (congrArg (fun e : EReal => e * w (ix2 0 l)) ?_) (congrArg (fun e : EReal => e * w (ix2 1 l)) ?_)) (congrArg (fun e : EReal => e * w (ix2 2 l)) ?_))
    · split_ifs with h h'
      · exact tp 2 _ (by omega) (show (8 + r.val + 16 - 2) % 16 = 8 + r.val - 2 by omega)
      · exact tu 2 _ (by omega) (show (8 + r.val + 16 - 2) % 16 - 8 = r.val - 2 by omega)
      · exact absurd rfl h'
    · split_ifs with h h'
      · exact tp 1 _ (by omega) (show (8 + r.val + 16 - 1) % 16 = 8 + r.val - 1 by omega)
      · exact tu 1 _ (by omega) (show (8 + r.val + 16 - 1) % 16 - 8 = r.val - 1 by omega)
      · exact absurd rfl h'
    · exact tu 0 r (by omega) (by omega)
  · rw [dif_neg h8, sw]
    refine congrArg (fun e : EReal => e + b (ix2 0 l)) (congrArg₂ (fun x y : EReal => x + y) (congrArg₂ (fun x y : EReal => x + y) (congrArg (fun e : EReal => e * w (ix2 0 l)) ?_) (congrArg (fun e : EReal => e * w (ix2 1 l)) ?_)) (congrArg (fun e : EReal => e * w (ix2 2 l)) ?_))
    · exact tu 2 _ (by omega) (show (8 + (r.val - 8) + 1024 - 2) % 1024 = r.val - 2 by omega)
    · exact tu 1 _ (by omega) (show (8 + (r.val - 8) + 1024 - 1) % 1024 = r.val - 1 by omega)
    · exact tu 0 _ (by omega) (show 8 + (r.val - 8) = r.val - 0 by omega)

theorem pay14_at (u : FVec Ideal S1024x256 .f32) (p : FVec Ideal S8x256 .f32) (y : FVec Ideal S1024x256 .f32) (w : Vec Ideal S3x256 .f32) (b : Vec Ideal S1x256 .f32) (d : Vec Ideal S256x1024 .bf16) (r : Fin 1024) (c : Fin 1024) :
    k0_pay14 u p y (k0_pay13 w) b d (ix2 r c) = ∑ l : Fin 256, silu (y (ix2 r l)) * tileConv u p w b r l * (d (ix2 l c) : EReal) := by
  have h : ∀ l, k0_pay12 u p w b (ix2 r l) = tileConv u p w b r l := fun l => pay12_at u p w b r l
  have e : k0_pay14 u p y (k0_pay13 w) b d = matmul dot_S1024x256_S256x1024_S1024x1024_1_0_0_1_n_n none
      (truncf .bf16 (mulf (mulf y (divf (broadcast S1024x256 (Scalar.ofBits .f32 0x3F800000#32)) (addf (broadcast S1024x256 (Scalar.ofBits .f32 0x3F800000#32)) (exp (subf (broadcast S1024x256 (Scalar.ofBits .f32 0x00000000#32)) y))))) (k0_pay12 u p w b)) bitsLt_bf16_f32)
      (shapeCast S256x1024 d shapeCasts_S256x1024_S256x1024) (constant S1024x1024 .f32 0x00000000#32) := rfl
  rw [e]
  simp only [← h]
  generalize k0_pay12 u p w b = q
  pointwise []
  refine Finset.sum_congr rfl fun x _ => ?_
  rw [silu_eq]

end Cert.FfnIdeal.Tile

end
-- ==== Proof.FfnHost.lean ====
module

public import proofs.«01_k».proof.Proof.Gen.FfnIdeal.Frame
public import Idealize.ShloMosaic.Lib.Pointwise
public import Idealize.ShloMosaic.Lib.KernelVsHost

/-! # The feed-forward layer: the arrays the kernel is launched on, at an entry -/

@[expose] public section

set_option maxRecDepth 16384

noncomputable section

namespace Cert.FfnIdeal.Launched

open Cert.FfnIdeal Cert.FfnIdeal.Gen Idealize.ShloMosaic Idealize.ShloMosaic.TcCoe Idealize.SL.Sem

variable (m : (ℓ : Loc nD τ sig) → Buf (Elt Ideal) ℓ)

/-- The arguments, as arrays of extended reals. -/
abbrev A0 (c : Dev nD) : S16384x1024.Idx → EReal := m ((c : Thread nD τ).loc main_arg0)
abbrev A1 (c : Dev nD) : S16384x1024.Idx → EReal := m ((c : Thread nD τ).loc main_arg1)
abbrev A2 (c : Dev nD) : S1024x5504.Idx → EReal := m ((c : Thread nD τ).loc main_arg2)
abbrev A3 (c : Dev nD) : S3x5504.Idx → EReal := m ((c : Thread nD τ).loc main_arg3)
abbrev A4 (c : Dev nD) : S5504.Idx → EReal := m ((c : Thread nD τ).loc main_arg4)
abbrev A5 (c : Dev nD) : S2752x1024.Idx → EReal := m ((c : Thread nD τ).loc main_arg5)
abbrev A6 (c : Dev nD) : S1024.Idx → EReal := m ((c : Thread nD τ).loc main_arg6)

/-- The padding value. -/
abbrev pz : S_.Idx → EReal := sitofp (F := Ideal) .f32 (constantI S_ 32 0#32)

theorem pz_zero (i : S_.Idx) : pz i = 0 := by
  show ((((0#32 : BitVec 32).toInt : ℝ)) : EReal) = 0
  simp

theorem v2_eq (c : Dev nD) : (V m c main_v2 : S1024x2816.Idx → EReal) = pad S1024x2816 ![0, 0] ![0, 64] ![0, 0] (extractStridedSlice S1024x2752 ![0, 0] (A2 m c) slices_S1024x5504_S1024x2752_0_0) pz pads_S1024x2752_S1024x2816_000_0640 h_S_ := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ main_v2 = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- A column of the gate half, below the padding. -/
theorem v2_at (c : Dev nD) (q : Fin 1024) (j : Fin 2816) (hj : j.val < 2752) :
    (V m c main_v2 : S1024x2816.Idx → EReal) (ix2 (n0 := 1024) (n1 := 2816) q j) = A2 m c (ix2 q ⟨j.val, by omega⟩) := by
  rw [v2_eq]
  refine (pad_apply_of_inside _ _ _ _ _ _ _ _ (ix2 (n0 := 1024) (n1 := 2752) q ⟨j.val, hj⟩) ?_).trans ?_
  · intro a
    match a with
    | ⟨0, _⟩ => show (q : Fin 1024).val = 0 + (q : Fin 1024).val * (0 + 1); omega
    | ⟨1, _⟩ => show j.val = 0 + j.val * (0 + 1); omega
  · pointwise []

theorem v5_eq (c : Dev nD) : (V m c main_v5 : S1024x2816.Idx → EReal) = pad S1024x2816 ![0, 0] ![0, 64] ![0, 0] (extractStridedSlice S1024x2752 ![0, 2752] (A2 m c) slices_S1024x5504_S1024x2752_0_2752) pz pads_S1024x2752_S1024x2816_000_0640 h_S_ := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ main_v5 = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- A column of the value half, below the padding. -/
theorem v5_at (c : Dev nD) (q : Fin 1024) (j : Fin 2816) (hj : j.val < 2752) :
    (V m c main_v5 : S1024x2816.Idx → EReal) (ix2 (n0 := 1024) (n1 := 2816) q j) = A2 m c (ix2 q ⟨2752 + j.val, by omega⟩) := by
  rw [v5_eq]
  refine (pad_apply_of_inside _ _ _ _ _ _ _ _ (ix2 (n0 := 1024) (n1 := 2752) q ⟨j.val, hj⟩) ?_).trans ?_
  · intro a
    match a with
    | ⟨0, _⟩ => show (q : Fin 1024).val = 0 + (q : Fin 1024).val * (0 + 1); omega
    | ⟨1, _⟩ => show j.val = 0 + j.val * (0 + 1); omega
  · pointwise []

theorem v8_eq (c : Dev nD) : (V m c main_v8 : S3x2816.Idx → EReal) = pad S3x2816 ![0, 0] ![0, 64] ![0, 0] (extractStridedSlice S3x2752 ![0, 0] (A3 m c) slices_S3x5504_S3x2752_0_0) pz pads_S3x2752_S3x2816_000_0640 h_S_ := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ main_v8 = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- A column of the gate half, below the padding. -/
theorem v8_at (c : Dev nD) (q : Fin 3) (j : Fin 2816) (hj : j.val < 2752) :
    (V m c main_v8 : S3x2816.Idx → EReal) (ix2 (n0 := 3) (n1 := 2816) q j) = A3 m c (ix2 q ⟨j.val, by omega⟩) := by
  rw [v8_eq]
  refine (pad_apply_of_inside _ _ _ _ _ _ _ _ (ix2 (n0 := 3) (n1 := 2752) q ⟨j.val, hj⟩) ?_).trans ?_
  · intro a
    match a with
    | ⟨0, _⟩ => show (q : Fin 3).val = 0 + (q : Fin 3).val * (0 + 1); omega
    | ⟨1, _⟩ => show j.val = 0 + j.val * (0 + 1); omega
  · pointwise []

theorem v10_eq (c : Dev nD) : (V m c main_v10 : S3x2816.Idx → EReal) = pad S3x2816 ![0, 0] ![0, 64] ![0, 0] (extractStridedSlice S3x2752 ![0, 2752] (A3 m c) slices_S3x5504_S3x2752_0_2752) pz pads_S3x2752_S3x2816_000_0640 h_S_ := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ main_v10 = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- A column of the value half, below the padding. -/
theorem v10_at (c : Dev nD) (q : Fin 3) (j : Fin 2816) (hj : j.val < 2752) :
    (V m c main_v10 : S3x2816.Idx → EReal) (ix2 (n0 := 3) (n1 := 2816) q j) = A3 m c (ix2 q ⟨2752 + j.val, by omega⟩) := by
  rw [v10_eq]
  refine (pad_apply_of_inside _ _ _ _ _ _ _ _ (ix2 (n0 := 3) (n1 := 2752) q ⟨j.val, hj⟩) ?_).trans ?_
  · intro a
    match a with
    | ⟨0, _⟩ => show (q : Fin 3).val = 0 + (q : Fin 3).val * (0 + 1); omega
    | ⟨1, _⟩ => show j.val = 0 + j.val * (0 + 1); omega
  · pointwise []

theorem v12_eq (c : Dev nD) : (V m c main_v12 : S1x2816.Idx → EReal) = pad S1x2816 ![0, 0] ![0, 64] ![0, 0] (extractStridedSlice S1x2752 ![0, 0] (shapeCast S1x5504 (A4 m c) shapeCasts_S5504_S1x5504) slices_S1x5504_S1x2752_0_0) pz pads_S1x2752_S1x2816_000_0640 h_S_ := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ main_v12 = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- A column of the gate half, below the padding. -/
theorem v12_at (c : Dev nD) (j : Fin 2816) (hj : j.val < 2752) :
    (V m c main_v12 : S1x2816.Idx → EReal) (ix2 (n0 := 1) (n1 := 2816) 0 j) = A4 m c (ix1 ⟨j.val, by omega⟩) := by
  rw [v12_eq]
  refine (pad_apply_of_inside _ _ _ _ _ _ _ _ (ix2 (n0 := 1) (n1 := 2752) 0 ⟨j.val, hj⟩) ?_).trans ?_
  · intro a
    match a with
    | ⟨0, _⟩ => show (0 : Fin 1).val = 0 + (0 : Fin 1).val * (0 + 1); omega
    | ⟨1, _⟩ => show j.val = 0 + j.val * (0 + 1); omega
  · pointwise []

theorem v14_eq (c : Dev nD) : (V m c main_v14 : S1x2816.Idx → EReal) = pad S1x2816 ![0, 0] ![0, 64] ![0, 0] (extractStridedSlice S1x2752 ![0, 2752] (shapeCast S1x5504 (A4 m c) shapeCasts_S5504_S1x5504) slices_S1x5504_S1x2752_0_2752) pz pads_S1x2752_S1x2816_000_0640 h_S_ := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ main_v14 = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- A column of the value half, below the padding. -/
theorem v14_at (c : Dev nD) (j : Fin 2816) (hj : j.val < 2752) :
    (V m c main_v14 : S1x2816.Idx → EReal) (ix2 (n0 := 1) (n1 := 2816) 0 j) = A4 m c (ix1 ⟨2752 + j.val, by omega⟩) := by
  rw [v14_eq]
  refine (pad_apply_of_inside _ _ _ _ _ _ _ _ (ix2 (n0 := 1) (n1 := 2752) 0 ⟨j.val, hj⟩) ?_).trans ?_
  · intro a
    match a with
    | ⟨0, _⟩ => show (0 : Fin 1).val = 0 + (0 : Fin 1).val * (0 + 1); omega
    | ⟨1, _⟩ => show j.val = 0 + j.val * (0 + 1); omega
  · pointwise []

theorem v16_eq (c : Dev nD) : (V m c main_v16 : S2816x1024.Idx → EReal) = pad S2816x1024 ![0, 0] ![64, 0] ![0, 0] (A5 m c) pz pads_S2752x1024_S2816x1024_0640_000 h_S_ := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ main_v16 = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- A row of the down projection, above the padding. -/
theorem v16_at (c : Dev nD) (j : Fin 2816) (hj : j.val < 2752) (l : Fin 1024) :
    (V m c main_v16 : S2816x1024.Idx → EReal) (ix2 (n0 := 2816) (n1 := 1024) j l) = A5 m c (ix2 ⟨j.val, hj⟩ l) := by
  rw [v16_eq]
  refine pad_apply_of_inside _ _ _ _ _ _ _ _ (ix2 (n0 := 2752) (n1 := 1024) ⟨j.val, hj⟩ l) ?_
  intro a
  match a with
  | ⟨0, _⟩ => show j.val = 0 + j.val * (0 + 1); omega
  | ⟨1, _⟩ => show l.val = 0 + l.val * (0 + 1); omega

/-- A padding row of the down projection is zero. -/
theorem v16_pad (c : Dev nD) (j : Fin 2816) (hj : ¬ j.val < 2752) (l : Fin 1024) :
    (V m c main_v16 : S2816x1024.Idx → EReal) (ix2 (n0 := 2816) (n1 := 1024) j l) = (0 : EReal) := by
  rw [v16_eq]
  refine (pad_apply_of_not_inside _ _ _ _ _ _ _ _ 0 ?_).trans (pz_zero _)
  intro hh
  have : (j.val - 0) / (0 + 1) < 2752 := hh.2.2
  omega

theorem v17_eq (c : Dev nD) : (V m c main_v17 : S1x1024.Idx → EReal) = shapeCast S1x1024 (A6 m c) shapeCasts_S1024_S1x1024 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ main_v17 = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- The gain as a row. -/
theorem v17_at (c : Dev nD) (l : Fin 1024) : (V m c main_v17 : S1x1024.Idx → EReal) (ix2 (n0 := 1) (n1 := 1024) 0 l) = A6 m c (ix1 l) := by
  rw [v17_eq]
  pointwise []

end Cert.FfnIdeal.Launched

end
-- ==== Proof.FfnValue.lean ====
module

public import proofs.«01_k».proof.Defs
public import proofs.«01_k».proof.Proof.FfnTile
public import proofs.«01_k».proof.Proof.FfnHost
public import proofs.«01_k».proof.Proof.FfnIdealFrame
public import proofs.«01_k».proof.Proof.Gen.FfnRefIdeal
public import proofs.«01_k».proof.Proof.Gen.FfnIdeal
public import Idealize.ShloMosaic.Lib.Pipeline.Covers

/-! # The feed-forward layer: the kernel's two results are the reference's -/

@[expose] public section

set_option maxRecDepth 16384

noncomputable section

namespace Cert.FfnIdeal.Whole

open Cert.FfnIdeal Cert.FfnIdeal.Gen Cert.FfnIdeal.Hand Cert.FfnIdeal.Tile Cert.FfnIdeal.Launched Cert.EMath
open Idealize.ShloMosaic Idealize.ShloMosaic.TcCoe Idealize.SL.Sem
open Cert.FfnRefIdeal.At (up before conv silu act res)

/-! ## Sums in tiles -/

/-- One more tile of 256 terms. -/
theorem sum_tile (T : ℕ → EReal) (q : ℕ) : ∑ x ∈ Finset.range ((q + 1) * 256), T x = ∑ x ∈ Finset.range (q * 256), T x + ∑ l : Fin 256, T (q * 256 + l.val) := by
  rw [add_mul, one_mul, Finset.sum_range_add, Finset.sum_range (fun x => T (q * 256 + x))]

/-- Terms that are zero from `n` on leave the sum of the first `n`. -/
theorem sum_cut (T : ℕ → EReal) (n k : ℕ) (h : ∀ x, T (n + x) = 0) : ∑ x ∈ Finset.range (n + k), T x = ∑ f : Fin n, T f.val := by
  rw [Finset.sum_range_add, Finset.sum_eq_zero (fun x _ => h x), add_zero, Finset.sum_range]

/-! ## The rest of the block computations at an entry -/

theorem pay1_at (p : FVec Ideal S1024x1024 .f32) (i : S1024x1024.Idx) : k0_pay1 p i = p i := by
  pointwise [k0_pay1]

theorem pay2_at (p : FVec Ideal S1024x1024 .f32) (a : Vec Ideal S1024x1024 .f32) (i : S1024x1024.Idx) : k0_pay2 p a i = (a i : EReal) + p i := by
  pointwise [k0_pay2]

theorem pay4_at (x a : Vec Ideal S1024x1024 .f32) (g : Vec Ideal S1x1024 .f32) (r : Fin 1024) (c : Fin 1024) :
    k0_pay4 x a g (ix2 r c) = rmsAt (fun k => k0_pay3 x a (ix2 r k)) (g (ix2 0 c)) c := by
  unfold k0_pay4
  generalize k0_pay3 x a = p
  pointwise []
  rfl

variable (m : (ℓ : Loc nD τ sig) → Buf (Elt Ideal) ℓ) (ρ : Dev nD → PrngReg)

/-! ## Where a point's blocks lie -/

theorem lt_tile (t : Fin cfg0.N) : t.val / 11 < 16 := by
  have := t.isLt
  have hN : cfg0.N = 176 := N_0
  omega

/-- The array row of row `r` of point `t`'s row tile. -/
def rowOf (t : Fin cfg0.N) (r : Fin 1024) : Fin 16384 := ⟨t.val / 11 * 1024 + r.val, by have := lt_tile t; omega⟩

/-- The padded column of column `l` of point `t`'s column tile. -/
def colOf (t : Fin cfg0.N) (l : Fin 256) : Fin 2816 := ⟨t.val % 11 * 256 + l.val, by omega⟩

theorem tr0 (t : Fin cfg0.N) : cc0_transform_0 (grid0.coords t) 0 = t.val / 11 := by
  have h : (grid0.coords t 0).val < 16 := (grid0.coords t 0).isLt
  rw [← coords0 t]
  show (BitVec.ofNat 32 (grid0.coords t 0).val).toNat = _
  simp only [BitVec.toNat_ofNat]; omega

theorem tr1 (t : Fin cfg0.N) : cc0_transform_1 (grid0.coords t) 0 = t.val / 11 := by
  have h : (grid0.coords t 0).val < 16 := (grid0.coords t 0).isLt
  rw [← coords0 t]
  show (BitVec.ofNat 32 (grid0.coords t 0).val).toNat = _
  simp only [BitVec.toNat_ofNat]; omega

theorem tr10 (t : Fin cfg0.N) : cc0_transform_10 (grid0.coords t) 0 = t.val / 11 := by
  have h : (grid0.coords t 0).val < 16 := (grid0.coords t 0).isLt
  rw [← coords0 t]
  show (BitVec.ofNat 32 (grid0.coords t 0).val).toNat = _
  simp only [BitVec.toNat_ofNat]; omega

theorem tr11 (t : Fin cfg0.N) : cc0_transform_11 (grid0.coords t) 0 = t.val / 11 := by
  have h : (grid0.coords t 0).val < 16 := (grid0.coords t 0).isLt
  rw [← coords0 t]
  show (BitVec.ofNat 32 (grid0.coords t 0).val).toNat = _
  simp only [BitVec.toNat_ofNat]; omega

theorem tr2 (t : Fin cfg0.N) : cc0_transform_2 (grid0.coords t) 1 = t.val % 11 := by
  have h : (grid0.coords t 1).val < 11 := (grid0.coords t 1).isLt
  rw [← coords1 t]
  show (BitVec.ofNat 32 (grid0.coords t 1).val).toNat = _
  simp only [BitVec.toNat_ofNat]; omega

theorem tr3 (t : Fin cfg0.N) : cc0_transform_3 (grid0.coords t) 1 = t.val % 11 := by
  have h : (grid0.coords t 1).val < 11 := (grid0.coords t 1).isLt
  rw [← coords1 t]
  show (BitVec.ofNat 32 (grid0.coords t 1).val).toNat = _
  simp only [BitVec.toNat_ofNat]; omega

theorem tr4 (t : Fin cfg0.N) : cc0_transform_4 (grid0.coords t) 1 = t.val % 11 := by
  have h : (grid0.coords t 1).val < 11 := (grid0.coords t 1).isLt
  rw [← coords1 t]
  show (BitVec.ofNat 32 (grid0.coords t 1).val).toNat = _
  simp only [BitVec.toNat_ofNat]; omega

theorem tr5 (t : Fin cfg0.N) : cc0_transform_5 (grid0.coords t) 1 = t.val % 11 := by
  have h : (grid0.coords t 1).val < 11 := (grid0.coords t 1).isLt
  rw [← coords1 t]
  show (BitVec.ofNat 32 (grid0.coords t 1).val).toNat = _
  simp only [BitVec.toNat_ofNat]; omega

theorem tr6 (t : Fin cfg0.N) : cc0_transform_6 (grid0.coords t) 1 = t.val % 11 := by
  have h : (grid0.coords t 1).val < 11 := (grid0.coords t 1).isLt
  rw [← coords1 t]
  show (BitVec.ofNat 32 (grid0.coords t 1).val).toNat = _
  simp only [BitVec.toNat_ofNat]; omega

theorem tr7 (t : Fin cfg0.N) : cc0_transform_7 (grid0.coords t) 1 = t.val % 11 := by
  have h : (grid0.coords t 1).val < 11 := (grid0.coords t 1).isLt
  rw [← coords1 t]
  show (BitVec.ofNat 32 (grid0.coords t 1).val).toNat = _
  simp only [BitVec.toNat_ofNat]; omega

theorem tr8 (t : Fin cfg0.N) : cc0_transform_8 (grid0.coords t) 0 = t.val % 11 := by
  have h : (grid0.coords t 1).val < 11 := (grid0.coords t 1).isLt
  rw [← coords1 t]
  show (BitVec.ofNat 32 (grid0.coords t 1).val).toNat = _
  simp only [BitVec.toNat_ofNat]; omega

theorem b0 (c : Dev nD) (t : Fin cfg0.N) (r : Fin 1024) (k : Fin 1024) :
    (iblk m c 0 t : Vec Ideal S1024x1024 .bf16) (ix2 r k) = A0 m c (ix2 (rowOf t r) k) := by
  unfold iblk
  rw [View.read_apply]
  show V m c main_arg0 _ = _
  rw [V_main_arg0]
  congr 1
  funext a
  match a with
  | ⟨0, _⟩ => exact Fin.ext (show cc0_transform_0 (grid0.coords t) 0 * 1024 + 1 * r.val = t.val / 11 * 1024 + r.val by rw [tr0 t]; omega)
  | ⟨1, _⟩ => exact Fin.ext (show 0 * 1024 + 1 * k.val = k.val by omega)

theorem b1 (c : Dev nD) (t : Fin cfg0.N) (r : Fin 1024) (k : Fin 1024) :
    (iblk m c 1 t : Vec Ideal S1024x1024 .f32) (ix2 r k) = A1 m c (ix2 (rowOf t r) k) := by
  unfold iblk
  rw [View.read_apply]
  show V m c main_arg1 _ = _
  rw [V_main_arg1]
  congr 1
  funext a
  match a with
  | ⟨0, _⟩ => exact Fin.ext (show cc0_transform_1 (grid0.coords t) 0 * 1024 + 1 * r.val = t.val / 11 * 1024 + r.val by rw [tr1 t]; omega)
  | ⟨1, _⟩ => exact Fin.ext (show 0 * 1024 + 1 * k.val = k.val by omega)

theorem b2 (c : Dev nD) (t : Fin cfg0.N) (q : Fin 1024) (l : Fin 256) :
    (iblk m c 2 t : Vec Ideal S1024x256 .bf16) (ix2 (n0 := 1024) (n1 := 256) q l) = (V m c main_v2 : S1024x2816.Idx → EReal) (ix2 (n0 := 1024) (n1 := 2816) q (colOf t l)) := by
  unfold iblk
  rw [View.read_apply]
  show V m c main_v2 _ = _
  congr 1
  funext a
  match a with
  | ⟨0, _⟩ => exact Fin.ext (show 0 * 1024 + 1 * q.val = q.val by omega)
  | ⟨1, _⟩ => exact Fin.ext (show cc0_transform_2 (grid0.coords t) 1 * 256 + 1 * l.val = t.val % 11 * 256 + l.val by rw [tr2 t]; omega)

theorem b3 (c : Dev nD) (t : Fin cfg0.N) (q : Fin 1024) (l : Fin 256) :
    (iblk m c 3 t : Vec Ideal S1024x256 .bf16) (ix2 (n0 := 1024) (n1 := 256) q l) = (V m c main_v5 : S1024x2816.Idx → EReal) (ix2 (n0 := 1024) (n1 := 2816) q (colOf t l)) := by
  unfold iblk
  rw [View.read_apply]
  show V m c main_v5 _ = _
  congr 1
  funext a
  match a with
  | ⟨0, _⟩ => exact Fin.ext (show 0 * 1024 + 1 * q.val = q.val by omega)
  | ⟨1, _⟩ => exact Fin.ext (show cc0_transform_3 (grid0.coords t) 1 * 256 + 1 * l.val = t.val % 11 * 256 + l.val by rw [tr3 t]; omega)

theorem b4 (c : Dev nD) (t : Fin cfg0.N) (q : Fin 3) (l : Fin 256) :
    (iblk m c 4 t : Vec Ideal S3x256 .f32) (ix2 (n0 := 3) (n1 := 256) q l) = (V m c main_v8 : S3x2816.Idx → EReal) (ix2 (n0 := 3) (n1 := 2816) q (colOf t l)) := by
  unfold iblk
  rw [View.read_apply]
  show V m c main_v8 _ = _
  congr 1
  funext a
  match a with
  | ⟨0, _⟩ => exact Fin.ext (show 0 * 3 + 1 * q.val = q.val by omega)
  | ⟨1, _⟩ => exact Fin.ext (show cc0_transform_4 (grid0.coords t) 1 * 256 + 1 * l.val = t.val % 11 * 256 + l.val by rw [tr4 t]; omega)

theorem b5 (c : Dev nD) (t : Fin cfg0.N) (q : Fin 3) (l : Fin 256) :
    (iblk m c 5 t : Vec Ideal S3x256 .f32) (ix2 (n0 := 3) (n1 := 256) q l) = (V m c main_v10 : S3x2816.Idx → EReal) (ix2 (n0 := 3) (n1 := 2816) q (colOf t l)) := by
  unfold iblk
  rw [View.read_apply]
  show V m c main_v10 _ = _
  congr 1
  funext a
  match a with
  | ⟨0, _⟩ => exact Fin.ext (show 0 * 3 + 1 * q.val = q.val by omega)
  | ⟨1, _⟩ => exact Fin.ext (show cc0_transform_5 (grid0.coords t) 1 * 256 + 1 * l.val = t.val % 11 * 256 + l.val by rw [tr5 t]; omega)

theorem b6 (c : Dev nD) (t : Fin cfg0.N) (q : Fin 1) (l : Fin 256) :
    (iblk m c 6 t : Vec Ideal S1x256 .f32) (ix2 (n0 := 1) (n1 := 256) q l) = (V m c main_v12 : S1x2816.Idx → EReal) (ix2 (n0 := 1) (n1 := 2816) q (colOf t l)) := by
  unfold iblk
  rw [View.read_apply]
  show V m c main_v12 _ = _
  congr 1
  funext a
  match a with
  | ⟨0, _⟩ => exact Fin.ext (show 0 * 1 + 1 * q.val = q.val by omega)
  | ⟨1, _⟩ => exact Fin.ext (show cc0_transform_6 (grid0.coords t) 1 * 256 + 1 * l.val = t.val % 11 * 256 + l.val by rw [tr6 t]; omega)

theorem b7 (c : Dev nD) (t : Fin cfg0.N) (q : Fin 1) (l : Fin 256) :
    (iblk m c 7 t : Vec Ideal S1x256 .f32) (ix2 (n0 := 1) (n1 := 256) q l) = (V m c main_v14 : S1x2816.Idx → EReal) (ix2 (n0 := 1) (n1 := 2816) q (colOf t l)) := by
  unfold iblk
  rw [View.read_apply]
  show V m c main_v14 _ = _
  congr 1
  funext a
  match a with
  | ⟨0, _⟩ => exact Fin.ext (show 0 * 1 + 1 * q.val = q.val by omega)
  | ⟨1, _⟩ => exact Fin.ext (show cc0_transform_7 (grid0.coords t) 1 * 256 + 1 * l.val = t.val % 11 * 256 + l.val by rw [tr7 t]; omega)

theorem b8 (c : Dev nD) (t : Fin cfg0.N) (l : Fin 256) (k : Fin 1024) :
    (iblk m c 8 t : Vec Ideal S256x1024 .bf16) (ix2 l k) = (V m c main_v16 : S2816x1024.Idx → EReal) (ix2 (n0 := 2816) (n1 := 1024) (colOf t l) k) := by
  unfold iblk
  rw [View.read_apply]
  show V m c main_v16 _ = _
  congr 1
  funext a
  match a with
  | ⟨0, _⟩ => exact Fin.ext (show cc0_transform_8 (grid0.coords t) 0 * 256 + 1 * l.val = t.val % 11 * 256 + l.val by rw [tr8 t]; omega)
  | ⟨1, _⟩ => exact Fin.ext (show 0 * 1024 + 1 * k.val = k.val by omega)

theorem b9 (c : Dev nD) (t : Fin cfg0.N) (q : Fin 1) (k : Fin 1024) :
    (iblk m c 9 t : Vec Ideal S1x1024 .f32) (ix2 (n0 := 1) (n1 := 1024) q k) = (V m c main_v17 : S1x1024.Idx → EReal) (ix2 (n0 := 1) (n1 := 1024) q k) := by
  unfold iblk
  rw [View.read_apply]
  show V m c main_v17 _ = _
  congr 1
  funext a
  match a with
  | ⟨0, _⟩ => exact Fin.ext (show 0 * 1 + 1 * q.val = q.val by omega)
  | ⟨1, _⟩ => exact Fin.ext (show 0 * 1024 + 1 * k.val = k.val by omega)

/-! ## The convolution of a tile is the convolution of the sequence -/

/-- The rows before a tile's row, read from the tile or from the carried rows, are those of the sequence. -/
theorem tileBefore_eq (t : Fin cfg0.N) (u : S1024x256.Idx → EReal) (p : S8x256.Idx → EReal) (U : Fin 16384 → EReal) (l : Fin 256)
    (hu : ∀ r, u (ix2 r l) = U (rowOf t r))
    (hp0 : t.val / 11 % 2 = 0 → ∀ q, p (ix2 q l) = 0)
    (hp1 : t.val / 11 % 2 ≠ 0 → ∀ (q : Fin 8) (R : Fin 16384), R.val + 8 = t.val / 11 * 1024 + q.val → p (ix2 q l) = U R)
    (d : ℕ) (hd : d ≤ 2) (r : Fin 1024) :
    tileBefore u p d r l = if d ≤ (rowOf t r).val % 2048 then U ⟨(rowOf t r).val - d, lt_of_le_of_lt (Nat.sub_le _ _) (rowOf t r).isLt⟩ else 0 := by
  have hr := r.isLt
  have hR : (rowOf t r).val = t.val / 11 * 1024 + r.val := rfl
  unfold tileBefore
  by_cases h : d ≤ r.val
  · rw [dif_pos h, if_pos (by omega), hu]
    refine congrArg U (Fin.ext ?_)
    show t.val / 11 * 1024 + (r.val - d) = (rowOf t r).val - d
    omega
  · rw [dif_neg h]
    by_cases h0 : t.val / 11 % 2 = 0
    · rw [if_neg (by omega), hp0 h0]
    · rw [if_pos (by omega)]
      refine hp1 h0 _ _ ?_
      show (rowOf t r).val - d + 8 = t.val / 11 * 1024 + (8 + r.val - d)
      omega

/-- The gate product of a tile at an entry. -/
theorem ug_at (c : Dev nD) (t : Fin cfg0.N) (l : Fin 256) (j : Fin 5504) (hj : j.val = t.val % 11 * 256 + l.val) (hl : t.val % 11 * 256 + l.val < 2752) (r : Fin 1024) :
    k0_pay6 (iblk m c 0 t) (iblk m c 2 t) (ix2 r l) = up (A0 m c) (A2 m c) (rowOf t r) j := by
  rw [pay6_at]
  unfold up
  refine Finset.sum_congr rfl fun k _ => congrArg₂ (fun a b : EReal => a * b) (b0 m c t r k) ((b2 m c t k l).trans ((v2_at m c k (colOf t l) hl).trans ?_))
  exact congrArg (fun j => A2 m c (ix2 k j)) (Fin.ext hj.symm)

/-- The value product of a tile at an entry. -/
theorem uv_at (c : Dev nD) (t : Fin cfg0.N) (l : Fin 256) (j : Fin 5504) (hj : j.val = 2752 + (t.val % 11 * 256 + l.val)) (hl : t.val % 11 * 256 + l.val < 2752) (r : Fin 1024) :
    k0_pay6 (iblk m c 0 t) (iblk m c 3 t) (ix2 r l) = up (A0 m c) (A2 m c) (rowOf t r) j := by
  rw [pay6_at]
  unfold up
  refine Finset.sum_congr rfl fun k _ => congrArg₂ (fun a b : EReal => a * b) (b0 m c t r k) ((b3 m c t k l).trans ((v5_at m c k (colOf t l) hl).trans ?_))
  exact congrArg (fun j => A2 m c (ix2 k j)) (Fin.ext hj.symm)

theorem zRows_zero (i : S1x1x8x256.Idx) : (zRows (F := Ideal)) i = (0 : EReal) := Ideal.ofBits_zero_f32

theorem row_back (t : Fin cfg0.N) (h : t.val / 11 % 2 ≠ 0) (q : Fin 8) (R : Fin 16384) (hR : R.val + 8 = t.val / 11 * 1024 + q.val) :
    rowOf (back t) ⟨1016 + q.val, by omega⟩ = R := by
  refine Fin.ext ?_
  show (t.val - 11) / 11 * 1024 + (1016 + q.val) = R.val
  omega

theorem gate_conv (c : Dev nD) (t : Fin cfg0.N) (l : Fin 256) (j : Fin 5504) (hj : j.val = t.val % 11 * 256 + l.val) (hl : t.val % 11 * 256 + l.val < 2752) (r : Fin 1024) :
    tileConv (k0_pay6 (iblk m c 0 t) (iblk m c 2 t)) (k0_pay8 (gPrev m c t)) (iblk m c 4 t) (iblk m c 6 t) r l = conv (A0 m c) (A2 m c) (A3 m c) (A4 m c) (rowOf t r) j := by
  have key : ∀ d, d ≤ 2 → tileBefore (k0_pay6 (iblk m c 0 t) (iblk m c 2 t)) (k0_pay8 (gPrev m c t)) d r l = before (A0 m c) (A2 m c) d (rowOf t r) j := fun d hd => by
    refine tileBefore_eq t _ _ (fun R => up (A0 m c) (A2 m c) R j) l (ug_at m c t l j hj hl) ?_ ?_ d hd r
    · intro h q
      rw [pay8_at]
      unfold gPrev
      rw [if_pos h]
      exact zRows_zero _
    · intro h q R hR
      have hb : (back t).val % 11 = t.val % 11 := by show (t.val - 11) % 11 = t.val % 11; omega
      rw [pay8_at]
      unfold gPrev gRows
      rw [if_neg h, pay10_at, ug_at m c (back t) l j (by rw [hb]; exact hj) (by rw [hb]; exact hl), row_back t h q R hR]
  have ew : ∀ q : Fin 3, (iblk m c 4 t : Vec Ideal S3x256 .f32) (ix2 q l) = A3 m c (ix2 q j) := fun q =>
    (b4 m c t q l).trans ((v8_at m c q (colOf t l) hl).trans (congrArg (fun j => A3 m c (ix2 q j)) (Fin.ext hj.symm)))
  have eb : (iblk m c 6 t : Vec Ideal S1x256 .f32) (ix2 0 l) = A4 m c (ix1 j) :=
    (b6 m c t 0 l).trans ((v12_at m c (colOf t l) hl).trans (congrArg (fun j => A4 m c (ix1 j)) (Fin.ext hj.symm)))
  unfold tileConv conv
  rw [key 2 (by omega), key 1 (by omega), key 0 (by omega), ew 0, ew 1, ew 2, eb]

theorem value_conv (c : Dev nD) (t : Fin cfg0.N) (l : Fin 256) (j : Fin 5504) (hj : j.val = 2752 + (t.val % 11 * 256 + l.val)) (hl : t.val % 11 * 256 + l.val < 2752) (r : Fin 1024) :
    tileConv (k0_pay7 (iblk m c 0 t) (iblk m c 3 t)) (k0_pay9 (vPrev m c t)) (iblk m c 5 t) (iblk m c 7 t) r l = conv (A0 m c) (A2 m c) (A3 m c) (A4 m c) (rowOf t r) j := by
  have key : ∀ d, d ≤ 2 → tileBefore (k0_pay7 (iblk m c 0 t) (iblk m c 3 t)) (k0_pay9 (vPrev m c t)) d r l = before (A0 m c) (A2 m c) d (rowOf t r) j := fun d hd => by
    refine tileBefore_eq t _ _ (fun R => up (A0 m c) (A2 m c) R j) l (uv_at m c t l j hj hl) ?_ ?_ d hd r
    · intro h q
      refine (pay8_at (vPrev m c t) q l).trans ?_
      unfold vPrev
      rw [if_pos h]
      exact zRows_zero _
    · intro h q R hR
      have hb : (back t).val % 11 = t.val % 11 := by show (t.val - 11) % 11 = t.val % 11; omega
      refine (pay8_at (vPrev m c t) q l).trans ?_
      unfold vPrev vRows
      rw [if_neg h]
      refine (pay10_at (iblk m c 0 (back t)) (iblk m c 3 (back t)) q l).trans ?_
      rw [uv_at m c (back t) l j (by rw [hb]; exact hj) (by rw [hb]; exact hl), row_back t h q R hR]
  have ew : ∀ q : Fin 3, (iblk m c 5 t : Vec Ideal S3x256 .f32) (ix2 q l) = A3 m c (ix2 q j) := fun q =>
    (b5 m c t q l).trans ((v10_at m c q (colOf t l) hl).trans (congrArg (fun j => A3 m c (ix2 q j)) (Fin.ext hj.symm)))
  have eb : (iblk m c 7 t : Vec Ideal S1x256 .f32) (ix2 0 l) = A4 m c (ix1 j) :=
    (b7 m c t 0 l).trans ((v14_at m c (colOf t l) hl).trans (congrArg (fun j => A4 m c (ix1 j)) (Fin.ext hj.symm)))
  unfold tileConv conv
  rw [key 2 (by omega), key 1 (by omega), key 0 (by omega), ew 0, ew 1, ew 2, eb]

/-! ## The sum of the parts -/

/-- Term `n` of the second product at row `R` and column `k`; zero in the padding. -/
def term (c : Dev nD) (R : Fin 16384) (k : Fin 1024) (n : ℕ) : EReal :=
  if h : n < 2752 then act (A0 m c) (A2 m c) (A3 m c) (A4 m c) R ⟨n, h⟩ * A5 m c (ix2 ⟨n, h⟩ k) else 0

/-- A point's part of the second product at an entry: its 256 terms. -/
theorem part_at (c : Dev nD) (t : Fin cfg0.N) (r : Fin 1024) (k : Fin 1024) :
    partOf m c t (ix2 r k) = ∑ l : Fin 256, term m c (rowOf t r) k (t.val % 11 * 256 + l.val) := by
  unfold partOf
  rw [pay14_at]
  refine Finset.sum_congr rfl fun l _ => ?_
  unfold term
  by_cases hl : t.val % 11 * 256 + l.val < 2752
  · rw [dif_pos hl, pay12_at, gate_conv m c t l ⟨t.val % 11 * 256 + l.val, by omega⟩ rfl hl r, value_conv m c t l ⟨2752 + (t.val % 11 * 256 + l.val), by omega⟩ rfl hl r]
    exact congrArg (fun e : EReal => act (A0 m c) (A2 m c) (A3 m c) (A4 m c) (rowOf t r) ⟨t.val % 11 * 256 + l.val, hl⟩ * e) ((b8 m c t l k).trans (v16_at m c (colOf t l) hl k))
  · rw [dif_neg hl]
    refine (congrArg (fun e : EReal => _ * e) ((b8 m c t l k).trans (v16_pad m c (colOf t l) hl k))).trans ?_
    exact mul_zero _

/-- The sum after a point: the terms of its row tile up to it. -/
theorem acc_at (c : Dev nD) (r : Fin 1024) (k : Fin 1024) : ∀ (n : ℕ) (h : n < cfg0.N),
    accAt m c n h (ix2 r k) = ∑ x ∈ Finset.range ((n % 11 + 1) * 256), term m c (rowOf ⟨n, h⟩ r) k x
  | 0, h => by
    rw [sum_tile]
    show k0_pay1 (partOf m c ⟨0, h⟩) (ix2 r k) = _
    rw [pay1_at, part_at]
    show _ = ∑ x ∈ Finset.range 0, _ + _
    rw [Finset.sum_range_zero, zero_add]
  | n + 1, h => by
    rw [sum_tile]
    show nextA (grid0.coords ⟨n + 1, h⟩) (partOf m c ⟨n + 1, h⟩) (accAt m c n (Nat.lt_of_succ_lt h)) (ix2 r k) = _
    unfold nextA
    by_cases h0 : (n + 1) % 11 = 0
    · rw [if_pos ((first_iff ⟨n + 1, h⟩).mpr h0), pay1_at, part_at]
      show _ = ∑ x ∈ Finset.range ((n + 1) % 11 * 256), _ + _
      rw [h0, zero_mul, Finset.sum_range_zero, zero_add]
    · rw [if_neg (fun e => h0 ((first_iff ⟨n + 1, h⟩).mp e)), pay2_at, part_at, acc_at c r k n (Nat.lt_of_succ_lt h)]
      have hrow : rowOf ⟨n, Nat.lt_of_succ_lt h⟩ r = rowOf ⟨n + 1, h⟩ r := Fin.ext (by show n / 11 * 1024 + r.val = (n + 1) / 11 * 1024 + r.val; omega)
      have hn : n % 11 + 1 = (n + 1) % 11 := by omega
      rw [hrow, hn]

/-- After the last column tile the sum is the whole down projection. -/
theorem acc_last (c : Dev nD) (t : Fin cfg0.N) (ht : t.val % 11 = 10) (r : Fin 1024) (k : Fin 1024) :
    accAt m c t.val t.isLt (ix2 r k) = ∑ f : Fin 2752, act (A0 m c) (A2 m c) (A3 m c) (A4 m c) (rowOf t r) f * A5 m c (ix2 f k) := by
  rw [acc_at, show (t.val % 11 + 1) * 256 = 2752 + 64 by omega, sum_cut _ _ _ (fun x => dif_neg (by omega))]
  refine Finset.sum_congr rfl fun f _ => ?_
  unfold term
  rw [dif_pos f.isLt]

/-! ## The two result arrays -/

/-- The reference's first result, as contents of the kernel's first result array. -/
abbrev out0 (c : Dev nD) : Buf (Elt Ideal) ((c : Thread nD τ).loc main_v18_0) :=
  Cert.FfnRefIdeal.Read.val_main_v33 (F := Ideal) (A0 m c) (A1 m c) (A2 m c) (A3 m c) (A4 m c) (A5 m c)

/-- The reference's second result, as contents of the kernel's second result array. -/
abbrev out1 (c : Dev nD) : Buf (Elt Ideal) ((c : Thread nD τ).loc main_v18_1) :=
  Cert.FfnRefIdeal.Read.val_main_v46 (F := Ideal) (A0 m c) (A1 m c) (A2 m c) (A3 m c) (A4 m c) (A5 m c) (A6 m c)

/-- The first result over the whole arrays. -/
abbrev resM (c : Dev nD) (r : Fin 16384) (l : Fin 1024) : EReal := res (A0 m c) (A1 m c) (A2 m c) (A3 m c) (A4 m c) (A5 m c) r l

theorem splitM (i : S16384x1024.Idx) : i = ix2 (n0 := 16384) (n1 := 1024) (i 0) (i 1) :=
  funext fun a => match a with | ⟨0, _⟩ => rfl | ⟨1, _⟩ => rfl

theorem split (i : S1024x1024.Idx) : i = ix2 (n0 := 1024) (n1 := 1024) (i 0) (i 1) :=
  funext fun a => match a with | ⟨0, _⟩ => rfl | ⟨1, _⟩ => rfl

theorem out0_res (c : Dev nD) (i : S16384x1024.Idx) : out0 m c i = resM m c (i 0) (i 1) :=
  (congrArg (out0 m c) (splitM i)).trans (Cert.FfnRefIdeal.At.v33_at _ _ _ _ _ _ (i 0) (i 1))

theorem out1_rms (c : Dev nD) (i : S16384x1024.Idx) : out1 m c i = rmsAt (resM m c (i 0)) (A6 m c (ix1 (n0 := 1024) (i 1))) (i 1) :=
  (congrArg (out1 m c) (splitM i)).trans (Cert.FfnRefIdeal.At.v46_at _ _ _ _ _ _ _ (i 0) (i 1))

/-- The stream's block plus the whole sum is the first result at the block's rows. -/
theorem res_blk (c : Dev nD) (t : Fin cfg0.N) (ht : t.val % 11 = 10) (r : Fin 1024) :
    (fun k : Fin 1024 => k0_pay3 (iblk m c 1 t) (accAt m c t.val t.isLt) (ix2 r k)) = resM m c (rowOf t r) := by
  funext k
  exact congrArg₂ (fun a b : EReal => a + b) (b1 m c t r k) (acc_last m c t ht r k)

/-- What a point that writes back writes to the first array is its block of the reference's first result. -/
theorem flushed10_eq (c : Dev nD) (t : Fin cfg0.N) (hf : (cfg0.win 10).flush t = true) :
    (dats m 0 c).flushed 10 t = ((cfg0.win 10).blk t).view.read (Elt Ideal) (out0 m c) := by
  have ht := (flush0_10 t).mp hf
  show (cfg0.win 10).cut (grid0.coords t) ((dats m 0 c).after 10 t) = _
  rw [after0_10]
  funext j
  rw [View.read_apply]
  refine Eq.trans ?_ (out0_res m c _).symm
  have e0 : (((cfg0.win 10).blk t).view.emb j) 0 = rowOf t (j 0) := Fin.ext (show cc0_transform_10 (grid0.coords t) 0 * 1024 + 1 * (j 0).val = t.val / 11 * 1024 + (j 0).val by rw [tr10 t]; omega)
  have e1 : (((cfg0.win 10).blk t).view.emb j) 1 = j 1 := Fin.ext (show 0 * 1024 + 1 * (j 1).val = (j 1).val by omega)
  rw [e0, e1]
  refine Eq.trans ?_ (congrFun (res_blk m c t ht (j 0)) (j 1))
  exact congrArg (k0_pay3 (iblk m c 1 t) (accAt m c t.val t.isLt)) (split j)

/-- What a point that writes back writes to the second array is its block of the reference's second result. -/
theorem flushed11_eq (c : Dev nD) (t : Fin cfg0.N) (hf : (cfg0.win 11).flush t = true) :
    (dats m 0 c).flushed 11 t = ((cfg0.win 11).blk t).view.read (Elt Ideal) (out1 m c) := by
  have ht := (flush0_11 t).mp hf
  show (cfg0.win 11).cut (grid0.coords t) ((dats m 0 c).after 11 t) = _
  rw [after0_11]
  funext j
  rw [View.read_apply]
  refine Eq.trans ?_ (out1_rms m c _).symm
  have e0 : (((cfg0.win 11).blk t).view.emb j) 0 = rowOf t (j 0) := Fin.ext (show cc0_transform_11 (grid0.coords t) 0 * 1024 + 1 * (j 0).val = t.val / 11 * 1024 + (j 0).val by rw [tr11 t]; omega)
  have e1 : (((cfg0.win 11).blk t).view.emb j) 1 = j 1 := Fin.ext (show 0 * 1024 + 1 * (j 1).val = (j 1).val by omega)
  rw [e0, e1]
  have hg : (iblk m c 9 t : Vec Ideal S1x1024 .f32) (ix2 (n0 := 1) (n1 := 1024) 0 (j 1)) = A6 m c (ix1 (n0 := 1024) (j 1)) := (b9 m c t 0 (j 1)).trans (v17_at m c (j 1))
  refine Eq.trans ?_ (congrArg₂ (fun f g => rmsAt f g (j 1)) (res_blk m c t ht (j 0)) hg)
  exact (congrArg (k0_pay4 (iblk m c 1 t) (accAt m c t.val t.isLt) (iblk m c 9 t)) (split j)).trans (pay4_at _ _ _ (j 0) (j 1))

/-- The blocks written back cover the first result array. -/
theorem cover10 (i : S16384x1024.Idx) : ∃ t : Fin cfg0.N, (cfg0.win 10).flush t = true ∧ i ∈ ((cfg0.win 10).blk t).view.set := by
  have h0 : (i 0 : Nat) < 16384 := (i 0).isLt
  have h1 : (i 1 : Nat) < 1024 := (i 1).isLt
  have hN : cfg0.N = 176 := N_0
  obtain ⟨t, ht⟩ : ∃ t : Fin cfg0.N, t.val = (i 0).val / 1024 * 11 + 10 := ⟨⟨(i 0).val / 1024 * 11 + 10, by omega⟩, rfl⟩
  refine ⟨t, (flush0_10 t).mpr (by omega), ?_⟩
  show i ∈ ((View.whole main_v18_0).slice (win0_10.rect t)).set
  rw [View.set_slice_whole, Rect.mem_set_unit]
  intro a
  match a with
  | ⟨0, _⟩ => show cc0_transform_10 (grid0.coords t) 0 * 1024 ≤ (i 0 : Nat) ∧ (i 0 : Nat) < cc0_transform_10 (grid0.coords t) 0 * 1024 + 1024
              rw [tr10 t]; omega
  | ⟨1, _⟩ => show 0 * 1024 ≤ (i 1 : Nat) ∧ (i 1 : Nat) < 0 * 1024 + 1024
              omega

/-- The first result array ends holding the reference's first result. -/
theorem final10 (c : Dev nD) : (dats m 0 c).arrAt 10 cfg0.N = out0 m c :=
  (dats m 0 c).arrAt_eq_of_cover 10 (out0 m c) (fun t h => flushed10_eq m c t h) cover10

/-- The blocks written back cover the second result array. -/
theorem cover11 (i : S16384x1024.Idx) : ∃ t : Fin cfg0.N, (cfg0.win 11).flush t = true ∧ i ∈ ((cfg0.win 11).blk t).view.set := by
  have h0 : (i 0 : Nat) < 16384 := (i 0).isLt
  have h1 : (i 1 : Nat) < 1024 := (i 1).isLt
  have hN : cfg0.N = 176 := N_0
  obtain ⟨t, ht⟩ : ∃ t : Fin cfg0.N, t.val = (i 0).val / 1024 * 11 + 10 := ⟨⟨(i 0).val / 1024 * 11 + 10, by omega⟩, rfl⟩
  refine ⟨t, (flush0_11 t).mpr (by omega), ?_⟩
  show i ∈ ((View.whole main_v18_1).slice (win0_11.rect t)).set
  rw [View.set_slice_whole, Rect.mem_set_unit]
  intro a
  match a with
  | ⟨0, _⟩ => show cc0_transform_11 (grid0.coords t) 0 * 1024 ≤ (i 0 : Nat) ∧ (i 0 : Nat) < cc0_transform_11 (grid0.coords t) 0 * 1024 + 1024
              rw [tr11 t]; omega
  | ⟨1, _⟩ => show 0 * 1024 ≤ (i 1 : Nat) ∧ (i 1 : Nat) < 0 * 1024 + 1024
              omega

/-- The second result array ends holding the reference's second result. -/
theorem final11 (c : Dev nD) : (dats m 0 c).arrAt 11 cfg0.N = out1 m c :=
  (dats m 0 c).arrAt_eq_of_cover 11 (out1 m c) (fun t h => flushed11_eq m c t h) cover11

/-- The run: the two results are the reference's and the arguments are unchanged. -/
theorem run : θ_run defs (onTc (τ := τ) (main (F := Ideal))) ⟨m, fun _ => 0, ρ⟩ (fun r => ∀ c : Dev nD,
      r.2.mem ((c.tc : Thread nD τ).loc main_v18_0) = out0 m c
      ∧ r.2.mem ((c.tc : Thread nD τ).loc main_v18_1) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 10).trans (final10 m c), ((h.1 c).1 11).trans (final11 m c), h.2 c⟩)
    (θ_run_and (run_main m ρ) (frame_of m ρ (dats m) (A_eq m) (run_main m ρ)))

end Cert.FfnIdeal.Whole

/-! ## The claim -/

namespace Cert.FfnClaim

open Idealize.ShloMosaic Idealize.ShloMosaic.TcCoe Idealize.SL.Sem

/-- The kernel's two result arrays are the reference's, on every device. -/
theorem algebraic : Cert.algebraic_FfnIdeal_FfnRefIdeal (hFfnIdeal := Cert.FfnIdeal.Gen.facts) (hFfnRefIdeal := Cert.FfnRefIdeal.Gen.facts) :=
  fun m ρ m' ρ' _ hag => ⟨fun c => Cert.FfnIdeal.Whole.out0 m c, fun c => Cert.FfnIdeal.Whole.out1 m c,
    Cert.FfnIdeal.Whole.run m ρ,
    (θ_run _ _ _).mono (fun _ h c => by
      have g := hag c
      refine ⟨(h c).1.trans ?_, (h c).2.1.trans ?_, (h c).2.2⟩
      · rw [Cert.FfnRefIdeal.Read.val_main_v33_eq, g.1, g.2.1, g.2.2.1, g.2.2.2.1, g.2.2.2.2.1, g.2.2.2.2.2.1]
      · rw [Cert.FfnRefIdeal.Read.val_main_v46_eq, g.1, g.2.1, g.2.2.1, g.2.2.2.1, g.2.2.2.2.1, g.2.2.2.2.2.1, g.2.2.2.2.2.2]) (Cert.FfnRefIdeal.Value.run m' ρ')⟩

end Cert.FfnClaim

end
-- ==== Proof.DaSteps.lean ====
module

public import proofs.«01_k».proof.Proof.Gen.DaIdeal.Value
public import Idealize.ShloMosaic.Lib.Tactic
public import Idealize.ShloMosaic.Lib.Pointwise
public import Idealize.ShloMosaic.Lib.VecWindow
public import Idealize.ShloMosaic.Lib.LoopRemainder

/-! # Differential attention: what one grid point leaves, as a fold over key blocks

The body keeps three scratch buffers for the two halves: the running maximum and the running denominator, both
`[2, 256, 1]`, and the running numerator `[2, 256, 128]`. This module reads the run's written pieces as functions of
the buffers' contents: one step per key block. -/

@[expose] public section

set_option maxRecDepth 16384

noncomputable section

namespace Cert.DaIdeal.Steps

open Cert.DaIdeal Cert.DaIdeal.Gen Idealize.ShloMosaic Idealize.ShloMosaic.TcCoe Idealize.SL.Sem
open Idealize.ShloMosaic.VecWindow

variable {F : FTy → Type} [FloatOps F] [Named F]

theorem inb0 : ∀ a, (![0, 0, 0] : Fin 3 → ℕ) a + S1x256x1.size a ≤ S2x256x1.size a := inb_S2x256x1_S1x256x1_0_0_0
theorem inb1 : ∀ a, (![1, 0, 0] : Fin 3 → ℕ) a + S1x256x1.size a ≤ S2x256x1.size a := inb_S2x256x1_S1x256x1_1_0_0
theorem inbA0 : ∀ a, (![0, 0, 0] : Fin 3 → ℕ) a + S1x256x128.size a ≤ S2x256x128.size a := inb_S2x256x128_S1x256x128_0_0_0
theorem inbA1 : ∀ a, (![1, 0, 0] : Fin 3 → ℕ) a + S1x256x128.size a ≤ S2x256x128.size a := inb_S2x256x128_S1x256x128_1_0_0
theorem inbC : ∀ a, (![0, 0, 0] : Fin 3 → ℕ) a + S2x256x1.size a ≤ S2x256x1.size a := inb_S2x256x1_S2x256x1_0_0_0
theorem inbCA : ∀ a, (![0, 0, 0] : Fin 3 → ℕ) a + S2x256x128.size a ≤ S2x256x128.size a := inb_S2x256x128_S2x256x128_0_0_0

/-- Half 0 of a `[2, 256, 1]` buffer. -/
abbrev half0 (x : Vec F S2x256x1 .f32) : Vec F S1x256x1 .f32 := window x ![0, 0, 0] S1x256x1.size inb0
/-- Half 1 of a `[2, 256, 1]` buffer. -/
abbrev half1 (x : Vec F S2x256x1 .f32) : Vec F S1x256x1 .f32 := window x ![1, 0, 0] S1x256x1.size inb1
/-- The buffer with half 0 replaced. -/
abbrev put0 (x : Vec F S2x256x1 .f32) (w : Vec F S1x256x1 .f32) : Vec F S2x256x1 .f32 := put x ![0, 0, 0] S1x256x1.size w
/-- The buffer with half 1 replaced. -/
abbrev put1 (x : Vec F S2x256x1 .f32) (w : Vec F S1x256x1 .f32) : Vec F S2x256x1 .f32 := put x ![1, 0, 0] S1x256x1.size w
/-- Half 0 of a `[2, 256, 128]` buffer. -/
abbrev halfA0 (x : Vec F S2x256x128 .f32) : Vec F S1x256x128 .f32 := window x ![0, 0, 0] S1x256x128.size inbA0
/-- Half 1 of a `[2, 256, 128]` buffer. -/
abbrev halfA1 (x : Vec F S2x256x128 .f32) : Vec F S1x256x128 .f32 := window x ![1, 0, 0] S1x256x128.size inbA1
/-- The buffer with half 0 replaced. -/
abbrev putA0 (x : Vec F S2x256x128 .f32) (w : Vec F S1x256x128 .f32) : Vec F S2x256x128 .f32 := put x ![0, 0, 0] S1x256x128.size w
/-- The buffer with half 1 replaced. -/
abbrev putA1 (x : Vec F S2x256x128 .f32) (w : Vec F S1x256x128 .f32) : Vec F S2x256x128 .f32 := put x ![1, 0, 0] S1x256x128.size w

/-- Key block `n` of 256 rows. -/
def blk (x : Vec F S2048x128 .bf16) (n : ℕ) : Vec F S256x128 .bf16 :=
  fun j => x (ix2 (⟨(n * 256 + (j 0).val) % 2048, Nat.mod_lt _ (by decide)⟩ : Fin 2048) (j 1))

/-- The scores of a key block with one number added. -/
abbrev sFar (q kb : Vec F S256x128 .bf16) (f : Elt F .f32) : FVec F S256x256 .f32 := k0_pay1 q kb f
/-- The scores of a key block with a bias block added. -/
abbrev sNear (q kb : Vec F S256x128 .bf16) (b : Vec F S1x256x256 .f32) : FVec F S256x256 .f32 := k0_pay33 q kb b
/-- The scores of the diagonal key block: bias added, later keys masked. -/
abbrev sDiag (q kb : Vec F S256x128 .bf16) (b : Vec F S1x256x256 .f32) : FVec F S256x256 .f32 := k0_pay63 q kb b

/-- The new maximum of a half. -/
def mN (s : FVec F S256x256 .f32) (m : Vec F S1x256x1 .f32) : FVec F S256x1 .f32 :=
  maximumf (k0_pay2 m) (shapeCast S256x1 (multiReduction .maximumf [1] S256 s 0xFF800000#32 reduces_S256x256_S256 (.inl rfl) rfl) shapeCasts_S256_S256x1)
/-- The rescaling of a half. -/
def aN (s : FVec F S256x256 .f32) (m : Vec F S1x256x1 .f32) : FVec F S256x1 .f32 := exp (subf (k0_pay2 m) (mN s m))
/-- The weights of a half. -/
def pN (s : FVec F S256x256 .f32) (m : Vec F S1x256x1 .f32) : FVec F S256x256 .f32 :=
  exp (subf s (broadcastTo S256x256 (mN s m) broadcasts_S256x1_S256x256))
/-- The new denominator of a half. -/
def lN (s : FVec F S256x256 .f32) (m l : Vec F S1x256x1 .f32) : Vec F S1x256x1 .f32 := k0_pay77 (aN s m) (pN s m) l
/-- The new numerator of a half. -/
def accN (s : FVec F S256x256 .f32) (vb : Vec F S256x128 .bf16) (m : Vec F S1x256x1 .f32) (a : Vec F S1x256x128 .f32) : Vec F S1x256x128 .f32 :=
  k0_pay57 vb (aN s m) (pN s m) a
/-- The new maximum, stored. -/
abbrev mS (s : FVec F S256x256 .f32) (m : Vec F S1x256x1 .f32) : Vec F S1x256x1 .f32 := k0_pay10 (mN s m)

/-- The three buffers. -/
abbrev St (F : FTy → Type) : Type := Vec F S2x256x1 .f32 × Vec F S2x256x1 .f32 × Vec F S2x256x128 .f32

/-- The three buffers after one key block. -/
def step (s0 s1 : FVec F S256x256 .f32) (vb : Vec F S256x128 .bf16) (x : St F) : St F :=
  (put1 (put0 x.1 (mS s0 (half0 x.1))) (mS s1 (half1 x.1)),
   put1 (put0 x.2.1 (lN s0 (half0 x.1) (half0 x.2.1))) (lN s1 (half1 x.1) (half1 x.2.1)),
   putA1 (putA0 x.2.2 (accN s0 vb (half0 x.1) (halfA0 x.2.2))) (accN s1 vb (half1 x.1) (halfA1 x.2.2)))

/-- The three buffers at the start. -/
def st0 : St F := (k0_pay54, k0_pay55, k0_pay56)

/-- The three buffers after the first `k` key blocks, all far. -/
def stFar (q0 q1 : Vec F S256x128 .bf16) (x2 x3 : Vec F S2048x128 .bf16) (f0 f1 : Elt F .f32) : ℕ → St F
  | 0 => st0
  | k + 1 => step (sFar q0 (blk x2 k) f0) (sFar q1 (blk x2 k) f1) (blk x3 k) (stFar q0 q1 x2 x3 f0 f1 k)

theorem trips1 (i : grid0.Coords) : (k0_t1_loop i).trips = (i 2).val - 1 := by
  have h : ∀ n : Fin 8, Scf.trips 0#32 (Scalar.addi 0#32 (Scalar.muli (Scalar.divsi (Scalar.subi (Scalar.subi (BitVec.ofNat 32 n.val) 1#32) 0#32) 1#32) 1#32)) 1#32 = n.val - 1 := by
    decide +kernel
  exact h (i 2)

theorem trips2 (i : grid0.Coords) : (k0_t2_loop i).trips = 0 := by
  have h : ∀ n : Fin 8, Scf.trips (Scalar.addi 0#32 (Scalar.muli (Scalar.divsi (Scalar.subi (Scalar.subi (BitVec.ofNat 32 n.val) 1#32) 0#32) 1#32) 1#32)) (Scalar.addi 0#32 (Scalar.subi (Scalar.subi (BitVec.ofNat 32 n.val) 1#32) 0#32)) 1#32 = 0 := by
    decide +kernel
  exact h (i 2)

/-- A load of 256 rows at row `n * 256` is key block `n`. -/
theorem readAt_blk {sp : Space} (a : Memref sig .tc sp S2048x128 .bf16) (X : a.view.ty.Contents (Elt F)) (off : Fin 2 → ℕ) (n : ℕ) (hn : n < 8)
    (h0 : off 0 = n * 256) (h1 : off 1 = 0) (inb : ∀ b, off b + S256x128.size b ≤ S2048x128.size b) :
    View.readAt (Elt F) a.view (Rect.unit (s := S2048x128) off S256x128.size inb).toLoadRect X = blk (a.view.read (Elt F) X) n := by
  rw [View.readAt_eq_ld]
  funext j
  unfold blk View.ld
  congr 1
  funext b
  apply Fin.ext
  have hj : (j 0).val < 256 := (j 0).isLt
  match b with
  | ⟨0, _⟩ => show off 0 + 1 * (j 0).val = (n * 256 + (j 0).val) % 2048; rw [h0]; omega
  | ⟨1, _⟩ => show off 1 + 1 * (j 1).val = (j 1).val; rw [h1]; omega

/-- The element of the far-bias row that half `e` of head `i 1` reads. -/
def farIx (i : grid0.Coords) (e : Fin 2) : Fin 16 := ⟨2 * (i 1).val + e.val, by have h : (i 1).val < 8 := (i 1).isLt; omega⟩

theorem readAt_far (i : grid0.Coords) (a : Memref sig .tc .smem S16 .f32) (X : a.view.ty.Contents (Elt F)) (e : Fin 2) (off : Fin 1 → ℕ)
    (h0 : off 0 = 2 * (i 1).val + e.val) (inb : ∀ b, off b + S1.size b ≤ S16.size b) (z) :
    View.readAt (Elt F) a.view (Rect.unit (s := S16) off S1.size inb).toLoadRect X z = a.view.read (Elt F) X (ix1 (farIx i e)) := by
  rw [View.readAt_eq_ld]
  unfold View.ld
  congr 1
  funext b
  apply Fin.ext
  have hz : (z 0).val < 1 := (z 0).isLt
  match b with
  | ⟨0, _⟩ => show off 0 + 1 * (z 0).val = 2 * (i 1).val + e.val; rw [h0]; omega

theorem off2 (i : grid0.Coords) (e : Fin 2) : k0_off2 i (BitVec.ofNat 32 e.val) 0 = 2 * (i 1).val + e.val := by
  have h : ∀ (n : Fin 8) (e : Fin 2), BitVec.toNat (Scalar.indexCast (Scalar.addi (Scalar.muli 2#32 (BitVec.ofNat 32 n.val)) (BitVec.ofNat 32 e.val))) = 2 * n.val + e.val := by
    decide +kernel
  exact h (i 1) e

theorem offs1 (i : grid0.Coords) (k : Fin (k0_t1_loop i).trips) : k0_off1 i k 0 = k.val * 256 := by
  have hk : k.val < (i 2).val - 1 := lt_of_lt_of_eq k.isLt (trips1 i)
  have h : ∀ k : Fin 8, BitVec.toNat (Scalar.indexCast (Scalar.muli (Scf.iv 0#32 1#32 k.val) 256#32)) = k.val * 256 := by
    decide +kernel
  have hi : (i 2).val < 8 := (i 2).isLt
  exact h ⟨k.val, by omega⟩

theorem offs5 (i : grid0.Coords) (hi : 1 ≤ (i 2).val) : k0_off5 i 0 = ((i 2).val - 1) * 256 := by
  have h : ∀ n : Fin 8, 1 ≤ n.val → BitVec.toNat (Scalar.indexCast (Scalar.muli (Scalar.subi (BitVec.ofNat 32 n.val) 1#32) 256#32)) = (n.val - 1) * 256 := by
    decide +kernel
  exact h (i 2) hi

theorem offs6 (i : grid0.Coords) : k0_off6 i 0 = (i 2).val * 256 := by
  have h : ∀ n : Fin 8, BitVec.toNat (Scalar.indexCast (Scalar.muli (BitVec.ofNat 32 n.val) 256#32)) = n.val * 256 := by
    decide +kernel
  exact h (i 2)

theorem half1_put0 (x : Vec F S2x256x1 .f32) (w : Vec F S1x256x1 .f32) : half1 (put0 x w) = half1 x :=
  window_put_of_disjoint x ![0, 0, 0] S1x256x1.size ![1, 0, 0] S1x256x1.size inb1 w 0 (Or.inr (by decide))

theorem half1_put0A (x : Vec F S2x256x128 .f32) (w : Vec F S1x256x128 .f32) : halfA1 (putA0 x w) = halfA1 x :=
  window_put_of_disjoint x ![0, 0, 0] S1x256x128.size ![1, 0, 0] S1x256x128.size inbA1 w 0 (Or.inr (by decide))

section Loop

variable (𝒱 : Variants) (c : Dev nD) (bd : Option 𝒱.V) (i : grid0.Coords) (arg3 : Memref sig .tc .smem S16 .f32) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x128 .bf16) (harg10 : arg10.IsWhole) (arg11 : Memref sig .tc .vmem S2x256x1 .f32) (harg11 : arg11.IsWhole) (arg12 : Memref sig .tc .vmem S2x256x1 .f32) (harg12 : arg12.IsWhole) (arg13 : Memref sig .tc .vmem S2x256x128 .f32) (harg13 : arg13.IsWhole) (arg1 arg2 : BitVec 32) (q0 q1 : FVec F S256x128 .bf16) (c0_i32_16 v30 : BitVec 32) (X_arg3 : BufTy.Contents (Elt F) arg3.view.ty) (X_arg5 : BufTy.Contents (Elt F) arg5.view.ty) (X_arg6 : BufTy.Contents (Elt F) arg6.view.ty)

/-- The rows of a whole buffer one trip reads. -/
abbrev KB (a : Memref sig .tc .vmem S2048x128 .bf16) (X : BufTy.Contents (Elt F) a.view.ty) (k : Fin (k0_t1_loop i).trips) : Vec F S256x128 .bf16 :=
  View.readAt (Elt F) a.view (Rect.unit (s := S2048x128) (k0_off1 i k) S256x128.size (k0_off1_inb i k)).toLoadRect X

/-- The far-bias element one trip reads for half `e`. -/
abbrev FARX (a : Memref sig .tc .smem S16 .f32) (X : BufTy.Contents (Elt F) a.view.ty) (e : Fin 2) : Elt F .f32 :=
  View.readAt (Elt F) a.view (Rect.unit (s := S16) (k0_off2 i (BitVec.ofNat 32 e.val)) S1.size (k0_off2_inb i e)).toLoadRect X (Shape.Idx.first (by show 0 < S1.numel; decide))

/-- One trip's stores, listed. -/
theorem tripL_eq (k : Fin (k0_t1_loop i).trips) (f11 : BufTy.Contents (Elt F) arg11.view.ty) (f12 : BufTy.Contents (Elt F) arg12.view.ty) (f13 : BufTy.Contents (Elt F) arg13.view.ty) :
    tripL_k0_t1 (F := F) 𝒱 c bd i arg3 harg3 arg4 harg4 arg5 harg5 arg6 harg6 arg7 harg7 arg8 harg8 arg9 harg9 arg10 harg10 arg11 harg11 arg12 harg12 arg13 harg13 arg1 arg2 q0 q1 c0_i32_16 v30 X_arg3 X_arg5 X_arg6 k f11 f12 f13
    = ([⟨(Rect.unit (s := S2x256x1) ![1, 0, 0] S1x256x1.size inb1), mS (sFar q1 (KB i arg5 X_arg5 k) (FARX i arg3 X_arg3 1)) (View.readAt (Elt F) arg11.view (Rect.unit (s := S2x256x1) ![1, 0, 0] S1x256x1.size inb1).toLoadRect f11)⟩, ⟨(Rect.unit (s := S2x256x1) ![0, 0, 0] S1x256x1.size inb0), mS (sFar q0 (KB i arg5 X_arg5 k) (FARX i arg3 X_arg3 0)) (View.readAt (Elt F) arg11.view (Rect.unit (s := S2x256x1) ![0, 0, 0] S1x256x1.size inb0).toLoadRect f11)⟩],
       [⟨(Rect.unit (s := S2x256x1) ![1, 0, 0] S1x256x1.size inb1), lN (sFar q1 (KB i arg5 X_arg5 k) (FARX i arg3 X_arg3 1)) (View.readAt (Elt F) arg11.view (Rect.unit (s := S2x256x1) ![1, 0, 0] S1x256x1.size inb1).toLoadRect f11) (View.readAt (Elt F) arg12.view (Rect.unit (s := S2x256x1) ![1, 0, 0] S1x256x1.size inb1).toLoadRect f12)⟩, ⟨(Rect.unit (s := S2x256x1) ![0, 0, 0] S1x256x1.size inb0), lN (sFar q0 (KB i arg5 X_arg5 k) (FARX i arg3 X_arg3 0)) (View.readAt (Elt F) arg11.view (Rect.unit (s := S2x256x1) ![0, 0, 0] S1x256x1.size inb0).toLoadRect f11) (View.readAt (Elt F) arg12.view (Rect.unit (s := S2x256x1) ![0, 0, 0] S1x256x1.size inb0).toLoadRect f12)⟩],
       [⟨(Rect.unit (s := S2x256x128) ![1, 0, 0] S1x256x128.size inbA1), accN (sFar q1 (KB i arg5 X_arg5 k) (FARX i arg3 X_arg3 1)) (KB i arg6 X_arg6 k) (View.readAt (Elt F) arg11.view (Rect.unit (s := S2x256x1) ![1, 0, 0] S1x256x1.size inb1).toLoadRect f11) (View.readAt (Elt F) arg13.view (Rect.unit (s := S2x256x128) ![1, 0, 0] S1x256x128.size inbA1).toLoadRect f13)⟩, ⟨(Rect.unit (s := S2x256x128) ![0, 0, 0] S1x256x128.size inbA0), accN (sFar q0 (KB i arg5 X_arg5 k) (FARX i arg3 X_arg3 0)) (KB i arg6 X_arg6 k) (View.readAt (Elt F) arg11.view (Rect.unit (s := S2x256x1) ![0, 0, 0] S1x256x1.size inb0).toLoadRect f11) (View.readAt (Elt F) arg13.view (Rect.unit (s := S2x256x128) ![0, 0, 0] S1x256x128.size inbA0).toLoadRect f13)⟩]) := by
  unfold tripL_k0_t1 trip_k0_t1
  dsimp only
  sl_unfold_words
  rfl

/-- One trip's written pieces, read back: the step of the trip's key block. -/
theorem trip_read (k : Fin (k0_t1_loop i).trips) (f11 : BufTy.Contents (Elt F) arg11.view.ty) (f12 : BufTy.Contents (Elt F) arg12.view.ty) (f13 : BufTy.Contents (Elt F) arg13.view.ty) :
    ((arg11.view.read (Elt F) (arg11.view.writes (Elt F) f11 (tripL_k0_t1 (F := F) 𝒱 c bd i arg3 harg3 arg4 harg4 arg5 harg5 arg6 harg6 arg7 harg7 arg8 harg8 arg9 harg9 arg10 harg10 arg11 harg11 arg12 harg12 arg13 harg13 arg1 arg2 q0 q1 c0_i32_16 v30 X_arg3 X_arg5 X_arg6 k f11 f12 f13).1), arg12.view.read (Elt F) (arg12.view.writes (Elt F) f12 (tripL_k0_t1 (F := F) 𝒱 c bd i arg3 harg3 arg4 harg4 arg5 harg5 arg6 harg6 arg7 harg7 arg8 harg8 arg9 harg9 arg10 harg10 arg11 harg11 arg12 harg12 arg13 harg13 arg1 arg2 q0 q1 c0_i32_16 v30 X_arg3 X_arg5 X_arg6 k f11 f12 f13).2.1), arg13.view.read (Elt F) (arg13.view.writes (Elt F) f13 (tripL_k0_t1 (F := F) 𝒱 c bd i arg3 harg3 arg4 harg4 arg5 harg5 arg6 harg6 arg7 harg7 arg8 harg8 arg9 harg9 arg10 harg10 arg11 harg11 arg12 harg12 arg13 harg13 arg1 arg2 q0 q1 c0_i32_16 v30 X_arg3 X_arg5 X_arg6 k f11 f12 f13).2.2)) : St F)
    = step (sFar q0 (blk (arg5.view.read (Elt F) X_arg5) k.val) (arg3.view.read (Elt F) X_arg3 (ix1 (farIx i 0)))) (sFar q1 (blk (arg5.view.read (Elt F) X_arg5) k.val) (arg3.view.read (Elt F) X_arg3 (ix1 (farIx i 1)))) (blk (arg6.view.read (Elt F) X_arg6) k.val) (arg11.view.read (Elt F) f11, arg12.view.read (Elt F) f12, arg13.view.read (Elt F) f13) := by
  have hi : (i 2).val < 8 := (i 2).isLt
  have hk : k.val < (i 2).val - 1 := lt_of_lt_of_eq k.isLt (trips1 i)
  have e5 : KB i arg5 X_arg5 k = blk (arg5.view.read (Elt F) X_arg5) k.val := readAt_blk (F := F) arg5 X_arg5 (k0_off1 i k) _ (by omega) (offs1 i k) rfl (k0_off1_inb i k)
  have e6 : KB i arg6 X_arg6 k = blk (arg6.view.read (Elt F) X_arg6) k.val := readAt_blk (F := F) arg6 X_arg6 (k0_off1 i k) _ (by omega) (offs1 i k) rfl (k0_off1_inb i k)
  have g0 : FARX i arg3 X_arg3 0 = (arg3.view.read (Elt F) X_arg3 (ix1 (farIx i 0))) := readAt_far (F := F) i arg3 X_arg3 0 _ (off2 i 0) _ _
  have g1 : FARX i arg3 X_arg3 1 = (arg3.view.read (Elt F) X_arg3 (ix1 (farIx i 1))) := readAt_far (F := F) i arg3 X_arg3 1 _ (off2 i 1) _ _
  rw [tripL_eq, e5, e6, g0, g1]
  dsimp only
  rw [View.read_writes_cons_put arg11.view f11 (off' := ![1, 0, 0]) _ _ _ rfl, View.read_writes_cons_put arg11.view f11 (off' := ![0, 0, 0]) _ _ _ rfl,
    View.read_writes_cons_put arg12.view f12 (off' := ![1, 0, 0]) _ _ _ rfl, View.read_writes_cons_put arg12.view f12 (off' := ![0, 0, 0]) _ _ _ rfl,
    View.read_writes_cons_put arg13.view f13 (off' := ![1, 0, 0]) _ _ _ rfl, View.read_writes_cons_put arg13.view f13 (off' := ![0, 0, 0]) _ _ _ rfl]
  rfl

/-- The three buffers before trip `k`, from contents that read as the start. -/
theorem loop_read (G11 : BufTy.Contents (Elt F) arg11.view.ty) (G12 : BufTy.Contents (Elt F) arg12.view.ty) (G13 : BufTy.Contents (Elt F) arg13.view.ty)
    (h : ((arg11.view.read (Elt F) G11, arg12.view.read (Elt F) G12, arg13.view.read (Elt F) G13) : St F) = st0) (k : ℕ) (hk : k ≤ (k0_t1_loop i).trips) :
    ((arg11.view.read (Elt F) (arg11.view.writes (Elt F) G11 (pb_k0_t1 (F := F) 𝒱 c bd i arg3 harg3 arg4 harg4 arg5 harg5 arg6 harg6 arg7 harg7 arg8 harg8 arg9 harg9 arg10 harg10 arg11 harg11 arg12 harg12 arg13 harg13 arg1 arg2 q0 q1 c0_i32_16 v30 X_arg3 X_arg5 X_arg6 G11 G12 G13 k).1), arg12.view.read (Elt F) (arg12.view.writes (Elt F) G12 (pb_k0_t1 (F := F) 𝒱 c bd i arg3 harg3 arg4 harg4 arg5 harg5 arg6 harg6 arg7 harg7 arg8 harg8 arg9 harg9 arg10 harg10 arg11 harg11 arg12 harg12 arg13 harg13 arg1 arg2 q0 q1 c0_i32_16 v30 X_arg3 X_arg5 X_arg6 G11 G12 G13 k).2.1), arg13.view.read (Elt F) (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 arg1 arg2 q0 q1 c0_i32_16 v30 X_arg3 X_arg5 X_arg6 G11 G12 G13 k).2.2)) : St F)
      = stFar q0 q1 (arg5.view.read (Elt F) X_arg5) (arg6.view.read (Elt F) X_arg6) (arg3.view.read (Elt F) X_arg3 (ix1 (farIx i 0))) (arg3.view.read (Elt F) X_arg3 (ix1 (farIx i 1))) k := by
  induction k with
  | zero => exact h
  | succ k ih =>
    have ih := ih (by omega)
    have e := pb_k0_t1_succ (F := F) 𝒱 c bd i arg3 harg3 arg4 harg4 arg5 harg5 arg6 harg6 arg7 harg7 arg8 harg8 arg9 harg9 arg10 harg10 arg11 harg11 arg12 harg12 arg13 harg13 arg1 arg2 q0 q1 c0_i32_16 v30 X_arg3 X_arg5 X_arg6 G11 G12 G13 ⟨k, hk⟩
    dsimp only at e
    rw [e]
    dsimp only
    rw [View.writes_append, View.writes_append, View.writes_append]
    refine (trip_read 𝒱 c bd i arg3 harg3 arg4 harg4 arg5 harg5 arg6 harg6 arg7 harg7 arg8 harg8 arg9 harg9 arg10 harg10 arg11 harg11 arg12 harg12 arg13 harg13 arg1 arg2 q0 q1 c0_i32_16 v30 X_arg3 X_arg5 X_arg6 ⟨k, hk⟩ _ _ _).trans ?_
    rw [ih]
    rfl

end Loop

section Lists

variable (a11 : Memref sig .tc .vmem S2x256x1 .f32) (a12 : Memref sig .tc .vmem S2x256x1 .f32) (a13 : Memref sig .tc .vmem S2x256x128 .f32)

/-- The pieces written to the three buffers. -/
abbrev PL (F : FTy → Type) : Type := List (View.Piece (Elt F) S2x256x1 .f32) × List (View.Piece (Elt F) S2x256x1 .f32) × List (View.Piece (Elt F) S2x256x128 .f32)

/-- The three buffers under the pieces, read. -/
abbrev rdL (L : PL F) : St F :=
  (a11.view.read (Elt F) (a11.view.writes (Elt F) a11.view.junk L.1), a12.view.read (Elt F) (a12.view.writes (Elt F) a12.view.junk L.2.1), a13.view.read (Elt F) (a13.view.writes (Elt F) a13.view.junk L.2.2))

/-- The pieces after half 0 of a key block. -/
abbrev stepL0 (s0 : FVec F S256x256 .f32) (vb : Vec F S256x128 .bf16) (L : PL F) : PL F :=
  (⟨(Rect.unit (s := S2x256x1) ![0, 0, 0] S1x256x1.size inb0), mS s0 (a11.view.readCov L.1 (Rect.unit (s := S2x256x1) ![0, 0, 0] S1x256x1.size inb0).toLoadRect)⟩ :: L.1,
   ⟨(Rect.unit (s := S2x256x1) ![0, 0, 0] S1x256x1.size inb0), lN s0 (a11.view.readCov L.1 (Rect.unit (s := S2x256x1) ![0, 0, 0] S1x256x1.size inb0).toLoadRect) (a12.view.readCov L.2.1 (Rect.unit (s := S2x256x1) ![0, 0, 0] S1x256x1.size inb0).toLoadRect)⟩ :: L.2.1,
   ⟨(Rect.unit (s := S2x256x128) ![0, 0, 0] S1x256x128.size inbA0), accN s0 vb (a11.view.readCov L.1 (Rect.unit (s := S2x256x1) ![0, 0, 0] S1x256x1.size inb0).toLoadRect) (a13.view.readCov L.2.2 (Rect.unit (s := S2x256x128) ![0, 0, 0] S1x256x128.size inbA0).toLoadRect)⟩ :: L.2.2)

/-- The pieces after half 1 of a key block. -/
abbrev stepL1 (s1 : FVec F S256x256 .f32) (vb : Vec F S256x128 .bf16) (L : PL F) : PL F :=
  (⟨(Rect.unit (s := S2x256x1) ![1, 0, 0] S1x256x1.size inb1), mS s1 (a11.view.readCov L.1 (Rect.unit (s := S2x256x1) ![1, 0, 0] S1x256x1.size inb1).toLoadRect)⟩ :: L.1,
   ⟨(Rect.unit (s := S2x256x1) ![1, 0, 0] S1x256x1.size inb1), lN s1 (a11.view.readCov L.1 (Rect.unit (s := S2x256x1) ![1, 0, 0] S1x256x1.size inb1).toLoadRect) (a12.view.readCov L.2.1 (Rect.unit (s := S2x256x1) ![1, 0, 0] S1x256x1.size inb1).toLoadRect)⟩ :: L.2.1,
   ⟨(Rect.unit (s := S2x256x128) ![1, 0, 0] S1x256x128.size inbA1), accN s1 vb (a11.view.readCov L.1 (Rect.unit (s := S2x256x1) ![1, 0, 0] S1x256x1.size inb1).toLoadRect) (a13.view.readCov L.2.2 (Rect.unit (s := S2x256x128) ![1, 0, 0] S1x256x128.size inbA1).toLoadRect)⟩ :: L.2.2)

theorem cov0 (a : Memref sig .tc .vmem S2x256x1 .f32) (L : List (View.Piece (Elt F) S2x256x1 .f32)) :
    a.view.readCov L (Rect.unit (s := S2x256x1) ![0, 0, 0] S1x256x1.size inb0).toLoadRect = half0 (a.view.read (Elt F) (a.view.writes (Elt F) a.view.junk L)) := by
  unfold View.readCov
  rw [View.readAt_unit a.view _ _ (off' := ![0, 0, 0]) rfl inb0]
theorem cov1 (a : Memref sig .tc .vmem S2x256x1 .f32) (L : List (View.Piece (Elt F) S2x256x1 .f32)) :
    a.view.readCov L (Rect.unit (s := S2x256x1) ![1, 0, 0] S1x256x1.size inb1).toLoadRect = half1 (a.view.read (Elt F) (a.view.writes (Elt F) a.view.junk L)) := by
  unfold View.readCov
  rw [View.readAt_unit a.view _ _ (off' := ![1, 0, 0]) rfl inb1]
theorem covA0 (a : Memref sig .tc .vmem S2x256x128 .f32) (L : List (View.Piece (Elt F) S2x256x128 .f32)) :
    a.view.readCov L (Rect.unit (s := S2x256x128) ![0, 0, 0] S1x256x128.size inbA0).toLoadRect = halfA0 (a.view.read (Elt F) (a.view.writes (Elt F) a.view.junk L)) := by
  unfold View.readCov
  rw [View.readAt_unit a.view _ _ (off' := ![0, 0, 0]) rfl inbA0]
theorem covA1 (a : Memref sig .tc .vmem S2x256x128 .f32) (L : List (View.Piece (Elt F) S2x256x128 .f32)) :
    a.view.readCov L (Rect.unit (s := S2x256x128) ![1, 0, 0] S1x256x128.size inbA1).toLoadRect = halfA1 (a.view.read (Elt F) (a.view.writes (Elt F) a.view.junk L)) := by
  unfold View.readCov
  rw [View.readAt_unit a.view _ _ (off' := ![1, 0, 0]) rfl inbA1]

/-- The pieces after half 0, read. -/
theorem stepL0_read (s0 : FVec F S256x256 .f32) (vb : Vec F S256x128 .bf16) (L : PL F) :
    rdL a11 a12 a13 (stepL0 a11 a12 a13 s0 vb L)
    = (put0 (rdL a11 a12 a13 L).1 (mS s0 (half0 (rdL a11 a12 a13 L).1)),
       put0 (rdL a11 a12 a13 L).2.1 (lN s0 (half0 (rdL a11 a12 a13 L).1) (half0 (rdL a11 a12 a13 L).2.1)),
       putA0 (rdL a11 a12 a13 L).2.2 (accN s0 vb (half0 (rdL a11 a12 a13 L).1) (halfA0 (rdL a11 a12 a13 L).2.2))) := by
  unfold stepL0
  rw [cov0 a11 L.1, cov0 a12 L.2.1, covA0 a13 L.2.2]
  unfold rdL
  rw [View.read_writes_cons_put a11.view _ (off' := ![0, 0, 0]) _ _ _ rfl, View.read_writes_cons_put a12.view _ (off' := ![0, 0, 0]) _ _ _ rfl,
    View.read_writes_cons_put a13.view _ (off' := ![0, 0, 0]) _ _ _ rfl]

/-- The pieces after half 1, read. -/
theorem stepL1_read (s1 : FVec F S256x256 .f32) (vb : Vec F S256x128 .bf16) (L : PL F) :
    rdL a11 a12 a13 (stepL1 a11 a12 a13 s1 vb L)
    = (put1 (rdL a11 a12 a13 L).1 (mS s1 (half1 (rdL a11 a12 a13 L).1)),
       put1 (rdL a11 a12 a13 L).2.1 (lN s1 (half1 (rdL a11 a12 a13 L).1) (half1 (rdL a11 a12 a13 L).2.1)),
       putA1 (rdL a11 a12 a13 L).2.2 (accN s1 vb (half1 (rdL a11 a12 a13 L).1) (halfA1 (rdL a11 a12 a13 L).2.2))) := by
  unfold stepL1
  rw [cov1 a11 L.1, cov1 a12 L.2.1, covA1 a13 L.2.2]
  unfold rdL
  rw [View.read_writes_cons_put a11.view _ (off' := ![1, 0, 0]) _ _ _ rfl, View.read_writes_cons_put a12.view _ (off' := ![1, 0, 0]) _ _ _ rfl,
    View.read_writes_cons_put a13.view _ (off' := ![1, 0, 0]) _ _ _ rfl]

/-- The pieces after a key block, read: the step. -/
theorem stepL_read (s0 s1 : FVec F S256x256 .f32) (vb : Vec F S256x128 .bf16) (L : PL F) :
    rdL a11 a12 a13 (stepL1 a11 a12 a13 s1 vb (stepL0 a11 a12 a13 s0 vb L)) = step s0 s1 vb (rdL a11 a12 a13 L) := by
  rw [stepL1_read, stepL0_read]
  dsimp only
  rw [half1_put0, half1_put0, half1_put0A]
  rfl

end Lists

/-- The three buffers after all key blocks of row block `n` of head `hd`. -/
def stAll (x0 : Vec F S16 .f32) (hd : Fin 8) (x1 : Vec F S256x128 .bf16) (x2 x3 : Vec F S2048x128 .bf16) (x4 : Vec F S2x256x512 .f32) : ℕ → St F
  | 0 => step (sDiag (k0_pay52 x1) (blk x2 0) (window x4 ![0, 0, 256] S1x256x256.size inb_S2x256x512_S1x256x256_0_0_256)) (sDiag (k0_pay53 x1) (blk x2 0) (window x4 ![1, 0, 256] S1x256x256.size inb_S2x256x512_S1x256x256_1_0_256)) (blk x3 0) st0
  | n + 1 => step (sDiag (k0_pay52 x1) (blk x2 (n + 1)) (window x4 ![0, 0, 256] S1x256x256.size inb_S2x256x512_S1x256x256_0_0_256)) (sDiag (k0_pay53 x1) (blk x2 (n + 1)) (window x4 ![1, 0, 256] S1x256x256.size inb_S2x256x512_S1x256x256_1_0_256)) (blk x3 (n + 1))
      (step (sNear (k0_pay52 x1) (blk x2 n) (window x4 ![0, 0, 0] S1x256x256.size inb_S2x256x512_S1x256x256_0_0_0)) (sNear (k0_pay53 x1) (blk x2 n) (window x4 ![1, 0, 0] S1x256x256.size inb_S2x256x512_S1x256x256_1_0_0)) (blk x3 n)
        (stFar (k0_pay52 x1) (k0_pay53 x1) x2 x3 (x0 (ix1 (⟨2 * hd.val, by omega⟩ : Fin 16))) (x0 (ix1 (⟨2 * hd.val + 1, by omega⟩ : Fin 16))) n))

/-- What a grid point leaves, from the three buffers. -/
def fin7 (x5 : Vec F S4x64 .f32) (x6 : Vec F S1x128 .f32) (s : St F) : Vec F S256x128 .bf16 :=
  k0_pay82 (k0_pay80 x5) (k0_pay81 x5) (halfA0 s.2.2) (half0 s.2.1) (halfA1 s.2.2) (half1 s.2.1) x6

/-- A load of a bias block. -/
theorem readAt_bias (a : Memref sig .tc .vmem S2x256x512 .f32) (X : a.view.ty.Contents (Elt F)) (off : Fin 3 → ℕ) (inb : ∀ b, off b + S1x256x256.size b ≤ S2x256x512.size b) :
    View.readAt (Elt F) a.view (Rect.unit (s := S2x256x512) off S1x256x256.size inb).toLoadRect X = window (a.view.read (Elt F) X) off S1x256x256.size inb :=
  View.readAt_unit a.view _ _ rfl inb

section Out

variable (c : Dev nD) (i : grid0.Coords) (arg3 : Memref sig .tc .smem S16 .f32) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2x256x512 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S256x128 .bf16) (harg10 : arg10.IsWhole) (arg11 : Memref sig .tc .vmem S2x256x1 .f32) (harg11 : arg11.IsWhole) (arg12 : Memref sig .tc .vmem S2x256x1 .f32) (harg12 : arg12.IsWhole) (arg13 : Memref sig .tc .vmem S2x256x128 .f32) (harg13 : arg13.IsWhole) (x0 : Vec F S16 .f32) (x1 : Vec F S256x128 .bf16) (x2 : Vec F S2048x128 .bf16) (x3 : Vec F S2048x128 .bf16) (x4 : Vec F S2x256x512 .f32) (x5 : Vec F S4x64 .f32) (x6 : Vec F S1x128 .f32)

set_option quotPrecheck false

local notation "lastK₀" => (Scalar.subi (Scalar.subi (BitVec.ofNat 32 (i 2).val) 1#32) 0#32)
local notation "tripW₀" => (Scalar.addi 0#32 (Scalar.muli (Scalar.divsi lastK₀ 1#32) 1#32))
local notation "rowRect₀" => (Rect.unit (s := S2048x128) (k0_off6 i) S256x128.size (k0_off6_inb i))
local notation "kRow₀" => (View.readAt (Elt F) arg5.view (rowRect₀).toLoadRect (harg5.unread x2))
local notation "vRow₀" => (View.readAt (Elt F) arg6.view (rowRect₀).toLoadRect (harg6.unread x3))
local notation "qRect₀" => (Rect.unit (s := S256x128) ![0, 0] S256x128.size inb_S256x128_S256x128_0_0)
local notation "qLoad₀" => (View.readAt (Elt F) arg4.view (qRect₀).toLoadRect (harg4.unread x1))
local notation "diagRect1₀" => (Rect.unit (s := S2x256x512) ![1, 0, 256] S1x256x256.size inb_S2x256x512_S1x256x256_1_0_256)
local notation "diag1₀" => (View.readAt (Elt F) arg7.view (diagRect1₀).toLoadRect (harg7.unread x4))
local notation "diagRect0₀" => (Rect.unit (s := S2x256x512) ![0, 0, 256] S1x256x256.size inb_S2x256x512_S1x256x256_0_0_256)
local notation "diag0₀" => (View.readAt (Elt F) arg7.view (diagRect0₀).toLoadRect (harg7.unread x4))
local notation "m0₀" => (arg11.view.writes (Elt F) arg11.view.junk [⟨Rect.unit (s := S2x256x1) ![0, 0, 0] S2x256x1.size inbC, k0_pay54⟩])
local notation "l0₀" => (arg12.view.writes (Elt F) arg12.view.junk [⟨Rect.unit (s := S2x256x1) ![0, 0, 0] S2x256x1.size inbC, k0_pay55⟩])
local notation "a0₀" => (arg13.view.writes (Elt F) arg13.view.junk [⟨Rect.unit (s := S2x256x128) ![0, 0, 0] S2x256x128.size inbCA, k0_pay56⟩])
local notation "scales₀" => (View.readAt (Elt F) arg8.view (Rect.unit (s := S4x64) ![0, 0] S4x64.size inb_S4x64_S4x64_0_0).toLoadRect (harg8.unread x5))
local notation "near1₀" => (View.readAt (Elt F) arg7.view (Rect.unit (s := S2x256x512) ![1, 0, 0] S1x256x256.size inb_S2x256x512_S1x256x256_1_0_0).toLoadRect (harg7.unread x4))
local notation "near0₀" => (View.readAt (Elt F) arg7.view (Rect.unit (s := S2x256x512) ![0, 0, 0] S1x256x256.size inb_S2x256x512_S1x256x256_0_0_0).toLoadRect (harg7.unread x4))
local notation "loop1₀" => (pb_k0_t1 (F := F) Variants.none c none i arg3 harg3 arg4 harg4 arg5 harg5 arg6 harg6 arg7 harg7 arg8 harg8 arg9 harg9 arg10 harg10 arg11 harg11 arg12 harg12 arg13 harg13 (BitVec.ofNat 32 (i 1).val) (BitVec.ofNat 32 (i 2).val) (k0_pay52 qLoad₀) (k0_pay53 qLoad₀) 0#32 tripW₀ (harg3.unread x0) (harg5.unread x2) (harg6.unread x3) m0₀ l0₀ a0₀ (k0_t1_loop i).trips)
local notation "loop2₀" => (pb_k0_t2 (F := F) Variants.none c none i arg3 harg3 arg4 harg4 arg5 harg5 arg6 harg6 arg7 harg7 arg8 harg8 arg9 harg9 arg10 harg10 arg11 harg11 arg12 harg12 arg13 harg13 (BitVec.ofNat 32 (i 1).val) (BitVec.ofNat 32 (i 2).val) (k0_pay52 qLoad₀) (k0_pay53 qLoad₀) 0#32 tripW₀ (harg3.unread x0) (harg5.unread x2) (harg6.unread x3) (arg11.view.writes (Elt F) arg11.view.junk (loop1₀.1 ++ [⟨Rect.unit (s := S2x256x1) ![0, 0, 0] S2x256x1.size inbC, k0_pay54⟩])) (arg12.view.writes (Elt F) arg12.view.junk (loop1₀.2.1 ++ [⟨Rect.unit (s := S2x256x1) ![0, 0, 0] S2x256x1.size inbC, k0_pay55⟩])) (arg13.view.writes (Elt F) arg13.view.junk (loop1₀.2.2 ++ [⟨Rect.unit (s := S2x256x128) ![0, 0, 0] S2x256x128.size inbCA, k0_pay56⟩])) (k0_t2_loop i).trips)

/-- The pieces after both loops. -/
def farL : PL F :=
  (loop2₀.1 ++ (loop1₀.1 ++ [⟨Rect.unit (s := S2x256x1) ![0, 0, 0] S2x256x1.size inbC, k0_pay54⟩]), loop2₀.2.1 ++ (loop1₀.2.1 ++ [⟨Rect.unit (s := S2x256x1) ![0, 0, 0] S2x256x1.size inbC, k0_pay55⟩]), loop2₀.2.2 ++ (loop1₀.2.2 ++ [⟨Rect.unit (s := S2x256x128) ![0, 0, 0] S2x256x128.size inbCA, k0_pay56⟩]))

local notation "farP₀" => (farL c i arg3 harg3 arg4 harg4 arg5 harg5 arg6 harg6 arg7 harg7 arg8 harg8 arg9 harg9 arg10 harg10 arg11 harg11 arg12 harg12 arg13 harg13 x0 x1 x2 x3)

theorem farL_read : rdL arg11 arg12 arg13 farP₀ = stFar (k0_pay52 x1) (k0_pay53 x1) x2 x3 (x0 (ix1 (farIx i 0))) (x0 (ix1 (farIx i 1))) ((i 2).val - 1) := by
  have e4 : qLoad₀ = x1 := (View.readAt_full arg4.view _ _).trans (harg4.read_unread x1)
  unfold farL rdL
  dsimp only
  rw [trips2]
  rw [show ∀ a1 a2 a3, (pb_k0_t2 (F := F) Variants.none c none i arg3 harg3 arg4 harg4 arg5 harg5 arg6 harg6 arg7 harg7 arg8 harg8 arg9 harg9 arg10 harg10 arg11 harg11 arg12 harg12 arg13 harg13 (BitVec.ofNat 32 (i 1).val) (BitVec.ofNat 32 (i 2).val) (k0_pay52 qLoad₀) (k0_pay53 qLoad₀) 0#32 tripW₀ (harg3.unread x0) (harg5.unread x2) (harg6.unread x3) a1 a2 a3 0) = ([], [], []) from fun _ _ _ => rfl]
  dsimp only
  rw [List.nil_append, List.nil_append, List.nil_append, View.writes_append, View.writes_append, View.writes_append]
  refine (loop_read Variants.none c none i arg3 harg3 arg4 harg4 arg5 harg5 arg6 harg6 arg7 harg7 arg8 harg8 arg9 harg9 arg10 harg10 arg11 harg11 arg12 harg12 arg13 harg13 (BitVec.ofNat 32 (i 1).val) (BitVec.ofNat 32 (i 2).val) (k0_pay52 qLoad₀) (k0_pay53 qLoad₀) 0#32 tripW₀ (harg3.unread x0) (harg5.unread x2) (harg6.unread x3) _ _ _ ?_ _ le_rfl).trans ?_
  · rw [View.read_writes_full, View.read_writes_full, View.read_writes_full]
    rfl
  · rw [trips1, e4, harg3.read_unread, harg5.read_unread, harg6.read_unread]

theorem fin_read (L : PL F) : k0_pay82 (k0_pay80 scales₀) (k0_pay81 scales₀) (arg13.view.readCov L.2.2 (Rect.unit (s := S2x256x128) ![0, 0, 0] S1x256x128.size inbA0).toLoadRect) (arg12.view.readCov L.2.1 (Rect.unit (s := S2x256x1) ![0, 0, 0] S1x256x1.size inb0).toLoadRect) (arg13.view.readCov L.2.2 (Rect.unit (s := S2x256x128) ![1, 0, 0] S1x256x128.size inbA1).toLoadRect) (arg12.view.readCov L.2.1 (Rect.unit (s := S2x256x1) ![1, 0, 0] S1x256x1.size inb1).toLoadRect) (View.readAt (Elt F) arg9.view (Rect.unit (s := S1x128) ![0, 0] S1x128.size inb_S1x128_S1x128_0_0).toLoadRect (harg9.unread x6)) = fin7 x5 x6 (rdL arg11 arg12 arg13 L) := by
  have e8 : scales₀ = x5 := (View.readAt_full arg8.view _ _).trans (harg8.read_unread x5)
  have e9 : (View.readAt (Elt F) arg9.view (Rect.unit (s := S1x128) ![0, 0] S1x128.size inb_S1x128_S1x128_0_0).toLoadRect (harg9.unread x6)) = x6 := (View.readAt_full arg9.view _ _).trans (harg9.read_unread x6)
  rw [cov0, covA0, covA1, cov1, e8, e9]
  rfl

/-- What a grid point of the first row block leaves. -/
theorem out_eq_A (h : ¬cond0_0 i) (h0 : (i 2).val = 0) :
    out0_A_7 (F := F) c i arg3 harg3 arg4 harg4 arg5 harg5 arg6 harg6 arg7 harg7 arg8 harg8 arg9 harg9 arg10 harg10 arg11 harg11 arg12 harg12 arg13 harg13 h x0 x1 x2 x3 x4 x5 x6 = fin7 x5 x6 (stAll x0 (i 1) x1 x2 x3 x4 (i 2).val) := by
  have key : out0_A_7 (F := F) c i arg3 harg3 arg4 harg4 arg5 harg5 arg6 harg6 arg7 harg7 arg8 harg8 arg9 harg9 arg10 harg10 arg11 harg11 arg12 harg12 arg13 harg13 h x0 x1 x2 x3 x4 x5 x6 = k0_pay82 (k0_pay80 scales₀) (k0_pay81 scales₀) (arg13.view.readCov (stepL1 arg11 arg12 arg13 (sDiag (k0_pay53 qLoad₀) kRow₀ diag1₀) vRow₀ (stepL0 arg11 arg12 arg13 (sDiag (k0_pay52 qLoad₀) kRow₀ diag0₀) vRow₀ farP₀)).2.2 (Rect.unit (s := S2x256x128) ![0, 0, 0] S1x256x128.size inbA0).toLoadRect) (arg12.view.readCov (stepL1 arg11 arg12 arg13 (sDiag (k0_pay53 qLoad₀) kRow₀ diag1₀) vRow₀ (stepL0 arg11 arg12 arg13 (sDiag (k0_pay52 qLoad₀) kRow₀ diag0₀) vRow₀ farP₀)).2.1 (Rect.unit (s := S2x256x1) ![0, 0, 0] S1x256x1.size inb0).toLoadRect) (arg13.view.readCov (stepL1 arg11 arg12 arg13 (sDiag (k0_pay53 qLoad₀) kRow₀ diag1₀) vRow₀ (stepL0 arg11 arg12 arg13 (sDiag (k0_pay52 qLoad₀) kRow₀ diag0₀) vRow₀ farP₀)).2.2 (Rect.unit (s := S2x256x128) ![1, 0, 0] S1x256x128.size inbA1).toLoadRect) (arg12.view.readCov (stepL1 arg11 arg12 arg13 (sDiag (k0_pay53 qLoad₀) kRow₀ diag1₀) vRow₀ (stepL0 arg11 arg12 arg13 (sDiag (k0_pay52 qLoad₀) kRow₀ diag0₀) vRow₀ farP₀)).2.1 (Rect.unit (s := S2x256x1) ![1, 0, 0] S1x256x1.size inb1).toLoadRect) (View.readAt (Elt F) arg9.view (Rect.unit (s := S1x128) ![0, 0] S1x128.size inb_S1x128_S1x128_0_0).toLoadRect (harg9.unread x6)) := by
    unfold out0_A_7 kernelRun0_A
    dsimp only
    sl_unfold_words
    refine (View.read_writes_full _ _ _ _ _).trans ?_
    rfl
  have hi : (i 2).val < 8 := (i 2).isLt
  have e4 : qLoad₀ = x1 := (View.readAt_full arg4.view _ _).trans (harg4.read_unread x1)
  have d5 := readAt_blk (F := F) arg5 (harg5.unread x2) (k0_off6 i) _ hi (offs6 i) rfl (k0_off6_inb i)
  have d6 := readAt_blk (F := F) arg6 (harg6.unread x3) (k0_off6 i) _ hi (offs6 i) rfl (k0_off6_inb i)
  rw [key, fin_read, stepL_read, farL_read, readAt_bias, readAt_bias, d5, d6, e4, harg5.read_unread, harg6.read_unread, harg7.read_unread, h0]
  rfl

set_option maxHeartbeats 4000000 in
/-- What a grid point of a later row block leaves. -/
theorem out_eq_B (hc : cond0_0 i) (h0 : 1 ≤ (i 2).val) :
    out0_B_7 (F := F) c i arg3 harg3 arg4 harg4 arg5 harg5 arg6 harg6 arg7 harg7 arg8 harg8 arg9 harg9 arg10 harg10 arg11 harg11 arg12 harg12 arg13 harg13 hc x0 x1 x2 x3 x4 x5 x6 = fin7 x5 x6 (stAll x0 (i 1) x1 x2 x3 x4 (i 2).val) := by
  have key : out0_B_7 (F := F) c i arg3 harg3 arg4 harg4 arg5 harg5 arg6 harg6 arg7 harg7 arg8 harg8 arg9 harg9 arg10 harg10 arg11 harg11 arg12 harg12 arg13 harg13 hc x0 x1 x2 x3 x4 x5 x6 = k0_pay82 (k0_pay80 scales₀) (k0_pay81 scales₀) (arg13.view.readCov (stepL1 arg11 arg12 arg13 (sDiag (k0_pay53 qLoad₀) kRow₀ diag1₀) vRow₀ (stepL0 arg11 arg12 arg13 (sDiag (k0_pay52 qLoad₀) kRow₀ diag0₀) vRow₀ (stepL1 arg11 arg12 arg13 (sNear (k0_pay53 qLoad₀) (View.readAt (Elt F) arg5.view (Rect.unit (s := S2048x128) (k0_off5 i) S256x128.size (k0_off5_inb i hc)).toLoadRect (harg5.unread x2)) near1₀) (View.readAt (Elt F) arg6.view (Rect.unit (s := S2048x128) (k0_off5 i) S256x128.size (k0_off5_inb i hc)).toLoadRect (harg6.unread x3)) (stepL0 arg11 arg12 arg13 (sNear (k0_pay52 qLoad₀) (View.readAt (Elt F) arg5.view (Rect.unit (s := S2048x128) (k0_off5 i) S256x128.size (k0_off5_inb i hc)).toLoadRect (harg5.unread x2)) near0₀) (View.readAt (Elt F) arg6.view (Rect.unit (s := S2048x128) (k0_off5 i) S256x128.size (k0_off5_inb i hc)).toLoadRect (harg6.unread x3)) farP₀)))).2.2 (Rect.unit (s := S2x256x128) ![0, 0, 0] S1x256x128.size inbA0).toLoadRect) (arg12.view.readCov (stepL1 arg11 arg12 arg13 (sDiag (k0_pay53 qLoad₀) kRow₀ diag1₀) vRow₀ (stepL0 arg11 arg12 arg13 (sDiag (k0_pay52 qLoad₀) kRow₀ diag0₀) vRow₀ (stepL1 arg11 arg12 arg13 (sNear (k0_pay53 qLoad₀) (View.readAt (Elt F) arg5.view (Rect.unit (s := S2048x128) (k0_off5 i) S256x128.size (k0_off5_inb i hc)).toLoadRect (harg5.unread x2)) near1₀) (View.readAt (Elt F) arg6.view (Rect.unit (s := S2048x128) (k0_off5 i) S256x128.size (k0_off5_inb i hc)).toLoadRect (harg6.unread x3)) (stepL0 arg11 arg12 arg13 (sNear (k0_pay52 qLoad₀) (View.readAt (Elt F) arg5.view (Rect.unit (s := S2048x128) (k0_off5 i) S256x128.size (k0_off5_inb i hc)).toLoadRect (harg5.unread x2)) near0₀) (View.readAt (Elt F) arg6.view (Rect.unit (s := S2048x128) (k0_off5 i) S256x128.size (k0_off5_inb i hc)).toLoadRect (harg6.unread x3)) farP₀)))).2.1 (Rect.unit (s := S2x256x1) ![0, 0, 0] S1x256x1.size inb0).toLoadRect) (arg13.view.readCov (stepL1 arg11 arg12 arg13 (sDiag (k0_pay53 qLoad₀) kRow₀ diag1₀) vRow₀ (stepL0 arg11 arg12 arg13 (sDiag (k0_pay52 qLoad₀) kRow₀ diag0₀) vRow₀ (stepL1 arg11 arg12 arg13 (sNear (k0_pay53 qLoad₀) (View.readAt (Elt F) arg5.view (Rect.unit (s := S2048x128) (k0_off5 i) S256x128.size (k0_off5_inb i hc)).toLoadRect (harg5.unread x2)) near1₀) (View.readAt (Elt F) arg6.view (Rect.unit (s := S2048x128) (k0_off5 i) S256x128.size (k0_off5_inb i hc)).toLoadRect (harg6.unread x3)) (stepL0 arg11 arg12 arg13 (sNear (k0_pay52 qLoad₀) (View.readAt (Elt F) arg5.view (Rect.unit (s := S2048x128) (k0_off5 i) S256x128.size (k0_off5_inb i hc)).toLoadRect (harg5.unread x2)) near0₀) (View.readAt (Elt F) arg6.view (Rect.unit (s := S2048x128) (k0_off5 i) S256x128.size (k0_off5_inb i hc)).toLoadRect (harg6.unread x3)) farP₀)))).2.2 (Rect.unit (s := S2x256x128) ![1, 0, 0] S1x256x128.size inbA1).toLoadRect) (arg12.view.readCov (stepL1 arg11 arg12 arg13 (sDiag (k0_pay53 qLoad₀) kRow₀ diag1₀) vRow₀ (stepL0 arg11 arg12 arg13 (sDiag (k0_pay52 qLoad₀) kRow₀ diag0₀) vRow₀ (stepL1 arg11 arg12 arg13 (sNear (k0_pay53 qLoad₀) (View.readAt (Elt F) arg5.view (Rect.unit (s := S2048x128) (k0_off5 i) S256x128.size (k0_off5_inb i hc)).toLoadRect (harg5.unread x2)) near1₀) (View.readAt (Elt F) arg6.view (Rect.unit (s := S2048x128) (k0_off5 i) S256x128.size (k0_off5_inb i hc)).toLoadRect (harg6.unread x3)) (stepL0 arg11 arg12 arg13 (sNear (k0_pay52 qLoad₀) (View.readAt (Elt F) arg5.view (Rect.unit (s := S2048x128) (k0_off5 i) S256x128.size (k0_off5_inb i hc)).toLoadRect (harg5.unread x2)) near0₀) (View.readAt (Elt F) arg6.view (Rect.unit (s := S2048x128) (k0_off5 i) S256x128.size (k0_off5_inb i hc)).toLoadRect (harg6.unread x3)) farP₀)))).2.1 (Rect.unit (s := S2x256x1) ![1, 0, 0] S1x256x1.size inb1).toLoadRect) (View.readAt (Elt F) arg9.view (Rect.unit (s := S1x128) ![0, 0] S1x128.size inb_S1x128_S1x128_0_0).toLoadRect (harg9.unread x6)) := by
    unfold out0_B_7 kernelRun0_B
    dsimp only
    sl_unfold_words
    refine (View.read_writes_full _ _ _ _ _).trans ?_
    rfl
  have hi : (i 2).val < 8 := (i 2).isLt
  have e4 : qLoad₀ = x1 := (View.readAt_full arg4.view _ _).trans (harg4.read_unread x1)
  have d5 := readAt_blk (F := F) arg5 (harg5.unread x2) (k0_off6 i) _ hi (offs6 i) rfl (k0_off6_inb i)
  have d6 := readAt_blk (F := F) arg6 (harg6.unread x3) (k0_off6 i) _ hi (offs6 i) rfl (k0_off6_inb i)
  have n5 := readAt_blk (F := F) arg5 (harg5.unread x2) (k0_off5 i) ((i 2).val - 1) (by omega) (offs5 i h0) rfl (k0_off5_inb i hc)
  have n6 := readAt_blk (F := F) arg6 (harg6.unread x3) (k0_off5 i) ((i 2).val - 1) (by omega) (offs5 i h0) rfl (k0_off5_inb i hc)
  obtain ⟨n, hn⟩ : ∃ n, (i 2).val = n + 1 := ⟨(i 2).val - 1, by omega⟩
  rw [key, fin_read, stepL_read, stepL_read, farL_read, readAt_bias, readAt_bias, readAt_bias, readAt_bias, d5, d6, n5, n6, e4, harg5.read_unread, harg6.read_unread, harg7.read_unread, hn]
  rfl

end Out

end Cert.DaIdeal.Steps

end
-- ==== Proof.DaFold.lean ====
module

public import proofs.«01_k».proof.Proof.DaSteps
public import proofs.«01_k».proof.Proof.EMath
public import Idealize.ShloMosaic.Lib.Pointwise
public import Idealize.ShloMosaic.Lib.IdealHost

/-! # Differential attention: the fold over key blocks, in real numbers -/

@[expose] public section

set_option maxRecDepth 16384

noncomputable section

namespace Cert.DaIdeal.Fold

open Cert.DaIdeal Cert.DaIdeal.Gen Cert.DaIdeal.Steps Cert.EMath Idealize.ShloMosaic Idealize.ShloMosaic.TcCoe Idealize.SL.Sem
open Idealize.ShloMosaic.VecWindow

/-! ## One row -/

/-- The weight of key `j` for query `t`, with the scores shifted by `u`. -/
def wgt (Z : ℕ → ℝ) (t : ℕ) (u : ℝ) (j : ℕ) : ℝ := if j ≤ t then Real.exp (Z j - u) else 0

theorem wgt_shift (Z : ℕ → ℝ) (t : ℕ) (u u' : ℝ) (j : ℕ) : Real.exp (u - u') * wgt Z t u j = wgt Z t u' j := by
  unfold wgt
  split
  · rw [← Real.exp_add]; congr 1; ring
  · rw [mul_zero]

/-- What a row's maximum, denominator and numerator hold after the first `K` keys. -/
def RowInv (Z : ℕ → ℝ) (t : ℕ) (V : ℕ → Fin 128 → ℝ) (K : ℕ) (m l : EReal) (a : Fin 128 → EReal) : Prop :=
  (m = ⊥ ∧ l = 0 ∧ (∀ y, a y = 0) ∧ K = 0)
  ∨ ∃ u : ℝ, m = (u : EReal) ∧ l = ((∑ j ∈ Finset.range K, wgt Z t u j : ℝ) : EReal)
      ∧ ∀ y, a y = ((∑ j ∈ Finset.range K, wgt Z t u j * V j y : ℝ) : EReal)

theorem range_block (f : ℕ → ℝ) (k : ℕ) : (∑ j ∈ Finset.range (k * 256), f j) + ∑ x : Fin 256, f (k * 256 + x.val) = ∑ j ∈ Finset.range ((k + 1) * 256), f j := by
  rw [sum_block]
  exact Finset.sum_range_add_sum_Ico f (by omega)

section Row

variable (Z : ℕ → ℝ) (t : ℕ) (V : ℕ → Fin 128 → ℝ) (k : ℕ) (hk : k * 256 ≤ t) (S : Fin 256 → EReal)
  (hS : ∀ x : Fin 256, S x = if k * 256 + x.val ≤ t then (Z (k * 256 + x.val) : EReal) else ⊥)
  (W : Fin 256 → Fin 128 → EReal) (hW : ∀ x y, W x y = (V (k * 256 + x.val) y : EReal))
  (m l M : EReal) (a : Fin 128 → EReal) (hM : M = max m (Finset.fold max ⊥ S Finset.univ))
include hk hS hM

/-- The new maximum is a real number. -/
theorem max_real (hm : m ≠ ⊤) : ∃ u : ℝ, M = (u : EReal) := by
  have h0 : S 0 = (Z (k * 256) : EReal) := by
    rw [hS]
    exact if_pos hk
  have lo : (Z (k * 256) : EReal) ≤ M := by
    rw [hM, ← h0]
    exact le_max_of_le_right ((Finset.le_fold_max _).mpr (Or.inr ⟨0, Finset.mem_univ _, le_rfl⟩))
  have hi : M < ⊤ := by
    rw [hM]
    refine max_lt (lt_top_iff_ne_top.mpr hm) ((Finset.fold_max_lt _).mpr ⟨bot_lt_top, fun x _ => ?_⟩)
    rw [hS]
    split
    · exact EReal.coe_lt_top _
    · exact bot_lt_top
  exact ⟨M.toReal, (EReal.coe_toReal hi.ne (fun h => by rw [h] at lo; exact absurd lo (not_le.mpr (EReal.bot_lt_coe _)))).symm⟩

include hW

/-- One key block, one row. -/
theorem row_step (h : RowInv Z t V (k * 256) m l a) :
    RowInv Z t V ((k + 1) * 256) M (Ideal.exp (m - M) * l + ∑ x, Ideal.exp (S x - M)) (fun y => Ideal.exp (m - M) * a y + ∑ x, Ideal.exp (S x - M) * W x y) := by
  have hm : m ≠ ⊤ := by
    rcases h with ⟨h, -⟩ | ⟨u, h, -⟩
    · rw [h]; exact bot_ne_top
    · rw [h]; exact EReal.coe_ne_top _
  obtain ⟨u', hu⟩ := max_real Z t k hk S hS m M hM hm
  have hP : ∀ x, Ideal.exp (S x - M) = (wgt Z t u' (k * 256 + x.val) : EReal) := fun x => by
    rw [hS, hu, wgt]
    split
    · rw [← EReal.coe_sub, exp_coe]
    · rw [EReal.bot_sub]; rfl
  have e1 : ∑ x, Ideal.exp (S x - M) = ((∑ x : Fin 256, wgt Z t u' (k * 256 + x.val) : ℝ) : EReal) := by
    rw [coe_sum]
    exact Finset.sum_congr rfl fun x _ => hP x
  have e2 : ∀ y, ∑ x, Ideal.exp (S x - M) * W x y = ((∑ x : Fin 256, wgt Z t u' (k * 256 + x.val) * V (k * 256 + x.val) y : ℝ) : EReal) := fun y => by
    rw [coe_sum]
    exact Finset.sum_congr rfl fun x _ => by rw [hP x, hW, EReal.coe_mul]
  right
  refine ⟨u', hu, ?_, fun y => ?_⟩
  · rw [e1]
    rcases h with ⟨-, hl, -, hK⟩ | ⟨u, hmu, hl, -⟩
    · rw [hl, mul_zero, zero_add, ← range_block, hK, Finset.range_zero, Finset.sum_empty, zero_add]
    · rw [hl, hmu, hu, ← EReal.coe_sub, exp_coe, ← EReal.coe_mul, ← EReal.coe_add, ← range_block, Finset.mul_sum]
      simp only [wgt_shift]
  · dsimp only
    rw [e2]
    rcases h with ⟨-, -, ha, hK⟩ | ⟨u, hmu, -, ha⟩
    · rw [ha, mul_zero, zero_add, ← range_block (fun j => wgt Z t u' j * V j y), hK, Finset.range_zero, Finset.sum_empty, zero_add]
    · rw [ha, hmu, hu, ← EReal.coe_sub, exp_coe, ← EReal.coe_mul, ← EReal.coe_add, ← range_block (fun j => wgt Z t u' j * V j y), Finset.mul_sum]
      simp only [← mul_assoc, wgt_shift]

end Row

/-! ## The two halves of the buffers -/

theorem half0_at {F : FTy → Type} [FloatOps F] (c7 : Vec F S2x256x1 .f32) (r : Fin 256) : half0 c7 (ix3 0 r 0) = c7 (ix3 0 r 0) := by
  refine congrArg c7 (funext fun a => Fin.ext ?_)
  match a with
  | ⟨0, _⟩ => rfl
  | ⟨1, _⟩ => show 0 + 1 * r.val = r.val; omega
  | ⟨2, _⟩ => rfl

theorem half1_at {F : FTy → Type} [FloatOps F] (c7 : Vec F S2x256x1 .f32) (r : Fin 256) : half1 c7 (ix3 0 r 0) = c7 (ix3 1 r 0) := by
  refine congrArg c7 (funext fun a => Fin.ext ?_)
  match a with
  | ⟨0, _⟩ => rfl
  | ⟨1, _⟩ => show 0 + 1 * r.val = r.val; omega
  | ⟨2, _⟩ => rfl

theorem put0_at0 {F : FTy → Type} [FloatOps F] (c7 : Vec F S2x256x1 .f32) (w : Vec F S1x256x1 .f32) (r : Fin 256) : put0 c7 w (ix3 0 r 0) = w (ix3 0 r 0) :=
  (half0_at (put0 c7 w) r).symm.trans (congrFun (window_put_same c7 _ _ inb0 w) _)

theorem put1_at1 {F : FTy → Type} [FloatOps F] (c7 : Vec F S2x256x1 .f32) (w : Vec F S1x256x1 .f32) (r : Fin 256) : put1 c7 w (ix3 1 r 0) = w (ix3 0 r 0) :=
  (half1_at (put1 c7 w) r).symm.trans (congrFun (window_put_same c7 _ _ inb1 w) _)

theorem put0_at1 {F : FTy → Type} [FloatOps F] (c7 : Vec F S2x256x1 .f32) (w : Vec F S1x256x1 .f32) (r : Fin 256) : put0 c7 w (ix3 1 r 0) = c7 (ix3 1 r 0) :=
  (half1_at (put0 c7 w) r).symm.trans ((congrFun (window_put_of_disjoint c7 _ _ _ _ inb1 w 0 (by right; decide)) _).trans (half1_at c7 r))

theorem put1_at0 {F : FTy → Type} [FloatOps F] (c7 : Vec F S2x256x1 .f32) (w : Vec F S1x256x1 .f32) (r : Fin 256) : put1 c7 w (ix3 0 r 0) = c7 (ix3 0 r 0) :=
  (half0_at (put1 c7 w) r).symm.trans ((congrFun (window_put_of_disjoint c7 _ _ _ _ inb0 w 0 (by left; decide)) _).trans (half0_at c7 r))

theorem halfA0_at {F : FTy → Type} [FloatOps F] (c7 : Vec F S2x256x128 .f32) (r : Fin 256) (y : Fin 128) : halfA0 c7 (ix3 0 r y) = c7 (ix3 0 r y) := by
  refine congrArg c7 (funext fun a => Fin.ext ?_)
  match a with
  | ⟨0, _⟩ => rfl
  | ⟨1, _⟩ => show 0 + 1 * r.val = r.val; omega
  | ⟨2, _⟩ => show 0 + 1 * y.val = y.val; omega

theorem halfA1_at {F : FTy → Type} [FloatOps F] (c7 : Vec F S2x256x128 .f32) (r : Fin 256) (y : Fin 128) : halfA1 c7 (ix3 0 r y) = c7 (ix3 1 r y) := by
  refine congrArg c7 (funext fun a => Fin.ext ?_)
  match a with
  | ⟨0, _⟩ => rfl
  | ⟨1, _⟩ => show 0 + 1 * r.val = r.val; omega
  | ⟨2, _⟩ => show 0 + 1 * y.val = y.val; omega

theorem putA0_at0 {F : FTy → Type} [FloatOps F] (c7 : Vec F S2x256x128 .f32) (w : Vec F S1x256x128 .f32) (r : Fin 256) (y : Fin 128) : putA0 c7 w (ix3 0 r y) = w (ix3 0 r y) :=
  (halfA0_at (putA0 c7 w) r y).symm.trans (congrFun (window_put_same c7 _ _ inbA0 w) _)

theorem putA1_at1 {F : FTy → Type} [FloatOps F] (c7 : Vec F S2x256x128 .f32) (w : Vec F S1x256x128 .f32) (r : Fin 256) (y : Fin 128) : putA1 c7 w (ix3 1 r y) = w (ix3 0 r y) :=
  (halfA1_at (putA1 c7 w) r y).symm.trans (congrFun (window_put_same c7 _ _ inbA1 w) _)

theorem putA0_at1 {F : FTy → Type} [FloatOps F] (c7 : Vec F S2x256x128 .f32) (w : Vec F S1x256x128 .f32) (r : Fin 256) (y : Fin 128) : putA0 c7 w (ix3 1 r y) = c7 (ix3 1 r y) :=
  (halfA1_at (putA0 c7 w) r y).symm.trans ((congrFun (window_put_of_disjoint c7 _ _ _ _ inbA1 w 0 (by right; decide)) _).trans (halfA1_at c7 r y))

theorem putA1_at0 {F : FTy → Type} [FloatOps F] (c7 : Vec F S2x256x128 .f32) (w : Vec F S1x256x128 .f32) (r : Fin 256) (y : Fin 128) : putA1 c7 w (ix3 0 r y) = c7 (ix3 0 r y) :=
  (halfA0_at (putA1 c7 w) r y).symm.trans ((congrFun (window_put_of_disjoint c7 _ _ _ _ inbA0 w 0 (by left; decide)) _).trans (halfA0_at c7 r y))

/-! ## One key block -/

section Block

variable (s : FVec Ideal S256x256 .f32) (m l : Vec Ideal S1x256x1 .f32) (a : Vec Ideal S1x256x128 .f32) (vb : Vec Ideal S256x128 .bf16)

theorem ofBits_ninf : Ideal.ofBits .f32 0xFF800000#32 = ⊥ := by
  simp [Ideal.ofBits, Ideal.ieee]

theorem mN_at (r : Fin 256) : mN s m (ix2 r 0) = max (m (ix3 0 r 0)) (Finset.fold max ⊥ (fun x : Fin 256 => s (ix2 r x)) Finset.univ) := by
  pointwise [mN, k0_pay2]
  rw [show (4286578688#32 : BitVec 32) = 0xFF800000#32 from rfl, ofBits_ninf]

theorem aN_at (r : Fin 256) : aN s m (ix2 r 0) = Ideal.exp (m (ix3 0 r 0) - mN s m (ix2 r 0)) := by
  pointwise [aN, k0_pay2]

theorem pN_at (r x : Fin 256) : pN s m (ix2 r x) = Ideal.exp (s (ix2 r x) - mN s m (ix2 r 0)) := by
  pointwise [pN]

theorem lN_at (r : Fin 256) : lN s m l (ix3 0 r 0) = Ideal.exp (m (ix3 0 r 0) - mN s m (ix2 r 0)) * l (ix3 0 r 0) + ∑ x : Fin 256, Ideal.exp (s (ix2 r x) - mN s m (ix2 r 0)) := by
  pointwise [lN, k0_pay77]
  simp only [pN_at, aN_at]

theorem mS_at (r : Fin 256) : mS s m (ix3 0 r 0) = mN s m (ix2 r 0) := by
  pointwise [k0_pay10]

theorem accN_at (r : Fin 256) (y : Fin 128) : accN s vb m a (ix3 0 r y)
    = Ideal.exp (m (ix3 0 r 0) - mN s m (ix2 r 0)) * a (ix3 0 r y) + ∑ x : Fin 256, Ideal.exp (s (ix2 r x) - mN s m (ix2 r 0)) * vb (ix2 x y) := by
  pointwise [accN, k0_pay57]
  simp only [pN_at, aN_at]

end Block

/-! ## The fold -/

section Fold

variable (Z0 Z1 : Fin 256 → ℕ → ℝ) (V : ℕ → Fin 128 → ℝ) (n : ℕ)

/-- What the buffers hold after the first `k` key blocks. -/
def Holds (k : ℕ) (s : St Ideal) : Prop :=
  ∀ r : Fin 256,
    RowInv (Z0 r) (n * 256 + r.val) V (k * 256) (s.1 (ix3 0 r 0)) (s.2.1 (ix3 0 r 0)) (fun y => s.2.2 (ix3 0 r y))
    ∧ RowInv (Z1 r) (n * 256 + r.val) V (k * 256) (s.1 (ix3 1 r 0)) (s.2.1 (ix3 1 r 0)) (fun y => s.2.2 (ix3 1 r y))

theorem mask_bot : (Named.named (F := Ideal) κ "mask" (φ := .f32) 0xF149F2CA#32 : EReal) = ⊥ := rfl

theorem holds_st0 : Holds Z0 Z1 V n 0 (st0 (F := Ideal)) := by
  intro r
  refine ⟨Or.inl ⟨?_, ?_, fun y => ?_, rfl⟩, Or.inl ⟨?_, ?_, fun y => ?_, rfl⟩⟩
  · pointwise [st0, k0_pay54]; exact mask_bot
  · pointwise [st0, k0_pay55]
  · pointwise [st0, k0_pay56]
  · pointwise [st0, k0_pay54]; exact mask_bot
  · pointwise [st0, k0_pay55]
  · pointwise [st0, k0_pay56]

theorem holds_step (k : ℕ) (hk : k ≤ n) (s0 s1 : FVec Ideal S256x256 .f32) (vb : Vec Ideal S256x128 .bf16)
    (h0 : ∀ r x : Fin 256, s0 (ix2 r x) = if k * 256 + x.val ≤ n * 256 + r.val then (Z0 r (k * 256 + x.val) : EReal) else ⊥)
    (h1 : ∀ r x : Fin 256, s1 (ix2 r x) = if k * 256 + x.val ≤ n * 256 + r.val then (Z1 r (k * 256 + x.val) : EReal) else ⊥)
    (hv : ∀ (x : Fin 256) (y : Fin 128), vb (ix2 x y) = (V (k * 256 + x.val) y : EReal)) (s : St Ideal) (h : Holds Z0 Z1 V n k s) :
    Holds Z0 Z1 V n (k + 1) (step s0 s1 vb s) := by
  intro r
  have hkt : k * 256 ≤ n * 256 + r.val := by omega
  constructor
  · have h' : RowInv (Z0 r) (n * 256 + r.val) V (k * 256) (half0 s.1 (ix3 0 r 0)) (half0 s.2.1 (ix3 0 r 0)) (fun y => halfA0 s.2.2 (ix3 0 r y)) := by
      rw [half0_at, half0_at, show (fun y => halfA0 s.2.2 (ix3 0 r y)) = fun y => s.2.2 (ix3 0 r y) from funext fun y => halfA0_at _ r y]
      exact (h r).1
    have e := row_step (Z0 r) (n * 256 + r.val) V k hkt (fun x => s0 (ix2 r x)) (h0 r) (fun x y => vb (ix2 x y)) hv _ _ (mN s0 (half0 s.1) (ix2 r 0)) _
      (mN_at s0 (half0 s.1) r) h'
    unfold step
    dsimp only at e ⊢
    rw [put1_at0, put0_at0, mS_at, put1_at0, put0_at0, lN_at]
    refine (congrArg (RowInv _ _ _ _ _ _) (funext fun y => ?_)).mpr e
    exact (putA1_at0 _ _ r y).trans ((putA0_at0 _ _ r y).trans (accN_at _ _ _ _ r y))
  · have h' : RowInv (Z1 r) (n * 256 + r.val) V (k * 256) (half1 s.1 (ix3 0 r 0)) (half1 s.2.1 (ix3 0 r 0)) (fun y => halfA1 s.2.2 (ix3 0 r y)) := by
      rw [half1_at, half1_at, show (fun y => halfA1 s.2.2 (ix3 0 r y)) = fun y => s.2.2 (ix3 1 r y) from funext fun y => halfA1_at _ r y]
      exact (h r).2
    have e := row_step (Z1 r) (n * 256 + r.val) V k hkt (fun x => s1 (ix2 r x)) (h1 r) (fun x y => vb (ix2 x y)) hv _ _ (mN s1 (half1 s.1) (ix2 r 0)) _
      (mN_at s1 (half1 s.1) r) h'
    unfold step
    dsimp only at e ⊢
    rw [put1_at1, mS_at, put1_at1, lN_at]
    refine (congrArg (RowInv _ _ _ _ _ _) (funext fun y => ?_)).mpr e
    exact (putA1_at1 _ _ r y).trans (accN_at _ _ _ _ r y)

end Fold

end Cert.DaIdeal.Fold

end
-- ==== Proof.DaOut.lean ====
module

public import proofs.«01_k».proof.Proof.DaFold

/-! # Differential attention: the result of one row -/

@[expose] public section

set_option maxRecDepth 16384

noncomputable section

namespace Cert.DaIdeal.Fold

open Cert.DaIdeal Cert.DaIdeal.Gen Cert.DaIdeal.Steps Cert.EMath Idealize.ShloMosaic Idealize.ShloMosaic.TcCoe Idealize.SL.Sem
open Idealize.ShloMosaic.VecWindow

/-- A causal softmax-weighted mean: the keys up to `t`. -/
def sm (Z : ℕ → ℝ) (t : ℕ) (V : ℕ → ℝ) : ℝ :=
  (∑ j ∈ Finset.range (t + 1), Real.exp (Z j) * V j) / ∑ j ∈ Finset.range (t + 1), Real.exp (Z j)

theorem sum_wgt (Z : ℕ → ℝ) (t : ℕ) (u : ℝ) (K : ℕ) (hK : t < K) (V : ℕ → ℝ) :
    ∑ j ∈ Finset.range K, wgt Z t u j * V j = Real.exp (-u) * ∑ j ∈ Finset.range (t + 1), Real.exp (Z j) * V j := by
  rw [Finset.mul_sum]
  have hs : Finset.range (t + 1) ⊆ Finset.range K := Finset.range_subset_range.mpr hK
  rw [← Finset.sum_subset hs fun j _ hj => ?_]
  · refine Finset.sum_congr rfl fun j hj => ?_
    rw [wgt, if_pos (by have := Finset.mem_range.mp hj; omega), ← mul_assoc, ← Real.exp_add]
    congr 2
    ring
  · rw [wgt, if_neg (fun h => hj (Finset.mem_range.mpr (by omega))), zero_mul]

theorem den_pos (Z : ℕ → ℝ) (t : ℕ) : 0 < ∑ j ∈ Finset.range (t + 1), Real.exp (Z j) :=
  Finset.sum_pos (fun _ _ => Real.exp_pos _) ⟨0, Finset.mem_range.mpr (by omega)⟩

theorem sum_wgt_one (Z : ℕ → ℝ) (t : ℕ) (u : ℝ) (K : ℕ) (hK : t < K) :
    ∑ j ∈ Finset.range K, wgt Z t u j = Real.exp (-u) * ∑ j ∈ Finset.range (t + 1), Real.exp (Z j) := by
  have := sum_wgt Z t u K hK (fun _ => 1)
  simpa only [mul_one] using this

/-- The quotient does not see the shift. -/
theorem sm_wgt (Z : ℕ → ℝ) (t : ℕ) (u : ℝ) (K : ℕ) (hK : t < K) (V : ℕ → ℝ) :
    (∑ j ∈ Finset.range K, wgt Z t u j * V j) / (∑ j ∈ Finset.range K, wgt Z t u j) = sm Z t V := by
  rw [sum_wgt Z t u K hK, sum_wgt_one Z t u K hK, mul_div_mul_left _ _ (Real.exp_pos _).ne']
  rfl

theorem wgt_sum_ne (Z : ℕ → ℝ) (t : ℕ) (u : ℝ) (K : ℕ) (hK : t < K) : ∑ j ∈ Finset.range K, wgt Z t u j ≠ 0 := by
  rw [sum_wgt_one Z t u K hK]
  exact (mul_pos (Real.exp_pos _) (den_pos Z t)).ne'

theorem div_real (a b : ℝ) (hb : b ≠ 0) : Ideal.div (a : EReal) (b : EReal) = ((a / b : ℝ) : EReal) := by
  rw [Ideal.div_coe hb, ← EReal.coe_mul, mul_one_div]

/-- A row whose keys are all folded divides to the weighted mean. -/
theorem div_row (Z : ℕ → ℝ) (t : ℕ) (V : ℕ → Fin 128 → ℝ) (K : ℕ) (hK : t < K) (m l : EReal) (a : Fin 128 → EReal) (h : RowInv Z t V K m l a) (y : Fin 128) :
    Ideal.div (a y) l = (sm Z t (fun j => V j y) : EReal) := by
  rcases h with ⟨-, -, -, h0⟩ | ⟨u, -, hl, ha⟩
  · omega
  · rw [ha, hl, div_real _ _ (wgt_sum_ne Z t u K hK), sm_wgt Z t u K hK]

/-- The scalar the second softmax is weighted by. -/
def lamE (x : S4x64.Idx → EReal) : EReal :=
  Ideal.exp (∑ d : Fin 64, x (ix2 0 d) * x (ix2 1 d)) - Ideal.exp (∑ d : Fin 64, x (ix2 2 d) * x (ix2 3 d)) + Ideal.ofBits .f32 0x3E4CCCCD#32

/-- One head's row, normalised and scaled. -/
def outE (o u : Fin 128 → EReal) (y : Fin 128) : EReal :=
  o y * Ideal.rsqrt (Ideal.div (∑ x, o x * o x) (Ideal.ofBits .f32 1124073472#32) + Ideal.ofBits .f32 897988541#32) * u y * Ideal.ofBits .f32 1061997773#32

theorem fin7_at (x5 : Vec Ideal S4x64 .f32) (x6 : Vec Ideal S1x128 .f32) (s : St Ideal) (r : Fin 256) (y : Fin 128) :
    fin7 x5 x6 s (ix2 r y)
      = outE (fun y => Ideal.div (s.2.2 (ix3 0 r y)) (s.2.1 (ix3 0 r 0)) - lamE x5 * Ideal.div (s.2.2 (ix3 1 r y)) (s.2.1 (ix3 1 r 0))) (fun y => x6 (ix2 0 y)) y := by
  have e : ∀ y, Ideal.div (s.2.2 (ix3 0 r y)) (s.2.1 (ix3 0 r 0)) - lamE x5 * Ideal.div (s.2.2 (ix3 1 r y)) (s.2.1 (ix3 1 r 0))
      = Ideal.div (halfA0 s.2.2 (ix3 0 r y)) (half0 s.2.1 (ix3 0 r 0)) - (k0_pay80 x5 (ix2 0 0) - Ideal.exp (k0_pay81 x5) + Ideal.ofBits .f32 0x3E4CCCCD#32) * Ideal.div (halfA1 s.2.2 (ix3 0 r y)) (half1 s.2.1 (ix3 0 r 0)) := fun y => by
    rw [half0_at, half1_at, halfA0_at, halfA1_at]
    congr 2
    unfold lamE
    pointwise [k0_pay80, k0_pay81]
    simp only [Finset.univ_unique, Finset.sum_singleton]
  unfold fin7 outE
  simp only [e]
  pointwise [k0_pay82]

/-! ## All key blocks of a row block -/

theorem even_lt (h : Fin 8) : 2 * h.val < 16 := by omega
theorem odd_lt (h : Fin 8) : 2 * h.val + 1 < 16 := by omega
theorem near_lt (x : Fin 256) : x.val < 512 := by omega
theorem diag_lt (x : Fin 256) : 256 + x.val < 512 := by omega

section All

variable (x0 : Vec Ideal S16 .f32) (hd : Fin 8) (x1 : Vec Ideal S256x128 .bf16) (x2 x3 : Vec Ideal S2048x128 .bf16) (x4 : Vec Ideal S2x256x512 .f32)
  (n : ℕ) (hn : n < 8) (D0 D1 B0 B1 : Fin 256 → ℕ → ℝ) (V : ℕ → Fin 128 → ℝ)
  (hD0 : ∀ (r : Fin 256) (j : Fin 2048), ∑ y : Fin 128, k0_pay52 x1 (ix2 r y) * x2 (ix2 j y) = (D0 r j.val : EReal))
  (hD1 : ∀ (r : Fin 256) (j : Fin 2048), ∑ y : Fin 128, k0_pay53 x1 (ix2 r y) * x2 (ix2 j y) = (D1 r j.val : EReal))
  (hV : ∀ (j : Fin 2048) (y : Fin 128), x3 (ix2 j y) = (V j.val y : EReal))
  (hf0 : ∀ (k : ℕ) (r x : Fin 256), k + 1 < n → x0 (ix1 (⟨2 * hd.val, even_lt hd⟩ : Fin 16)) = (B0 r (k * 256 + x.val) : EReal))
  (hf1 : ∀ (k : ℕ) (r x : Fin 256), k + 1 < n → x0 (ix1 (⟨2 * hd.val + 1, odd_lt hd⟩ : Fin 16)) = (B1 r (k * 256 + x.val) : EReal))
  (hn0 : ∀ (k : ℕ) (r x : Fin 256), k + 1 = n → x4 (ix3 (0 : Fin 2) r (⟨x.val, near_lt x⟩ : Fin 512)) = (B0 r (k * 256 + x.val) : EReal))
  (hn1 : ∀ (k : ℕ) (r x : Fin 256), k + 1 = n → x4 (ix3 (1 : Fin 2) r (⟨x.val, near_lt x⟩ : Fin 512)) = (B1 r (k * 256 + x.val) : EReal))
  (hg0 : ∀ r x : Fin 256, x4 (ix3 (0 : Fin 2) r (⟨256 + x.val, diag_lt x⟩ : Fin 512)) = (B0 r (n * 256 + x.val) : EReal))
  (hg1 : ∀ r x : Fin 256, x4 (ix3 (1 : Fin 2) r (⟨256 + x.val, diag_lt x⟩ : Fin 512)) = (B1 r (n * 256 + x.val) : EReal))

theorem window_at (off : Fin 3 → ℕ) (inb : ∀ b, off b + S1x256x256.size b ≤ S2x256x512.size b) (a : Fin 2) (c : ℕ) (h0 : off 0 = a.val) (h1 : off 1 = 0) (h2 : off 2 = c)
    (r x : Fin 256) (hc : c + x.val < 512) : window x4 off S1x256x256.size inb (ix3 0 r x) = x4 (ix3 a r (⟨c + x.val, hc⟩ : Fin 512)) := by
  refine congrArg x4 (funext fun b => Fin.ext ?_)
  match b with
  | ⟨0, _⟩ => show off 0 + 1 * 0 = a.val; omega
  | ⟨1, _⟩ => show off 1 + 1 * r.val = r.val; omega
  | ⟨2, _⟩ => show off 2 + 1 * x.val = c + x.val; omega

theorem dot_blk (q : Vec Ideal S256x128 .bf16) (D : Fin 256 → ℕ → ℝ)
    (h : ∀ (r : Fin 256) (j : Fin 2048), ∑ y : Fin 128, q (ix2 r y) * x2 (ix2 j y) = (D r j.val : EReal)) (k : ℕ) (hk : k < 8) (r x : Fin 256) :
    ∑ y : Fin 128, q (ix2 r y) * blk x2 k (ix2 x y) = (D r (k * 256 + x.val) : EReal) := by
  have e : (⟨(k * 256 + x.val) % 2048, Nat.mod_lt _ (by decide)⟩ : Fin 2048) = ⟨k * 256 + x.val, by omega⟩ := Fin.ext (Nat.mod_eq_of_lt (by omega))
  refine Eq.trans ?_ (h r ⟨k * 256 + x.val, by omega⟩)
  rw [← e]
  rfl

theorem sFar_at (q : Vec Ideal S256x128 .bf16) (D B : Fin 256 → ℕ → ℝ)
    (h : ∀ (r : Fin 256) (j : Fin 2048), ∑ y : Fin 128, q (ix2 r y) * x2 (ix2 j y) = (D r j.val : EReal)) (f : EReal) (k : ℕ) (hk : k + 1 ≤ n) (hn : n < 8)
    (hf : ∀ r x : Fin 256, f = (B r (k * 256 + x.val) : EReal)) (r x : Fin 256) :
    sFar q (blk x2 k) f (ix2 r x) = if k * 256 + x.val ≤ n * 256 + r.val then ((D r (k * 256 + x.val) + B r (k * 256 + x.val) : ℝ) : EReal) else ⊥ := by
  rw [if_pos (by omega)]
  have e : sFar q (blk x2 k) f (ix2 r x) = ∑ y : Fin 128, q (ix2 r y) * blk x2 k (ix2 x y) + f := by
    pointwise [sFar, k0_pay1]
  rw [e, dot_blk x2 q D h k (by omega), EReal.coe_add, ← hf r x]

theorem sNear_at (q : Vec Ideal S256x128 .bf16) (D B : Fin 256 → ℕ → ℝ)
    (h : ∀ (r : Fin 256) (j : Fin 2048), ∑ y : Fin 128, q (ix2 r y) * x2 (ix2 j y) = (D r j.val : EReal)) (f : Vec Ideal S1x256x256 .f32) (k : ℕ) (hk : k + 1 ≤ n) (hn : n < 8)
    (hf : ∀ r x : Fin 256, f (ix3 0 r x) = (B r (k * 256 + x.val) : EReal)) (r x : Fin 256) :
    sNear q (blk x2 k) f (ix2 r x) = if k * 256 + x.val ≤ n * 256 + r.val then ((D r (k * 256 + x.val) + B r (k * 256 + x.val) : ℝ) : EReal) else ⊥ := by
  rw [if_pos (by omega)]
  have e : sNear q (blk x2 k) f (ix2 r x) = ∑ y : Fin 128, q (ix2 r y) * blk x2 k (ix2 x y) + f (ix3 0 r x) := by
    pointwise [sNear, k0_pay33]
  rw [e, dot_blk x2 q D h k (by omega), EReal.coe_add, ← hf r x]

theorem sDiag_at (q : Vec Ideal S256x128 .bf16) (D B : Fin 256 → ℕ → ℝ)
    (h : ∀ (r : Fin 256) (j : Fin 2048), ∑ y : Fin 128, q (ix2 r y) * x2 (ix2 j y) = (D r j.val : EReal)) (f : Vec Ideal S1x256x256 .f32) (hn : n < 8)
    (hf : ∀ r x : Fin 256, f (ix3 0 r x) = (B r (n * 256 + x.val) : EReal)) (r x : Fin 256) :
    sDiag q (blk x2 n) f (ix2 r x) = if n * 256 + x.val ≤ n * 256 + r.val then ((D r (n * 256 + x.val) + B r (n * 256 + x.val) : ℝ) : EReal) else ⊥ := by
  have e : sDiag q (blk x2 n) f (ix2 r x) = Scalar.select (IntOp.cmpi .sge (BitVec.ofNat 32 r.val) (BitVec.ofNat 32 x.val))
      (∑ y : Fin 128, q (ix2 r y) * blk x2 n (ix2 x y) + f (ix3 0 r x)) (Named.named (F := Ideal) κ "mask" (φ := .f32) 0xF149F2CA#32) := by
    pointwise [sDiag, k0_pay63]
  rw [e, dot_blk x2 q D h n hn, hf r x, sel_sge _ _ (by omega) (by omega), mask_bot, EReal.coe_add]
  by_cases hx : x.val ≤ r.val
  · rw [if_pos hx, if_pos (by omega)]
  · rw [if_neg hx, if_neg (by omega)]

include hD0 hD1 hV hn in
theorem holds_far (hf0 : ∀ (k : ℕ) (r x : Fin 256), k + 1 < n → x0 (ix1 (⟨2 * hd.val, by omega⟩ : Fin 16)) = (B0 r (k * 256 + x.val) : EReal))
    (hf1 : ∀ (k : ℕ) (r x : Fin 256), k + 1 < n → x0 (ix1 (⟨2 * hd.val + 1, by omega⟩ : Fin 16)) = (B1 r (k * 256 + x.val) : EReal)) (k : ℕ) (hk : k < n) :
    Holds (fun r j => D0 r j + B0 r j) (fun r j => D1 r j + B1 r j) V n k
      (stFar (k0_pay52 x1) (k0_pay53 x1) x2 x3 (x0 (ix1 (⟨2 * hd.val, by omega⟩ : Fin 16))) (x0 (ix1 (⟨2 * hd.val + 1, by omega⟩ : Fin 16))) k) := by
  induction k with
  | zero => exact holds_st0 _ _ V n
  | succ k ih =>
    refine holds_step _ _ V n k (by omega) _ _ _ ?_ ?_ ?_ _ (ih (by omega))
    · exact sFar_at x2 n _ D0 B0 hD0 _ k (by omega) hn (fun r x => hf0 k r x (by omega))
    · exact sFar_at x2 n _ D1 B1 hD1 _ k (by omega) hn (fun r x => hf1 k r x (by omega))
    · intro x y
      have e : (⟨(k * 256 + x.val) % 2048, Nat.mod_lt _ (by decide)⟩ : Fin 2048) = ⟨k * 256 + x.val, by omega⟩ := Fin.ext (Nat.mod_eq_of_lt (by omega))
      refine Eq.trans ?_ (hV ⟨k * 256 + x.val, by omega⟩ y)
      rw [← e]
      rfl

include hn hD0 hD1 hV hf0 hf1 hn0 hn1 hg0 hg1 in
theorem holds_all : Holds (fun r j => D0 r j + B0 r j) (fun r j => D1 r j + B1 r j) V n (n + 1) (stAll x0 hd x1 x2 x3 x4 n) := by
  have hv (k : ℕ) (hk : k < 8) (x : Fin 256) (y : Fin 128) : blk x3 k (ix2 x y) = (V (k * 256 + x.val) y : EReal) := by
    have e : (⟨(k * 256 + x.val) % 2048, Nat.mod_lt _ (by decide)⟩ : Fin 2048) = ⟨k * 256 + x.val, by omega⟩ := Fin.ext (Nat.mod_eq_of_lt (by omega))
    refine Eq.trans ?_ (hV ⟨k * 256 + x.val, by omega⟩ y)
    rw [← e]
    rfl
  have d0 := sDiag_at x2 n _ D0 B0 hD0 (window x4 ![0, 0, 256] S1x256x256.size inb_S2x256x512_S1x256x256_0_0_256) hn
    (fun r x => (window_at x4 ![0, 0, 256] inb_S2x256x512_S1x256x256_0_0_256 0 256 rfl rfl rfl r x (by omega)).trans (hg0 r x))
  have d1 := sDiag_at x2 n _ D1 B1 hD1 (window x4 ![1, 0, 256] S1x256x256.size inb_S2x256x512_S1x256x256_1_0_256) hn
    (fun r x => (window_at x4 ![1, 0, 256] inb_S2x256x512_S1x256x256_1_0_256 1 256 rfl rfl rfl r x (by omega)).trans (hg1 r x))
  cases n with
  | zero => exact holds_step _ _ V 0 0 le_rfl _ _ _ d0 d1 (hv 0 hn) _ (holds_st0 _ _ V 0)
  | succ n =>
    refine holds_step _ _ V (n + 1) (n + 1) le_rfl _ _ _ d0 d1 (hv (n + 1) hn) _ ?_
    refine holds_step _ _ V (n + 1) n (by omega) _ _ _ ?_ ?_ (hv n (by omega)) _ ?_
    · exact sNear_at x2 (n + 1) _ D0 B0 hD0 _ n le_rfl hn (fun r x => (window_at x4 ![0, 0, 0] inb_S2x256x512_S1x256x256_0_0_0 0 0 rfl rfl rfl r x (by omega)).trans
        ((congrArg x4 (congrArg (ix3 (0 : Fin 2) r) (Fin.ext (Nat.zero_add _)))).trans (hn0 n r x rfl)))
    · exact sNear_at x2 (n + 1) _ D1 B1 hD1 _ n le_rfl hn (fun r x => (window_at x4 ![1, 0, 0] inb_S2x256x512_S1x256x256_1_0_0 1 0 rfl rfl rfl r x (by omega)).trans
        ((congrArg x4 (congrArg (ix3 (1 : Fin 2) r) (Fin.ext (Nat.zero_add _)))).trans (hn1 n r x rfl)))
    · exact holds_far x0 hd x1 x2 x3 (n + 1) hn D0 D1 B0 B1 V hD0 hD1 hV hf0 hf1 n (by omega)

include hn hD0 hD1 hV hf0 hf1 hn0 hn1 hg0 hg1 in
/-- A row of the result: two softmax-weighted means, their difference normalised. -/
theorem row_at (x5 : Vec Ideal S4x64 .f32) (x6 : Vec Ideal S1x128 .f32) (r : Fin 256) (y : Fin 128) :
    fin7 x5 x6 (stAll x0 hd x1 x2 x3 x4 n) (ix2 r y)
      = outE (fun y => (sm (fun j => D0 r j + B0 r j) (n * 256 + r.val) (fun j => V j y) : EReal) - lamE x5 * (sm (fun j => D1 r j + B1 r j) (n * 256 + r.val) (fun j => V j y) : EReal))
          (fun y => x6 (ix2 0 y)) y := by
  have h := holds_all x0 hd x1 x2 x3 x4 n hn D0 D1 B0 B1 V hD0 hD1 hV hf0 hf1 hn0 hn1 hg0 hg1 r
  rw [fin7_at]
  congr 1
  funext y
  rw [div_row _ _ V ((n + 1) * 256) (by omega) _ _ _ h.1 y, div_row _ _ V ((n + 1) * 256) (by omega) _ _ _ h.2 y]

end All

end Cert.DaIdeal.Fold

end
-- ==== Proof.DaBias.lean ====
module

public import proofs.«01_k».proof.Proof.EMath
public import proofs.«01_k».proof.Proof.Gen.DaIdeal.Value
public import proofs.«01_k».proof.Proof.Gen.DaRefIdeal.Read
public import Idealize.ShloMosaic.Lib.Pointwise
public import Idealize.ShloMosaic.Lib.IdealHost
public import Idealize.ShloMosaic.Lib.ValueIdx

/-! # Differential attention: the relative bias, by distance -/

@[expose] public section

set_option maxRecDepth 16384

noncomputable section

namespace Cert.DaBias

open Cert.EMath Idealize.ShloMosaic Idealize.ShloMosaic.TcCoe Idealize.SL.Sem

/-- The logarithmic bucket of a real number, before it is cut to the table. -/
def lnb (x : EReal) : BitVec 32 :=
  Ideal.fptosi 32 (Ideal.div (Ideal.log (Ideal.div x (Ideal.ofBits .f32 0x41800000#32))) (Ideal.ofBits .f32 0x40051592#32) * Ideal.ofBits .f32 0x41800000#32)

/-- The bucket of a distance, before a negative one is wrapped. -/
def big (d : BitVec 32) : BitVec 32 :=
  Scalar.select (IntOp.cmpi .slt (IntOp.maxsi d 0#32) 16#32) (IntOp.maxsi d 0#32)
      (IntOp.minsi (16#32 + lnb (((IntOp.maxsi (IntOp.maxsi d 0#32) 1#32).toInt : ℝ) : EReal)) 31#32)

/-- The bucket of a distance. -/
def bkt (d : BitVec 32) : BitVec 32 :=
  Scalar.select (IntOp.cmpi .slt (big d) 0#32) (big d + 32#32) (big d)

/-- The row of the bias table a distance reads. -/
def row (d : BitVec 32) : Fin 32 := ⟨min (bkt d).toInt.toNat 31, by omega⟩

theorem sixteen : Ideal.ofBits .f32 0x41800000#32 = ((16 : ℝ) : EReal) := by
  simp [Ideal.ofBits, Ideal.ieee]
  norm_num
  rw [← EReal.coe_mul]
  norm_num

theorem log8 : Ideal.ofBits .f32 0x40051592#32 = ((8721810 / 4194304 : ℝ) : EReal) := by
  simp [Ideal.ofBits, Ideal.ieee]
  norm_num
  rw [← EReal.coe_mul]
  norm_num

theorem maxsi_zero : ∀ n : Fin 2048, IntOp.maxsi (BitVec.ofNat 32 n.val) 0#32 = BitVec.ofNat 32 n.val := by decide +kernel
theorem maxsi_one : ∀ n : Fin 2048, 1 ≤ n.val → IntOp.maxsi (BitVec.ofNat 32 n.val) 1#32 = BitVec.ofNat 32 n.val := by decide +kernel
theorem slt_sixteen : ∀ n : Fin 2048, 16 ≤ n.val → IntOp.cmpi .slt (BitVec.ofNat 32 n.val) 16#32 = 0#1 := by decide +kernel
theorem toInt_small : ∀ n : Fin 2048, (BitVec.ofNat 32 n.val).toInt = (n.val : ℤ) := by decide +kernel
theorem minsi_last : ∀ n : Fin 100, 15 ≤ n.val → IntOp.minsi (16#32 + BitVec.ofInt 32 (n.val : ℤ)) 31#32 = 31#32 := by decide +kernel

theorem fptosi_coe (X : ℝ) (h0 : 0 ≤ X) (h1 : X < 100) : Ideal.fptosi 32 (X : EReal) = BitVec.ofInt 32 ⌊X⌋ := by
  have hfl : 0 ≤ ⌊X⌋ := Int.floor_nonneg.mpr h0
  have hfh : ⌊X⌋ < 100 := Int.floor_lt.mpr (by exact_mod_cast h1)
  show BitVec.ofInt 32 (max _ (min _ (if 0 ≤ X then ⌊X⌋ else ⌈X⌉))) = _
  rw [if_pos h0]
  congr 1
  norm_num
  omega

theorem lnb_far (D : ℝ) (h1 : 257 ≤ D) (h2 : D < 2048) : ∃ N : ℕ, 15 ≤ N ∧ N < 100 ∧ lnb (D : EReal) = BitVec.ofInt 32 (N : ℤ) := by
  have hl2 : (1 / 2 : ℝ) ≤ Real.log 2 := by
    have := Real.one_sub_inv_le_log_of_pos (show (0 : ℝ) < 2 by norm_num)
    norm_num at this
    linarith
  have hl2' : Real.log 2 ≤ 1 := by
    have := Real.log_le_sub_one_of_pos (show (0 : ℝ) < 2 by norm_num)
    linarith
  have lo : 15 ≤ Real.log (D / 16) / (8721810 / 4194304) * 16 := by
    have h16 : Real.log 16 ≤ Real.log (D / 16) := Real.log_le_log (by norm_num) (by linarith)
    have e16 : Real.log 16 = 4 * Real.log 2 := by
      rw [show (16 : ℝ) = 2 ^ 4 by norm_num, Real.log_pow]; norm_num
    rw [div_mul_eq_mul_div, le_div_iff₀ (by norm_num)]
    linarith
  have hi : Real.log (D / 16) / (8721810 / 4194304) * 16 < 100 := by
    have h128 : Real.log (D / 16) ≤ Real.log 128 := Real.log_le_log (by linarith) (by linarith)
    have e128 : Real.log 128 = 7 * Real.log 2 := by
      rw [show (128 : ℝ) = 2 ^ 7 by norm_num, Real.log_pow]; norm_num
    rw [div_mul_eq_mul_div, div_lt_iff₀ (by norm_num)]
    linarith
  have e1 : Ideal.div (D : EReal) ((16 : ℝ) : EReal) = ((D / 16 : ℝ) : EReal) := by
    rw [Ideal.div_coe (by norm_num), ← EReal.coe_mul, mul_one_div]
  have e2 (y : ℝ) : Ideal.div (y : EReal) ((8721810 / 4194304 : ℝ) : EReal) = ((y / (8721810 / 4194304) : ℝ) : EReal) := by
    rw [Ideal.div_coe (by norm_num), ← EReal.coe_mul, mul_one_div]
  have hfl : 15 ≤ ⌊Real.log (D / 16) / (8721810 / 4194304) * 16⌋ := Int.le_floor.mpr (by exact_mod_cast lo)
  have hfh : ⌊Real.log (D / 16) / (8721810 / 4194304) * 16⌋ < 100 := Int.floor_lt.mpr (by exact_mod_cast hi)
  have ef : lnb (D : EReal) = BitVec.ofInt 32 ⌊Real.log (D / 16) / (8721810 / 4194304) * 16⌋ := by
    unfold lnb
    rw [sixteen, log8, e1, log_coe _ (by linarith), e2, ← EReal.coe_mul, fptosi_coe _ (by linarith) hi]
  refine ⟨⌊Real.log (D / 16) / (8721810 / 4194304) * 16⌋.toNat, by omega, by omega, ?_⟩
  rw [ef, Int.toNat_of_nonneg (by omega)]

theorem big_far (d l : BitVec 32) (x : ℝ) (hm : IntOp.maxsi d 0#32 = d) (hm1 : IntOp.maxsi d 1#32 = d)
    (hlt : IntOp.cmpi .slt d 16#32 = 0#1) (hi : (d.toInt : ℝ) = x) (hl : lnb (x : EReal) = l) (he : IntOp.minsi (16#32 + l) 31#32 = 31#32) :
    big d = 31#32 := by
  unfold big
  rw [hm, hm1, hlt, hi, hl, he]
  exact if_neg (by decide)

theorem row_of_big (d : BitVec 32) (h : big d = 31#32) : row d = 31 := by
  have hb : bkt d = 31#32 := by
    unfold bkt
    rw [h]
    exact if_neg (by decide)
  refine Fin.ext ?_
  show min (bkt d).toInt.toNat 31 = 31
  rw [hb]
  decide

/-- A distance of at least 257 reads the last row. -/
theorem row_far (D : ℕ) (h1 : 257 ≤ D) (h2 : D < 2048) : row (BitVec.ofNat 32 D) = 31 := by
  obtain ⟨N, n1, n2, hN⟩ := lnb_far (D : ℝ) (by exact_mod_cast h1) (by exact_mod_cast h2)
  refine row_of_big _ (big_far (BitVec.ofNat 32 D) (BitVec.ofInt 32 (N : ℤ)) (D : ℝ) (maxsi_zero ⟨D, h2⟩) (maxsi_one ⟨D, h2⟩ ?_) (slt_sixteen ⟨D, h2⟩ ?_) ?_ hN (minsi_last ⟨N, n2⟩ n1))
  · show 1 ≤ D
    omega
  · show 16 ≤ D
    omega
  · rw [toInt_small ⟨D, h2⟩]
    exact Int.cast_natCast D

end Cert.DaBias

namespace Cert.DaRefIdeal.At

open Cert.DaRefIdeal Cert.DaRefIdeal.Gen Cert.DaRefIdeal.Read Cert.DaBias Idealize.ShloMosaic Idealize.ShloMosaic.TcCoe Idealize.SL.Sem

/-- The reference's table, gathered at a row. -/
theorem gather_ref (x : S32x8x2.Idx → EReal) (ix : IVec S2048x2048x1 32) (t j : Fin 2048) (h : Fin 8) (c : Fin 2) :
    Host.gather gather_S32x8x2_S2048x2048x1_S2048x2048x8x2_23_0_n_n_0_2_182 x ix (ix4 t j h c)
      = x (ix3 ⟨min (ix (ix3 t j 0)).toInt.toNat 31, by omega⟩ h c) := by
  have hsi : GatherDims.siIdx gather_S32x8x2_S2048x2048x1_S2048x2048x8x2_23_0_n_n_0_2_182 (ix4 t j h c) ⟨List.idxOf (0 : Fin 3) gather_S32x8x2_S2048x2048x1_S2048x2048x8x2_23_0_n_n_0_2_182.startIndexMap,
      List.idxOf_lt_length_iff.2 (List.mem_singleton.mpr rfl)⟩ = ix3 t j 0 := by
    funext b; refine Fin.ext ?_
    match b with
    | ⟨0, _⟩ => rfl
    | ⟨1, _⟩ => rfl
    | ⟨2, _⟩ => rfl
  have s0 : gather_S32x8x2_S2048x2048x1_S2048x2048x8x2_23_0_n_n_0_2_182.start (ix4 t j h c) ix (0 : Fin 3) + gather_S32x8x2_S2048x2048x1_S2048x2048x8x2_23_0_n_n_0_2_182.batchCoord (ix4 t j h c) (0 : Fin 3) + gather_S32x8x2_S2048x2048x1_S2048x2048x8x2_23_0_n_n_0_2_182.offCoord (ix4 t j h c) (0 : Fin 3)
      = min (ix (ix3 t j 0)).toInt.toNat 31 := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ gather_S32x8x2_S2048x2048x1_S2048x2048x8x2_23_0_n_n_0_2_182.startIndexMap from List.mem_singleton.mpr rfl), hsi]
    rfl
  have s1 : gather_S32x8x2_S2048x2048x1_S2048x2048x8x2_23_0_n_n_0_2_182.start (ix4 t j h c) ix (1 : Fin 3) + gather_S32x8x2_S2048x2048x1_S2048x2048x8x2_23_0_n_n_0_2_182.batchCoord (ix4 t j h c) (1 : Fin 3) + gather_S32x8x2_S2048x2048x1_S2048x2048x8x2_23_0_n_n_0_2_182.offCoord (ix4 t j h c) (1 : Fin 3)
      = h.val := by
    rw [GatherDims.batchCoord_eq_zero _ _ _ List.not_mem_nil]
    unfold GatherDims.start GatherDims.offCoord
    rw [dif_neg (show ¬ (1 : Fin 3) ∈ gather_S32x8x2_S2048x2048x1_S2048x2048x8x2_23_0_n_n_0_2_182.startIndexMap by decide), dif_pos (show (1 : Fin 3) ∈ gather_S32x8x2_S2048x2048x1_S2048x2048x8x2_23_0_n_n_0_2_182.sKept by decide)]
    simp only [Nat.zero_add]
    rfl
  have s2 : gather_S32x8x2_S2048x2048x1_S2048x2048x8x2_23_0_n_n_0_2_182.start (ix4 t j h c) ix (2 : Fin 3) + gather_S32x8x2_S2048x2048x1_S2048x2048x8x2_23_0_n_n_0_2_182.batchCoord (ix4 t j h c) (2 : Fin 3) + gather_S32x8x2_S2048x2048x1_S2048x2048x8x2_23_0_n_n_0_2_182.offCoord (ix4 t j h c) (2 : Fin 3)
      = c.val := by
    rw [GatherDims.batchCoord_eq_zero _ _ _ List.not_mem_nil]
    unfold GatherDims.start GatherDims.offCoord
    rw [dif_neg (show ¬ (2 : Fin 3) ∈ gather_S32x8x2_S2048x2048x1_S2048x2048x8x2_23_0_n_n_0_2_182.startIndexMap by decide), dif_pos (show (2 : Fin 3) ∈ gather_S32x8x2_S2048x2048x1_S2048x2048x8x2_23_0_n_n_0_2_182.sKept by decide)]
    simp only [Nat.zero_add]
    rfl
  unfold Host.gather
  congr 1
  funext a
  refine Fin.ext ?_
  match a with
  | ⟨0, _⟩ => exact s0
  | ⟨1, _⟩ => exact s1
  | ⟨2, _⟩ => exact s2

end Cert.DaRefIdeal.At

namespace Cert.DaIdeal.At

open Cert.DaIdeal Cert.DaIdeal.Gen Cert.DaBias Idealize.ShloMosaic Idealize.ShloMosaic.TcCoe Idealize.SL.Sem

/-- The kernel's table, gathered at a row. -/
theorem gather_ker (x : S32x16.Idx → EReal) (ix : IVec S256x512x1 32) (r : Fin 256) (y : Fin 512) (h : Fin 16) :
    Host.gather gather_S32x16_S256x512x1_S256x512x16_2_0_n_n_0_2_116 x ix (ix3 r y h)
      = x (ix2 ⟨min (ix (ix3 r y 0)).toInt.toNat 31, by omega⟩ h) := by
  have hsi : GatherDims.siIdx gather_S32x16_S256x512x1_S256x512x16_2_0_n_n_0_2_116 (ix3 r y h) ⟨List.idxOf (0 : Fin 2) gather_S32x16_S256x512x1_S256x512x16_2_0_n_n_0_2_116.startIndexMap,
      List.idxOf_lt_length_iff.2 (List.mem_singleton.mpr rfl)⟩ = ix3 r y 0 := by
    funext b; refine Fin.ext ?_
    match b with
    | ⟨0, _⟩ => rfl
    | ⟨1, _⟩ => rfl
    | ⟨2, _⟩ => rfl
  have s0 : gather_S32x16_S256x512x1_S256x512x16_2_0_n_n_0_2_116.start (ix3 r y h) ix (0 : Fin 2) + gather_S32x16_S256x512x1_S256x512x16_2_0_n_n_0_2_116.batchCoord (ix3 r y h) (0 : Fin 2) + gather_S32x16_S256x512x1_S256x512x16_2_0_n_n_0_2_116.offCoord (ix3 r y h) (0 : Fin 2)
      = min (ix (ix3 r y 0)).toInt.toNat 31 := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x16_S256x512x1_S256x512x16_2_0_n_n_0_2_116.startIndexMap from List.mem_singleton.mpr rfl), hsi]
    rfl
  have s1 : gather_S32x16_S256x512x1_S256x512x16_2_0_n_n_0_2_116.start (ix3 r y h) ix (1 : Fin 2) + gather_S32x16_S256x512x1_S256x512x16_2_0_n_n_0_2_116.batchCoord (ix3 r y h) (1 : Fin 2) + gather_S32x16_S256x512x1_S256x512x16_2_0_n_n_0_2_116.offCoord (ix3 r y h) (1 : Fin 2)
      = h.val := by
    rw [GatherDims.batchCoord_eq_zero _ _ _ List.not_mem_nil]
    unfold GatherDims.start GatherDims.offCoord
    rw [dif_neg (show ¬ (1 : Fin 2) ∈ gather_S32x16_S256x512x1_S256x512x16_2_0_n_n_0_2_116.startIndexMap by decide), dif_pos (show (1 : Fin 2) ∈ gather_S32x16_S256x512x1_S256x512x16_2_0_n_n_0_2_116.sKept by decide)]
    simp only [Nat.zero_add]
    rfl
  unfold Host.gather
  congr 1
  funext a
  refine Fin.ext ?_
  match a with
  | ⟨0, _⟩ => exact s0
  | ⟨1, _⟩ => exact s1

end Cert.DaIdeal.At

end
-- ==== Proof.DaRef.lean ====
module

public import proofs.«01_k».proof.Proof.DaOut
public import proofs.«01_k».proof.Proof.DaBias

/-! # Differential attention: the reference read at an index -/

@[expose] public section

set_option maxRecDepth 16384

noncomputable section

namespace Cert.DaRefIdeal.At

open Cert.DaRefIdeal Cert.DaRefIdeal.Gen Cert.DaRefIdeal.Read Cert.EMath Cert.DaBias Cert.DaIdeal.Fold Idealize.ShloMosaic Idealize.ShloMosaic.TcCoe Idealize.SL.Sem

/-! ## The indices read -/

theorem ix_v55 (t k : Fin 2048) : idx_main_v55 (ix3 t k 0) = ix2 t k := funext fun a => match a with
  | ⟨0, _⟩ => rfl
  | ⟨1, _⟩ => rfl

theorem ix_v57 (h : Fin 8) (c : Fin 2) (t k : Fin 2048) : idx_main_v57 (ix4 h c t k) = ix4 t k h c := funext fun a => match a with
  | ⟨0, _⟩ => rfl
  | ⟨1, _⟩ => rfl
  | ⟨2, _⟩ => rfl
  | ⟨3, _⟩ => rfl

theorem ix_v62 (b h : Fin 8) (c : Fin 2) (t k : Fin 2048) : idx_main_v61 (idx_main_v62 (ix5 b h c t k)) = ix4 h c t k := funext fun a => match a with
  | ⟨0, _⟩ => rfl
  | ⟨1, _⟩ => rfl
  | ⟨2, _⟩ => rfl
  | ⟨3, _⟩ => rfl

theorem ix_call (b h : Fin 8) (c : Fin 2) (t k : Fin 2048) : idx_main_call1_v1 (ix5 b h c t k) = ix2 t k := funext fun a => match a with
  | ⟨0, _⟩ => rfl
  | ⟨1, _⟩ => rfl

theorem ix_v71 (b h : Fin 8) (c : Fin 2) (t k : Fin 2048) : idx_main_v70 (idx_main_v71 (ix5 b h c t k)) = ix4 b h c t := funext fun a => match a with
  | ⟨0, _⟩ => rfl
  | ⟨1, _⟩ => rfl
  | ⟨2, _⟩ => rfl
  | ⟨3, _⟩ => rfl

theorem ix_v76 (b h : Fin 8) (c : Fin 2) (t k : Fin 2048) : idx_main_v75 (idx_main_v76 (ix5 b h c t k)) = ix4 b h c t := funext fun a => match a with
  | ⟨0, _⟩ => rfl
  | ⟨1, _⟩ => rfl
  | ⟨2, _⟩ => rfl
  | ⟨3, _⟩ => rfl

theorem ix_v74 (b h : Fin 8) (c : Fin 2) (t k : Fin 2048) : idx_main_v74 (ix4 b h c t) k = ix5 b h c t k := funext fun a => match a with
  | ⟨0, _⟩ => rfl
  | ⟨1, _⟩ => rfl
  | ⟨2, _⟩ => rfl
  | ⟨3, _⟩ => rfl
  | ⟨4, _⟩ => rfl

theorem ix_v79 (b h : Fin 8) (t k : Fin 2048) : idx_main_v78 (idx_main_v79 (ix4 b h t k)) = ix5 b h 0 t k := funext fun a => match a with
  | ⟨0, _⟩ => Fin.ext (show (((b.val * 8 + h.val) * 2048 + t.val) * 2048 + k.val) / 33554432 = b.val by omega)
  | ⟨1, _⟩ => Fin.ext (show (((b.val * 8 + h.val) * 2048 + t.val) * 2048 + k.val) / 4194304 % 8 = h.val by omega)
  | ⟨2, _⟩ => rfl
  | ⟨3, _⟩ => Fin.ext (show (((b.val * 8 + h.val) * 2048 + t.val) * 2048 + k.val) / 2048 % 2048 = t.val by omega)
  | ⟨4, _⟩ => Fin.ext (show (((b.val * 8 + h.val) * 2048 + t.val) * 2048 + k.val) % 2048 = k.val by omega)

theorem ix_v81 (b h : Fin 8) (t k : Fin 2048) : idx_main_v80 (idx_main_v81 (ix4 b h t k)) = ix5 b h 1 t k := funext fun a => match a with
  | ⟨0, _⟩ => Fin.ext (show (((b.val * 8 + h.val) * 2048 + t.val) * 2048 + k.val) / 33554432 = b.val by omega)
  | ⟨1, _⟩ => Fin.ext (show (((b.val * 8 + h.val) * 2048 + t.val) * 2048 + k.val) / 4194304 % 8 = h.val by omega)
  | ⟨2, _⟩ => rfl
  | ⟨3, _⟩ => Fin.ext (show (((b.val * 8 + h.val) * 2048 + t.val) * 2048 + k.val) / 2048 % 2048 = t.val by omega)
  | ⟨4, _⟩ => Fin.ext (show (((b.val * 8 + h.val) * 2048 + t.val) * 2048 + k.val) % 2048 = k.val by omega)

theorem ix_v86 (b h : Fin 8) (t : Fin 2048) (y : Fin 128) : idx_main_v86 (ix4 b t h y) = ix4 b h y t := funext fun a => match a with
  | ⟨0, _⟩ => rfl
  | ⟨1, _⟩ => rfl
  | ⟨2, _⟩ => rfl
  | ⟨3, _⟩ => rfl

theorem ix_l85 (b h : Fin 8) (t k : Fin 2048) (y : Fin 128) : lidx_main_v85 (ix4 b h y t) k = ix4 b k h y := funext fun a => match a with
  | ⟨0, _⟩ => rfl
  | ⟨1, _⟩ => rfl
  | ⟨2, _⟩ => rfl
  | ⟨3, _⟩ => rfl

theorem ix_r85 (b h : Fin 8) (t k : Fin 2048) (y : Fin 128) : ridx_main_v85 (ix4 b h y t) k = ix4 b h t k := funext fun a => match a with
  | ⟨0, _⟩ => rfl
  | ⟨1, _⟩ => rfl
  | ⟨2, _⟩ => rfl
  | ⟨3, _⟩ => rfl

theorem ix_v88 (b h : Fin 8) (t : Fin 2048) (y : Fin 128) : idx_main_v88 (ix3 b t h) y = ix4 b t h y := funext fun a => match a with
  | ⟨0, _⟩ => rfl
  | ⟨1, _⟩ => rfl
  | ⟨2, _⟩ => rfl
  | ⟨3, _⟩ => rfl

theorem ix_v95 (b h : Fin 8) (t : Fin 2048) (y : Fin 128) : idx_main_v89 (idx_main_v95 (ix4 b t h y)) = ix3 b t h := funext fun a => match a with
  | ⟨0, _⟩ => rfl
  | ⟨1, _⟩ => rfl
  | ⟨2, _⟩ => rfl

theorem ix_v98 (b h : Fin 8) (t : Fin 2048) (y : Fin 128) : idx_main_v97 (idx_main_v98 (ix4 b t h y)) = ix1 y := funext fun a => match a with
  | ⟨0, _⟩ => rfl

/-! ## The bias -/

/-- The distance of two positions. -/
theorem v29_at (t k : Fin 2048) : val_main_v29 (F := Ideal) (ix2 t k) = BitVec.ofNat 32 t.val - BitVec.ofNat 32 k.val := by
  rw [val_main_v29_apply, val_main_v27_apply, val_main_v28_apply, val_main_v25_apply, val_main_v26_apply, val_main_v24_apply, val_main_v24_apply]
  rfl

/-- The bucket of two positions. -/
theorem v54_at (t k : Fin 2048) : val_main_v54 (F := Ideal) (ix2 t k) = bkt (BitVec.ofNat 32 t.val - BitVec.ofNat 32 k.val) := by
  have e31 : val_main_v31 (F := Ideal) (ix2 t k) = IntOp.maxsi (BitVec.ofNat 32 t.val - BitVec.ofNat 32 k.val) 0#32 := by
    rw [val_main_v31_apply, v29_at, val_main_v30_apply]
    rfl
  have e46 : val_main_v46 (F := Ideal) (ix2 t k) = IntOp.minsi (16#32 + lnb (((IntOp.maxsi (IntOp.maxsi (BitVec.ofNat 32 t.val - BitVec.ofNat 32 k.val) 0#32) 1#32).toInt : ℝ) : EReal)) 31#32 := by
    rw [val_main_v46_apply, val_main_v44_apply, val_main_v43_apply, val_main_v45_apply, val_main_v42_apply, val_main_v41_apply, val_main_v39_apply, val_main_v40_apply,
      val_main_v37_apply, val_main_v38_apply, val_main_v36_apply, val_main_v35_apply, val_main_v34_apply, val_main_v33_apply, val_main_v32_apply, e31]
    rfl
  have e49 : val_main_v49 (F := Ideal) (ix2 t k) = big (BitVec.ofNat 32 t.val - BitVec.ofNat 32 k.val) := by
    rw [val_main_v49_apply, val_main_v48_apply, val_main_v47_apply, e31, e46]
    rfl
  rw [val_main_v54_apply, val_main_v51_apply, val_main_v50_apply, val_main_v53_apply, val_main_v52_apply, e49]
  rfl

/-- The bias of two positions in one head. -/
theorem v57_at (x1 : (⟨S32x16, .f32⟩ : BufTy).Contents (Elt Ideal)) (h : Fin 8) (c : Fin 2) (t k : Fin 2048) :
    val_main_v57 (F := Ideal) x1 (ix4 h c t k) = x1 (ix2 (row (BitVec.ofNat 32 t.val - BitVec.ofNat 32 k.val)) (⟨2 * h.val + c.val, by omega⟩ : Fin 16)) := by
  have e : val_main_v55 (F := Ideal) (ix3 t k 0) = bkt (BitVec.ofNat 32 t.val - BitVec.ofNat 32 k.val) := by
    rw [val_main_v55_apply, ix_v55]
    exact v54_at t k
  rw [val_main_v57_apply, ix_v57]
  have hr : ∀ d, (row d).val = min (bkt d).toInt.toNat 31 := fun _ => rfl
  unfold val_main_v56
  generalize val_main_v55 (F := Ideal) = ix at e ⊢
  rw [gather_ref, val_main_v23_apply]
  refine congrArg x1 (funext fun a => Fin.ext ?_)
  match a with
  | ⟨0, _⟩ =>
    show ((min (ix (ix3 t k 0)).toInt.toNat 31 * 8 + h.val) * 2 + c.val) / 16 = (row (BitVec.ofNat 32 t.val - BitVec.ofNat 32 k.val)).val
    rw [hr, e]
    omega
  | ⟨1, _⟩ =>
    show ((min (ix (ix3 t k 0)).toInt.toNat 31 * 8 + h.val) * 2 + c.val) % 16 = 2 * h.val + c.val
    omega

/-- A score of the reference: the scaled dot product and the bias. -/
theorem v63_at (x0 : (⟨S16384x3072, .bf16⟩ : BufTy).Contents (Elt Ideal)) (x1 : (⟨S32x16, .f32⟩ : BufTy).Contents (Elt Ideal)) (b h : Fin 8) (c : Fin 2) (t k : Fin 2048) :
    val_main_v63 (F := Ideal) x0 x1 (ix5 b h c t k)
      = (∑ d : Fin 64, x0 (ix2 (⟨b.val * 2048 + t.val, by omega⟩ : Fin 16384) (⟨h.val * 128 + c.val * 64 + d.val, by omega⟩ : Fin 3072))
          * x0 (ix2 (⟨b.val * 2048 + k.val, by omega⟩ : Fin 16384) (⟨1024 + (h.val * 128 + c.val * 64 + d.val), by omega⟩ : Fin 3072))) * ((0.125 : ℝ) : EReal)
        + x1 (ix2 (row (BitVec.ofNat 32 t.val - BitVec.ofNat 32 k.val)) (⟨2 * h.val + c.val, by omega⟩ : Fin 16)) := by
  rw [val_main_v63_apply, val_main_v62_apply, val_main_v61_apply, val_main_v60_apply, val_main_v59_apply, val_main_cst_11_apply, val_main_v58_apply,
    show FloatOps.ofBits (F := Ideal) .f32 0x3E000000#32 = ((0.125 : ℝ) : EReal) from eighth_f32]
  have e := v57_at x1 h c t k
  rw [ix_v62, e]
  show (∑ d : Fin 64, _) * _ + _ = _
  congr 2
  refine Finset.sum_congr rfl fun d _ => ?_
  rw [val_main_v4_apply, val_main_v1_apply, val_main_v0_apply, val_main_v5_apply, val_main_v2_apply, val_main_v0_apply]
  show x0 _ * x0 _ = x0 _ * x0 _
  congr 2
  · funext a
    match a with
    | ⟨0, _⟩ => exact Fin.ext (show ((((b.val * 2048 + t.val) * 8 + h.val) * 2 + c.val) * 64 + d.val) / 1024 = b.val * 2048 + t.val by omega)
    | ⟨1, _⟩ => exact Fin.ext (show ((((b.val * 2048 + t.val) * 8 + h.val) * 2 + c.val) * 64 + d.val) % 1024 = h.val * 128 + c.val * 64 + d.val by omega)
  · funext a
    match a with
    | ⟨0, _⟩ => exact Fin.ext (show ((((b.val * 2048 + k.val) * 8 + h.val) * 2 + c.val) * 64 + d.val) / 1024 = b.val * 2048 + k.val by omega)
    | ⟨1, _⟩ => exact Fin.ext (show 1024 + ((((b.val * 2048 + k.val) * 8 + h.val) * 2 + c.val) * 64 + d.val) % 1024 = 1024 + (h.val * 128 + c.val * 64 + d.val) by omega)

/-! ## The softmax -/

theorem ofBits_ninf : Ideal.ofBits .f32 0xFF800000#32 = ⊥ := Cert.DaIdeal.Fold.ofBits_ninf

/-- A select on a distance not below zero is the choice on the positions. -/
theorem sel_dist {α : Type} (t k : Fin 2048) (x y : α) :
    Scalar.select (IntOp.cmpi .sge (BitVec.ofNat 32 t.val - BitVec.ofNat 32 k.val) 0#32) x y = if k.val ≤ t.val then x else y := by
  have e : (BitVec.ofNat 32 t.val - BitVec.ofNat 32 k.val).toInt = (t.val : ℤ) - (k.val : ℤ) := by
    rw [BitVec.toInt_sub, toInt_small t, toInt_small k, Int.bmod_def]
    have := t.isLt
    have := k.isLt
    omega
  have e2 : IntOp.cmpi .sge (BitVec.ofNat 32 t.val - BitVec.ofNat 32 k.val) 0#32 = BitVec.ofBool (decide ((0 : ℤ) ≤ (t.val : ℤ) - (k.val : ℤ))) := by
    rw [← e]
    rfl
  rw [e2]
  by_cases hk : k.val ≤ t.val
  · rw [if_pos hk, decide_eq_true (by omega)]
    rfl
  · rw [if_neg hk, decide_eq_false (by omega)]
    rfl

section Row

variable (x0 : (⟨S16384x3072, .bf16⟩ : BufTy).Contents (Elt Ideal)) (x1 : (⟨S32x16, .f32⟩ : BufTy).Contents (Elt Ideal)) (b h : Fin 8) (c : Fin 2) (t : Fin 2048) (Z : ℕ → ℝ)
  (hZ : ∀ k : Fin 2048, val_main_v63 (F := Ideal) x0 x1 (ix5 b h c t k) = (Z k.val : EReal))
include hZ

theorem v66_at (k : Fin 2048) : val_main_v66 (F := Ideal) x0 x1 (ix5 b h c t k) = if k.val ≤ t.val then (Z k.val : EReal) else ⊥ := by
  rw [val_main_v66_apply, hZ, val_main_call1_v1_apply, val_main_call1_v2_apply, val_main_call1_v0_apply, val_main_cst_13_apply, val_main_v65_apply, val_main_v64_apply,
    ix_call, v29_at]
  refine (sel_dist t k _ _).trans ?_
  rw [show FloatOps.ofBits (F := Ideal) .f32 0xFF800000#32 = (⊥ : EReal) from ofBits_ninf]

/-- The row's maximum is a real number. -/
theorem v69_real : ∃ M : ℝ, val_main_v69 (F := Ideal) x0 x1 (ix4 b h c t) = (M : EReal) := by
  have h66 := v66_at x0 x1 b h c t Z hZ
  have e : val_main_v67 (F := Ideal) x0 x1 (ix4 b h c t) = Finset.univ.fold max ⊥ (fun k : Fin 2048 => if k.val ≤ t.val then (Z k.val : EReal) else ⊥) := by
    unfold val_main_v67
    generalize val_main_v66 (F := Ideal) x0 x1 = y at h66 ⊢
    have e0 : val_main_cst_14 (F := Ideal) (Shape.Idx.first h_S_) = (⊥ : EReal) := ofBits_ninf
    generalize val_main_cst_14 (F := Ideal) = z at e0 ⊢
    rw [Host.reduce_eq_fold_single (FloatOps.maximumf (F := Ideal) (φ := .f32)) y z _ (by decide) h_S_, e0]
    refine Finset.fold_congr fun k _ => (congrArg y (funext fun a => ?_)).trans (h66 k)
    match a with
    | ⟨0, _⟩ => rfl
    | ⟨1, _⟩ => rfl
    | ⟨2, _⟩ => rfl
    | ⟨3, _⟩ => rfl
    | ⟨4, _⟩ => rfl
  rw [val_main_v69_apply, e, val_main_v68_apply, val_main_cst_15_apply, show FloatOps.ofBits (F := Ideal) .f32 0xFF800000#32 = (⊥ : EReal) from ofBits_ninf]
  show ∃ M : ℝ, max ⊥ _ = _
  rw [max_eq_right bot_le]
  set X := Finset.univ.fold max ⊥ (fun k : Fin 2048 => if k.val ≤ t.val then (Z k.val : EReal) else ⊥) with hX
  have lo : (Z 0 : EReal) ≤ X := (Finset.le_fold_max _).mpr (Or.inr ⟨0, Finset.mem_univ _, by rw [if_pos (show (0 : Fin 2048).val ≤ t.val from Nat.zero_le _)]; exact le_rfl⟩)
  have hi : X < ⊤ := by
    refine (Finset.fold_max_lt _).mpr ⟨bot_lt_top, fun x _ => ?_⟩
    split
    · exact EReal.coe_lt_top _
    · exact bot_lt_top
  exact ⟨X.toReal, (EReal.coe_toReal hi.ne (fun h => by rw [h] at lo; exact absurd lo (not_le.mpr (EReal.bot_lt_coe _)))).symm⟩

/-- A softmax weight. -/
theorem v77_at : ∃ M : ℝ, ∀ k : Fin 2048, val_main_v77 (F := Ideal) x0 x1 (ix5 b h c t k)
    = ((wgt Z t.val M k.val / (∑ j ∈ Finset.range 2048, wgt Z t.val M j) : ℝ) : EReal) := by
  obtain ⟨M, hM⟩ := v69_real x0 x1 b h c t Z hZ
  have h73 (k : Fin 2048) : val_main_v73 (F := Ideal) x0 x1 (ix5 b h c t k) = (wgt Z t.val M k.val : EReal) := by
    rw [val_main_v73_apply, val_main_v72_apply, v66_at x0 x1 b h c t Z hZ, val_main_v71_apply, val_main_v70_apply,
      ix_v71, hM, wgt]
    split
    · show Ideal.exp (((_ : ℝ) : EReal) - ((_ : ℝ) : EReal)) = _
      rw [← EReal.coe_sub, exp_coe]
    · show Ideal.exp (⊥ - (M : EReal)) = _
      rw [EReal.bot_sub]
      rfl
  have h74 : val_main_v74 (F := Ideal) x0 x1 (ix4 b h c t) = ((∑ j ∈ Finset.range 2048, wgt Z t.val M j : ℝ) : EReal) := by
    rw [val_main_v74_apply, show val_main_cst_16 (F := Ideal) (Shape.Idx.first h_S_) = (0 : EReal) from Ideal.ofBits_zero_f32, zero_add, Finset.sum_range, coe_sum]
    refine Finset.sum_congr rfl fun k _ => ?_
    rw [ix_v74, h73]
  refine ⟨M, fun k => ?_⟩
  rw [val_main_v77_apply, h73, val_main_v76_apply, val_main_v75_apply, ix_v76, h74]
  have hne := wgt_sum_ne Z t.val M 2048 t.isLt
  generalize ∑ j ∈ Finset.range 2048, wgt Z t.val M j = q at hne ⊢
  exact div_real _ _ hne

end Row

theorem sum_S64 (f : S64.Idx → EReal) : ∑ j : S64.Idx, f j = ∑ d : Fin 64, f (ix1 d) := by
  refine (Equiv.sum_comp (⟨fun d => ix1 d, fun j => j 0, fun _ => rfl, fun j => funext fun a => ?_⟩ : Fin 64 ≃ S64.Idx) f).symm
  match a with
  | ⟨0, _⟩ => rfl

theorem v22_at (x2 : (⟨S4x64, .f32⟩ : BufTy).Contents (Elt Ideal)) (i : S_.Idx) : val_main_v22 (F := Ideal) x2 i = lamE x2 := by
  have e12 (i : S_.Idx) : val_main_v12 (F := Ideal) x2 i = ∑ d : Fin 64, x2 (ix2 0 d) * x2 (ix2 1 d) := by
    rw [val_main_v12_apply, show val_main_cst (F := Ideal) (Shape.Idx.first h_S_) = (0 : EReal) from Ideal.ofBits_zero_f32, zero_add, sum_S64]
    refine Finset.sum_congr rfl fun d _ => ?_
    rw [val_main_v11_apply, val_main_v8_apply, val_main_v7_apply, val_main_v10_apply, val_main_v9_apply]
    show x2 _ * x2 _ = _
    congr 2
    · funext a
      match a with
      | ⟨0, _⟩ => rfl
      | ⟨1, _⟩ => exact Fin.ext (show d.val % 64 = d.val by omega)
    · funext a
      match a with
      | ⟨0, _⟩ => rfl
      | ⟨1, _⟩ => exact Fin.ext (show d.val % 64 = d.val by omega)
  have e19 (i : S_.Idx) : val_main_v19 (F := Ideal) x2 i = ∑ d : Fin 64, x2 (ix2 2 d) * x2 (ix2 3 d) := by
    rw [val_main_v19_apply, show val_main_cst_0 (F := Ideal) (Shape.Idx.first h_S_) = (0 : EReal) from Ideal.ofBits_zero_f32, zero_add, sum_S64]
    refine Finset.sum_congr rfl fun d _ => ?_
    rw [val_main_v18_apply, val_main_v15_apply, val_main_v14_apply, val_main_v17_apply, val_main_v16_apply]
    show x2 _ * x2 _ = _
    congr 2
    · funext a
      match a with
      | ⟨0, _⟩ => rfl
      | ⟨1, _⟩ => exact Fin.ext (show d.val % 64 = d.val by omega)
    · funext a
      match a with
      | ⟨0, _⟩ => rfl
      | ⟨1, _⟩ => exact Fin.ext (show d.val % 64 = d.val by omega)
  rw [val_main_v22_apply, val_main_v21_apply, val_main_v13_apply, val_main_v20_apply, e12, e19, val_main_cst_1_apply]
  rfl

theorem key_lt (b : Fin 8) (k : Fin 2048) : b.val * 2048 + k.val < 16384 := by omega
theorem col_lt (h : Fin 8) (y : Fin 128) : 2048 + (h.val * 128 + y.val) < 3072 := by omega
theorem lane_lt (C : Fin 1024) : C.val % 128 < 128 := by omega

section Out

variable (x0 : (⟨S16384x3072, .bf16⟩ : BufTy).Contents (Elt Ideal)) (x1 : (⟨S32x16, .f32⟩ : BufTy).Contents (Elt Ideal)) (x2 : (⟨S4x64, .f32⟩ : BufTy).Contents (Elt Ideal))
  (x3 : (⟨S128, .f32⟩ : BufTy).Contents (Elt Ideal)) (b h : Fin 8) (t : Fin 2048) (Z0 Z1 : ℕ → ℝ) (V : ℕ → Fin 128 → ℝ) (l : ℝ)
  (hZ0 : ∀ k : Fin 2048, val_main_v63 (F := Ideal) x0 x1 (ix5 b h 0 t k) = (Z0 k.val : EReal))
  (hZ1 : ∀ k : Fin 2048, val_main_v63 (F := Ideal) x0 x1 (ix5 b h 1 t k) = (Z1 k.val : EReal))
  (hV : ∀ (k : Fin 2048) (y : Fin 128), x0 (ix2 (⟨b.val * 2048 + k.val, key_lt b k⟩ : Fin 16384) (⟨2048 + (h.val * 128 + y.val), col_lt h y⟩ : Fin 3072)) = (V k.val y : EReal))
  (hl : lamE x2 = (l : EReal))
include hZ0 hZ1 hV hl

theorem v86_at (y : Fin 128) : val_main_v86 (F := Ideal) x0 x1 x2 (ix4 b t h y)
    = (sm Z0 t.val (fun j => V j y) : EReal) - lamE x2 * (sm Z1 t.val (fun j => V j y) : EReal) := by
  obtain ⟨M0, h0⟩ := v77_at x0 x1 b h 0 t Z0 hZ0
  obtain ⟨M1, h1⟩ := v77_at x0 x1 b h 1 t Z1 hZ1
  have h84 (k : Fin 2048) : val_main_v84 (F := Ideal) x0 x1 x2 (ix4 b h t k)
      = ((wgt Z0 t.val M0 k.val / (∑ j ∈ Finset.range 2048, wgt Z0 t.val M0 j) - l * (wgt Z1 t.val M1 k.val / (∑ j ∈ Finset.range 2048, wgt Z1 t.val M1 j)) : ℝ) : EReal) := by
    rw [val_main_v84_apply, val_main_v83_apply, val_main_v79_apply, val_main_v78_apply, val_main_v81_apply, val_main_v80_apply, val_main_v82_apply, v22_at, hl,
      ix_v79, ix_v81, h0, h1]
    show ((_ : ℝ) : EReal) - ((_ : ℝ) : EReal) * ((_ : ℝ) : EReal) = _
    rw [← EReal.coe_mul, ← EReal.coe_sub]
  have h6 (k : Fin 2048) : val_main_v6 (F := Ideal) x0 (ix4 b k h y) = (V k.val y : EReal) := by
    rw [val_main_v6_apply, val_main_v3_apply, val_main_v0_apply, ← hV k y]
    show x0 _ = x0 _
    congr 1
    funext a
    match a with
    | ⟨0, _⟩ => exact Fin.ext (show (((b.val * 2048 + k.val) * 8 + h.val) * 128 + y.val) / 1024 = b.val * 2048 + k.val by omega)
    | ⟨1, _⟩ => exact Fin.ext (show 2048 + (((b.val * 2048 + k.val) * 8 + h.val) * 128 + y.val) % 1024 = 2048 + (h.val * 128 + y.val) by omega)
  have e : val_main_v86 (F := Ideal) x0 x1 x2 (ix4 b t h y) = ∑ k : Fin 2048, (V k.val y : EReal)
      * ((wgt Z0 t.val M0 k.val / (∑ j ∈ Finset.range 2048, wgt Z0 t.val M0 j) - l * (wgt Z1 t.val M1 k.val / (∑ j ∈ Finset.range 2048, wgt Z1 t.val M1 j)) : ℝ) : EReal) := by
    rw [val_main_v86_apply, val_main_v85_apply, ix_v86]
    refine Finset.sum_congr rfl fun k _ => ?_
    rw [ix_l85, ix_r85, h6 k, h84 k]
  rw [e, hl, ← EReal.coe_mul, ← EReal.coe_sub, ← sm_wgt Z0 t.val M0 2048 t.isLt, ← sm_wgt Z1 t.val M1 2048 t.isLt]
  generalize ∑ j ∈ Finset.range 2048, wgt Z0 t.val M0 j = q0
  generalize ∑ j ∈ Finset.range 2048, wgt Z1 t.val M1 j = q1
  rw [Finset.sum_div, Finset.sum_div, Finset.mul_sum, ← Finset.sum_sub_distrib, Finset.sum_range, coe_sum]
  refine Finset.sum_congr rfl fun k _ => ?_
  rw [← EReal.coe_mul]
  congr 1
  ring

/-- An element of the reference's result. -/
theorem v103_at (R : Fin 16384) (C : Fin 1024) (hb : R.val / 2048 = b.val) (ht : R.val % 2048 = t.val) (hh : C.val / 128 = h.val) :
    val_main_v103 (F := Ideal) x0 x1 x2 x3 (ix2 R C)
      = outE (fun y => (sm Z0 t.val (fun j => V j y) : EReal) - lamE x2 * (sm Z1 t.val (fun j => V j y) : EReal)) (fun y => x3 (ix1 y)) (⟨C.val % 128, lane_lt C⟩ : Fin 128) := by
  have h86 := v86_at x0 x1 x2 b h t Z0 Z1 V l hZ0 hZ1 hV hl
  have e : val_main_v103 (F := Ideal) x0 x1 x2 x3 (ix2 R C) = val_main_v101 (F := Ideal) x0 x1 x2 x3 (ix4 b t h (⟨C.val % 128, by omega⟩ : Fin 128)) := by
    rw [val_main_v103_apply, val_main_v102_apply]
    show val_main_v101 (F := Ideal) x0 x1 x2 x3 _ = _
    congr 1
    funext a
    match a with
    | ⟨0, _⟩ => exact Fin.ext (show (R.val * 1024 + C.val) / 2097152 = b.val by omega)
    | ⟨1, _⟩ => exact Fin.ext (show (R.val * 1024 + C.val) / 1024 % 2048 = t.val by omega)
    | ⟨2, _⟩ => exact Fin.ext (show (R.val * 1024 + C.val) / 128 % 8 = h.val by omega)
    | ⟨3, _⟩ => exact Fin.ext (show (R.val * 1024 + C.val) % 128 = C.val % 128 by omega)
  have e88 : val_main_v88 (F := Ideal) x0 x1 x2 (ix3 b t h) = ∑ y : Fin 128, ((sm Z0 t.val (fun j => V j y) : EReal) - lamE x2 * (sm Z1 t.val (fun j => V j y) : EReal)) * ((sm Z0 t.val (fun j => V j y) : EReal) - lamE x2 * (sm Z1 t.val (fun j => V j y) : EReal)) := by
    rw [val_main_v88_apply, show val_main_cst_17 (F := Ideal) (Shape.Idx.first h_S_) = (0 : EReal) from Ideal.ofBits_zero_f32, zero_add]
    refine Finset.sum_congr rfl fun y _ => ?_
    rw [val_main_v87_apply, ix_v88, h86]
    rfl
  rw [e, val_main_v101_apply, val_main_v99_apply, val_main_v96_apply, h86, val_main_v95_apply, val_main_v94_apply, val_main_v93_apply, val_main_v91_apply, val_main_v89_apply,
    val_main_v90_apply, val_main_v92_apply, val_main_v98_apply, val_main_v97_apply, val_main_v100_apply]
  rw [ix_v95, e88, ix_v98]
  unfold outE
  rfl

end Out

end Cert.DaRefIdeal.At

end
-- ==== Proof.DaHost.lean ====
module

public import proofs.«01_k».proof.Proof.DaBias
public import Idealize.ShloMosaic.Lib.KernelVsHost

/-! # Differential attention: the arrays the kernel is launched on, at an entry -/

@[expose] public section

set_option maxRecDepth 16384

noncomputable section

namespace Cert.DaIdeal.Launched

open Cert.DaIdeal Cert.DaIdeal.Gen Cert.DaBias Cert.EMath Idealize.ShloMosaic Idealize.ShloMosaic.TcCoe Idealize.SL.Sem

variable (m : (ℓ : Loc nD τ sig) → Buf (Elt Ideal) ℓ)

/-- The arguments, as arrays of extended reals. -/
abbrev A0 (c : Dev nD) : S16384x3072.Idx → EReal := m ((c : Thread nD τ).loc main_arg0)
abbrev A1 (c : Dev nD) : S32x16.Idx → EReal := m ((c : Thread nD τ).loc main_arg1)
abbrev A2 (c : Dev nD) : S4x64.Idx → EReal := m ((c : Thread nD τ).loc main_arg2)
abbrev A3 (c : Dev nD) : S128.Idx → EReal := m ((c : Thread nD τ).loc main_arg3)

/-- The distances of the block of nearby keys. -/
def dist : IVec S256x512 32 :=
  subi (broadcastInDim S256x512 ![0, 1] bcast_S256x1_S256x512_0_1 (addi (broadcastInDim S256x1 ![] bcast_S_S256x1 (constantI S_ 32 256#32)) (broadcastInDim S256x1 ![0] bcast_S256_S256x1_0 (iotaInDim S256 32 0))))
    (broadcastInDim S256x512 ![0, 1] bcast_S1x512_S256x512_0_1 (broadcastInDim S1x512 ![1] bcast_S512_S1x512_1 (iotaInDim S512 32 0)))

/-- Negative distances count as zero. -/
def pos : IVec S256x512 32 := maxsi dist (broadcastInDim S256x512 ![] bcast_S_S256x512 (constantI S_ 32 0#32))

/-- The logarithmic buckets. -/
def far : IVec S256x512 32 :=
  minsi (addi (broadcastInDim S256x512 ![] bcast_S_S256x512 (constantI S_ 32 16#32))
    (fptosi (F := Ideal) 32 (mulf (Host.divf (Host.log (Host.divf (sitofp (F := Ideal) .f32 (maxsi pos (broadcastInDim S256x512 ![] bcast_S_S256x512 (constantI S_ 32 1#32))))
      (broadcastInDim S256x512 ![] bcast_S_S256x512 (constant (F := Ideal) S_ .f32 0x41800000#32))))
      (broadcastInDim S256x512 ![] bcast_S_S256x512 (constant (F := Ideal) S_ .f32 0x40051592#32)))
      (broadcastInDim S256x512 ![] bcast_S_S256x512 (constant (F := Ideal) S_ .f32 0x41800000#32)))))
    (broadcastInDim S256x512 ![] bcast_S_S256x512 (constantI S_ 32 31#32))

/-- The buckets. -/
def bucket : IVec S256x512 32 :=
  select (cmpi .slt pos (broadcastInDim S256x512 ![] bcast_S_S256x512 (constantI S_ 32 16#32))) pos far

/-- The rows of the table. -/
def rows : IVec S256x512x1 32 :=
  broadcastInDim S256x512x1 ![0, 1] bcast_S256x512_S256x512x1_0_1
    (select (cmpi .slt bucket (broadcastInDim S256x512 ![] bcast_S_S256x512 (constantI S_ 32 0#32)))
      (addi bucket (broadcastInDim S256x512 ![] bcast_S_S256x512 (constantI S_ 32 32#32))) bucket)

theorem v36_eq (c : Dev nD) : (V m c main_v36 : S16x256x512.Idx → EReal) = transpose S16x256x512 [2, 0, 1] (Host.gather gather_S32x16_S256x512x1_S256x512x16_2_0_n_n_0_2_116 (A1 m c) rows) transposes_S256x512x16_S16x256x512_2_0_1 := by
  show StableHlo.after (List.flatten [hostOps0, hostOps0_1, hostOps0_2]) _ main_v36 = _
  simp only [hostOps0, hostOps0_1, hostOps0_2, List.flatten_cons, List.flatten_nil, List.append_nil, List.cons_append, List.nil_append]
  after_results
  rfl

theorem v38_eq (c : Dev nD) : (V m c main_v38 : S16.Idx → EReal) = shapeCast S16 (extractStridedSlice S1x16 ![31, 0] (A1 m c) slices_S32x16_S1x16_31_0) shapeCasts_S1x16_S16 := by
  show StableHlo.after (List.flatten [hostOps0, hostOps0_1, hostOps0_2]) _ main_v38 = _
  simp only [hostOps0, hostOps0_1, hostOps0_2, List.flatten_cons, List.flatten_nil, List.append_nil, List.cons_append, List.nil_append]
  after_results
  rfl

theorem v39_eq (c : Dev nD) : (V m c main_v39 : S1x128.Idx → EReal) = shapeCast S1x128 (A3 m c) shapeCasts_S128_S1x128 := by
  show StableHlo.after (List.flatten [hostOps0, hostOps0_1, hostOps0_2]) _ main_v39 = _
  simp only [hostOps0, hostOps0_1, hostOps0_2, List.flatten_cons, List.flatten_nil, List.append_nil, List.cons_append, List.nil_append]
  after_results
  rfl

theorem dist_at (r : Fin 256) (y : Fin 512) : dist (ix2 r y) = 256#32 + BitVec.ofNat 32 r.val - BitVec.ofNat 32 y.val := by
  pointwise [dist]
  rfl

theorem rows_at (r : Fin 256) (y : Fin 512) : rows (ix3 r y 0) = bkt (256#32 + BitVec.ofNat 32 r.val - BitVec.ofNat 32 y.val) := by
  have e : rows (ix3 r y 0) = bkt (dist (ix2 r y)) := by
    pointwise [rows, bucket, far, pos, bkt, big, lnb]
    rfl
  rw [e, dist_at]

/-- The bias of a nearby key. -/
theorem v36_at (c : Dev nD) (g : Fin 16) (r : Fin 256) (y : Fin 512) :
    (V m c main_v36 : S16x256x512.Idx → EReal) (ix3 g r y) = A1 m c (ix2 (row (256#32 + BitVec.ofNat 32 r.val - BitVec.ofNat 32 y.val)) g) := by
  rw [v36_eq]
  refine (transpose_apply _ _ _ (ix3 g r y) (ix3 r y g) ?_).trans ?_
  · intro a
    match a with
    | ⟨0, _⟩ => rfl
    | ⟨1, _⟩ => rfl
    | ⟨2, _⟩ => rfl
  · rw [Cert.DaIdeal.At.gather_ker]
    refine congrArg (fun z => A1 m c (ix2 z g)) (Fin.ext ?_)
    show min (rows (ix3 r y 0)).toInt.toNat 31 = min (bkt _).toInt.toNat 31
    rw [rows_at]

/-- The bias of a key far away. -/
theorem v38_at (c : Dev nD) (g : Fin 16) : (V m c main_v38 : S16.Idx → EReal) (ix1 g) = A1 m c (ix2 31 g) := by
  rw [v38_eq]
  pointwise []

theorem v39_at (c : Dev nD) (y : Fin 128) : (V m c main_v39 : S1x128.Idx → EReal) (ix2 0 y) = A3 m c (ix1 y) := by
  rw [v39_eq]
  pointwise []

end Cert.DaIdeal.Launched

end
-- ==== Proof.DaValue.lean ====
module

public import proofs.«01_k».proof.Defs
public import proofs.«01_k».proof.Proof.DaRef
public import proofs.«01_k».proof.Proof.DaHost
public import proofs.«01_k».proof.Proof.DaSteps
public import Idealize.ShloMosaic.Lib.Pipeline.Covers
public import Idealize.ShloMosaic.Lib.ReduceAll
public import proofs.«01_k».proof.Proof.Gen.DaIdeal.Value
public import proofs.«01_k».proof.Proof.Gen.DaRefIdeal
public import proofs.«01_k».proof.Proof.SbValue

/-! # Differential attention: the kernel's result is the reference's -/

@[expose] public section

set_option maxRecDepth 16384

noncomputable section

namespace Cert.DaIdeal.Whole

open Cert.DaIdeal Cert.DaIdeal.Gen Cert.DaIdeal.Steps Cert.DaIdeal.Fold Cert.DaIdeal.Launched Cert.DaBias Cert.EMath Idealize.ShloMosaic Idealize.ShloMosaic.TcCoe Idealize.SL.Sem

/-! ## Where the blocks lie -/

theorem tr1 (i : grid0.Coords) : cc0_transform_1 i 0 = (i 0).val * 8 + (i 2).val ∧ cc0_transform_1 i 1 = (i 1).val := by
  have h0 : (i 0).val < 8 := (i 0).isLt
  have h1 : (i 1).val < 8 := (i 1).isLt
  have h2 : (i 2).val < 8 := (i 2).isLt
  constructor
  · show (BitVec.ofNat 32 (i 0).val * 8#32 + BitVec.ofNat 32 (i 2).val).toNat = _
    simp only [BitVec.toNat_add, BitVec.toNat_mul, BitVec.toNat_ofNat]; omega
  · show (BitVec.ofNat 32 (i 1).val).toNat = _
    simp only [BitVec.toNat_ofNat]; omega

theorem tr2 (i : grid0.Coords) : cc0_transform_2 i 0 = (i 0).val ∧ cc0_transform_2 i 1 = 8 + (i 1).val := by
  have h0 : (i 0).val < 8 := (i 0).isLt
  have h1 : (i 1).val < 8 := (i 1).isLt
  constructor
  · show (BitVec.ofNat 32 (i 0).val).toNat = _
    simp only [BitVec.toNat_ofNat]; omega
  · show (8#32 + BitVec.ofNat 32 (i 1).val).toNat = _
    simp only [BitVec.toNat_add, BitVec.toNat_ofNat]; omega

theorem tr3 (i : grid0.Coords) : cc0_transform_3 i 0 = (i 0).val ∧ cc0_transform_3 i 1 = 16 + (i 1).val := by
  have h0 : (i 0).val < 8 := (i 0).isLt
  have h1 : (i 1).val < 8 := (i 1).isLt
  constructor
  · show (BitVec.ofNat 32 (i 0).val).toNat = _
    simp only [BitVec.toNat_ofNat]; omega
  · show (16#32 + BitVec.ofNat 32 (i 1).val).toNat = _
    simp only [BitVec.toNat_add, BitVec.toNat_ofNat]; omega

theorem tr4 (i : grid0.Coords) : cc0_transform_4 i 0 = (i 1).val := by
  have h1 : (i 1).val < 8 := (i 1).isLt
  show (BitVec.ofNat 32 (i 1).val).toNat = _
  simp only [BitVec.toNat_ofNat]; omega

theorem cond_iff (i : grid0.Coords) : cond0_0 i ↔ 1 ≤ (i 2).val := by
  have h : ∀ n : Fin 8, (Scalar.cmpi .ne (Scalar.extui (Scalar.cmpi .sgt (BitVec.ofNat 32 n.val) 0#32) : BitVec 32) 0#32 = 1#1) ↔ 1 ≤ n.val := by decide
  exact h (i 2)

/-! ## The scores -/

section Score

variable (A : S16384x3072.Idx → EReal)

/-- The projected entry `(R, C)` as a real number. -/
def ent (R C : ℕ) : ℝ := (A (ix2 (⟨R % 16384, Nat.mod_lt _ (by decide)⟩ : Fin 16384) (⟨C % 3072, Nat.mod_lt _ (by decide)⟩ : Fin 3072))).toReal

/-- The score of query `t` and key `k` in half `c` of head `h` in batch `b`, without the bias. -/
def dot (b h c t k : ℕ) : ℝ := (∑ d : Fin 64, ent A (b * 2048 + t) (h * 128 + c * 64 + d.val) * ent A (b * 2048 + k) (1024 + (h * 128 + c * 64 + d.val))) * 0.125

variable (hA : ∀ (R : Fin 16384) (C : Fin 3072), ∃ r : ℝ, A (ix2 R C) = (r : EReal))
include hA

theorem ent_eq (R C : ℕ) (R' : Fin 16384) (C' : Fin 3072) (eR : R'.val = R) (eC : C'.val = C) : A (ix2 R' C') = (ent A R C : EReal) := by
  obtain ⟨r, hr⟩ := hA R' C'
  unfold ent
  have e : (ix2 (⟨R % 16384, Nat.mod_lt _ (by decide)⟩ : Fin 16384) (⟨C % 3072, Nat.mod_lt _ (by decide)⟩ : Fin 3072)) = ix2 R' C' := by
    congr 1
    · exact Fin.ext (show R % 16384 = R'.val by omega)
    · exact Fin.ext (show C % 3072 = C'.val by omega)
  rw [e, hr, EReal.toReal_coe]

variable (b h : Fin 8) (n : ℕ) (hn : n < 8)
  (q : Vec Ideal S256x128 .bf16) (hq : ∀ (r : Fin 256) (l : Fin 128), q (ix2 r l) = A (ix2 ⟨(b.val * 8 + n) * 256 + r.val, by omega⟩ ⟨h.val * 128 + l.val, by omega⟩))
  (x2 : Vec Ideal S2048x128 .bf16) (h2 : ∀ (k : Fin 2048) (l : Fin 128), x2 (ix2 k l) = A (ix2 ⟨b.val * 2048 + k.val, by omega⟩ ⟨(8 + h.val) * 128 + l.val, by omega⟩))
include hn hq h2

theorem dot0 (r : Fin 256) (j : Fin 2048) : ∑ y : Fin 128, k0_pay52 q (ix2 r y) * x2 (ix2 j y) = (dot A b.val h.val 0 (n * 256 + r.val) j.val : EReal) := by
  have hterm : ∀ y : Fin 128, k0_pay52 q (ix2 r y) * x2 (ix2 j y) = if y.val < 64 then (((ent A (b.val * 2048 + (n * 256 + r.val)) (h.val * 128 + y.val) * ent A (b.val * 2048 + j.val) (1024 + (h.val * 128 + y.val))) * 0.125 : ℝ) : EReal) else 0 := by
    intro y
    have e : k0_pay52 q (ix2 r y) = Scalar.select (IntOp.cmpi .slt (BitVec.ofNat 32 y.val) 64#32) (q (ix2 r y)) (0 : EReal) * Ideal.ofBits .bf16 15872#16 := by
      pointwise [k0_pay52, k0_pay51]
    rw [e, sel_slt y.val 64 (by omega) (by omega)]
    split
    · next hy =>
      rw [hq, h2, ent_eq A hA (b.val * 2048 + (n * 256 + r.val)) (h.val * 128 + y.val) _ _ (by show (b.val * 8 + n) * 256 + r.val = _; omega) rfl,
        ent_eq A hA (b.val * 2048 + j.val) (1024 + (h.val * 128 + y.val)) _ _ rfl (by show (8 + h.val) * 128 + y.val = _; omega),
        eighth_bf16, ← EReal.coe_mul, ← EReal.coe_mul]
      congr 1; ring
    · rw [zero_mul, zero_mul]
  refine (Finset.sum_congr rfl fun y _ => hterm y).trans ?_
  rw [Cert.SbIdeal.Whole.sum_lo (fun y => (((ent A (b.val * 2048 + (n * 256 + r.val)) (h.val * 128 + y) * ent A (b.val * 2048 + j.val) (1024 + (h.val * 128 + y))) * 0.125 : ℝ) : EReal)), ← coe_sum]
  unfold dot
  rw [Finset.sum_mul]
  congr 1

theorem dot1 (r : Fin 256) (j : Fin 2048) : ∑ y : Fin 128, k0_pay53 q (ix2 r y) * x2 (ix2 j y) = (dot A b.val h.val 1 (n * 256 + r.val) j.val : EReal) := by
  have hterm : ∀ y : Fin 128, k0_pay53 q (ix2 r y) * x2 (ix2 j y) = if 64 ≤ y.val then (((ent A (b.val * 2048 + (n * 256 + r.val)) (h.val * 128 + y.val) * ent A (b.val * 2048 + j.val) (1024 + (h.val * 128 + y.val))) * 0.125 : ℝ) : EReal) else 0 := by
    intro y
    have e : k0_pay53 q (ix2 r y) = Scalar.select (IntOp.cmpi .sge (BitVec.ofNat 32 y.val) 64#32) (q (ix2 r y)) (0 : EReal) * Ideal.ofBits .bf16 15872#16 := by
      pointwise [k0_pay53, k0_pay51]
    rw [e, sel_sge y.val 64 (by omega) (by omega)]
    split
    · next hy =>
      rw [hq, h2, ent_eq A hA (b.val * 2048 + (n * 256 + r.val)) (h.val * 128 + y.val) _ _ (by show (b.val * 8 + n) * 256 + r.val = _; omega) rfl,
        ent_eq A hA (b.val * 2048 + j.val) (1024 + (h.val * 128 + y.val)) _ _ rfl (by show (8 + h.val) * 128 + y.val = _; omega),
        eighth_bf16, ← EReal.coe_mul, ← EReal.coe_mul]
      congr 1; ring
    · rw [zero_mul, zero_mul]
  refine (Finset.sum_congr rfl fun y _ => hterm y).trans ?_
  rw [Cert.SbIdeal.Whole.sum_hi (fun y => (((ent A (b.val * 2048 + (n * 256 + r.val)) (h.val * 128 + y) * ent A (b.val * 2048 + j.val) (1024 + (h.val * 128 + y))) * 0.125 : ℝ) : EReal)), ← coe_sum]
  unfold dot
  rw [Finset.sum_mul]
  congr 1

end Score

/-! ## The bias -/

/-- The bias of head `g` at query `t` and key `k`. -/
def bias (T : S32x16.Idx → EReal) (g : Fin 16) (t k : ℕ) : ℝ := (T (ix2 (row (BitVec.ofNat 32 t - BitVec.ofNat 32 k)) g)).toReal

section Bias

variable (T : S32x16.Idx → EReal) (hT : ∀ (R : Fin 32) (C : Fin 16), ∃ r : ℝ, T (ix2 R C) = (r : EReal))
include hT

theorem bias_eq (g : Fin 16) (t k : ℕ) (w : BitVec 32) (hw : w = BitVec.ofNat 32 t - BitVec.ofNat 32 k) : T (ix2 (row w) g) = (bias T g t k : EReal) := by
  subst hw
  unfold bias
  obtain ⟨r, hr⟩ := hT (row (BitVec.ofNat 32 t - BitVec.ofNat 32 k)) g
  rw [hr, EReal.toReal_coe]

theorem bias_far (g : Fin 16) (t k : ℕ) (ht : t < 2048) (hk : k + 257 ≤ t) : T (ix2 31 g) = (bias T g t k : EReal) := by
  have e : BitVec.ofNat 32 (t - k) = BitVec.ofNat 32 t - BitVec.ofNat 32 k := by
    apply BitVec.eq_of_toNat_eq
    simp only [BitVec.toNat_sub, BitVec.toNat_ofNat]
    omega
  rw [← bias_eq T hT g t k _ e, row_far (t - k) (by omega) (by omega)]

end Bias

theorem near_word (n k r x : ℕ) (hn : k + 1 = n) (h : n < 8) (hr : r < 256) (hx : x < 256) :
    256#32 + BitVec.ofNat 32 r - BitVec.ofNat 32 x = BitVec.ofNat 32 (n * 256 + r) - BitVec.ofNat 32 (k * 256 + x) := by
  apply BitVec.eq_of_toNat_eq
  simp only [BitVec.toNat_sub, BitVec.toNat_add, BitVec.toNat_ofNat]
  omega

theorem diag_word (n r x : ℕ) (h : n < 8) (hr : r < 256) (hx : x < 256) :
    256#32 + BitVec.ofNat 32 r - BitVec.ofNat 32 (256 + x) = BitVec.ofNat 32 (n * 256 + r) - BitVec.ofNat 32 (n * 256 + x) := by
  apply BitVec.eq_of_toNat_eq
  simp only [BitVec.toNat_sub, BitVec.toNat_add, BitVec.toNat_ofNat]
  omega

/-! ## One block of the result -/

section Block

variable (A : S16384x3072.Idx → EReal) (T : S32x16.Idx → EReal) (L : S4x64.Idx → EReal) (G : S128.Idx → EReal)
  (hA : ∀ (R : Fin 16384) (C : Fin 3072), ∃ r : ℝ, A (ix2 R C) = (r : EReal))
  (hT : ∀ (R : Fin 32) (C : Fin 16), ∃ r : ℝ, T (ix2 R C) = (r : EReal))
  (hL : ∀ (R : Fin 4) (C : Fin 64), ∃ r : ℝ, L (ix2 R C) = (r : EReal))

include hL in
theorem lam_real : ∃ l : ℝ, lamE L = (l : EReal) := by
  choose f hf using hL
  refine ⟨Real.exp (∑ d : Fin 64, f 0 d * f 1 d) - Real.exp (∑ d : Fin 64, f 2 d * f 3 d) + (Ideal.ofBits .f32 0x3E4CCCCD#32).toReal, ?_⟩
  unfold lamE
  have e (i j : Fin 4) : ∑ d : Fin 64, L (ix2 i d) * L (ix2 j d) = ((∑ d : Fin 64, f i d * f j d : ℝ) : EReal) := by
    rw [coe_sum]
    exact Finset.sum_congr rfl fun d _ => by rw [hf, hf, EReal.coe_mul]
  have e5 : Ideal.ofBits .f32 0x3E4CCCCD#32 = ((Ideal.ofBits .f32 0x3E4CCCCD#32).toReal : EReal) := by
    simp [Ideal.ofBits, Ideal.ieee]
    norm_num
    rw [← EReal.coe_mul, EReal.toReal_coe]
  rw [e 0 1, e 2 3, exp_coe, exp_coe, EReal.coe_add, EReal.coe_sub, ← e5]

include hA hT

theorem ref_score (b h : Fin 8) (c : Fin 2) (t k : Fin 2048) :
    Cert.DaRefIdeal.Read.val_main_v63 (F := Ideal) A T (ix5 b h c t k) = ((dot A b.val h.val c.val t.val k.val + bias T (⟨2 * h.val + c.val, by omega⟩ : Fin 16) t.val k.val : ℝ) : EReal) := by
  rw [Cert.DaRefIdeal.At.v63_at]
  unfold dot
  rw [EReal.coe_add, EReal.coe_mul, coe_sum, ← bias_eq T hT _ t.val k.val _ rfl]
  congr 2
  refine Finset.sum_congr rfl fun d _ => ?_
  rw [ent_eq A hA (b.val * 2048 + t.val) (h.val * 128 + c.val * 64 + d.val) _ _ rfl rfl,
    ent_eq A hA (b.val * 2048 + k.val) (1024 + (h.val * 128 + c.val * 64 + d.val)) _ _ rfl rfl, EReal.coe_mul]

include hL

variable (b h : Fin 8) (n : ℕ) (hn : n < 8)
  (x0 : Vec Ideal S16 .f32) (h0 : ∀ g : Fin 16, x0 (ix1 g) = T (ix2 31 g))
  (q : Vec Ideal S256x128 .bf16) (hq : ∀ (r : Fin 256) (l : Fin 128), q (ix2 r l) = A (ix2 ⟨(b.val * 8 + n) * 256 + r.val, by omega⟩ ⟨h.val * 128 + l.val, by omega⟩))
  (x2 : Vec Ideal S2048x128 .bf16) (h2 : ∀ (k : Fin 2048) (l : Fin 128), x2 (ix2 k l) = A (ix2 ⟨b.val * 2048 + k.val, by omega⟩ ⟨(8 + h.val) * 128 + l.val, by omega⟩))
  (x3 : Vec Ideal S2048x128 .bf16) (h3 : ∀ (k : Fin 2048) (l : Fin 128), x3 (ix2 k l) = A (ix2 ⟨b.val * 2048 + k.val, by omega⟩ ⟨(16 + h.val) * 128 + l.val, by omega⟩))
  (x4 : Vec Ideal S2x256x512 .f32) (h4 : ∀ (c : Fin 2) (r : Fin 256) (y : Fin 512), x4 (ix3 c r y) = T (ix2 (row (256#32 + BitVec.ofNat 32 r.val - BitVec.ofNat 32 y.val)) (⟨2 * h.val + c.val, by omega⟩ : Fin 16)))
  (x5 : Vec Ideal S4x64 .f32) (h5 : (x5 : S4x64.Idx → EReal) = L)
  (x6 : Vec Ideal S1x128 .f32) (h6 : ∀ y : Fin 128, x6 (ix2 0 y) = G (ix1 y))
include hn h0 hq h2 h3 h4 h5 h6

/-- One output block is the reference's block. -/
theorem block_eq (r : Fin 256) (l : Fin 128) :
    fin7 x5 x6 (stAll x0 h q x2 x3 x4 n) (ix2 r l)
      = Cert.DaRefIdeal.Read.val_main_v103 (F := Ideal) A T L G (ix2 ⟨(b.val * 8 + n) * 256 + r.val, by omega⟩ ⟨h.val * 128 + l.val, by omega⟩) := by
  obtain ⟨lr, hl⟩ := lam_real L hL
  have ht : n * 256 + r.val < 2048 := by omega
  refine (row_at x0 h q x2 x3 x4 n hn (fun r j => dot A b.val h.val 0 (n * 256 + r.val) j) (fun r j => dot A b.val h.val 1 (n * 256 + r.val) j)
    (fun r j => bias T (⟨2 * h.val, by omega⟩ : Fin 16) (n * 256 + r.val) j) (fun r j => bias T (⟨2 * h.val + 1, by omega⟩ : Fin 16) (n * 256 + r.val) j)
    (fun j y => ent A (b.val * 2048 + j) (2048 + (h.val * 128 + y.val)))
    (fun r j => dot0 A hA b h n hn q hq x2 h2 r j) (fun r j => dot1 A hA b h n hn q hq x2 h2 r j)
    (fun j y => (h3 j y).trans (ent_eq A hA _ _ _ _ rfl (by show (16 + h.val) * 128 + y.val = _; omega)))
    (fun k r x hk => (h0 _).trans (bias_far T hT _ _ _ (by omega) (by omega)))
    (fun k r x hk => (h0 _).trans (bias_far T hT _ _ _ (by omega) (by omega)))
    (fun k r x hk => (h4 0 r _).trans (bias_eq T hT _ _ _ _ (near_word n k r.val x.val hk hn r.isLt x.isLt)))
    (fun k r x hk => (h4 1 r _).trans (bias_eq T hT _ _ _ _ (near_word n k r.val x.val hk hn r.isLt x.isLt)))
    (fun r x => (h4 0 r _).trans (bias_eq T hT _ _ _ _ (diag_word n r.val x.val hn r.isLt x.isLt)))
    (fun r x => (h4 1 r _).trans (bias_eq T hT _ _ _ _ (diag_word n r.val x.val hn r.isLt x.isLt)))
    x5 x6 r l).trans ?_
  rw [Cert.DaRefIdeal.At.v103_at A T L G b h ⟨n * 256 + r.val, ht⟩
    (fun j => dot A b.val h.val 0 (n * 256 + r.val) j + bias T (⟨2 * h.val, by omega⟩ : Fin 16) (n * 256 + r.val) j)
    (fun j => dot A b.val h.val 1 (n * 256 + r.val) j + bias T (⟨2 * h.val + 1, by omega⟩ : Fin 16) (n * 256 + r.val) j)
    (fun j y => ent A (b.val * 2048 + j) (2048 + (h.val * 128 + y.val))) lr
    (fun k => ref_score A T hA hT b h 0 ⟨n * 256 + r.val, ht⟩ k) (fun k => ref_score A T hA hT b h 1 ⟨n * 256 + r.val, ht⟩ k)
    (fun k y => ent_eq A hA _ _ _ _ rfl rfl) hl _ _ (by show ((b.val * 8 + n) * 256 + r.val) / 2048 = _; omega)
    (by show ((b.val * 8 + n) * 256 + r.val) % 2048 = n * 256 + r.val; omega) (by show (h.val * 128 + l.val) / 128 = h.val; omega)]
  have el : (⟨(h.val * 128 + l.val) % 128, Nat.mod_lt _ (by decide)⟩ : Fin 128) = l := Fin.ext (show (h.val * 128 + l.val) % 128 = l.val by omega)
  rw [show (fun y : Fin 128 => (x6 (ix2 0 y) : EReal)) = fun y => G (ix1 y) from funext h6, show lamE x5 = lamE L from congrArg lamE h5]
  exact congrArg _ el.symm

end Block

/-! ## The result array -/

variable (m : (ℓ : Loc nD τ sig) → Buf (Elt Ideal) ℓ) (ρ : Dev nD → PrngReg)

theorem blk0 (c : Dev nD) (t : Fin cfg0.N) (g : Fin 16) :
    (iblk m c 0 t : Vec Ideal S16 .f32) (ix1 g) = A1 m c (ix2 31 g) := by
  unfold iblk
  rw [View.read_apply]
  refine Eq.trans (b := (V m c main_v38 : S16.Idx → EReal) (ix1 g)) ?_ (v38_at m c g)
  show V m c main_v38 _ = V m c main_v38 _
  congr 1
  funext a
  apply Fin.ext
  match a with
  | ⟨0, _⟩ => show 0 * 16 + 1 * g.val = _; show _ = g.val; omega

theorem blk1 (c : Dev nD) (t : Fin cfg0.N) (r : Fin 256) (l : Fin 128) :
    (iblk m c 1 t : Vec Ideal S256x128 .bf16) (ix2 r l) = A0 m c (ix2 ⟨((grid0.coords t 0).val * 8 + (grid0.coords t 2).val) * 256 + r.val, by have : (grid0.coords t 0).val < 8 := (grid0.coords t 0).isLt; have : (grid0.coords t 1).val < 8 := (grid0.coords t 1).isLt; have : (grid0.coords t 2).val < 8 := (grid0.coords t 2).isLt; omega⟩ ⟨(grid0.coords t 1).val * 128 + l.val, by have : (grid0.coords t 0).val < 8 := (grid0.coords t 0).isLt; have : (grid0.coords t 1).val < 8 := (grid0.coords t 1).isLt; have : (grid0.coords t 2).val < 8 := (grid0.coords t 2).isLt; omega⟩) := by
  have hi := tr1 (grid0.coords t)
  unfold iblk
  rw [View.read_apply]
  show V m c main_arg0 _ = m (c.tc.loc main_arg0) _
  rw [V_main_arg0]
  congr 1
  funext a
  apply Fin.ext
  match a with
  | ⟨0, _⟩ => show cc0_transform_1 (grid0.coords t) 0 * 256 + 1 * r.val = _; rw [hi.1, one_mul]; rfl
  | ⟨1, _⟩ => show cc0_transform_1 (grid0.coords t) 1 * 128 + 1 * l.val = _; rw [hi.2, one_mul]; rfl

theorem blk2 (c : Dev nD) (t : Fin cfg0.N) (r : Fin 2048) (l : Fin 128) :
    (iblk m c 2 t : Vec Ideal S2048x128 .bf16) (ix2 r l) = A0 m c (ix2 ⟨(grid0.coords t 0).val * 2048 + r.val, by have : (grid0.coords t 0).val < 8 := (grid0.coords t 0).isLt; have : (grid0.coords t 1).val < 8 := (grid0.coords t 1).isLt; have : (grid0.coords t 2).val < 8 := (grid0.coords t 2).isLt; omega⟩ ⟨(8 + (grid0.coords t 1).val) * 128 + l.val, by have : (grid0.coords t 0).val < 8 := (grid0.coords t 0).isLt; have : (grid0.coords t 1).val < 8 := (grid0.coords t 1).isLt; have : (grid0.coords t 2).val < 8 := (grid0.coords t 2).isLt; omega⟩) := by
  have hi := tr2 (grid0.coords t)
  unfold iblk
  rw [View.read_apply]
  show V m c main_arg0 _ = m (c.tc.loc main_arg0) _
  rw [V_main_arg0]
  congr 1
  funext a
  apply Fin.ext
  match a with
  | ⟨0, _⟩ => show cc0_transform_2 (grid0.coords t) 0 * 2048 + 1 * r.val = _; rw [hi.1, one_mul]; rfl
  | ⟨1, _⟩ => show cc0_transform_2 (grid0.coords t) 1 * 128 + 1 * l.val = _; rw [hi.2, one_mul]; rfl

theorem blk3 (c : Dev nD) (t : Fin cfg0.N) (r : Fin 2048) (l : Fin 128) :
    (iblk m c 3 t : Vec Ideal S2048x128 .bf16) (ix2 r l) = A0 m c (ix2 ⟨(grid0.coords t 0).val * 2048 + r.val, by have : (grid0.coords t 0).val < 8 := (grid0.coords t 0).isLt; have : (grid0.coords t 1).val < 8 := (grid0.coords t 1).isLt; have : (grid0.coords t 2).val < 8 := (grid0.coords t 2).isLt; omega⟩ ⟨(16 + (grid0.coords t 1).val) * 128 + l.val, by have : (grid0.coords t 0).val < 8 := (grid0.coords t 0).isLt; have : (grid0.coords t 1).val < 8 := (grid0.coords t 1).isLt; have : (grid0.coords t 2).val < 8 := (grid0.coords t 2).isLt; omega⟩) := by
  have hi := tr3 (grid0.coords t)
  unfold iblk
  rw [View.read_apply]
  show V m c main_arg0 _ = m (c.tc.loc main_arg0) _
  rw [V_main_arg0]
  congr 1
  funext a
  apply Fin.ext
  match a with
  | ⟨0, _⟩ => show cc0_transform_3 (grid0.coords t) 0 * 2048 + 1 * r.val = _; rw [hi.1, one_mul]; rfl
  | ⟨1, _⟩ => show cc0_transform_3 (grid0.coords t) 1 * 128 + 1 * l.val = _; rw [hi.2, one_mul]; rfl

theorem blk4 (c : Dev nD) (t : Fin cfg0.N) (e : Fin 2) (r : Fin 256) (y : Fin 512) :
    (iblk m c 4 t : Vec Ideal S2x256x512 .f32) (ix3 e r y) = A1 m c (ix2 (row (256#32 + BitVec.ofNat 32 r.val - BitVec.ofNat 32 y.val)) (⟨2 * (grid0.coords t 1).val + e.val, by have : (grid0.coords t 0).val < 8 := (grid0.coords t 0).isLt; have : (grid0.coords t 1).val < 8 := (grid0.coords t 1).isLt; have : (grid0.coords t 2).val < 8 := (grid0.coords t 2).isLt; omega⟩ : Fin 16)) := by
  have hi := tr4 (grid0.coords t)
  unfold iblk
  rw [View.read_apply]
  refine Eq.trans (b := (V m c main_v36 : S16x256x512.Idx → EReal) (ix3 (⟨2 * (grid0.coords t 1).val + e.val, by have : (grid0.coords t 0).val < 8 := (grid0.coords t 0).isLt; have : (grid0.coords t 1).val < 8 := (grid0.coords t 1).isLt; have : (grid0.coords t 2).val < 8 := (grid0.coords t 2).isLt; omega⟩ : Fin 16) r y)) ?_ (v36_at m c _ r y)
  show V m c main_v36 _ = V m c main_v36 _
  congr 1
  funext a
  apply Fin.ext
  match a with
  | ⟨0, _⟩ => show cc0_transform_4 (grid0.coords t) 0 * 2 + 1 * e.val = _; rw [hi]; show _ = 2 * (grid0.coords t 1).val + e.val; omega
  | ⟨1, _⟩ => show 0 * 256 + 1 * r.val = _; show _ = r.val; omega
  | ⟨2, _⟩ => show 0 * 512 + 1 * y.val = _; show _ = y.val; omega

theorem blk5 (c : Dev nD) (t : Fin cfg0.N) : (iblk m c 5 t : S4x64.Idx → EReal) = A2 m c := by
  funext j
  unfold iblk
  rw [View.read_apply]
  show V m c main_arg2 _ = m (c.tc.loc main_arg2) _
  rw [V_main_arg2]
  congr 1
  funext a
  apply Fin.ext
  match a with
  | ⟨0, _⟩ => show 0 * 4 + 1 * (j 0).val = (j 0).val; omega
  | ⟨1, _⟩ => show 0 * 64 + 1 * (j 1).val = (j 1).val; omega

theorem blk6 (c : Dev nD) (t : Fin cfg0.N) (y : Fin 128) :
    (iblk m c 6 t : Vec Ideal S1x128 .f32) (ix2 0 y) = A3 m c (ix1 y) := by
  unfold iblk
  rw [View.read_apply]
  refine Eq.trans (b := (V m c main_v39 : S1x128.Idx → EReal) (ix2 0 y)) ?_ (v39_at m c y)
  show V m c main_v39 _ = V m c main_v39 _
  congr 1
  funext a
  apply Fin.ext
  match a with
  | ⟨0, _⟩ => show 0 * 1 + 1 * 0 = _; rfl
  | ⟨1, _⟩ => show 0 * 128 + 1 * y.val = _; show _ = y.val; omega

/-- The reference's result, as contents of the kernel's result array. -/
abbrev out (c : Dev nD) : Buf (Elt Ideal) ((c : Thread nD τ).loc main_v40) := Cert.DaRefIdeal.Read.val_main_v103 (F := Ideal) (A0 m c) (A1 m c) (A2 m c) (A3 m c)

/-- What the precondition gives: the projected entries, the bias table and the lambda vectors are real numbers. -/
def Real3 (c : Dev nD) : Prop :=
  (∀ (R : Fin 16384) (C : Fin 3072), ∃ r : ℝ, A0 m c (ix2 R C) = (r : EReal)) ∧ (∀ (R : Fin 32) (C : Fin 16), ∃ r : ℝ, A1 m c (ix2 R C) = (r : EReal))
    ∧ (∀ (R : Fin 4) (C : Fin 64), ∃ r : ℝ, A2 m c (ix2 R C) = (r : EReal))

/-- What a point leaves, either way. -/
theorem flushed_fin (c : Dev nD) (t : Fin cfg0.N) :
    (dats m 0 c).flushed 7 t = (cfg0.win 7).cut (grid0.coords t) (fin7 (F := Ideal) (iblk m c 5 t) (iblk m c 6 t) (stAll (iblk m c 0 t) (grid0.coords t 1) (iblk m c 1 t) (iblk m c 2 t) (iblk m c 3 t) (iblk m c 4 t) (grid0.coords t 2).val)) := by
  by_cases h0 : 1 ≤ t.val % 8
  · have hc := (hcond0_0 t).mpr h0
    rw [Value.flushed7_B m c t h0]
    exact congrArg _ (out_eq_B _ _ _ _ _ _ _ _ _ _ _ _ _ _ _ _ _ _ _ _ _ _ _ _ _ _ _ _ _ _ _ hc ((cond_iff _).mp hc))
  · have hc : ¬cond0_0 (grid0.coords t) := fun h => h0 ((hcond0_0 t).mp h)
    rw [Value.flushed7_A m c t h0]
    exact congrArg _ (out_eq_A _ _ _ _ _ _ _ _ _ _ _ _ _ _ _ _ _ _ _ _ _ _ _ _ _ _ _ _ _ _ _ hc (by have := mt (cond_iff (grid0.coords t)).mpr hc; omega))

/-- What a point writes back is its block of the reference's result. -/
theorem flushed_eq (c : Dev nD) (hR : Real3 m c) (t : Fin cfg0.N) :
    (dats m 0 c).flushed 7 t = ((cfg0.win 7).blk t).view.read (Elt Ideal) (out m c) := by
  have b0 : (grid0.coords t 0).val < 8 := (grid0.coords t 0).isLt
  have b1 : (grid0.coords t 1).val < 8 := (grid0.coords t 1).isLt
  have b2 : (grid0.coords t 2).val < 8 := (grid0.coords t 2).isLt
  have hi := tr1 (grid0.coords t)
  rw [flushed_fin]
  funext j
  rw [View.read_apply]
  show fin7 (F := Ideal) (iblk m c 5 t) (iblk m c 6 t) (stAll (iblk m c 0 t) (grid0.coords t 1) (iblk m c 1 t) (iblk m c 2 t) (iblk m c 3 t) (iblk m c 4 t) (grid0.coords t 2).val) j = _
  have hj : j = ix2 (n0 := 256) (n1 := 128) (j 0) (j 1) := funext fun a => match a with | ⟨0, _⟩ => rfl | ⟨1, _⟩ => rfl
  refine (congrArg _ hj).trans ((block_eq (A0 m c) (A1 m c) (A2 m c) (A3 m c) hR.1 hR.2.1 hR.2.2 ⟨(grid0.coords t 0).val, b0⟩ (grid0.coords t 1) (grid0.coords t 2).val b2
    _ (blk0 m c t) _ (blk1 m c t) _ (blk2 m c t) _ (blk3 m c t) _ (blk4 m c t) _ (blk5 m c t) _ (blk6 m c t) (j 0) (j 1)).trans ?_)
  show Cert.DaRefIdeal.Read.val_main_v103 (F := Ideal) (A0 m c) (A1 m c) (A2 m c) (A3 m c) _ = Cert.DaRefIdeal.Read.val_main_v103 (F := Ideal) (A0 m c) (A1 m c) (A2 m c) (A3 m c) _
  congr 1
  funext a
  apply Fin.ext
  match a with
  | ⟨0, _⟩ => show ((grid0.coords t 0).val * 8 + (grid0.coords t 2).val) * 256 + (j 0).val = cc0_transform_1 (grid0.coords t) 0 * 256 + 1 * (j 0).val; rw [hi.1, one_mul]
  | ⟨1, _⟩ => show (grid0.coords t 1).val * 128 + (j 1).val = cc0_transform_1 (grid0.coords t) 1 * 128 + 1 * (j 1).val; rw [hi.2, one_mul]

/-- The blocks cover the result array. -/
theorem cover (i : S16384x1024.Idx) : ∃ t : Fin cfg0.N, (cfg0.win 7).flush t = true ∧ i ∈ ((cfg0.win 7).blk t).view.set := by
  have h0 : (i 0 : Nat) < 16384 := (i 0).isLt
  have h1 : (i 1 : Nat) < 1024 := (i 1).isLt
  obtain ⟨t, ht⟩ := Pipeline.Grid.coords_surjective grid0 (fun a => match a with
    | ⟨0, _⟩ => (⟨(i 0).val / 2048, by omega⟩ : Fin 8)
    | ⟨1, _⟩ => (⟨(i 1).val / 128, by omega⟩ : Fin 8)
    | ⟨2, _⟩ => (⟨(i 0).val / 256 % 8, by omega⟩ : Fin 8))
  have e0 : (grid0.coords t 0).val = (i 0).val / 2048 := by rw [ht]
  have e1 : (grid0.coords t 1).val = (i 1).val / 128 := by rw [ht]
  have e2 : (grid0.coords t 2).val = (i 0).val / 256 % 8 := by rw [ht]
  have hi := tr1 (grid0.coords t)
  refine ⟨t, flush0_7 t, ?_⟩
  show i ∈ ((View.whole main_v40).slice (win0_7.rect t)).set
  rw [View.set_slice_whole, Rect.mem_set_unit]
  intro a
  match a with
  | ⟨0, _⟩ => show cc0_transform_1 (grid0.coords t) 0 * 256 ≤ (i 0 : Nat) ∧ (i 0 : Nat) < cc0_transform_1 (grid0.coords t) 0 * 256 + 256
              rw [hi.1, e0, e2]; omega
  | ⟨1, _⟩ => show cc0_transform_1 (grid0.coords t) 1 * 128 ≤ (i 1 : Nat) ∧ (i 1 : Nat) < cc0_transform_1 (grid0.coords t) 1 * 128 + 128
              rw [hi.2, e1]; omega

/-- The result array ends holding the reference's result. -/
theorem final (c : Dev nD) (hR : Real3 m c) : (dats m 0 c).arrAt 7 cfg0.N = out m c :=
  (dats m 0 c).arrAt_eq_of_cover 7 (out m c) (fun t _ => flushed_eq m c hR t) cover

end Cert.DaIdeal.Whole

/-! ## The claim -/

namespace Cert.DaClaim

open Cert.EMath Idealize.ShloMosaic Idealize.ShloMosaic.TcCoe Idealize.SL.Sem

instance preFacts : Cert.Pre_da_finite.Facts where
  bitsLt_bf16_f32 := by decide
  bcast_S_S16384x3072 := by decide
  reducesTo_S16384x3072_S_d0_1 := by decide
  h_S_ := by decide
  bcast_S_S32x16 := by decide
  reducesTo_S32x16_S_d0_1 := by decide
  bcast_S_S4x64 := by decide
  reducesTo_S4x64_S_d0_1 := by decide

/-- The constant of the mask is named: in exact arithmetic it is minus infinity. -/
theorem preserves : Cert.preserves_Da_DaIdeal := IdealRules.named_const.statement Cert.DaIdeal.κ "mask" .f32 0xF149F2CA#32 ⊥ rfl

theorem real_of_lt (x : EReal) (h : BitVec.ofBool (decide (max x (-x) < Ideal.ofBits .f32 0x7F800000#32)) = 1#1) : ∃ r : ℝ, x = (r : EReal) := by
  apply EMath.real_of_abs_lt
  rw [EMath.inf_f32] at h
  by_contra hn
  rw [decide_eq_false hn] at h
  exact absurd h (by decide)

instance : Subsingleton Cert.Pre_da_finite.S_.Idx := ⟨fun _ _ => funext fun a => a.elim0⟩

/-- The precondition says that every entry of the first three arguments is a real number. -/
theorem real_of_pre (x0 : FVec Ideal Cert.Pre_da_finite.S16384x3072 .bf16) (x1 : FVec Ideal Cert.Pre_da_finite.S32x16 .f32) (x2 : FVec Ideal Cert.Pre_da_finite.S4x64 .f32)
    (x3 : FVec Ideal Cert.Pre_da_finite.S128 .f32) (h : Cert.Pre_da_finite.fn (F := Ideal) x0 x1 x2 x3 = fun _ => 1#1) :
    (∀ (R : Fin 16384) (C : Fin 3072), ∃ r : ℝ, (x0 (ix2 R C) : EReal) = (r : EReal)) ∧ (∀ (R : Fin 32) (C : Fin 16), ∃ r : ℝ, (x1 (ix2 R C) : EReal) = (r : EReal))
      ∧ (∀ (R : Fin 4) (C : Fin 64), ∃ r : ℝ, (x2 (ix2 R C) : EReal) = (r : EReal)) := by
  have h1 := congrFun h (fun a => a.elim0)
  unfold Cert.Pre_da_finite.fn at h1
  obtain ⟨ha, hc⟩ := IntOp.andi_eq_one.mp h1
  obtain ⟨ha, hb⟩ := IntOp.andi_eq_one.mp ha
  exact ⟨fun R C => real_of_lt _ (Host.reduce_andi_all _ _ _ _ _ ha (ix2 R C)), fun R C => real_of_lt _ (Host.reduce_andi_all _ _ _ _ _ hb (ix2 R C)),
    fun R C => real_of_lt _ (Host.reduce_andi_all _ _ _ _ _ hc (ix2 R C))⟩

/-- From finite arguments, the kernel's result array is the reference's, on every device. -/
theorem algebraic : Cert.algebraic_DaIdeal_DaRefIdeal_pre_da_finite (hDaIdeal := Cert.DaIdeal.Gen.facts) (hDaRefIdeal := Cert.DaRefIdeal.Gen.facts) (hPre_da_finite := preFacts) :=
  fun m ρ m' ρ' hpre hag => ⟨fun c => Cert.DaIdeal.Whole.out m c,
    (θ_run _ _ _).mono (fun _ h c => ⟨(h c).1.trans (Cert.DaIdeal.Whole.final m c (real_of_pre _ _ _ _ (hpre c))), (h c).2⟩) (Cert.DaIdeal.Value.run_blocks m ρ),
    (θ_run _ _ _).mono (fun _ h c => by
      have g := hag c
      refine ⟨(h c).1.trans ((Cert.DaRefIdeal.Read.val_main_v103_eq _).trans ?_), (h c).2⟩
      show Cert.DaRefIdeal.Read.val_main_v103 (F := Ideal) (m' ((c.tc : Thread Cert.DaRefIdeal.nD Cert.DaRefIdeal.τ).loc Cert.DaRefIdeal.main_arg0)) (m' ((c.tc : Thread Cert.DaRefIdeal.nD Cert.DaRefIdeal.τ).loc Cert.DaRefIdeal.main_arg1)) (m' ((c.tc : Thread Cert.DaRefIdeal.nD Cert.DaRefIdeal.τ).loc Cert.DaRefIdeal.main_arg2)) (m' ((c.tc : Thread Cert.DaRefIdeal.nD Cert.DaRefIdeal.τ).loc Cert.DaRefIdeal.main_arg3)) = _
      rw [g.1, g.2.1, g.2.2.1, g.2.2.2]) (Cert.DaRefIdeal.Value.run m' ρ')⟩

end Cert.DaClaim

end
-- ==== Proof.SwMath.lean ====
module

public import proofs.«01_k».proof.Proof.EMath

/-! # A softmax over a window of 256 keys and one sink -/

@[expose] public section

set_option maxRecDepth 16384

noncomputable section

namespace Cert.SwMath

open Idealize.ShloMosaic Cert.EMath

/-- Key `j` of the 256 (the block before the query's, then the query's own block `n`) lies in the window of row `r`. -/
def ok (n r j : ℕ) : Prop := r < j ∧ j ≤ r + 128 ∧ (0 < n ∨ 128 ≤ j)

instance (n r j : ℕ) : Decidable (ok n r j) := by unfold ok; infer_instance

/-- The weight of a key, the exponent taken from `M`. -/
def wt (p : ℕ → Prop) [DecidablePred p] (Z : ℕ → ℝ) (M : ℝ) (j : ℕ) : ℝ := if p j then Real.exp (Z j - M) else 0

/-- The weighted mean of the values, the sink's weight in the denominator alone. -/
def att (p : ℕ → Prop) [DecidablePred p] (Z V : ℕ → ℝ) (z : ℝ) : ℝ :=
  (∑ j ∈ Finset.range 256, wt p Z 0 j * V j) / (∑ j ∈ Finset.range 256, wt p Z 0 j + Real.exp z)

variable (p : ℕ → Prop) [DecidablePred p] (Z V : ℕ → ℝ) (z M : ℝ)

theorem wt_shift (j : ℕ) : wt p Z M j = Real.exp (-M) * wt p Z 0 j := by
  unfold wt
  split
  · rw [← Real.exp_add]; congr 1; ring
  · rw [mul_zero]

theorem wt_nonneg (j : ℕ) : 0 ≤ wt p Z M j := by
  unfold wt
  split
  · exact (Real.exp_pos _).le
  · exact le_rfl

theorem den_pos : 0 < ∑ j ∈ Finset.range 256, wt p Z M j + Real.exp (z - M) :=
  add_pos_of_nonneg_of_pos (Finset.sum_nonneg fun j _ => wt_nonneg p Z M j) (Real.exp_pos _)

/-- The mean does not depend on what the exponents are taken from. -/
theorem att_eq : (∑ j ∈ Finset.range 256, wt p Z M j * V j) / (∑ j ∈ Finset.range 256, wt p Z M j + Real.exp (z - M)) = att p Z V z := by
  unfold att
  have h1 : ∑ j ∈ Finset.range 256, wt p Z M j * V j = Real.exp (-M) * ∑ j ∈ Finset.range 256, wt p Z 0 j * V j := by
    rw [Finset.mul_sum]; exact Finset.sum_congr rfl fun j _ => by rw [wt_shift, mul_assoc]
  have h2 : ∑ j ∈ Finset.range 256, wt p Z M j + Real.exp (z - M) = Real.exp (-M) * (∑ j ∈ Finset.range 256, wt p Z 0 j + Real.exp z) := by
    rw [mul_add, Finset.mul_sum, ← Real.exp_add, show z - M = -M + z by ring]
    congr 1
    exact Finset.sum_congr rfl fun j _ => wt_shift p Z M j
  rw [h1, h2, mul_div_mul_left _ _ (Real.exp_pos _).ne']

theorem att_congr (V' : ℕ → ℝ) (h : ∀ j, j < 256 → p j → V j = V' j) : att p Z V z = att p Z V' z := by
  unfold att
  congr 1
  refine Finset.sum_congr rfl fun j hj => ?_
  by_cases hp : p j
  · rw [h j (Finset.mem_range.mp hj) hp]
  · unfold wt; rw [if_neg hp, zero_mul, zero_mul]

/-- A score, minus infinity outside the window. -/
def sc (j : ℕ) : EReal := if p j then (Z j : EReal) else ⊥

theorem exp_sc (j : ℕ) : Ideal.exp (sc p Z j - (M : EReal)) = (wt p Z M j : EReal) := by
  unfold sc wt
  split
  · rw [← EReal.coe_sub, exp_coe]
  · rw [EReal.bot_sub]; rfl

theorem sc_lt_top (j : ℕ) : sc p Z j < ⊤ := by
  unfold sc
  split
  · exact EReal.coe_lt_top _
  · exact bot_lt_top

theorem real_max (X : EReal) (lo : (z : EReal) ≤ X) (hi : X < ⊤) : ∃ M : ℝ, X = (M : EReal) :=
  ⟨X.toReal, (EReal.coe_toReal hi.ne (fun h => by rw [h] at lo; exact absurd lo (not_le.mpr (EReal.bot_lt_coe _)))).symm⟩

theorem fold_lt_top {n : ℕ} (f : Fin n → EReal) (h : ∀ j, f j < ⊤) : Finset.univ.fold max ⊥ f < ⊤ :=
  (Finset.fold_max_lt _).mpr ⟨bot_lt_top, fun x _ => h x⟩

theorem div_real (a b : ℝ) (hb : b ≠ 0) : Ideal.div (a : EReal) (b : EReal) = ((a / b : ℝ) : EReal) := by
  rw [Ideal.div_coe hb, ← EReal.coe_mul, mul_one_div]

/-- A sum over 256 keys is the sum over the first 128 and the sum over the rest. -/
theorem sum_halves (f : ℕ → ℝ) : ∑ x : Fin 128, f x.val + ∑ x : Fin 128, f (128 + x.val) = ∑ j ∈ Finset.range 256, f j := by
  rw [← Finset.sum_range f, ← Finset.sum_range (fun x => f (128 + x)), show (256 : ℕ) = 128 + 128 from rfl, Finset.sum_range_add]

/-- Both blocks at once, each with its own sums. -/
theorem two_blocks (sp sq : Fin 128 → EReal) (vp vq : Fin 128 → EReal) (hp : ∀ x, sp x = sc p Z x.val) (hq : ∀ x, sq x = sc p Z (128 + x.val))
    (hvp : ∀ x, vp x = (V x.val : EReal)) (hvq : ∀ x, vq x = (V (128 + x.val) : EReal)) (X : EReal)
    (hX : X = max (max (Finset.univ.fold max ⊥ sp) (Finset.univ.fold max ⊥ sq)) (z : EReal)) :
    Ideal.div (∑ x, Ideal.exp (sp x - X) * vp x + ∑ x, Ideal.exp (sq x - X) * vq x)
      (∑ x, Ideal.exp (sp x - X) + ∑ x, Ideal.exp (sq x - X) + Ideal.exp ((z : EReal) - X)) = (att p Z V z : EReal) := by
  obtain ⟨M, rfl⟩ : ∃ M : ℝ, X = (M : EReal) := real_max z X (hX ▸ le_max_right _ _) (hX ▸ max_lt (max_lt (fold_lt_top sp fun x => hp x ▸ sc_lt_top p Z _)
    (fold_lt_top sq fun x => hq x ▸ sc_lt_top p Z _)) (EReal.coe_lt_top _))
  simp only [hp, hq, hvp, hvq, exp_sc, ← EReal.coe_sub, exp_coe, ← EReal.coe_mul, ← coe_sum, ← EReal.coe_add]
  rw [sum_halves (fun j => wt p Z M j * V j), sum_halves (fun j => wt p Z M j), div_real _ _ (den_pos p Z z M).ne', att_eq]

/-- The keys and the sink in one row of 257 entries, each weight divided first. -/
theorem one_row (s : Fin 257 → EReal) (v : Fin 256 → EReal) (hs : ∀ j : Fin 256, s (j.castLE (by decide)) = sc p Z j.val) (hz : s (Fin.last 256) = (z : EReal))
    (hv : ∀ j : Fin 256, p j.val → v j = (V j.val : EReal)) (hv0 : ∀ j : Fin 256, ∃ u : ℝ, v j = (u : EReal)) (X : EReal) (hX : X = Finset.univ.fold max ⊥ s) :
    ∑ j : Fin 256, v j * Ideal.div (Ideal.exp (s (j.castLE (by decide)) - X)) (∑ k : Fin 257, Ideal.exp (s k - X)) = (att p Z V z : EReal) := by
  have hlt : ∀ j, s j < ⊤ := fun j => by
    refine Fin.lastCases (motive := fun j => s j < ⊤) (hz ▸ EReal.coe_lt_top _) (fun i => ?_) j
    exact (hs i).symm ▸ sc_lt_top p Z _
  obtain ⟨M, rfl⟩ : ∃ M : ℝ, X = (M : EReal) := real_max z X
    (hX ▸ (Finset.le_fold_max _).mpr (Or.inr ⟨Fin.last 256, Finset.mem_univ _, hz.ge⟩)) (hX ▸ fold_lt_top s hlt)
  have hd : ∑ k : Fin 257, Ideal.exp (s k - (M : EReal)) = ((∑ j ∈ Finset.range 256, wt p Z M j + Real.exp (z - M) : ℝ) : EReal) := by
    rw [Fin.sum_univ_castSucc, hz, ← EReal.coe_sub, exp_coe, EReal.coe_add, Finset.sum_range, coe_sum]
    congr 1
    exact Finset.sum_congr rfl fun j _ => (congrArg (fun y => Ideal.exp (y - (M : EReal))) (hs j)).trans (exp_sc p Z M j.val)
  choose u hu using hv0
  rw [hd]
  have ht : ∀ j : Fin 256, v j * Ideal.div (Ideal.exp (s (j.castLE (by decide)) - (M : EReal))) ((∑ j ∈ Finset.range 256, wt p Z M j + Real.exp (z - M) : ℝ) : EReal)
      = ((wt p Z M j.val * V j.val / (∑ j ∈ Finset.range 256, wt p Z M j + Real.exp (z - M)) : ℝ) : EReal) := by
    intro j
    rw [hs j, exp_sc, div_real _ _ (den_pos p Z z M).ne', hu j, ← EReal.coe_mul]
    by_cases hp : p j.val
    · have := (hu j).symm.trans (hv j hp)
      rw [EReal.coe_eq_coe_iff.mp this]
      congr 1; ring
    · have : wt p Z M j.val = 0 := if_neg hp
      rw [this, zero_div, mul_zero, zero_mul, zero_div]
  rw [Finset.sum_congr rfl fun j _ => ht j, ← coe_sum, ← Finset.sum_div, ← Finset.sum_range (fun j => wt p Z M j * V j), att_eq]

end Cert.SwMath

end
-- ==== Proof.SwSpec.lean ====
module

public import proofs.«01_k».proof.Proof.SwMath
public import proofs.«01_k».proof.Proof.DaBias

/-! # Sliding-window attention on real numbers -/

@[expose] public section

set_option maxRecDepth 16384

noncomputable section

namespace Cert.SwSpec

open Idealize.ShloMosaic Cert.EMath Cert.DaBias Cert.SwMath

variable (h : (⟨2, ![16384, 1024]⟩ : Shape).Idx → EReal) (w : (⟨2, ![1024, 1536]⟩ : Shape).Idx → EReal) (T : (⟨2, ![32, 16]⟩ : Shape).Idx → EReal) (sk : (⟨1, ![16]⟩ : Shape).Idx → EReal)

/-- The projected entry `(R, C)`. -/
def P (R C : ℕ) : ℝ := ∑ k : Fin 1024, (h (ix2 (⟨R % 16384, Nat.mod_lt _ (by decide)⟩ : Fin 16384) k)).toReal * (w (ix2 k (⟨C % 1536, Nat.mod_lt _ (by decide)⟩ : Fin 1536))).toReal

/-- The bias of row `r` and key `j` of the window, in head `hd`. -/
def B (hd r j : ℕ) : ℝ := (T (ix2 (row (128#32 + BitVec.ofNat 32 r - BitVec.ofNat 32 j)) (⟨hd % 16, Nat.mod_lt _ (by decide)⟩ : Fin 16))).toReal

/-- The sink of head `hd`. -/
def S (hd : ℕ) : ℝ := (sk (ix1 (⟨hd % 16, Nat.mod_lt _ (by decide)⟩ : Fin 16))).toReal

/-- The score of row `r` of block `n` and key `j` of its window. -/
def Z (b n hd r j : ℕ) : ℝ :=
  (∑ d : Fin 64, P h w (b * 2048 + (n * 128 + r)) (hd * 64 + d.val) * P h w (b * 2048 + (n * 128 + j - 128)) (1024 + (hd / 4 * 64 + d.val))) * 0.125 + B T hd r j

/-- The value of key `j` of block `n`'s window, lane `d`. -/
def V (b n hd d j : ℕ) : ℝ := P h w (b * 2048 + (n * 128 + j - 128)) (1280 + (hd / 4 * 64 + d))

/-- The layer's output. -/
def out (b n hd r d : ℕ) : ℝ := att (ok n r) (Z h w T b n hd r) (V h w b n hd d) (S sk hd)

variable (hh : ∀ i, ∃ x : ℝ, h i = (x : EReal)) (hw : ∀ i, ∃ x : ℝ, w i = (x : EReal)) (hT : ∀ i, ∃ x : ℝ, T i = (x : EReal)) (hs : ∀ i, ∃ x : ℝ, sk i = (x : EReal))

include hh hw in
theorem prod (R : Fin 16384) (C : Fin 1536) : ∑ k : Fin 1024, h (ix2 R k) * w (ix2 k C) = (P h w R.val C.val : EReal) := by
  have eR : (⟨R.val % 16384, Nat.mod_lt _ (by decide)⟩ : Fin 16384) = R := Fin.ext (Nat.mod_eq_of_lt R.isLt)
  have eC : (⟨C.val % 1536, Nat.mod_lt _ (by decide)⟩ : Fin 1536) = C := Fin.ext (Nat.mod_eq_of_lt C.isLt)
  unfold P
  rw [coe_sum, eR, eC]
  refine Finset.sum_congr rfl fun k _ => ?_
  obtain ⟨x, hx⟩ := hh (ix2 R k)
  obtain ⟨y, hy⟩ := hw (ix2 k C)
  rw [hx, hy, EReal.toReal_coe, EReal.toReal_coe, EReal.coe_mul]

include hT in
theorem bias (hd : Fin 16) (r j : ℕ) : T (ix2 (row (128#32 + BitVec.ofNat 32 r - BitVec.ofNat 32 j)) hd) = (B T hd.val r j : EReal) := by
  have e : (⟨hd.val % 16, Nat.mod_lt _ (by decide)⟩ : Fin 16) = hd := Fin.ext (Nat.mod_eq_of_lt hd.isLt)
  unfold B
  rw [e]
  obtain ⟨x, hx⟩ := hT (ix2 (row (128#32 + BitVec.ofNat 32 r - BitVec.ofNat 32 j)) hd)
  rw [hx, EReal.toReal_coe]

include hs in
theorem sink (hd : Fin 16) : sk (ix1 hd) = (S sk hd.val : EReal) := by
  have e : (⟨hd.val % 16, Nat.mod_lt _ (by decide)⟩ : Fin 16) = hd := Fin.ext (Nat.mod_eq_of_lt hd.isLt)
  unfold S
  rw [e]
  obtain ⟨x, hx⟩ := hs (ix1 hd)
  rw [hx, EReal.toReal_coe]

end Cert.SwSpec

end
-- ==== Proof.SwStep.lean ====
module

public import proofs.«01_k».proof.Proof.SwSpec
public import proofs.«01_k».proof.Proof.Gen.SwIdeal
public import proofs.«01_k».proof.Proof.Gen.SwIdeal.Frame

/-! # Sliding-window attention: one query block of the kernel -/

@[expose] public section

set_option maxRecDepth 16384

noncomputable section

namespace Cert.SwIdeal.Step

open Cert.SwIdeal Cert.SwIdeal.Gen Idealize.ShloMosaic Idealize.ShloMosaic.TcCoe Idealize.SL.Sem

section Defs

variable {F : FTy → Type} [FloatOps F] [Named F]

abbrev rows : IVec S128x128 32 := iota .tc S128x128 32 [0] iota_S128x128_d0_w32
abbrev lane : IVec S128x128 32 := iota .tc S128x128 32 [1] iota_S128x128_d1_w32

/-- A row's maximum over both key blocks and the sink. -/
def mx (sp sq : FVec F S128x128 .f32) (z : Elt F .f32) : FVec F S128x1 .f32 :=
  maximumf (maximumf (shapeCast S128x1 (multiReduction .maximumf [1] S128 sp 0xFF800000#32 reduces_S128x128_S128 (.inl rfl) rfl) shapeCasts_S128_S128x1)
    (shapeCast S128x1 (multiReduction .maximumf [1] S128 sq 0xFF800000#32 reduces_S128x128_S128 (.inl rfl) rfl) shapeCasts_S128_S128x1)) (broadcast S128x1 z)

/-- The weights of one key block. -/
def pe (s : FVec F S128x128 .f32) (M : FVec F S128x1 .f32) : FVec F S128x128 .f32 := exp (subf s (broadcastTo S128x128 M broadcasts_S128x1_S128x128))

/-- Their row sums. -/
def rs (e : FVec F S128x128 .f32) : FVec F S128x1 .f32 :=
  shapeCast S128x1 (multiReduction .add [1] S128 e 0x00000000#32 reduces_S128x128_S128 (.inl rfl) rfl) shapeCasts_S128_S128x1

/-- The denominators. -/
def den (sp sq : FVec F S128x128 .f32) (z : Elt F .f32) : FVec F S128x1 .f32 :=
  addf (addf (rs (pe sp (mx sp sq z))) (rs (pe sq (mx sp sq z)))) (exp (subf (broadcast S128x1 z) (mx sp sq z)))

/-- The weighted values of one head. -/
def av (sp sq : FVec F S128x128 .f32) (vp vq : FVec F S128x128 .bf16) (z : Elt F .f32) : FVec F S128x128 .f32 :=
  divf (addf (matmul dot_S128x128_S128x128_S128x128_1_0_0_1_n_n none (truncf .bf16 (pe sp (mx sp sq z)) bitsLt_bf16_f32) vp (constant S128x128 .f32 0x00000000#32))
    (matmul dot_S128x128_S128x128_S128x128_1_0_0_1_n_n none (truncf .bf16 (pe sq (mx sp sq z)) bitsLt_bf16_f32) vq (constant S128x128 .f32 0x00000000#32)))
    (broadcastTo S128x128 (den sp sq z) broadcasts_S128x1_S128x128)

/-- The scores of the previous key block. -/
def sP (w : BitVec 32) (q : FVec F S128x128 .bf16) (kp : Vec F S128x128 .bf16) (bp : Vec F S1x128x128 .f32) : FVec F S128x128 .f32 :=
  k1_pay13 q (k1_pay8 kp) k1_pay10 (Scalar.cmpi .sgt w 0#32) bp

/-- The scores of the query block's own keys. -/
def sQ (q : FVec F S128x128 .bf16) (kq : Vec F S128x128 .bf16) (bq : Vec F S1x128x128 .f32) : FVec F S128x128 .f32 :=
  k1_pay14 rows lane q (k1_pay6 kq) bq

/-- One query block's output: the first head in the lower lanes, the second in the upper. -/
def blk (w : BitVec 32) (q kq vq kp vp : Vec F S128x128 .bf16) (b0 c0 : Vec F S1x128x128 .f32) (z0 : Elt F .f32) (b1 c1 : Vec F S1x128x128 .f32) (z1 : Elt F .f32) : FVec F S128x128 .bf16 :=
  truncf .bf16 (select (cmpi .sge lane (broadcast S128x128 64#32)) (av (sP w (k1_pay5 q) kp b1) (sQ (k1_pay5 q) kq c1) (k1_pay9 vp) (k1_pay7 vq) z1)
    (select (cmpi .slt lane (broadcast S128x128 64#32)) (av (sP w (k1_pay4 q) kp b0) (sQ (k1_pay4 q) kq c0) (k1_pay9 vp) (k1_pay7 vq) z0) (k1_pay12 (F := F)))) bitsLt_bf16_f32

/-- The block of a query tile's rows, of a key or value array, and of a bias array. -/
def qL (x : Vec F S512x128 .bf16) (s : Fin 4) : Vec F S128x128 .bf16 := fun y => x (ix2 ⟨s.val * 128 + (y 0).val, by have : (y 0).val < 128 := (y 0).isLt; omega⟩ (y 1))

def kL (x : Vec F S2048x128 .bf16) (n : Fin 16) : Vec F S128x128 .bf16 := fun y => x (ix2 ⟨n.val * 128 + (y 0).val, by have : (y 0).val < 128 := (y 0).isLt; omega⟩ (y 1))

def bL (x : Vec F S2x128x256 .f32) (e o : Fin 2) : Vec F S1x128x128 .f32 := fun y => x (ix3 e (y 1) ⟨o.val * 128 + (y 2).val, by have : (y 2).val < 128 := (y 2).isLt; omega⟩)

/-- The query block's number, and the previous one's. -/
def qn (i : grid1.Coords) (s : Fin 4) : Fin 16 := ⟨(i 2).val * 4 + s.val, by have : (i 2).val < 4 := (i 2).isLt; omega⟩

def pn (i : grid1.Coords) (s : Fin 4) : Fin 16 := ⟨(i 2).val * 4 + s.val - 1, by have : (i 2).val < 4 := (i 2).isLt; omega⟩

def hd (i : grid1.Coords) (e : Fin 2) : Fin 16 := ⟨2 * (i 1).val + e.val, by have : (i 1).val < 8 := (i 1).isLt; omega⟩

def word (i : grid1.Coords) (s : Fin 4) : BitVec 32 := Scalar.addi (Scalar.muli (BitVec.ofNat 32 (i 2).val) 4#32) (BitVec.ofNat 32 s.val)

end Defs

end Cert.SwIdeal.Step

end
-- ==== Proof.SwBlk.lean ====
module

public import proofs.«01_k».proof.Proof.SwStep
public import proofs.«01_k».proof.Proof.SbValue

/-! # Sliding-window attention: the value of one query block -/

@[expose] public section

set_option maxRecDepth 16384

noncomputable section

namespace Cert.SwIdeal.Step

open Cert.SwIdeal Cert.SwIdeal.Gen Cert.SwIdeal.Step Cert.EMath Cert.SwMath Idealize.ShloMosaic Idealize.ShloMosaic.TcCoe Idealize.SL.Sem

theorem ninf : Ideal.ofBits .f32 0xFF800000#32 = ⊥ := by
  simp [Ideal.ofBits, Ideal.ieee]

theorem mask_bot : (Named.named (F := Ideal) κ "mask" (φ := .f32) 0xF149F2CA#32 : EReal) = ⊥ := rfl

section Head

variable (sp sq : FVec Ideal S128x128 .f32) (vp vq : FVec Ideal S128x128 .bf16) (z : Elt Ideal .f32)

theorem mx_at (r : Fin 128) : mx sp sq z (ix2 r 0) = max (max (Finset.fold max ⊥ (fun x : Fin 128 => sp (ix2 r x)) Finset.univ) (Finset.fold max ⊥ (fun x : Fin 128 => sq (ix2 r x)) Finset.univ)) z := by
  pointwise [mx]
  rw [show (4286578688#32 : BitVec 32) = 0xFF800000#32 from rfl, ninf]

theorem pe_at (s : FVec Ideal S128x128 .f32) (M : FVec Ideal S128x1 .f32) (r x : Fin 128) : pe s M (ix2 r x) = Ideal.exp (s (ix2 r x) - M (ix2 r 0)) := by
  pointwise [pe]

theorem den_at (r : Fin 128) : den sp sq z (ix2 r 0) = ∑ x : Fin 128, Ideal.exp (sp (ix2 r x) - mx sp sq z (ix2 r 0)) + ∑ x : Fin 128, Ideal.exp (sq (ix2 r x) - mx sp sq z (ix2 r 0)) + Ideal.exp (z - mx sp sq z (ix2 r 0)) := by
  pointwise [den, rs]
  simp only [pe_at]

theorem av_at (r l : Fin 128) : av sp sq vp vq z (ix2 r l)
    = Ideal.div (∑ x : Fin 128, Ideal.exp (sp (ix2 r x) - mx sp sq z (ix2 r 0)) * vp (ix2 x l) + ∑ x : Fin 128, Ideal.exp (sq (ix2 r x) - mx sp sq z (ix2 r 0)) * vq (ix2 x l)) (den sp sq z (ix2 r 0)) := by
  pointwise [av]
  simp only [pe_at]

end Head

section Value

variable (q kq vq kp vp : Vec Ideal S128x128 .bf16) (b0 c0 b1 c1 : Vec Ideal S1x128x128 .f32) (z0 z1 : Elt Ideal .f32)
  (Q K W : ℕ → ℕ → ℝ) (B0 B1 : ℕ → ℕ → ℝ) (s0 s1 : ℝ) (n : ℕ) (w : BitVec 32)
  (hn : ∀ x y : EReal, Scalar.select (IntOp.cmpi .sgt w 0#32) x y = if 0 < n then x else y)

theorem dot0 (q k : Vec Ideal S128x128 .bf16) (Q K : ℕ → ℝ) (r x : Fin 128) (hq : ∀ d : Fin 128, q (ix2 r d) = (Q d.val : EReal)) (hk : ∀ d : Fin 128, k (ix2 x d) = (K d.val : EReal)) :
    ∑ d : Fin 128, k1_pay4 q (ix2 r d) * k (ix2 x d) = (((∑ d : Fin 64, Q d.val * K d.val) * 0.125 : ℝ) : EReal) := by
  have hterm : ∀ y : Fin 128, k1_pay4 q (ix2 r y) * k (ix2 x y) = if y.val < 64 then ((Q y.val * K y.val * 0.125 : ℝ) : EReal) else 0 := by
    intro y
    pointwise [k1_pay4, k1_pay2, k1_pay3]
    rw [hq, hk, eighth_bf16]
    refine (sel_slt y.val 64 (by omega) (by omega) _ _).trans ?_
    split
    · rw [← EReal.coe_mul, ← EReal.coe_mul]; congr 1; ring
    · rfl
  rw [Finset.sum_congr rfl fun y _ => hterm y, Cert.SbIdeal.Whole.sum_lo (fun y => ((Q y * K y * 0.125 : ℝ) : EReal)), ← coe_sum, Finset.sum_mul]

theorem dot1 (q k : Vec Ideal S128x128 .bf16) (Q K : ℕ → ℝ) (r x : Fin 128) (hq : ∀ d : Fin 128, q (ix2 r d) = (Q d.val : EReal)) (hk : ∀ d : Fin 128, k (ix2 x d) = (K d.val : EReal)) :
    ∑ d : Fin 128, k1_pay5 q (ix2 r d) * k (ix2 x d) = (((∑ d : Fin 64, Q (64 + d.val) * K (64 + d.val)) * 0.125 : ℝ) : EReal) := by
  have hterm : ∀ y : Fin 128, k1_pay5 q (ix2 r y) * k (ix2 x y) = if 64 ≤ y.val then ((Q y.val * K y.val * 0.125 : ℝ) : EReal) else 0 := by
    intro y
    pointwise [k1_pay5, k1_pay2, k1_pay3]
    rw [hq, hk, eighth_bf16]
    refine (sel_sge y.val 64 (by omega) (by omega) _ _).trans ?_
    split
    · rw [← EReal.coe_mul, ← EReal.coe_mul]; congr 1; ring
    · rfl
  rw [Finset.sum_congr rfl fun y _ => hterm y, Cert.SbIdeal.Whole.sum_hi (fun y => ((Q y * K y * 0.125 : ℝ) : EReal)), ← coe_sum, Finset.sum_mul]

theorem sP_at (q kp : Vec Ideal S128x128 .bf16) (b : Vec Ideal S1x128x128 .f32) (r x : Fin 128) : sP w q kp b (ix2 r x)
    = Scalar.select (IntOp.andi (IntOp.cmpi .sgt (BitVec.ofNat 32 x.val) (BitVec.ofNat 32 r.val)) (IntOp.cmpi .sgt w 0#32)) (∑ d : Fin 128, q (ix2 r d) * kp (ix2 x d) + b (ix3 0 r x)) (⊥ : EReal) := by
  pointwise [sP, k1_pay13, k1_pay8, k1_pay10, k1_pay11]
  rfl

theorem sQ_at (q kq : Vec Ideal S128x128 .bf16) (b : Vec Ideal S1x128x128 .f32) (r x : Fin 128) : sQ q kq b (ix2 r x)
    = Scalar.select (IntOp.cmpi .sle (BitVec.ofNat 32 x.val) (BitVec.ofNat 32 r.val)) (∑ d : Fin 128, q (ix2 r d) * kq (ix2 x d) + b (ix3 0 r x)) (⊥ : EReal) := by
  pointwise [sQ, k1_pay14, k1_pay6]
  rfl

theorem sel_and {α : Type} (a b : BitVec 1) (x y : α) : Scalar.select (IntOp.andi a b) x y = Scalar.select a (Scalar.select b x y) y := by
  have h : ∀ a b : BitVec 1, (a &&& b = 1) ↔ (a = 1 ∧ b = 1) := by decide
  simp only [Scalar.select, IntOp.andi]
  by_cases h1 : a = 1 <;> by_cases h2 : b = 1 <;> simp only [h, h1, h2, and_self, and_true, and_false, if_true, if_false]

theorem sel_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  by_cases h : a ≤ b <;> simp [Scalar.select, h]

variable (Z : ℕ → ℝ) (D E : ℝ)

include hn in
theorem sP_sc (q kp : Vec Ideal S128x128 .bf16) (b : Vec Ideal S1x128x128 .f32) (r x : Fin 128) (hd : ∑ d : Fin 128, q (ix2 r d) * kp (ix2 x d) = (D : EReal)) (hb : b (ix3 0 r x) = (E : EReal)) (hZ : Z x.val = D + E) :
    sP w q kp b (ix2 r x) = sc (ok n r.val) Z x.val := by
  rw [sP_at, hd, hb, ← EReal.coe_add, ← hZ, sel_and, sel_sgt x.val r.val (by omega) (by omega), hn]
  have e : ok n r.val x.val ↔ (r.val < x.val ∧ 0 < n) := by unfold ok; omega
  unfold sc
  by_cases h1 : r.val < x.val <;> by_cases h2 : 0 < n <;> simp only [e, h1, h2, and_self, and_true, and_false, if_true, if_false]

theorem sQ_sc (q kq : Vec Ideal S128x128 .bf16) (b : Vec Ideal S1x128x128 .f32) (r x : Fin 128) (hd : ∑ d : Fin 128, q (ix2 r d) * kq (ix2 x d) = (D : EReal)) (hb : b (ix3 0 r x) = (E : EReal)) (hZ : Z (128 + x.val) = D + E) :
    sQ q kq b (ix2 r x) = sc (ok n r.val) Z (128 + x.val) := by
  rw [sQ_at, hd, hb, ← EReal.coe_add, ← hZ, sel_sle x.val r.val (by omega) (by omega)]
  have e : ok n r.val (128 + x.val) ↔ x.val ≤ r.val := by unfold ok; omega
  unfold sc
  by_cases h1 : x.val ≤ r.val <;> simp only [e, h1, if_true, if_false]

/-- A query block's entry: the attention of its head. -/
theorem blk_at (r l : Fin 128) (hn : ∀ x y : EReal, Scalar.select (IntOp.cmpi .sgt w 0#32) x y = if 0 < n then x else y)
    (hq : ∀ r d : Fin 128, q (ix2 r d) = (Q r.val d.val : EReal)) (hkp : ∀ r d : Fin 128, kp (ix2 r d) = (K r.val d.val : EReal)) (hkq : ∀ r d : Fin 128, kq (ix2 r d) = (K (128 + r.val) d.val : EReal))
    (hvp : ∀ r d : Fin 128, vp (ix2 r d) = (W r.val d.val : EReal)) (hvq : ∀ r d : Fin 128, vq (ix2 r d) = (W (128 + r.val) d.val : EReal))
    (hb0 : ∀ r j : Fin 128, b0 (ix3 0 r j) = (B0 r.val j.val : EReal)) (hc0 : ∀ r j : Fin 128, c0 (ix3 0 r j) = (B0 r.val (128 + j.val) : EReal))
    (hb1 : ∀ r j : Fin 128, b1 (ix3 0 r j) = (B1 r.val j.val : EReal)) (hc1 : ∀ r j : Fin 128, c1 (ix3 0 r j) = (B1 r.val (128 + j.val) : EReal))
    (hz0 : z0 = (s0 : EReal)) (hz1 : z1 = (s1 : EReal)) :
    blk w q kq vq kp vp b0 c0 z0 b1 c1 z1 (ix2 r l) = ((if l.val < 64
      then att (ok n r.val) (fun j => (∑ d : Fin 64, Q r.val d.val * K j d.val) * 0.125 + B0 r.val j) (fun j => W j l.val) s0
      else att (ok n r.val) (fun j => (∑ d : Fin 64, Q r.val (64 + d.val) * K j (64 + d.val)) * 0.125 + B1 r.val j) (fun j => W j l.val) s1 : ℝ) : EReal) := by
  have e7 : ∀ x : Fin 128, k1_pay7 vq (ix2 x l) = (W (128 + x.val) l.val : EReal) := fun x => by pointwise [k1_pay7]; exact hvq x l
  have e9 : ∀ x : Fin 128, k1_pay9 vp (ix2 x l) = (W x.val l.val : EReal) := fun x => by pointwise [k1_pay9]; exact hvp x l
  pointwise [blk]
  refine (sel_sge l.val 64 (by omega) (by omega) _ _).trans ?_
  by_cases h : 64 ≤ l.val
  · rw [if_pos h, if_neg (by omega : ¬ l.val < 64), av_at, den_at, hz1]
    exact two_blocks _ _ (fun j => W j l.val) s1 _ _ _ _
      (fun x => sP_sc n w hn _ _ _ _ _ _ r x (dot1 q kp (Q r.val) (K x.val) r x (hq r) (hkp x)) (hb1 r x) rfl)
      (fun x => sQ_sc n _ _ _ _ _ _ r x (dot1 q kq (Q r.val) (K (128 + x.val)) r x (hq r) (hkq x)) (hc1 r x) rfl) e9 e7 _ (mx_at _ _ _ r)
  · rw [if_neg h, if_pos (by omega : l.val < 64)]
    refine (sel_slt l.val 64 (by omega) (by omega) _ _).trans ?_
    rw [if_pos (by omega : l.val < 64), av_at, den_at, hz0]
    exact two_blocks _ _ (fun j => W j l.val) s0 _ _ _ _
      (fun x => sP_sc n w hn _ _ _ _ _ _ r x (dot0 q kp (Q r.val) (K x.val) r x (hq r) (hkp x)) (hb0 r x) rfl)
      (fun x => sQ_sc n _ _ _ _ _ _ r x (dot0 q kq (Q r.val) (K (128 + x.val)) r x (hq r) (hkq x)) (hc0 r x) rfl) e9 e7 _ (mx_at _ _ _ r)

end Value

end Cert.SwIdeal.Step

end
-- ==== Proof.SwOut.lean ====
module

public import proofs.«01_k».proof.Proof.SwStep

/-! # Sliding-window attention: what one step stores -/

@[expose] public section

set_option maxRecDepth 16384

noncomputable section

namespace Cert.SwIdeal.Step

open Cert.SwIdeal Cert.SwIdeal.Gen Cert.SwIdeal.Step Cert.EMath Idealize.ShloMosaic Idealize.ShloMosaic.TcCoe Idealize.SL.Sem

variable {F : FTy → Type} [FloatOps F] [Named F]

theorem off1 (i : grid1.Coords) (s : Fin 4) : k1_off1 i (BitVec.ofNat 32 s.val) 0 = (qn i s).val * 128 := by
  have h : ∀ (n s : Fin 4), BitVec.toNat (Scalar.indexCast (Scalar.muli (Scalar.addi (Scalar.muli (BitVec.ofNat 32 n.val) 4#32) (BitVec.ofNat 32 s.val)) 128#32)) = (n.val * 4 + s.val) * 128 := by
    decide +kernel
  exact h (i 2) s

theorem off2 (i : grid1.Coords) (s : Fin 4) : k1_off2 i (BitVec.ofNat 32 s.val) 0 = (pn i s).val * 128 := by
  have h : ∀ (n s : Fin 4), BitVec.toNat (Scalar.indexCast (Scalar.muli (Scalar.maxsi (Scalar.subi (Scalar.addi (Scalar.muli (BitVec.ofNat 32 n.val) 4#32) (BitVec.ofNat 32 s.val)) 1#32) 0#32) 128#32)) = (n.val * 4 + s.val - 1) * 128 := by
    decide +kernel
  exact h (i 2) s

theorem off3 (i : grid1.Coords) (e : Fin 2) : k1_off3 i (BitVec.ofNat 32 e.val) 0 = (hd i e).val := by
  have h : ∀ (n : Fin 8) (e : Fin 2), BitVec.toNat (Scalar.indexCast (Scalar.addi (Scalar.muli 2#32 (BitVec.ofNat 32 n.val)) (BitVec.ofNat 32 e.val))) = 2 * n.val + e.val := by
    decide +kernel
  exact h (i 1) e

theorem rdQ (a : Memref sig .tc .vmem S512x128 .bf16) (X : a.view.ty.Contents (Elt F)) (off : Fin 2 → ℕ) (s : Fin 4) (h0 : off 0 = s.val * 128) (h1 : off 1 = 0) (inb) :
    View.readAt (Elt F) a.view (Rect.unit (s := S512x128) off S128x128.size inb).toLoadRect X = qL (a.view.read (Elt F) X) s := by
  rw [View.readAt_eq_ld]
  funext j
  unfold qL View.ld
  congr 1
  funext b
  apply Fin.ext
  match b with
  | ⟨0, _⟩ => show off 0 + 1 * (j 0).val = s.val * 128 + (j 0).val; rw [h0]; omega
  | ⟨1, _⟩ => show off 1 + 1 * (j 1).val = (j 1).val; rw [h1]; omega

theorem rdK (a : Memref sig .tc .vmem S2048x128 .bf16) (X : a.view.ty.Contents (Elt F)) (off : Fin 2 → ℕ) (n : Fin 16) (h0 : off 0 = n.val * 128) (h1 : off 1 = 0) (inb) :
    View.readAt (Elt F) a.view (Rect.unit (s := S2048x128) off S128x128.size inb).toLoadRect X = kL (a.view.read (Elt F) X) n := by
  rw [View.readAt_eq_ld]
  funext j
  unfold kL View.ld
  congr 1
  funext b
  apply Fin.ext
  match b with
  | ⟨0, _⟩ => show off 0 + 1 * (j 0).val = n.val * 128 + (j 0).val; rw [h0]; omega
  | ⟨1, _⟩ => show off 1 + 1 * (j 1).val = (j 1).val; rw [h1]; omega

theorem rdB (a : Memref sig .tc .vmem S2x128x256 .f32) (X : a.view.ty.Contents (Elt F)) (off : Fin 3 → ℕ) (e o : Fin 2) (h0 : off 0 = e.val) (h1 : off 1 = 0) (h2 : off 2 = o.val * 128) (inb) :
    View.readAt (Elt F) a.view (Rect.unit (s := S2x128x256) off S1x128x128.size inb).toLoadRect X = bL (a.view.read (Elt F) X) e o := by
  rw [View.readAt_eq_ld]
  funext j
  unfold bL View.ld
  congr 1
  funext b
  apply Fin.ext
  have hj : (j 0).val < 1 := (j 0).isLt
  match b with
  | ⟨0, _⟩ => show off 0 + 1 * (j 0).val = e.val; rw [h0]; omega
  | ⟨1, _⟩ => show off 1 + 1 * (j 1).val = (j 1).val; rw [h1]; omega
  | ⟨2, _⟩ => show off 2 + 1 * (j 2).val = o.val * 128 + (j 2).val; rw [h2]; omega

theorem rdZ (i : grid1.Coords) (a : Memref sig .tc .smem S16 .f32) (X : a.view.ty.Contents (Elt F)) (e : Fin 2) (off : Fin 1 → ℕ) (h0 : off 0 = (hd i e).val) (inb) (z) :
    View.readAt (Elt F) a.view (Rect.unit (s := S16) off S1.size inb).toLoadRect X z = a.view.read (Elt F) X (ix1 (hd i e)) := by
  rw [View.readAt_eq_ld]
  unfold View.ld
  congr 1
  funext b
  apply Fin.ext
  have hz : (z 0).val < 1 := (z 0).isLt
  match b with
  | ⟨0, _⟩ => show off 0 + 1 * (z 0).val = (hd i e).val; rw [h0]; omega

variable (c : Dev nD) (i : grid1.Coords) (arg3 : Memref sig .tc .smem S16 .f32) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2x128x256 .f32) (harg7 : arg7.IsWhole) (arg8 : Memref sig .tc .vmem S512x128 .bf16) (harg8 : arg8.IsWhole)
    (x0 : Vec F S16 .f32) (x1 : Vec F S512x128 .bf16) (x2 : Vec F S2048x128 .bf16) (x3 : Vec F S2048x128 .bf16) (x4 : Vec F S2x128x256 .f32)

/-- The block of query rows `s` of a step. -/
def sub (s : Fin 4) : FVec F S128x128 .bf16 :=
  blk (word i s) (qL x1 s) (kL x2 (qn i s)) (kL x3 (qn i s)) (kL x2 (pn i s)) (kL x3 (pn i s)) (bL x4 0 0) (bL x4 0 1) (x0 (ix1 (hd i 0))) (bL x4 1 0) (bL x4 1 1) (x0 (ix1 (hd i 1)))

theorem out_at (G : S512x128.Idx → Elt F .bf16) (hG : ∀ (s : Fin 4) (r l : Fin 128), sub i x0 x1 x2 x3 x4 s (ix2 r l) = G (ix2 ⟨s.val * 128 + r.val, by omega⟩ l)) :
    out1_A_5 c i arg3 harg3 arg4 harg4 arg5 harg5 arg6 harg6 arg7 harg7 arg8 harg8 x0 x1 x2 x3 x4 = G := by
  funext y
  unfold out1_A_5
  refine View.read_writes_apply_of_pieces _ _ G _ ?_ y (cover1_A_5 c i arg3 harg3 arg4 harg4 arg5 harg5 arg6 harg6 arg7 harg7 arg8 harg8 x0 x1 x2 x3 x4 y)
  have key : ∀ (s : Fin 4) (iq : ∀ b, (![s.val * 128, 0] : Fin 2 → ℕ) b + S128x128.size b ≤ S512x128.size b) (i1 i2) (z z' : S1.Idx) (j1 j2 j3 j4 k0 k1),
      blk (word i s) (View.readAt (Elt F) arg4.view (Rect.unit (s := S512x128) ![s.val * 128, 0] S128x128.size iq).toLoadRect (harg4.unread x1))
        (View.readAt (Elt F) arg5.view (Rect.unit (s := S2048x128) (k1_off1 i (BitVec.ofNat 32 s.val)) S128x128.size i1).toLoadRect (harg5.unread x2))
        (View.readAt (Elt F) arg6.view (Rect.unit (s := S2048x128) (k1_off1 i (BitVec.ofNat 32 s.val)) S128x128.size i1).toLoadRect (harg6.unread x3))
        (View.readAt (Elt F) arg5.view (Rect.unit (s := S2048x128) (k1_off2 i (BitVec.ofNat 32 s.val)) S128x128.size i2).toLoadRect (harg5.unread x2))
        (View.readAt (Elt F) arg6.view (Rect.unit (s := S2048x128) (k1_off2 i (BitVec.ofNat 32 s.val)) S128x128.size i2).toLoadRect (harg6.unread x3))
        (View.readAt (Elt F) arg7.view (Rect.unit (s := S2x128x256) ![0, 0, 0] S1x128x128.size j1).toLoadRect (harg7.unread x4))
        (View.readAt (Elt F) arg7.view (Rect.unit (s := S2x128x256) ![0, 0, 128] S1x128x128.size j2).toLoadRect (harg7.unread x4))
        (View.readAt (Elt F) arg3.view (Rect.unit (s := S16) (k1_off3 i 0#32) S1.size k0).toLoadRect (harg3.unread x0) z)
        (View.readAt (Elt F) arg7.view (Rect.unit (s := S2x128x256) ![1, 0, 0] S1x128x128.size j3).toLoadRect (harg7.unread x4))
        (View.readAt (Elt F) arg7.view (Rect.unit (s := S2x128x256) ![1, 0, 128] S1x128x128.size j4).toLoadRect (harg7.unread x4))
        (View.readAt (Elt F) arg3.view (Rect.unit (s := S16) (k1_off3 i 1#32) S1.size k1).toLoadRect (harg3.unread x0) z')
      = sub i x0 x1 x2 x3 x4 s := by
    intro s iq i1 i2 z z' j1 j2 j3 j4 k0 k1
    unfold sub
    rw [rdQ arg4 _ _ s rfl rfl, rdK arg5 _ _ (qn i s) (off1 i s) rfl, rdK arg6 _ _ (qn i s) (off1 i s) rfl, rdK arg5 _ _ (pn i s) (off2 i s) rfl, rdK arg6 _ _ (pn i s) (off2 i s) rfl,
      rdB arg7 _ _ 0 0 rfl rfl rfl, rdB arg7 _ _ 0 1 rfl rfl rfl, rdB arg7 _ _ 1 0 rfl rfl rfl, rdB arg7 _ _ 1 1 rfl rfl rfl, rdZ i arg3 _ 0 (k1_off3 i 0#32) (off3 i 0), rdZ i arg3 _ 1 (k1_off3 i 1#32) (off3 i 1),
      harg3.read_unread, harg4.read_unread, harg5.read_unread, harg6.read_unread, harg7.read_unread]
  have fin : ∀ (s : Fin 4) (iq : ∀ b, (![s.val * 128, 0] : Fin 2 → ℕ) b + S128x128.size b ≤ S512x128.size b) (x : S128x128.Idx),
      sub i x0 x1 x2 x3 x4 s x = G ((Rect.unit (s := S512x128) ![s.val * 128, 0] S128x128.size iq).emb x) := by
    intro s iq x
    obtain ⟨r, l, rfl⟩ : ∃ (r l : Fin 128), x = ix2 r l := ⟨x 0, x 1, by funext b; match b with | ⟨0, _⟩ => rfl | ⟨1, _⟩ => rfl⟩
    rw [hG]
    congr 1
    funext b
    apply Fin.ext
    match b with
    | ⟨0, _⟩ => show s.val * 128 + r.val = s.val * 128 + 1 * r.val; omega
    | ⟨1, _⟩ => show l.val = 0 + 1 * l.val; omega
  intro p hp x
  unfold kernelRun1_A at hp
  dsimp only at hp
  rcases List.mem_cons.mp hp with rfl | hp
  · exact (congrFun (key 3 inb_S512x128_S128x128_384_0 _ _ _ _ _ _ _ _ _ _) x).trans (fin 3 inb_S512x128_S128x128_384_0 x)
  rcases List.mem_cons.mp hp with rfl | hp
  · exact (congrFun (key 2 inb_S512x128_S128x128_256_0 _ _ _ _ _ _ _ _ _ _) x).trans (fin 2 inb_S512x128_S128x128_256_0 x)
  rcases List.mem_cons.mp hp with rfl | hp
  · exact (congrFun (key 1 inb_S512x128_S128x128_128_0 _ _ _ _ _ _ _ _ _ _) x).trans (fin 1 inb_S512x128_S128x128_128_0 x)
  rcases List.mem_cons.mp hp with rfl | hp
  · exact (congrFun (key 0 inb_S512x128_S128x128_0_0 _ _ _ _ _ _ _ _ _ _) x).trans (fin 0 inb_S512x128_S128x128_0_0 x)
  · exact absurd hp List.not_mem_nil

end Cert.SwIdeal.Step

end
-- ==== Proof.SwTile.lean ====
module

public import proofs.«01_k».proof.Proof.SwBlk
public import proofs.«01_k».proof.Proof.SwOut

/-! # Sliding window: a query block of a grid point is the layer's output -/

@[expose] public section

set_option maxRecDepth 16384

noncomputable section

namespace Cert.SwIdeal.Step

open Cert.SwIdeal Cert.SwIdeal.Gen Cert.SwMath Idealize.ShloMosaic Idealize.ShloMosaic.TcCoe Idealize.SL.Sem

/-- Only the scores and values of the keys in the window matter. -/
theorem att_congr₂ (p : ℕ → Prop) [DecidablePred p] (Z Z' V V' : ℕ → ℝ) (z : ℝ) (hZ : ∀ j, p j → Z j = Z' j) (hV : ∀ j, p j → V j = V' j) : att p Z V z = att p Z' V' z := by
  have e : ∀ j, wt p Z 0 j = wt p Z' 0 j := fun j => by
    unfold wt
    split
    · rw [hZ j ‹_›]
    · rfl
  refine (att_congr p Z V z V' fun j _ h => hV j h).trans ?_
  unfold att
  simp only [e]

/-- The row of key `j` of query block `n` within its batch: the previous block, then the block itself. -/
def krow (n j : ℕ) : ℕ := if j < 128 then (n - 1) * 128 + j else n * 128 + (j - 128)

theorem krow_ok (n r j : ℕ) (h : ok n r j) : krow n j = n * 128 + j - 128 := by
  obtain ⟨_, _, h⟩ := h
  unfold krow
  split <;> omega

theorem first (a s : Fin 4) : IntOp.cmpi .sgt (Scalar.addi (Scalar.muli (BitVec.ofNat 32 a.val) 4#32) (BitVec.ofNat 32 s.val)) 0#32 = if 0 < a.val * 4 + s.val then 1#1 else 0#1 := by
  revert a s
  decide +kernel

theorem word_pos (i : grid1.Coords) (s : Fin 4) (x y : EReal) : Scalar.select (IntOp.cmpi .sgt (word i s) 0#32) x y = if 0 < (i 2).val * 4 + s.val then x else y := by
  have e := first (i 2) s
  unfold word
  rw [e]
  split <;> rfl

variable (h : S16384x1024.Idx → EReal) (w : S1024x1536.Idx → EReal) (T : S32x16.Idx → EReal) (sk : S16.Idx → EReal)

theorem sub_at (i : grid1.Coords) (x0 : Vec Ideal S16 .f32) (x1 : Vec Ideal S512x128 .bf16) (x2 x3 : Vec Ideal S2048x128 .bf16) (x4 : Vec Ideal S2x128x256 .f32)
    (hx0 : ∀ g : Fin 16, x0 (ix1 g) = (Cert.SwSpec.S sk g.val : EReal))
    (hx1 : ∀ (r : Fin 512) (l : Fin 128), x1 (ix2 r l) = (Cert.SwSpec.P h w (((i 0).val * 4 + (i 2).val) * 512 + r.val) ((i 1).val * 128 + l.val) : EReal))
    (hx2 : ∀ (r : Fin 2048) (l : Fin 128), x2 (ix2 r l) = (Cert.SwSpec.P h w ((i 0).val * 2048 + r.val) (1024 + ((i 1).val / 2 * 64 + l.val % 64)) : EReal))
    (hx3 : ∀ (r : Fin 2048) (l : Fin 128), x3 (ix2 r l) = (Cert.SwSpec.P h w ((i 0).val * 2048 + r.val) (1280 + ((i 1).val / 2 * 64 + l.val % 64)) : EReal))
    (hx4 : ∀ (e : Fin 2) (r : Fin 128) (y : Fin 256), x4 (ix3 e r y) = (Cert.SwSpec.B T (2 * (i 1).val + e.val) r.val y.val : EReal))
    (s : Fin 4) (r l : Fin 128) :
    sub i x0 x1 x2 x3 x4 s (ix2 r l) = (Cert.SwSpec.out h w T sk (i 0).val ((i 2).val * 4 + s.val) (2 * (i 1).val + l.val / 64) r.val (l.val % 64) : EReal) := by
  have hl := l.isLt
  have own : ∀ (r : Fin 128), krow ((i 2).val * 4 + s.val) (128 + r.val) = ((i 2).val * 4 + s.val) * 128 + r.val := fun r => by
    unfold krow
    rw [if_neg (by omega)]
    omega
  have prev : ∀ (r : Fin 128), krow ((i 2).val * 4 + s.val) r.val = ((i 2).val * 4 + s.val - 1) * 128 + r.val := fun r => if_pos r.isLt
  unfold sub
  refine (blk_at (n := (i 2).val * 4 + s.val) (Q := fun r d => Cert.SwSpec.P h w ((i 0).val * 2048 + (((i 2).val * 4 + s.val) * 128 + r)) ((i 1).val * 128 + d))
    (K := fun j d => Cert.SwSpec.P h w ((i 0).val * 2048 + krow ((i 2).val * 4 + s.val) j) (1024 + ((i 1).val / 2 * 64 + d % 64)))
    (W := fun j d => Cert.SwSpec.P h w ((i 0).val * 2048 + krow ((i 2).val * 4 + s.val) j) (1280 + ((i 1).val / 2 * 64 + d % 64)))
    (B0 := fun r j => Cert.SwSpec.B T (2 * (i 1).val + 0) r j) (B1 := fun r j => Cert.SwSpec.B T (2 * (i 1).val + 1) r j)
    (s0 := Cert.SwSpec.S sk (2 * (i 1).val + 0)) (s1 := Cert.SwSpec.S sk (2 * (i 1).val + 1)) (r := r) (l := l) (hn := word_pos i s)
    (hq := fun r d => (hx1 _ d).trans (congrArg (fun z => ((Cert.SwSpec.P h w z ((i 1).val * 128 + d.val) : ℝ) : EReal)) (show ((i 0).val * 4 + (i 2).val) * 512 + (s.val * 128 + r.val) = (i 0).val * 2048 + (((i 2).val * 4 + s.val) * 128 + r.val) by omega)))
    (hkp := fun r d => (hx2 _ d).trans (by rw [prev]; rfl)) (hkq := fun r d => (hx2 _ d).trans (by rw [own]; rfl))
    (hvp := fun r d => (hx3 _ d).trans (by rw [prev]; rfl)) (hvq := fun r d => (hx3 _ d).trans (by rw [own]; rfl))
    (hb0 := fun r j => (hx4 0 r _).trans (congrArg (fun z => ((Cert.SwSpec.B T (2 * (i 1).val + 0) r.val z : ℝ) : EReal)) (show 0 * 128 + j.val = j.val by omega)))
    (hc0 := fun r j => (hx4 0 r _).trans (congrArg (fun z => ((Cert.SwSpec.B T (2 * (i 1).val + 0) r.val z : ℝ) : EReal)) (show 1 * 128 + j.val = 128 + j.val by omega)))
    (hb1 := fun r j => (hx4 1 r _).trans (congrArg (fun z => ((Cert.SwSpec.B T (2 * (i 1).val + 1) r.val z : ℝ) : EReal)) (show 0 * 128 + j.val = j.val by omega)))
    (hc1 := fun r j => (hx4 1 r _).trans (congrArg (fun z => ((Cert.SwSpec.B T (2 * (i 1).val + 1) r.val z : ℝ) : EReal)) (show 1 * 128 + j.val = 128 + j.val by omega)))
    (hz0 := hx0 (hd i 0)) (hz1 := hx0 (hd i 1))).trans ?_
  refine congrArg (fun z : ℝ => (z : EReal)) ?_
  unfold Cert.SwSpec.out
  have hh : ∀ e < 2, (2 * (i 1).val + e) / 4 = (i 1).val / 2 := fun e he => by omega
  by_cases c : l.val < 64
  · have e : 2 * (i 1).val + l.val / 64 = 2 * (i 1).val + 0 := by omega
    rw [if_pos c, e]
    refine att_congr₂ _ _ _ _ _ _ (fun j hj => ?_) (fun j hj => ?_)
    · unfold Cert.SwSpec.Z
      refine congrArg (fun z : ℝ => z * 0.125 + Cert.SwSpec.B T (2 * (i 1).val + 0) r.val j) (Finset.sum_congr rfl fun d _ => ?_)
      rw [krow_ok _ _ _ hj, hh 0 (by decide), show (2 * (i 1).val + 0) * 64 + d.val = (i 1).val * 128 + d.val by omega, Nat.mod_eq_of_lt d.isLt]
    · unfold Cert.SwSpec.V
      rw [krow_ok _ _ _ hj, hh 0 (by decide)]
  · have e : 2 * (i 1).val + l.val / 64 = 2 * (i 1).val + 1 := by omega
    rw [if_neg c, e]
    refine att_congr₂ _ _ _ _ _ _ (fun j hj => ?_) (fun j hj => ?_)
    · unfold Cert.SwSpec.Z
      refine congrArg (fun z : ℝ => z * 0.125 + Cert.SwSpec.B T (2 * (i 1).val + 1) r.val j) (Finset.sum_congr rfl fun d _ => ?_)
      have hd := d.isLt
      rw [krow_ok _ _ _ hj, hh 1 (by decide), show (2 * (i 1).val + 1) * 64 + d.val = (i 1).val * 128 + (64 + d.val) by omega, show (64 + d.val) % 64 = d.val by omega]
    · unfold Cert.SwSpec.V
      rw [krow_ok _ _ _ hj, hh 1 (by decide)]

end Cert.SwIdeal.Step

end
-- ==== Proof.SwRef.lean ====
module

public import proofs.«01_k».proof.Proof.SwSpec
public import proofs.«01_k».proof.Proof.Gen.SwRefIdeal.Read
public import Idealize.ShloMosaic.Lib.ValueIdxRank6
public import Idealize.ShloMosaic.Lib.KernelVsHost

/-! # Sliding-window attention: the reference's projection, window and bias read at an index -/

@[expose] public section

set_option maxRecDepth 16384

noncomputable section

namespace Cert.SwRefIdeal.At

open Cert.SwRefIdeal Cert.SwRefIdeal.Gen Cert.SwRefIdeal.Read Cert.EMath Cert.DaBias Cert.SwMath Cert.SwSpec Idealize.ShloMosaic Idealize.ShloMosaic.TcCoe Idealize.SL.Sem

/-! ## The projection -/

section Proj

variable (x0 : (⟨S16384x1024, .bf16⟩ : BufTy).Contents (Elt Ideal)) (x1 : (⟨S1024x1536, .f32⟩ : BufTy).Contents (Elt Ideal))
  (h0 : ∀ i, ∃ x : ℝ, (x0 i : EReal) = (x : EReal)) (h1 : ∀ i, ∃ x : ℝ, (x1 i : EReal) = (x : EReal))
include h0 h1

theorem v1_at (i : S16384x1536.Idx) (R C : ℕ) (hR : (i 0).val = R) (hC : (i 1).val = C) : val_main_v1 (F := Ideal) x0 x1 i = (P x0 x1 R C : EReal) := by
  subst hR hC
  rw [val_main_v1_apply]
  refine Eq.trans (Finset.sum_congr rfl fun k _ => ?_) (prod x0 x1 h0 h1 (i 0) (i 1))
  rw [val_main_v0_apply]
  refine congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem v5_at (b : Fin 8) (n : Fin 16) (g m : Fin 4) (r : Fin 128) (d : Fin 64) :
    val_main_v5 (F := Ideal) x0 x1 (ix6 b n r g m d) = (P x0 x1 (b.val * 2048 + (n.val * 128 + r.val)) ((4 * g.val + m.val) * 64 + d.val) : EReal) := by
  unfold val_main_v5
  refine (shapeCast_apply _ shapeCasts_S16384x1024_S8x16x128x4x4x64 (ix6 b n r g m d)
    (ix2 (⟨b.val * 2048 + (n.val * 128 + r.val), by omega⟩ : Fin 16384) (⟨(4 * g.val + m.val) * 64 + d.val, by omega⟩ : Fin 1024)) ?_).trans ?_
  · rewrite [Shape.rowMajor_val_two, Shape.rowMajor_val_six]
    show (b.val * 2048 + (n.val * 128 + r.val)) * 1024 + ((4 * g.val + m.val) * 64 + d.val) = ((((b.val * 16 + n.val) * 128 + r.val) * 4 + g.val) * 4 + m.val) * 64 + d.val
    omega
  · rw [val_main_v2_apply]
    exact v1_at x0 x1 h0 h1 _ _ _ rfl rfl

theorem v6_at (b : Fin 8) (n : Fin 16) (r : Fin 128) (g : Fin 4) (d : Fin 64) :
    val_main_v6 (F := Ideal) x0 x1 (ix5 b n r g d) = (P x0 x1 (b.val * 2048 + (n.val * 128 + r.val)) (1024 + (g.val * 64 + d.val)) : EReal) := by
  rw [val_main_v6_apply, val_main_v3_apply]
  refine v1_at x0 x1 h0 h1 _ _ _ ?_ ?_
  · show ((((b.val * 16 + n.val) * 128 + r.val) * 4 + g.val) * 64 + d.val) / 256 = _
    omega
  · show 1024 + ((((b.val * 16 + n.val) * 128 + r.val) * 4 + g.val) * 64 + d.val) % 256 = _
    omega

theorem v7_at (b : Fin 8) (n : Fin 16) (r : Fin 128) (g : Fin 4) (d : Fin 64) :
    val_main_v7 (F := Ideal) x0 x1 (ix5 b n r g d) = (P x0 x1 (b.val * 2048 + (n.val * 128 + r.val)) (1280 + (g.val * 64 + d.val)) : EReal) := by
  rw [val_main_v7_apply, val_main_v4_apply]
  refine v1_at x0 x1 h0 h1 _ _ _ ?_ ?_
  · show ((((b.val * 16 + n.val) * 128 + r.val) * 4 + g.val) * 64 + d.val) / 256 = _
    omega
  · show 1280 + ((((b.val * 16 + n.val) * 128 + r.val) * 4 + g.val) * 64 + d.val) % 256 = _
    omega

/-- The keys of a window, where it holds a position. -/
theorem v10_at (b : Fin 8) (n : Fin 16) (j : Fin 256) (g : Fin 4) (d : Fin 64) (hj : 0 < n.val ∨ 128 ≤ j.val) :
    val_main_v10 (F := Ideal) x0 x1 (ix5 b n j g d) = (P x0 x1 (b.val * 2048 + (n.val * 128 + j.val - 128)) (1024 + (g.val * 64 + d.val)) : EReal) := by
  unfold val_main_v10
  have hn := n.isLt
  have hjl := j.isLt
  by_cases h : j.val < 128
  · have hn0 : 0 < n.val := by omega
    refine (concatenate_pair_apply_left 2 _ _ concatenates_S8x16x128x4x64_S8x16x128x4x64_S8x16x256x4x64_d2 (ix5 b n j g d) rfl (ix5 b n (⟨j.val, h⟩ : Fin 128) g d) (fun a => match a with
      | ⟨0, _⟩ => rfl
      | ⟨1, _⟩ => rfl
      | ⟨2, _⟩ => rfl
      | ⟨3, _⟩ => rfl
      | ⟨4, _⟩ => rfl)).trans ?_
    unfold val_main_v9
    refine (pad_apply_of_inside _ _ _ _ _ _ _ _ (ix5 (n0 := 8) (n1 := 15) (n2 := 128) (n3 := 4) (n4 := 64) b ⟨n.val - 1, by omega⟩ ⟨j.val, h⟩ g d) ?_).trans ?_
    · intro a
      match a with
      | ⟨0, _⟩ => show b.val = 0 + b.val * (0 + 1); omega
      | ⟨1, _⟩ => show n.val = 1 + (n.val - 1) * (0 + 1); omega
      | ⟨2, _⟩ => show j.val = 0 + j.val * (0 + 1); omega
      | ⟨3, _⟩ => show g.val = 0 + g.val * (0 + 1); omega
      | ⟨4, _⟩ => show d.val = 0 + d.val * (0 + 1); omega
    · rw [val_main_v8_apply]
      refine (congrArg _ (funext fun a => ?_)).trans (((v6_at x0 x1 h0 h1 b (⟨n.val - 1, by omega⟩ : Fin 16) (⟨j.val, h⟩ : Fin 128) g d)).trans ?_)
      · match a with
        | ⟨0, _⟩ => rfl
        | ⟨1, _⟩ => rfl
        | ⟨2, _⟩ => rfl
        | ⟨3, _⟩ => rfl
        | ⟨4, _⟩ => rfl
      · show ((P x0 x1 (b.val * 2048 + ((n.val - 1) * 128 + j.val)) _ : ℝ) : EReal) = _
        rw [show (n.val - 1) * 128 + j.val = n.val * 128 + j.val - 128 by omega]
  · refine (concatenate_pair_apply_right 2 _ _ concatenates_S8x16x128x4x64_S8x16x128x4x64_S8x16x256x4x64_d2 (ix5 b n j g d) rfl rfl (ix5 b n (⟨j.val - 128, by omega⟩ : Fin 128) g d) (fun a => match a with
      | ⟨0, _⟩ => fun _ => rfl
      | ⟨1, _⟩ => fun _ => rfl
      | ⟨2, _⟩ => fun h => absurd rfl h
      | ⟨3, _⟩ => fun _ => rfl
      | ⟨4, _⟩ => fun _ => rfl) (show j.val - 128 + 128 = j.val by omega)).trans ?_
    refine (v6_at x0 x1 h0 h1 b n (⟨j.val - 128, by omega⟩ : Fin 128) g d).trans ?_
    show ((P x0 x1 (b.val * 2048 + (n.val * 128 + (j.val - 128))) _ : ℝ) : EReal) = _
    rw [show n.val * 128 + (j.val - 128) = n.val * 128 + j.val - 128 by omega]

/-- The padded keys are real numbers. -/
theorem v10_real (b : Fin 8) (n : Fin 16) (j : Fin 256) (g : Fin 4) (d : Fin 64) : ∃ u : ℝ, val_main_v10 (F := Ideal) x0 x1 (ix5 b n j g d) = (u : EReal) := by
  by_cases hj : 0 < n.val ∨ 128 ≤ j.val
  · exact ⟨_, v10_at x0 x1 h0 h1 b n j g d hj⟩
  · refine ⟨0, ?_⟩
    have h : j.val < 128 := by omega
    unfold val_main_v10
    refine (concatenate_pair_apply_left 2 _ _ concatenates_S8x16x128x4x64_S8x16x128x4x64_S8x16x256x4x64_d2 (ix5 b n j g d) rfl (ix5 b n (⟨j.val, h⟩ : Fin 128) g d) (fun a => match a with
      | ⟨0, _⟩ => rfl
      | ⟨1, _⟩ => rfl
      | ⟨2, _⟩ => rfl
      | ⟨3, _⟩ => rfl
      | ⟨4, _⟩ => rfl)).trans ?_
    unfold val_main_v9
    refine (pad_apply_of_not_inside _ _ _ _ _ _ _ _ 1 ?_).trans ?_
    · intro hh
      have : 1 ≤ n.val := hh.1
      omega
    · rw [val_main_call0_v0_apply]
      show (((0#32 : BitVec 32).toInt : ℝ) : EReal) = _
      norm_num

/-- The values of a window, where it holds a position. -/
theorem v13_at (b : Fin 8) (n : Fin 16) (j : Fin 256) (g : Fin 4) (d : Fin 64) (hj : 0 < n.val ∨ 128 ≤ j.val) :
    val_main_v13 (F := Ideal) x0 x1 (ix5 b n j g d) = (P x0 x1 (b.val * 2048 + (n.val * 128 + j.val - 128)) (1280 + (g.val * 64 + d.val)) : EReal) := by
  unfold val_main_v13
  have hn := n.isLt
  have hjl := j.isLt
  by_cases h : j.val < 128
  · have hn0 : 0 < n.val := by omega
    refine (concatenate_pair_apply_left 2 _ _ concatenates_S8x16x128x4x64_S8x16x128x4x64_S8x16x256x4x64_d2 (ix5 b n j g d) rfl (ix5 b n (⟨j.val, h⟩ : Fin 128) g d) (fun a => match a with
      | ⟨0, _⟩ => rfl
      | ⟨1, _⟩ => rfl
      | ⟨2, _⟩ => rfl
      | ⟨3, _⟩ => rfl
      | ⟨4, _⟩ => rfl)).trans ?_
    unfold val_main_v12
    refine (pad_apply_of_inside _ _ _ _ _ _ _ _ (ix5 (n0 := 8) (n1 := 15) (n2 := 128) (n3 := 4) (n4 := 64) b ⟨n.val - 1, by omega⟩ ⟨j.val, h⟩ g d) ?_).trans ?_
    · intro a
      match a with
      | ⟨0, _⟩ => show b.val = 0 + b.val * (0 + 1); omega
      | ⟨1, _⟩ => show n.val = 1 + (n.val - 1) * (0 + 1); omega
      | ⟨2, _⟩ => show j.val = 0 + j.val * (0 + 1); omega
      | ⟨3, _⟩ => show g.val = 0 + g.val * (0 + 1); omega
      | ⟨4, _⟩ => show d.val = 0 + d.val * (0 + 1); omega
    · rw [val_main_v11_apply]
      refine (congrArg _ (funext fun a => ?_)).trans (((v7_at x0 x1 h0 h1 b (⟨n.val - 1, by omega⟩ : Fin 16) (⟨j.val, h⟩ : Fin 128) g d)).trans ?_)
      · match a with
        | ⟨0, _⟩ => rfl
        | ⟨1, _⟩ => rfl
        | ⟨2, _⟩ => rfl
        | ⟨3, _⟩ => rfl
        | ⟨4, _⟩ => rfl
      · show ((P x0 x1 (b.val * 2048 + ((n.val - 1) * 128 + j.val)) _ : ℝ) : EReal) = _
        rw [show (n.val - 1) * 128 + j.val = n.val * 128 + j.val - 128 by omega]
  · refine (concatenate_pair_apply_right 2 _ _ concatenates_S8x16x128x4x64_S8x16x128x4x64_S8x16x256x4x64_d2 (ix5 b n j g d) rfl rfl (ix5 b n (⟨j.val - 128, by omega⟩ : Fin 128) g d) (fun a => match a with
      | ⟨0, _⟩ => fun _ => rfl
      | ⟨1, _⟩ => fun _ => rfl
      | ⟨2, _⟩ => fun h => absurd rfl h
      | ⟨3, _⟩ => fun _ => rfl
      | ⟨4, _⟩ => fun _ => rfl) (show j.val - 128 + 128 = j.val by omega)).trans ?_
    refine (v7_at x0 x1 h0 h1 b n (⟨j.val - 128, by omega⟩ : Fin 128) g d).trans ?_
    show ((P x0 x1 (b.val * 2048 + (n.val * 128 + (j.val - 128))) _ : ℝ) : EReal) = _
    rw [show n.val * 128 + (j.val - 128) = n.val * 128 + j.val - 128 by omega]

/-- The padded values are real numbers. -/
theorem v13_real (b : Fin 8) (n : Fin 16) (j : Fin 256) (g : Fin 4) (d : Fin 64) : ∃ u : ℝ, val_main_v13 (F := Ideal) x0 x1 (ix5 b n j g d) = (u : EReal) := by
  by_cases hj : 0 < n.val ∨ 128 ≤ j.val
  · exact ⟨_, v13_at x0 x1 h0 h1 b n j g d hj⟩
  · refine ⟨0, ?_⟩
    have h : j.val < 128 := by omega
    unfold val_main_v13
    refine (concatenate_pair_apply_left 2 _ _ concatenates_S8x16x128x4x64_S8x16x128x4x64_S8x16x256x4x64_d2 (ix5 b n j g d) rfl (ix5 b n (⟨j.val, h⟩ : Fin 128) g d) (fun a => match a with
      | ⟨0, _⟩ => rfl
      | ⟨1, _⟩ => rfl
      | ⟨2, _⟩ => rfl
      | ⟨3, _⟩ => rfl
      | ⟨4, _⟩ => rfl)).trans ?_
    unfold val_main_v12
    refine (pad_apply_of_not_inside _ _ _ _ _ _ _ _ 1 ?_).trans ?_
    · intro hh
      have : 1 ≤ n.val := hh.1
      omega
    · rw [val_main_call1_v0_apply]
      show (((0#32 : BitVec 32).toInt : ℝ) : EReal) = _
      norm_num

end Proj

/-! ## The window -/

theorem in_window : ∀ (r : Fin 128) (j : Fin 256), IntOp.andi (IntOp.cmpi .sge (BitVec.ofNat 32 r.val + 128#32 - BitVec.ofNat 32 j.val) 0#32)
    (IntOp.cmpi .slt (BitVec.ofNat 32 r.val + 128#32 - BitVec.ofNat 32 j.val) 128#32) = BitVec.ofBool (decide (r.val < j.val ∧ j.val ≤ r.val + 128)) := by decide +kernel

theorem in_range : ∀ (n : Fin 16) (j : Fin 256), IntOp.cmpi .sge (BitVec.ofNat 32 n.val * 128#32 - 128#32 + BitVec.ofNat 32 j.val) 0#32 = BitVec.ofBool (decide (0 < n.val ∨ 128 ≤ j.val)) := by decide +kernel

theorem and_bits : ∀ a b : Bool, IntOp.andi (BitVec.ofBool a) (BitVec.ofBool b) = BitVec.ofBool (a && b) := by decide

theorem v22_at (r : Fin 128) (j : Fin 256) : val_main_v22 (F := Ideal) (ix2 r j) = BitVec.ofNat 32 r.val + 128#32 - BitVec.ofNat 32 j.val := by
  rw [val_main_v22_apply, val_main_v20_apply, val_main_v21_apply, val_main_v19_apply, val_main_v17_apply, val_main_v18_apply, val_main_v15_apply]
  rfl

theorem v43_at (n : Fin 16) (r : Fin 128) (j : Fin 256) : val_main_v43 (F := Ideal) (ix3 n r j) = BitVec.ofBool (decide (ok n.val r.val j.val)) := by
  have e27 : val_main_v27 (F := Ideal) (ix2 r j) = BitVec.ofBool (decide (r.val < j.val ∧ j.val ≤ r.val + 128)) := by
    rw [← in_window, val_main_v27_apply, val_main_v24_apply, val_main_v26_apply, v22_at, val_main_v23_apply, val_main_v25_apply]
    rfl
  have e40 : val_main_v40 (F := Ideal) (ix3 n 0 j) = BitVec.ofBool (decide (0 < n.val ∨ 128 ≤ j.val)) := by
    rw [← in_range, val_main_v40_apply, val_main_v38_apply, val_main_v36_apply, val_main_v37_apply, val_main_v34_apply, val_main_v32_apply, val_main_v29_apply, val_main_v35_apply, val_main_v17_apply,
      val_main_v39_apply, val_main_v31_apply, val_main_v33_apply]
    rfl
  have i41 : idx_main_v30 (idx_main_v41 (ix3 n r j)) = ix2 r j := funext fun a => match a with
    | ⟨0, _⟩ => rfl
    | ⟨1, _⟩ => rfl
  have i42 : idx_main_v42 (ix3 n r j) = ix3 n 0 j := funext fun a => match a with
    | ⟨0, _⟩ => rfl
    | ⟨1, _⟩ => rfl
    | ⟨2, _⟩ => rfl
  rw [val_main_v43_apply, val_main_v41_apply, val_main_v42_apply, val_main_v30_apply, i41, i42, e27, e40]
  rw [and_bits, ← Bool.decide_and]
  exact congrArg BitVec.ofBool (decide_eq_decide.mpr and_assoc)

/-! ## The bias -/

theorem v68_at (r : Fin 128) (j : Fin 256) : val_main_v68 (F := Ideal) (ix2 r j) = bkt (BitVec.ofNat 32 r.val + 128#32 - BitVec.ofNat 32 j.val) := by
  have e45 : val_main_v45 (F := Ideal) (ix2 r j) = IntOp.maxsi (BitVec.ofNat 32 r.val + 128#32 - BitVec.ofNat 32 j.val) 0#32 := by
    rw [val_main_v45_apply, v22_at, val_main_v44_apply]
    rfl
  have e60 : val_main_v60 (F := Ideal) (ix2 r j) = IntOp.minsi (16#32 + lnb (((IntOp.maxsi (IntOp.maxsi (BitVec.ofNat 32 r.val + 128#32 - BitVec.ofNat 32 j.val) 0#32) 1#32).toInt : ℝ) : EReal)) 31#32 := by
    rw [val_main_v60_apply, val_main_v58_apply, val_main_v57_apply, val_main_v59_apply, val_main_v56_apply, val_main_v55_apply, val_main_v53_apply, val_main_v54_apply,
      val_main_v51_apply, val_main_v52_apply, val_main_v50_apply, val_main_v49_apply, val_main_v48_apply, val_main_v47_apply, val_main_v46_apply, e45]
    rfl
  have e63 : val_main_v63 (F := Ideal) (ix2 r j) = big (BitVec.ofNat 32 r.val + 128#32 - BitVec.ofNat 32 j.val) := by
    rw [val_main_v63_apply, val_main_v62_apply, val_main_v61_apply, e45, e60]
    rfl
  rw [val_main_v68_apply, val_main_v65_apply, val_main_v64_apply, val_main_v67_apply, val_main_v66_apply, e63]
  rfl

/-- The table, gathered at a row. -/
theorem gather_band (x : S32x16.Idx → EReal) (ix : IVec S128x256x1 32) (r : Fin 128) (y : Fin 256) (h : Fin 16) :
    Host.gather gather_S32x16_S128x256x1_S128x256x16_2_0_n_n_0_2_116 x ix (ix3 r y h)
      = x (ix2 ⟨min (ix (ix3 r y 0)).toInt.toNat 31, by omega⟩ h) := by
  have hsi : GatherDims.siIdx gather_S32x16_S128x256x1_S128x256x16_2_0_n_n_0_2_116 (ix3 r y h) ⟨List.idxOf (0 : Fin 2) gather_S32x16_S128x256x1_S128x256x16_2_0_n_n_0_2_116.startIndexMap,
      List.idxOf_lt_length_iff.2 (List.mem_singleton.mpr rfl)⟩ = ix3 r y 0 := by
    funext b; refine Fin.ext ?_
    match b with
    | ⟨0, _⟩ => rfl
    | ⟨1, _⟩ => rfl
    | ⟨2, _⟩ => rfl
  have s0 : gather_S32x16_S128x256x1_S128x256x16_2_0_n_n_0_2_116.start (ix3 r y h) ix (0 : Fin 2) + gather_S32x16_S128x256x1_S128x256x16_2_0_n_n_0_2_116.batchCoord (ix3 r y h) (0 : Fin 2) + gather_S32x16_S128x256x1_S128x256x16_2_0_n_n_0_2_116.offCoord (ix3 r y h) (0 : Fin 2)
      = min (ix (ix3 r y 0)).toInt.toNat 31 := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x16_S128x256x1_S128x256x16_2_0_n_n_0_2_116.startIndexMap from List.mem_singleton.mpr rfl), hsi]
    rfl
  have s1 : gather_S32x16_S128x256x1_S128x256x16_2_0_n_n_0_2_116.start (ix3 r y h) ix (1 : Fin 2) + gather_S32x16_S128x256x1_S128x256x16_2_0_n_n_0_2_116.batchCoord (ix3 r y h) (1 : Fin 2) + gather_S32x16_S128x256x1_S128x256x16_2_0_n_n_0_2_116.offCoord (ix3 r y h) (1 : Fin 2)
      = h.val := by
    rw [GatherDims.batchCoord_eq_zero _ _ _ List.not_mem_nil]
    unfold GatherDims.start GatherDims.offCoord
    rw [dif_neg (show ¬ (1 : Fin 2) ∈ gather_S32x16_S128x256x1_S128x256x16_2_0_n_n_0_2_116.startIndexMap by decide), dif_pos (show (1 : Fin 2) ∈ gather_S32x16_S128x256x1_S128x256x16_2_0_n_n_0_2_116.sKept by decide)]
    simp only [Nat.zero_add]
    rfl
  unfold Host.gather
  congr 1
  funext a
  refine Fin.ext ?_
  match a with
  | ⟨0, _⟩ => exact s0
  | ⟨1, _⟩ => exact s1

theorem pick (x : S32x16.Idx → EReal) (a b : Fin 32) (e : a.val = b.val) (h : Fin 16) : x (ix2 a h) = x (ix2 b h) := by
  rw [Fin.ext e]

theorem v72_at (x2 : (⟨S32x16, .f32⟩ : BufTy).Contents (Elt Ideal)) (h2 : ∀ i, ∃ x : ℝ, (x2 i : EReal) = (x : EReal)) (g m : Fin 4) (r : Fin 128) (j : Fin 256) :
    val_main_v72 (F := Ideal) x2 (ix4 g m r j) = (B x2 (4 * g.val + m.val) r.val j.val : EReal) := by
  have e69 : val_main_v69 (F := Ideal) (ix3 r j 0) = bkt (128#32 + BitVec.ofNat 32 r.val - BitVec.ofNat 32 j.val) := by
    rw [val_main_v69_apply, BitVec.add_comm (128#32)]
    exact v68_at r j
  have ei : idx_main_v71 (idx_main_v72 (ix4 g m r j)) = ix3 r j (⟨4 * g.val + m.val, by omega⟩ : Fin 16) := funext fun a => match a with
    | ⟨0, _⟩ => Fin.ext (show (((r.val * 256 + j.val) * 4 + g.val) * 4 + m.val) / 4096 = r.val by omega)
    | ⟨1, _⟩ => Fin.ext (show (((r.val * 256 + j.val) * 4 + g.val) * 4 + m.val) / 16 % 256 = j.val by omega)
    | ⟨2, _⟩ => Fin.ext (show (((r.val * 256 + j.val) * 4 + g.val) * 4 + m.val) % 16 = 4 * g.val + m.val by omega)
  rw [val_main_v72_apply, val_main_v71_apply, ei]
  have hr : ∀ d, (row d).val = min (bkt d).toInt.toNat 31 := fun _ => rfl
  unfold val_main_v70
  generalize val_main_v69 (F := Ideal) = ix at e69 ⊢
  rw [gather_band]
  refine Eq.trans (pick x2 _ _ ?_ _) (bias x2 h2 (⟨4 * g.val + m.val, by omega⟩ : Fin 16) r.val j.val)
  rw [hr]
  show min (ix (ix3 r j 0)).toInt.toNat 31 = min (bkt (128#32 + BitVec.ofNat 32 r.val - BitVec.ofNat 32 j.val)).toInt.toNat 31
  rw [e69]

end Cert.SwRefIdeal.At

end
-- ==== Proof.SwHost.lean ====
module

public import proofs.«01_k».proof.Proof.DaBias
public import proofs.«01_k».proof.Proof.SwRef
public import proofs.«01_k».proof.Proof.Gen.SwIdeal
public import proofs.«01_k».proof.Proof.Gen.SwIdeal.Frame
public import Idealize.ShloMosaic.Lib.KernelVsHost

/-! # Sliding window: the arrays the two calls are launched on, at an entry -/

@[expose] public section

set_option maxRecDepth 16384

noncomputable section

namespace Cert.SwIdeal.Launched

open Cert.SwIdeal Cert.SwIdeal.Gen Cert.DaBias Cert.EMath Idealize.ShloMosaic Idealize.ShloMosaic.TcCoe Idealize.SL.Sem

variable (m : (ℓ : Loc nD τ sig) → Buf (Elt Ideal) ℓ) (ρ : Dev nD → PrngReg)

/-- The arguments, as arrays of extended reals. -/
abbrev A0 (c : Dev nD) : S16384x1024.Idx → EReal := m ((c : Thread nD τ).loc main_arg0)
abbrev A1 (c : Dev nD) : S1024x1536.Idx → EReal := m ((c : Thread nD τ).loc main_arg1)
abbrev A2 (c : Dev nD) : S32x16.Idx → EReal := m ((c : Thread nD τ).loc main_arg2)
abbrev A3 (c : Dev nD) : S16.Idx → EReal := m ((c : Thread nD τ).loc main_arg3)

/-! ## The weights with every key and value group written twice -/

/-- The column of the weights that stands at a column of the widened weights. -/
def src (C : ℕ) : ℕ := if C < 1024 then C else 1024 + ((C - 1024) / 128 * 64 + C % 64)

theorem src_lt (C : Fin 2048) : src C.val < 1536 := by
  have := C.isLt
  unfold src
  split <;> omega

theorem cat_lo (y z : S1024x1024.Idx → EReal) (k : Fin 1024) (C : Fin 2048) (h : C.val < 1024) :
    concatenate S1024x2048 1 [⟨S1024x1024, y⟩, ⟨S1024x1024, z⟩] concatenates_S1024x1024_S1024x1024_S1024x2048_d1 (ix2 k C) = y (ix2 k (⟨C.val, h⟩ : Fin 1024)) :=
  concatenate_pair_apply_left 1 y z concatenates_S1024x1024_S1024x1024_S1024x2048_d1 (ix2 k C) rfl (ix2 k (⟨C.val, h⟩ : Fin 1024)) (fun a => match a with
    | ⟨0, _⟩ => rfl
    | ⟨1, _⟩ => rfl)

theorem cat_hi (y z : S1024x1024.Idx → EReal) (k : Fin 1024) (C : Fin 2048) (e : Fin 1024) (h : e.val + 1024 = C.val) :
    concatenate S1024x2048 1 [⟨S1024x1024, y⟩, ⟨S1024x1024, z⟩] concatenates_S1024x1024_S1024x1024_S1024x2048_d1 (ix2 k C) = z (ix2 k e) :=
  concatenate_pair_apply_right 1 y z concatenates_S1024x1024_S1024x1024_S1024x2048_d1 (ix2 k C) rfl rfl (ix2 k e) (fun a => match a with
    | ⟨0, _⟩ => fun _ => rfl
    | ⟨1, _⟩ => fun h => absurd rfl h) h

theorem twice_at (w : S1024x1536.Idx → EReal) (k : Fin 1024) (p : Fin 8) (e : Fin 2) (d : Fin 64) :
    shapeCast S1024x1024 (broadcastInDim S1024x8x2x64 ![0, 1, 2, 3] bcast_S1024x8x1x64_S1024x8x2x64_0_1_2_3 (shapeCast S1024x8x1x64 (extractStridedSlice S1024x512 ![0, 1024] w slices_S1024x1536_S1024x512_0_1024) shapeCasts_S1024x512_S1024x8x1x64)) shapeCasts_S1024x8x2x64_S1024x1024
        (ix2 k (⟨p.val * 128 + e.val * 64 + d.val, by omega⟩ : Fin 1024))
      = w (ix2 k (⟨1024 + (p.val * 64 + d.val), by omega⟩ : Fin 1536)) := by
  refine (shapeCast_apply _ shapeCasts_S1024x8x2x64_S1024x1024 _ (ix4 k p e d) ?_).trans ?_
  · rewrite [Shape.rowMajor_val_two, Shape.rowMajor_val_four]
    show ((k.val * 8 + p.val) * 2 + e.val) * 64 + d.val = k.val * 1024 + (p.val * 128 + e.val * 64 + d.val)
    omega
  refine Eq.trans (b := shapeCast S1024x8x1x64 (extractStridedSlice S1024x512 ![0, 1024] w slices_S1024x1536_S1024x512_0_1024) shapeCasts_S1024x512_S1024x8x1x64 (ix4 k p 0 d)) ?_ ?_
  · pointwise []
  refine (shapeCast_apply _ shapeCasts_S1024x512_S1024x8x1x64 _ (ix2 k (⟨p.val * 64 + d.val, by omega⟩ : Fin 512)) ?_).trans ?_
  · rewrite [Shape.rowMajor_val_two, Shape.rowMajor_val_four]
    show k.val * 512 + (p.val * 64 + d.val) = ((k.val * 8 + p.val) * 1 + 0) * 64 + d.val
    omega
  · pointwise []

theorem v6_eq (c : Dev nD) : (V1 m ρ c main_v6 : S1024x2048.Idx → EReal)
    = concatenate S1024x2048 1 [⟨S1024x1024, extractStridedSlice S1024x1024 ![0, 0] (A1 m c) slices_S1024x1536_S1024x1024_0_0⟩, ⟨S1024x1024,
        shapeCast S1024x1024 (broadcastInDim S1024x8x2x64 ![0, 1, 2, 3] bcast_S1024x8x1x64_S1024x8x2x64_0_1_2_3 (shapeCast S1024x8x1x64 (extractStridedSlice S1024x512 ![0, 1024] (A1 m c) slices_S1024x1536_S1024x512_0_1024) shapeCasts_S1024x512_S1024x8x1x64)) shapeCasts_S1024x8x2x64_S1024x1024⟩]
        concatenates_S1024x1024_S1024x1024_S1024x2048_d1 := by
  show StableHlo.after hostOps0 _ main_v6 = _
  after_results
  rfl

/-- The widened weights. -/
theorem v6_at (c : Dev nD) (k : Fin 1024) (C : Fin 2048) :
    (V1 m ρ c main_v6 : S1024x2048.Idx → EReal) (ix2 k C) = A1 m c (ix2 k (⟨src C.val, src_lt C⟩ : Fin 1536)) := by
  have hC := C.isLt
  rw [v6_eq]
  by_cases h : C.val < 1024
  · rw [cat_lo _ _ k C h]
    have e : src C.val = C.val := if_pos h
    refine Eq.trans (b := A1 m c (ix2 k (⟨C.val, by omega⟩ : Fin 1536))) ?_ (congrArg (fun z => A1 m c (ix2 k z)) (Fin.ext e.symm))
    generalize A1 m c = w
    show w _ = w _
    congr 1
    funext a
    match a with
    | ⟨0, _⟩ => exact Fin.ext (show 0 + k.val = k.val by omega)
    | ⟨1, _⟩ => exact Fin.ext (show 0 + C.val = C.val by omega)
  · have e : src C.val = 1024 + ((C.val - 1024) / 128 * 64 + C.val % 64) := if_neg h
    rw [cat_hi _ _ k C (⟨(⟨(C.val - 1024) / 128, by omega⟩ : Fin 8).val * 128 + (⟨(C.val - 1024) / 64 % 2, by omega⟩ : Fin 2).val * 64 + (⟨C.val % 64, by omega⟩ : Fin 64).val, by show (C.val - 1024) / 128 * 128 + (C.val - 1024) / 64 % 2 * 64 + C.val % 64 < 1024; omega⟩ : Fin 1024)
      (show (C.val - 1024) / 128 * 128 + (C.val - 1024) / 64 % 2 * 64 + C.val % 64 + 1024 = C.val by omega)]
    rw [twice_at]
    exact congrArg (fun z => A1 m c (ix2 k z)) (Fin.ext e.symm)

/-! ## The bias band -/

/-- The distances of the block of nearby keys. -/
def dist : IVec S128x256 32 :=
  subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- Negative distances count as zero. -/
def pos : IVec S128x256 32 := maxsi dist (broadcastInDim S128x256 ![] bcast_S_S128x256 (constantI S_ 32 0#32))

/-- The logarithmic buckets. -/
def far : IVec S128x256 32 :=
  minsi (addi (broadcastInDim S128x256 ![] bcast_S_S128x256 (constantI S_ 32 16#32))
    (fptosi (F := Ideal) 32 (mulf (Host.divf (Host.log (Host.divf (sitofp (F := Ideal) .f32 (maxsi pos (broadcastInDim S128x256 ![] bcast_S_S128x256 (constantI S_ 32 1#32))))
      (broadcastInDim S128x256 ![] bcast_S_S128x256 (constant (F := Ideal) S_ .f32 0x41800000#32))))
      (broadcastInDim S128x256 ![] bcast_S_S128x256 (constant (F := Ideal) S_ .f32 0x40051592#32)))
      (broadcastInDim S128x256 ![] bcast_S_S128x256 (constant (F := Ideal) S_ .f32 0x41800000#32)))))
    (broadcastInDim S128x256 ![] bcast_S_S128x256 (constantI S_ 32 31#32))

/-- The buckets. -/
def bucket : IVec S128x256 32 :=
  select (cmpi .slt pos (broadcastInDim S128x256 ![] bcast_S_S128x256 (constantI S_ 32 16#32))) pos far

/-- The rows of the table. -/
def rows : IVec S128x256x1 32 :=
  broadcastInDim S128x256x1 ![0, 1] bcast_S128x256_S128x256x1_0_1
    (select (cmpi .slt bucket (broadcastInDim S128x256 ![] bcast_S_S128x256 (constantI S_ 32 0#32)))
      (addi bucket (broadcastInDim S128x256 ![] bcast_S_S128x256 (constantI S_ 32 32#32))) bucket)

theorem v44_eq (c : Dev nD) : (V5 m ρ c main_v44 : S16x128x256.Idx → EReal) = transpose S16x128x256 [2, 0, 1] (Host.gather gather_S32x16_S128x256x1_S128x256x16_2_0_n_n_0_2_116 (A2 m c) rows) transposes_S128x256x16_S16x128x256_2_0_1 := by
  have ha : W2 m ρ c main_arg2 = A2 m c := W2_args m ρ c main_arg2 (by decide)
  rw [← ha]
  show StableHlo.after hostOps1_2 (StableHlo.after hostOps1_1 (StableHlo.after hostOps1 (W2 m ρ c))) main_v44 = _
  generalize W2 m ρ c = w
  simp only [hostOps1, hostOps1_1, hostOps1_2]
  after_results
  rfl

theorem dist_at (r : Fin 128) (y : Fin 256) : dist (ix2 r y) = 128#32 + BitVec.ofNat 32 r.val - BitVec.ofNat 32 y.val := by
  pointwise [dist]
  rfl

theorem rows_at (r : Fin 128) (y : Fin 256) : rows (ix3 r y 0) = bkt (128#32 + BitVec.ofNat 32 r.val - BitVec.ofNat 32 y.val) := by
  have e : rows (ix3 r y 0) = bkt (dist (ix2 r y)) := by
    pointwise [rows, bucket, far, pos, bkt, big, lnb]
    rfl
  rw [e, dist_at]

/-- The bias of a key. -/
theorem v44_at (c : Dev nD) (g : Fin 16) (r : Fin 128) (y : Fin 256) :
    (V5 m ρ c main_v44 : S16x128x256.Idx → EReal) (ix3 g r y) = A2 m c (ix2 (row (128#32 + BitVec.ofNat 32 r.val - BitVec.ofNat 32 y.val)) g) := by
  rw [v44_eq]
  refine (transpose_apply _ _ _ (ix3 g r y) (ix3 r y g) ?_).trans ?_
  · intro a
    match a with
    | ⟨0, _⟩ => rfl
    | ⟨1, _⟩ => rfl
    | ⟨2, _⟩ => rfl
  · refine (Cert.SwRefIdeal.At.gather_band (A2 m c) rows r y g).trans ?_
    refine congrArg (fun z => A2 m c (ix2 z g)) (Fin.ext ?_)
    show min (rows (ix3 r y 0)).toInt.toNat 31 = min (bkt _).toInt.toNat 31
    rw [rows_at]

end Cert.SwIdeal.Launched

end
-- ==== Proof.SwProj.lean ====
module

public import proofs.«01_k».proof.Proof.SwHost
public import Idealize.ShloMosaic.Lib.Pipeline.Covers

/-! # Sliding window: what the projection call leaves -/

@[expose] public section

set_option maxRecDepth 16384

noncomputable section

namespace Cert.SwIdeal.Proj

open Cert.SwIdeal Cert.SwIdeal.Gen Cert.SwIdeal.Launched Cert.EMath Idealize.ShloMosaic Idealize.ShloMosaic.TcCoe Idealize.SL.Sem

/-- The product of a row block with the weights, entry by entry. -/
def prod {n : ℕ} (x0 : Vec Ideal ⟨2, ![n, 1024]⟩ .bf16) (x1 : Vec Ideal S1024x2048 .bf16) (r : Fin n) (l : Fin 2048) : EReal :=
  ∑ k : Fin 1024, (x0 (ix2 r k) : EReal) * (x1 (ix2 k l) : EReal)

theorem pay1_at (a : Vec Ideal S512x1024 .bf16) (w : Vec Ideal S1024x512 .bf16) (r c : Fin 512) :
    k0_pay1 a w (ix2 r c) = ∑ k : Fin 1024, (a (ix2 r k) : EReal) * (w (ix2 k c) : EReal) := by
  pointwise [k0_pay1]

/-- One column chunk of the product. -/
theorem chunk (x0 : Vec Ideal S512x1024 .bf16) (x1 : Vec Ideal S1024x2048 .bf16) (o : ℕ)
    (h : ∀ a, (![0, o] : Fin 2 → ℕ) a + S1024x512.size a ≤ S1024x2048.size a) (h' : ∀ a, (![0, o] : Fin 2 → ℕ) a + S512x512.size a ≤ S512x2048.size a)
    (x : S512x512.Idx) :
    k0_pay1 (View.ld x0 r0_0) (View.ld x1 (Rect.unit (s := S1024x2048) ![0, o] S1024x512.size h)) x
      = (fun y : S512x2048.Idx => prod (n := 512) x0 x1 (y 0) (y 1)) ((Rect.unit (s := S512x2048) ![0, o] S512x512.size h').idx x) := by
  have hx : x = ix2 (n0 := 512) (n1 := 512) (x 0) (x 1) := funext fun a => match a with | ⟨0, _⟩ => rfl | ⟨1, _⟩ => rfl
  refine (congrArg _ hx).trans ((pay1_at _ _ (x 0) (x 1)).trans ?_)
  unfold prod
  refine Finset.sum_congr rfl fun k _ => ?_
  show (x0 _ : EReal) * (x1 _ : EReal) = (x0 _ : EReal) * (x1 _ : EReal)
  congr 2
  · funext a
    match a with
    | ⟨0, _⟩ => exact Fin.ext (show 0 + 1 * (x 0).val = 0 + 1 * (x 0).val from rfl)
    | ⟨1, _⟩ => exact Fin.ext (show 0 + 1 * k.val = k.val by omega)
  · funext a
    match a with
    | ⟨0, _⟩ => exact Fin.ext (show 0 + 1 * k.val = k.val by omega)
    | ⟨1, _⟩ => exact Fin.ext (show o + 1 * (x 1).val = o + 1 * (x 1).val from rfl)

/-- What a point leaves in its output block. -/
theorem out_at (x0 : Vec Ideal S512x1024 .bf16) (x1 : Vec Ideal S1024x2048 .bf16) (y : S512x2048.Idx) :
    out0_2 x0 x1 y = prod (n := 512) x0 x1 (y 0) (y 1) := by
  unfold out0_2
  refine View.canon_apply_of_pieces (Val := Elt Ideal) (e := .bf16) (fun y => prod (n := 512) x0 x1 (y 0) (y 1)) _ ?_ y (cover0_2 _ _ _ _ y)
  intro pc hpc
  rcases List.mem_cons.mp hpc with rfl | hpc
  · exact fun x => chunk x0 x1 1536 (by decide) (by decide) x
  rcases List.mem_cons.mp hpc with rfl | hpc
  · exact fun x => chunk x0 x1 1024 (by decide) (by decide) x
  rcases List.mem_cons.mp hpc with rfl | hpc
  · exact fun x => chunk x0 x1 512 (by decide) (by decide) x
  rcases List.mem_cons.mp hpc with rfl | hpc
  · exact fun x => chunk x0 x1 0 (by decide) (by decide) x
  nomatch hpc

variable (m : (ℓ : Loc nD τ sig) → Buf (Elt Ideal) ℓ) (ρ : Dev nD → PrngReg)

/-- The projected rows. -/
def qkv (c : Dev nD) : Buf (Elt Ideal) ((c : Thread nD τ).loc main_v7) :=
  fun i : S16384x2048.Idx => prod (n := 16384) (A0 m c) (V1 m ρ c main_v6) (i 0) (i 1)

theorem tr (i : grid0.Coords) : cc0_transform_0 i 0 = (i 0).val := by
  have h0 : (i 0).val < 32 := (i 0).isLt
  show (BitVec.ofNat 32 (i 0).val).toNat = _
  simp only [BitVec.toNat_ofNat]; omega

/-- What a point writes back is its block of the projected rows. -/
theorem flushed_eq (c : Dev nD) (t : Fin cfg0.N) :
    (dat0 (V1 m ρ) c).flushed 2 t = ((cfg0.win 2).blk t).view.read (Elt Ideal) (qkv m ρ c) := by
  have hi := tr (grid0.coords t)
  show (cfg0.win 2).cut (grid0.coords t) ((dat0 (V1 m ρ) c).after 2 t) = _
  rw [after0_2]
  funext j
  rw [View.read_apply]
  refine (out_at _ _ j).trans ?_
  show _ = prod (n := 16384) (A0 m c) (V1 m ρ c main_v6) ((((cfg0.win 2).blk t).view.emb j) 0) ((((cfg0.win 2).blk t).view.emb j) 1)
  unfold prod
  refine Finset.sum_congr rfl fun k _ => ?_
  have e0 : (iblk0 (V1 m ρ) c 0 t : Vec Ideal S512x1024 .bf16) (ix2 (j 0) k) = A0 m c (ix2 ((((cfg0.win 2).blk t).view.emb j) 0) k) := by
    unfold iblk0
    rw [View.read_apply]
    have ha : V1 m ρ c main_arg0 = A0 m c := W1_args m ρ c main_arg0 (by decide)
    rw [← ha]
    show V1 m ρ c main_arg0 _ = V1 m ρ c main_arg0 _
    congr 1
    funext a
    match a with
    | ⟨0, _⟩ => rfl
    | ⟨1, _⟩ => exact Fin.ext (show 0 * 1024 + 1 * k.val = k.val by omega)
  have e1 : (iblk0 (V1 m ρ) c 1 t : Vec Ideal S1024x2048 .bf16) (ix2 k (j 1)) = (V1 m ρ c main_v6 : S1024x2048.Idx → EReal) (ix2 k ((((cfg0.win 2).blk t).view.emb j) 1)) := by
    unfold iblk0
    rw [View.read_apply]
    show V1 m ρ c main_v6 _ = V1 m ρ c main_v6 _
    congr 1
    funext a
    match a with
    | ⟨0, _⟩ => exact Fin.ext (show 0 * 1024 + 1 * k.val = k.val by omega)
    | ⟨1, _⟩ => rfl
  rw [e0, e1]

/-- The blocks cover the result array. -/
theorem cover (i : S16384x2048.Idx) : ∃ t : Fin cfg0.N, (cfg0.win 2).flush t = true ∧ i ∈ ((cfg0.win 2).blk t).view.set := by
  have h0 : (i 0 : Nat) < 16384 := (i 0).isLt
  have h1 : (i 1 : Nat) < 2048 := (i 1).isLt
  obtain ⟨t, ht⟩ := Pipeline.Grid.coords_surjective grid0 (fun a => match a with
    | ⟨0, _⟩ => (⟨(i 0).val / 512, by omega⟩ : Fin 32))
  have e0 : (grid0.coords t 0).val = (i 0).val / 512 := by rw [ht]
  have hi := tr (grid0.coords t)
  refine ⟨t, flush0_2 t, ?_⟩
  show i ∈ ((View.whole main_v7).slice (win0_2.rect t)).set
  rw [View.set_slice_whole, Rect.mem_set_unit]
  intro a
  match a with
  | ⟨0, _⟩ => show cc0_transform_0 (grid0.coords t) 0 * 512 ≤ (i 0 : Nat) ∧ (i 0 : Nat) < cc0_transform_0 (grid0.coords t) 0 * 512 + 512
              rw [hi, e0]; omega
  | ⟨1, _⟩ => show 0 * 2048 ≤ (i 1 : Nat) ∧ (i 1 : Nat) < 0 * 2048 + 2048
              omega

/-- The array ends holding the projected rows. -/
theorem final (c : Dev nD) : (dat0 (V1 m ρ) c).arrAt 2 cfg0.N = qkv m ρ c :=
  (dat0 (V1 m ρ) c).arrAt_eq_of_cover 2 (qkv m ρ c) (fun t _ => flushed_eq m ρ c t) cover

/-- The rows the attention call is launched on. -/
theorem v7_eq (c : Dev nD) : V5 m ρ c main_v7 = qkv m ρ c :=
  (W5_of m ρ c main_v7 (by decide)).trans ((W4_of m ρ c main_v7 (by decide)).trans ((W3_of m ρ c main_v7 (by decide)).trans ((W2_arr m ρ c 2).trans (final m ρ c))))

/-- From finite arguments, an entry of them is a real number. -/
theorem v7_at (c : Dev nD) (h0 : ∀ i, ∃ x : ℝ, A0 m c i = (x : EReal)) (h1 : ∀ i, ∃ x : ℝ, A1 m c i = (x : EReal)) (i : S16384x2048.Idx) (R C : ℕ) (hR : (i 0).val = R) (hC : src (i 1).val = C) :
    (V5 m ρ c main_v7 : S16384x2048.Idx → EReal) i = (Cert.SwSpec.P (A0 m c) (A1 m c) R C : EReal) := by
  subst hR hC
  rw [v7_eq]
  refine Eq.trans ?_ (Cert.SwSpec.prod (A0 m c) (A1 m c) h0 h1 (i 0) (⟨src (i 1).val, src_lt (i 1)⟩ : Fin 1536))
  show prod (n := 16384) (A0 m c) (V1 m ρ c main_v6) (i 0) (i 1) = _
  unfold prod
  refine Finset.sum_congr rfl fun k _ => ?_
  exact congrArg (fun z : EReal => A0 m c (ix2 (i 0) k) * z) (v6_at m ρ c k (i 1))

end Cert.SwIdeal.Proj

end
-- ==== Proof.SwRefOut.lean ====
module

public import proofs.«01_k».proof.Proof.SwRef

/-! # Sliding-window attention: the reference's softmax and output read at an index -/

@[expose] public section

set_option maxRecDepth 16384

noncomputable section

namespace Cert.SwRefIdeal.At

open Cert.SwRefIdeal Cert.SwRefIdeal.Gen Cert.SwRefIdeal.Read Cert.EMath Cert.DaBias Cert.SwMath Cert.SwSpec Idealize.ShloMosaic Idealize.ShloMosaic.TcCoe Idealize.SL.Sem

theorem ninf : Ideal.ofBits .f32 0xFF800000#32 = (⊥ : EReal) := by
  simp [Ideal.ofBits, Ideal.ieee]

theorem sel_ok (p : Prop) [Decidable p] {α : Type} (x y : α) : Scalar.select (BitVec.ofBool (decide p)) x y = if p then x else y := by
  by_cases h : p
  · rw [if_pos h, decide_eq_true h]; rfl
  · rw [if_neg h, decide_eq_false h]; rfl

variable (x0 : (⟨S16384x1024, .bf16⟩ : BufTy).Contents (Elt Ideal)) (x1 : (⟨S1024x1536, .f32⟩ : BufTy).Contents (Elt Ideal))
  (x2 : (⟨S32x16, .f32⟩ : BufTy).Contents (Elt Ideal)) (x3 : (⟨S16, .f32⟩ : BufTy).Contents (Elt Ideal))
  (h0 : ∀ i, ∃ x : ℝ, (x0 i : EReal) = (x : EReal)) (h1 : ∀ i, ∃ x : ℝ, (x1 i : EReal) = (x : EReal))
  (h2 : ∀ i, ∃ x : ℝ, (x2 i : EReal) = (x : EReal)) (h3 : ∀ i, ∃ x : ℝ, (x3 i : EReal) = (x : EReal))
  (b : Fin 8) (n : Fin 16) (g m : Fin 4) (r : Fin 128)

theorem head_div (g m : ℕ) (hm : m < 4) : (4 * g + m) / 4 = g := by omega

include h0 h1 h2 in
/-- A score inside the window. -/
theorem v79_at (j : Fin 256) (hj : 0 < n.val ∨ 128 ≤ j.val) :
    val_main_v79 (F := Ideal) x0 x1 x2 (ix6 b n g m r j) = (Z x0 x1 x2 b.val n.val (4 * g.val + m.val) r.val j.val : EReal) := by
  have e74 : idx_main_v74 (ix6 b n g m r j) = ix6 b n g j r m := funext fun a => match a with | ⟨0, _⟩ => rfl | ⟨1, _⟩ => rfl | ⟨2, _⟩ => rfl | ⟨3, _⟩ => rfl | ⟨4, _⟩ => rfl | ⟨5, _⟩ => rfl
  have e78 : idx_main_v77 (idx_main_v78 (ix6 b n g m r j)) = ix4 g m r j := funext fun a => match a with | ⟨0, _⟩ => rfl | ⟨1, _⟩ => rfl | ⟨2, _⟩ => rfl | ⟨3, _⟩ => rfl
  rw [val_main_v79_apply, val_main_v76_apply, val_main_v74_apply, val_main_v75_apply, val_main_cst_16_apply, val_main_v78_apply, val_main_v77_apply, e74, e78, v72_at x2 h2 g m r j,
    val_main_v73_apply, show FloatOps.ofBits (F := Ideal) .f32 0x3E000000#32 = ((0.125 : ℝ) : EReal) from eighth_f32]
  show (∑ k : Fin 64, _) * ((0.125 : ℝ) : EReal) + _ = _
  unfold Z
  rw [EReal.coe_add, EReal.coe_mul, coe_sum, head_div _ _ m.isLt]
  congr 2
  refine Finset.sum_congr rfl fun k _ => ?_
  have el : lidx_main_v73 (ix6 b n g j r m) k = ix5 b n j g k := funext fun a => match a with | ⟨0, _⟩ => rfl | ⟨1, _⟩ => rfl | ⟨2, _⟩ => rfl | ⟨3, _⟩ => rfl | ⟨4, _⟩ => rfl
  have er : ridx_main_v73 (ix6 b n g j r m) k = ix6 b n r g m k := funext fun a => match a with | ⟨0, _⟩ => rfl | ⟨1, _⟩ => rfl | ⟨2, _⟩ => rfl | ⟨3, _⟩ => rfl | ⟨4, _⟩ => rfl | ⟨5, _⟩ => rfl
  rw [el, er, v10_at x0 x1 h0 h1 b n j g k hj, v5_at x0 x1 h0 h1, ← EReal.coe_mul, mul_comm]

include h0 h1 h2 in
/-- A masked score. -/
theorem v81_at (j : Fin 256) :
    val_main_v81 (F := Ideal) x0 x1 x2 (ix6 b n g m r j) = sc (ok n.val r.val) (Z x0 x1 x2 b.val n.val (4 * g.val + m.val) r.val) j.val := by
  have e : idx_main_v80 (idx_main_call3_v1 (ix6 b n g m r j)) = ix3 n r j := funext fun a => match a with | ⟨0, _⟩ => rfl | ⟨1, _⟩ => rfl | ⟨2, _⟩ => rfl
  rw [val_main_v81_apply, val_main_call3_v1_apply, val_main_v80_apply, e, v43_at, val_main_call3_v2_apply, val_main_call3_v0_apply, val_main_cst_17_apply,
    show FloatOps.ofBits (F := Ideal) .f32 0xFF800000#32 = (⊥ : EReal) from ninf]
  refine (sel_ok _ _ _).trans ?_
  unfold sc
  split
  · rename_i h
    exact v79_at x0 x1 x2 h0 h1 h2 b n g m r j h.2.2
  · rfl

include h3 in
theorem v83_at : val_main_v83 (F := Ideal) x3 (ix6 b n g m r 0) = (S x3 (4 * g.val + m.val) : EReal) := by
  have e : idx_main_v82 (idx_main_v83 (ix6 b n g m r 0)) = ix1 (⟨4 * g.val + m.val, by omega⟩ : Fin 16) := funext fun a => match a with
    | ⟨0, _⟩ => Fin.ext (show ((g.val * 4 + m.val) * 1 + 0) * 1 + 0 = 4 * g.val + m.val by omega)
  rw [val_main_v83_apply, val_main_v82_apply, e, sink x3 h3]

/-- The row of the window's scores and the sink. -/
def line (k : Fin 257) : EReal := val_main_v84 (F := Ideal) x0 x1 x2 x3 (ix6 b n g m r k)

theorem cat_key (y : S8x16x4x4x128x256.Idx → EReal) (z : S8x16x4x4x128x1.Idx → EReal) (k : Fin 257) (hk : k.val < 256) :
    concatenate S8x16x4x4x128x257 5 [⟨S8x16x4x4x128x256, y⟩, ⟨S8x16x4x4x128x1, z⟩] concatenates_S8x16x4x4x128x256_S8x16x4x4x128x1_S8x16x4x4x128x257_d5 (ix6 b n g m r k) = y (ix6 b n g m r (⟨k.val, hk⟩ : Fin 256)) :=
  concatenate_pair_apply_left 5 y z concatenates_S8x16x4x4x128x256_S8x16x4x4x128x1_S8x16x4x4x128x257_d5 (ix6 b n g m r k) rfl (ix6 b n g m r (⟨k.val, hk⟩ : Fin 256)) (fun a => match a with
    | ⟨0, _⟩ => rfl
    | ⟨1, _⟩ => rfl
    | ⟨2, _⟩ => rfl
    | ⟨3, _⟩ => rfl
    | ⟨4, _⟩ => rfl
    | ⟨5, _⟩ => rfl)

theorem cat_sink (y : S8x16x4x4x128x256.Idx → EReal) (z : S8x16x4x4x128x1.Idx → EReal) (k : Fin 257) (hk : 0 + 256 = k.val) :
    concatenate S8x16x4x4x128x257 5 [⟨S8x16x4x4x128x256, y⟩, ⟨S8x16x4x4x128x1, z⟩] concatenates_S8x16x4x4x128x256_S8x16x4x4x128x1_S8x16x4x4x128x257_d5 (ix6 b n g m r k) = z (ix6 b n g m r (0 : Fin 1)) :=
  concatenate_pair_apply_right 5 y z concatenates_S8x16x4x4x128x256_S8x16x4x4x128x1_S8x16x4x4x128x257_d5 (ix6 b n g m r k) rfl rfl (ix6 b n g m r (0 : Fin 1)) (fun a => match a with
    | ⟨0, _⟩ => fun _ => rfl
    | ⟨1, _⟩ => fun _ => rfl
    | ⟨2, _⟩ => fun _ => rfl
    | ⟨3, _⟩ => fun _ => rfl
    | ⟨4, _⟩ => fun _ => rfl
    | ⟨5, _⟩ => fun h => absurd rfl h) hk

theorem line_key (j : Fin 256) (k : Fin 257) (hk : k.val = j.val) : line x0 x1 x2 x3 b n g m r k = val_main_v81 (F := Ideal) x0 x1 x2 (ix6 b n g m r j) := by
  have e : (⟨k.val, hk ▸ j.isLt⟩ : Fin 256) = j := Fin.ext hk
  unfold line val_main_v84
  rw [cat_key b n g m r _ _ k (hk ▸ j.isLt), e]

theorem line_sink (k : Fin 257) (hk : k.val = 256) : line x0 x1 x2 x3 b n g m r k = val_main_v83 (F := Ideal) x3 (ix6 b n g m r 0) := by
  unfold line val_main_v84
  rw [cat_sink b n g m r _ _ k hk.symm]

/-- The row's maximum. -/
theorem v87_at : val_main_v87 (F := Ideal) x0 x1 x2 x3 (ix5 b n g m r) = Finset.univ.fold max ⊥ (line x0 x1 x2 x3 b n g m r) := by
  have e : val_main_v85 (F := Ideal) x0 x1 x2 x3 (ix5 b n g m r) = Finset.univ.fold max ⊥ (line x0 x1 x2 x3 b n g m r) := by
    unfold val_main_v85 line
    generalize val_main_v84 (F := Ideal) x0 x1 x2 x3 = y
    have e0 : val_main_cst_18 (F := Ideal) (Shape.Idx.first h_S_) = (⊥ : EReal) := ninf
    generalize val_main_cst_18 (F := Ideal) = z at e0 ⊢
    rw [Host.reduce_eq_fold_single (FloatOps.maximumf (F := Ideal) (φ := .f32)) y z _ (by decide) h_S_, e0]
    refine Finset.fold_congr fun k _ => congrArg y (funext fun a => match a with | ⟨0, _⟩ => rfl | ⟨1, _⟩ => rfl | ⟨2, _⟩ => rfl | ⟨3, _⟩ => rfl | ⟨4, _⟩ => rfl | ⟨5, _⟩ => rfl)
  rw [val_main_v87_apply, e, val_main_v86_apply, val_main_cst_19_apply, show FloatOps.ofBits (F := Ideal) .f32 0xFF800000#32 = (⊥ : EReal) from ninf]
  exact max_eq_right bot_le

theorem v91_at (k : Fin 257) : val_main_v91 (F := Ideal) x0 x1 x2 x3 (ix6 b n g m r k)
    = Ideal.exp (line x0 x1 x2 x3 b n g m r k - Finset.univ.fold max ⊥ (line x0 x1 x2 x3 b n g m r)) := by
  have e : idx_main_v88 (idx_main_v89 (ix6 b n g m r k)) = ix5 b n g m r := funext fun a => match a with | ⟨0, _⟩ => rfl | ⟨1, _⟩ => rfl | ⟨2, _⟩ => rfl | ⟨3, _⟩ => rfl | ⟨4, _⟩ => rfl
  rw [val_main_v91_apply, val_main_v90_apply, val_main_v89_apply, val_main_v88_apply, e, v87_at]
  rfl

theorem v92_at : val_main_v92 (F := Ideal) x0 x1 x2 x3 (ix5 b n g m r)
    = ∑ k : Fin 257, Ideal.exp (line x0 x1 x2 x3 b n g m r k - Finset.univ.fold max ⊥ (line x0 x1 x2 x3 b n g m r)) := by
  rw [val_main_v92_apply, show val_main_cst_20 (F := Ideal) (Shape.Idx.first h_S_) = (0 : EReal) from Ideal.ofBits_zero_f32, zero_add]
  refine Finset.sum_congr rfl fun k _ => ?_
  have e : idx_main_v92 (ix5 b n g m r) k = ix6 b n g m r k := funext fun a => match a with | ⟨0, _⟩ => rfl | ⟨1, _⟩ => rfl | ⟨2, _⟩ => rfl | ⟨3, _⟩ => rfl | ⟨4, _⟩ => rfl | ⟨5, _⟩ => rfl
  rw [e, v91_at]

theorem v96_at (j : Fin 256) (k : Fin 257) (hk : k.val = j.val) : val_main_v96 (F := Ideal) x0 x1 x2 x3 (ix6 b n g m r j)
    = Ideal.div (Ideal.exp (line x0 x1 x2 x3 b n g m r k - Finset.univ.fold max ⊥ (line x0 x1 x2 x3 b n g m r)))
      (∑ k : Fin 257, Ideal.exp (line x0 x1 x2 x3 b n g m r k - Finset.univ.fold max ⊥ (line x0 x1 x2 x3 b n g m r))) := by
  have e : idx_main_v96 (ix6 b n g m r j) = ix6 b n g m r k := funext fun a => match a with | ⟨0, _⟩ => rfl | ⟨1, _⟩ => rfl | ⟨2, _⟩ => rfl | ⟨3, _⟩ => rfl | ⟨4, _⟩ => rfl | ⟨5, _⟩ => Fin.ext hk.symm
  have e2 : idx_main_v93 (idx_main_v94 (ix6 b n g m r k)) = ix5 b n g m r := funext fun a => match a with | ⟨0, _⟩ => rfl | ⟨1, _⟩ => rfl | ⟨2, _⟩ => rfl | ⟨3, _⟩ => rfl | ⟨4, _⟩ => rfl
  rw [val_main_v96_apply, e, val_main_v95_apply, v91_at, val_main_v94_apply, val_main_v93_apply, e2, v92_at]
  rfl

include h0 h1 h2 h3 in
/-- One output entry. -/
theorem v98_at (d : Fin 64) : val_main_v98 (F := Ideal) x0 x1 x2 x3 (ix6 b n r g m d)
    = (out x0 x1 x2 x3 b.val n.val (4 * g.val + m.val) r.val d.val : EReal) := by
  have e98 : idx_main_v98 (ix6 b n r g m d) = ix6 b n g d m r := funext fun a => match a with | ⟨0, _⟩ => rfl | ⟨1, _⟩ => rfl | ⟨2, _⟩ => rfl | ⟨3, _⟩ => rfl | ⟨4, _⟩ => rfl | ⟨5, _⟩ => rfl
  rw [val_main_v98_apply, e98, val_main_v97_apply]
  unfold out
  refine Eq.trans (Finset.sum_congr rfl fun j _ => ?_) (one_row (ok n.val r.val) (Z x0 x1 x2 b.val n.val (4 * g.val + m.val) r.val) (V x0 x1 b.val n.val (4 * g.val + m.val) d.val)
    (S x3 (4 * g.val + m.val)) (line x0 x1 x2 x3 b n g m r) (fun j => val_main_v13 (F := Ideal) x0 x1 (ix5 b n j g d)) ?_ ?_ ?_ ?_ _ rfl)
  · have el : lidx_main_v97 (ix6 b n g d m r) j = ix5 b n j g d := funext fun a => match a with | ⟨0, _⟩ => rfl | ⟨1, _⟩ => rfl | ⟨2, _⟩ => rfl | ⟨3, _⟩ => rfl | ⟨4, _⟩ => rfl
    have er : ridx_main_v97 (ix6 b n g d m r) j = ix6 b n g m r j := funext fun a => match a with | ⟨0, _⟩ => rfl | ⟨1, _⟩ => rfl | ⟨2, _⟩ => rfl | ⟨3, _⟩ => rfl | ⟨4, _⟩ => rfl | ⟨5, _⟩ => rfl
    rw [el, er, v96_at x0 x1 x2 x3 b n g m r j (j.castLE (by decide)) rfl]
  · intro j
    rw [line_key x0 x1 x2 x3 b n g m r j _ rfl, v81_at x0 x1 x2 h0 h1 h2]
  · rw [line_sink x0 x1 x2 x3 b n g m r _ rfl, v83_at x3 h3]
  · intro j hj
    unfold V
    rw [head_div _ _ m.isLt]
    exact v13_at x0 x1 h0 h1 b n j g d hj.2.2
  · exact fun j => v13_real x0 x1 h0 h1 b n j g d

include h0 h1 h2 h3 in
/-- The reference's result, entry by entry. -/
theorem v100_at (i : S16384x1024.Idx) (R C : ℕ) (hR : (i 0).val = R) (hC : (i 1).val = C) : val_main_v100 (F := Ideal) x0 x1 x2 x3 i
    = (out x0 x1 x2 x3 (R / 2048) (R % 2048 / 128) (C / 64) (R % 128) (C % 64) : EReal) := by
  subst hR hC
  have i0 : (i 0).val < 16384 := (i 0).isLt
  have i1 : (i 1).val < 1024 := (i 1).isLt
  rw [val_main_v100_apply]
  show val_main_v99 (F := Ideal) x0 x1 x2 x3 i = _
  unfold val_main_v99
  refine (shapeCast_apply _ shapeCasts_S8x16x128x4x4x64_S16384x1024 i
    (ix6 (⟨(i 0).val / 2048, by omega⟩ : Fin 8) (⟨(i 0).val % 2048 / 128, by omega⟩ : Fin 16) (⟨(i 0).val % 128, by omega⟩ : Fin 128)
      (⟨(i 1).val / 256, by omega⟩ : Fin 4) (⟨(i 1).val / 64 % 4, by omega⟩ : Fin 4) (⟨(i 1).val % 64, by omega⟩ : Fin 64)) ?_).trans ?_
  · rewrite [Shape.rowMajor_val_two, Shape.rowMajor_val_six]
    show (((((i 0).val / 2048 * 16 + (i 0).val % 2048 / 128) * 128 + (i 0).val % 128) * 4 + (i 1).val / 256) * 4 + (i 1).val / 64 % 4) * 64 + (i 1).val % 64 = (i 0).val * 1024 + (i 1).val
    omega
  · refine (v98_at x0 x1 x2 x3 h0 h1 h2 h3 _ _ _ _ _ _).trans ?_
    show ((out x0 x1 x2 x3 ((i 0).val / 2048) ((i 0).val % 2048 / 128) (4 * ((i 1).val / 256) + (i 1).val / 64 % 4) ((i 0).val % 128) ((i 1).val % 64) : ℝ) : EReal) = _
    rw [show 4 * ((i 1).val / 256) + (i 1).val / 64 % 4 = (i 1).val / 64 by omega]

end Cert.SwRefIdeal.At

end
-- ==== Proof.SwValue.lean ====
module

public import proofs.«01_k».proof.Defs
public import proofs.«01_k».proof.Proof.SwTile
public import proofs.«01_k».proof.Proof.SwProj
public import proofs.«01_k».proof.Proof.SwRefOut
public import proofs.«01_k».proof.Proof.Gen.SwRefIdeal
public import proofs.«01_k».proof.Proof.Gen.SwRefIdeal.Run
public import proofs.«01_k».proof.Proof.Gen.SwRefIdeal.Read
public import proofs.«01_k».proof.Proof.Gen.Sw
public import proofs.«01_k».proof.Proof.Gen.Sw.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.ReduceAll
public import Idealize.ShloMosaic.Lib.Tactic

/-! # Sliding window: the kernel's result is the reference's -/

@[expose] public section

set_option maxRecDepth 16384

noncomputable section

/-! ## The run, with the result array -/

namespace Cert.SwIdeal.Final

section Run

open Cert.SwIdeal Cert.SwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every run ends with the result array at what the second call's write-backs leave, the arguments as launched. -/
theorem run : θ_run defs (onTc (τ := τ) (main (F := F))) ⟨m, fun _ => 0, ρ⟩ (fun r => ∀ c : Dev nD,
      r.2.mem ((c.tc : Thread nD τ).loc main_v45) = (dat1 (V5 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨(h c _ (mem_uc main_v45 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Run

open Cert.SwIdeal Cert.SwIdeal.Gen Cert.SwIdeal.Launched Cert.SwIdeal.Step Idealize.ShloMosaic Idealize.ShloMosaic.TcCoe Idealize.SL.Sem

/-! ## Where the blocks lie -/

theorem tr1 (i : grid1.Coords) : cc1_transform_1 i 0 = (i 0).val * 4 + (i 2).val ∧ cc1_transform_1 i 1 = (i 1).val := by
  have h0 : (i 0).val < 8 := (i 0).isLt
  have h1 : (i 1).val < 8 := (i 1).isLt
  have h2 : (i 2).val < 4 := (i 2).isLt
  constructor
  · show (BitVec.ofNat 32 (i 0).val * 4#32 + BitVec.ofNat 32 (i 2).val).toNat = _
    simp only [BitVec.toNat_add, BitVec.toNat_mul, BitVec.toNat_ofNat]; omega
  · show (BitVec.ofNat 32 (i 1).val).toNat = _
    simp only [BitVec.toNat_ofNat]; omega

theorem tr2 : ∀ i : grid1.Coords, cc1_transform_2 i 0 = (i 0).val ∧ cc1_transform_2 i 1 = 8 + (i 1).val / 2 ∧ cc1_transform_3 i 0 = (i 0).val ∧ cc1_transform_3 i 1 = 12 + (i 1).val / 2 ∧ cc1_transform_4 i 0 = (i 1).val := by
  decide +kernel

/-! ## The blocks' entries -/

variable (m : (ℓ : Loc nD τ sig) → Buf (Elt Ideal) ℓ) (ρ : Dev nD → PrngReg) (c : Dev nD)

/-- The reference's result, as contents of the kernel's result array. -/
abbrev out : Buf (Elt Ideal) ((c : Thread nD τ).loc main_v45) := Cert.SwRefIdeal.Read.val_main_v100 (F := Ideal) (A0 m c) (A1 m c) (A2 m c) (A3 m c)

variable (h0 : ∀ i, ∃ x : ℝ, A0 m c i = (x : EReal)) (h1 : ∀ i, ∃ x : ℝ, A1 m c i = (x : EReal)) (h2 : ∀ i, ∃ x : ℝ, A2 m c i = (x : EReal)) (h3 : ∀ i, ∃ x : ℝ, A3 m c i = (x : EReal))
  (t : Fin cfg1.N)

include h3 in
theorem blk0 (g : Fin 16) : (iblk1 (V5 m ρ) c 0 t : Vec Ideal S16 .f32) (ix1 g) = (Cert.SwSpec.S (A3 m c) g.val : EReal) := by
  unfold iblk1
  rw [View.read_apply]
  refine Eq.trans (b := A3 m c (ix1 g)) ?_ (Cert.SwSpec.sink (A3 m c) h3 g)
  have ha : V5 m ρ c main_arg3 = A3 m c := W5_args m ρ c main_arg3 (by decide)
  rw [← ha]
  show V5 m ρ c main_arg3 _ = V5 m ρ c main_arg3 _
  congr 1
  funext a
  apply Fin.ext
  match a with
  | ⟨0, _⟩ => show 0 * 16 + 1 * g.val = g.val; omega

include h0 h1 in
theorem blk1 (r : Fin 512) (l : Fin 128) : (iblk1 (V5 m ρ) c 1 t : Vec Ideal S512x128 .bf16) (ix2 r l)
    = (Cert.SwSpec.P (A0 m c) (A1 m c) (((grid1.coords t 0).val * 4 + (grid1.coords t 2).val) * 512 + r.val) ((grid1.coords t 1).val * 128 + l.val) : EReal) := by
  have hi := tr1 (grid1.coords t)
  have b1 : (grid1.coords t 1).val < 8 := (grid1.coords t 1).isLt
  unfold iblk1
  rw [View.read_apply]
  refine Cert.SwIdeal.Proj.v7_at m ρ c h0 h1 _ _ _ ?_ ?_
  · show cc1_transform_1 (grid1.coords t) 0 * 512 + 1 * r.val = _
    rw [hi.1, one_mul]
  · show src (cc1_transform_1 (grid1.coords t) 1 * 128 + 1 * l.val) = _
    rw [hi.2, one_mul]
    exact if_pos (by omega)

include h0 h1 in
theorem blk2 (r : Fin 2048) (l : Fin 128) : (iblk1 (V5 m ρ) c 2 t : Vec Ideal S2048x128 .bf16) (ix2 r l)
    = (Cert.SwSpec.P (A0 m c) (A1 m c) ((grid1.coords t 0).val * 2048 + r.val) (1024 + ((grid1.coords t 1).val / 2 * 64 + l.val % 64)) : EReal) := by
  have hi := tr2 (grid1.coords t)
  unfold iblk1
  rw [View.read_apply]
  refine Cert.SwIdeal.Proj.v7_at m ρ c h0 h1 _ _ _ ?_ ?_
  · show cc1_transform_2 (grid1.coords t) 0 * 2048 + 1 * r.val = _
    rw [hi.1, one_mul]
  · show src (cc1_transform_2 (grid1.coords t) 1 * 128 + 1 * l.val) = _
    rw [hi.2.1, one_mul]
    exact (if_neg (by omega)).trans (by omega)

include h0 h1 in
theorem blk3 (r : Fin 2048) (l : Fin 128) : (iblk1 (V5 m ρ) c 3 t : Vec Ideal S2048x128 .bf16) (ix2 r l)
    = (Cert.SwSpec.P (A0 m c) (A1 m c) ((grid1.coords t 0).val * 2048 + r.val) (1280 + ((grid1.coords t 1).val / 2 * 64 + l.val % 64)) : EReal) := by
  have hi := tr2 (grid1.coords t)
  unfold iblk1
  rw [View.read_apply]
  refine Cert.SwIdeal.Proj.v7_at m ρ c h0 h1 _ _ _ ?_ ?_
  · show cc1_transform_3 (grid1.coords t) 0 * 2048 + 1 * r.val = _
    rw [hi.2.2.1, one_mul]
  · show src (cc1_transform_3 (grid1.coords t) 1 * 128 + 1 * l.val) = _
    rw [hi.2.2.2.1, one_mul]
    exact (if_neg (by omega)).trans (by omega)

include h2 in
theorem blk4 (e : Fin 2) (r : Fin 128) (y : Fin 256) : (iblk1 (V5 m ρ) c 4 t : Vec Ideal S2x128x256 .f32) (ix3 e r y)
    = (Cert.SwSpec.B (A2 m c) (2 * (grid1.coords t 1).val + e.val) r.val y.val : EReal) := by
  have hi := tr2 (grid1.coords t)
  unfold iblk1
  rw [View.read_apply]
  refine Eq.trans (b := (V5 m ρ c main_v44 : S16x128x256.Idx → EReal) (ix3 (hd (grid1.coords t) e) r y)) ?_ ((v44_at m ρ c _ r y).trans (Cert.SwSpec.bias (A2 m c) h2 (hd (grid1.coords t) e) r.val y.val))
  show V5 m ρ c main_v44 _ = V5 m ρ c main_v44 _
  congr 1
  funext a
  apply Fin.ext
  match a with
  | ⟨0, _⟩ => show cc1_transform_4 (grid1.coords t) 0 * 2 + 1 * e.val = 2 * (grid1.coords t 1).val + e.val; rw [hi.2.2.2.2]; omega
  | ⟨1, _⟩ => show 0 * 128 + 1 * r.val = r.val; omega
  | ⟨2, _⟩ => show 0 * 256 + 1 * y.val = y.val; omega

/-! ## The result array -/

include h0 h1 h2 h3 in
/-- What a point writes back is its block of the reference's result. -/
theorem flushed_eq : (dat1 (V5 m ρ) c).flushed 5 t = ((cfg1.win 5).blk t).view.read (Elt Ideal) (out m c) := by
  have b0 : (grid1.coords t 0).val < 8 := (grid1.coords t 0).isLt
  have b1 : (grid1.coords t 1).val < 8 := (grid1.coords t 1).isLt
  have b2 : (grid1.coords t 2).val < 4 := (grid1.coords t 2).isLt
  have hi : cc1_transform_5 (grid1.coords t) 0 = _ ∧ cc1_transform_5 (grid1.coords t) 1 = _ := tr1 (grid1.coords t)
  show (cfg1.win 5).cut (grid1.coords t) ((dat1 (V5 m ρ) c).after 5 t) = _
  rw [after1_5]
  have e : outsAt1 (V5 m ρ) c t = fun j => out m c (((cfg1.win 5).blk t).view.emb j) := by
    unfold outsAt1
    refine out_at _ _ _ _ _ _ _ _ _ _ _ _ _ _ _ _ _ _ _ _ fun s r l => ?_
    have hs := s.isLt
    have hr := r.isLt
    have hl := l.isLt
    refine (sub_at (A0 m c) (A1 m c) (A2 m c) (A3 m c) (grid1.coords t) _ _ _ _ _ (blk0 m ρ c h3 t) (blk1 m ρ c h0 h1 t) (blk2 m ρ c h0 h1 t) (blk3 m ρ c h0 h1 t) (blk4 m ρ c h2 t) s r l).trans ?_
    refine Eq.trans ?_ (Cert.SwRefIdeal.At.v100_at (A0 m c) (A1 m c) (A2 m c) (A3 m c) h0 h1 h2 h3 _ (((grid1.coords t 0).val * 4 + (grid1.coords t 2).val) * 512 + (s.val * 128 + r.val)) ((grid1.coords t 1).val * 128 + l.val) ?_ ?_).symm
    · rw [show (((grid1.coords t 0).val * 4 + (grid1.coords t 2).val) * 512 + (s.val * 128 + r.val)) / 2048 = (grid1.coords t 0).val by omega,
        show (((grid1.coords t 0).val * 4 + (grid1.coords t 2).val) * 512 + (s.val * 128 + r.val)) % 2048 / 128 = (grid1.coords t 2).val * 4 + s.val by omega,
        show (((grid1.coords t 0).val * 4 + (grid1.coords t 2).val) * 512 + (s.val * 128 + r.val)) % 128 = r.val by omega,
        show ((grid1.coords t 1).val * 128 + l.val) / 64 = 2 * (grid1.coords t 1).val + l.val / 64 by omega, show ((grid1.coords t 1).val * 128 + l.val) % 64 = l.val % 64 by omega]
    · show cc1_transform_5 (grid1.coords t) 0 * 512 + 1 * (s.val * 128 + r.val) = _
      rw [hi.1, one_mul]
    · show cc1_transform_5 (grid1.coords t) 1 * 128 + 1 * l.val = _
      rw [hi.2, one_mul]
  rw [e]
  funext j
  rw [View.read_apply]
  rfl

/-- The blocks cover the result array. -/
theorem cover (i : S16384x1024.Idx) : ∃ t : Fin cfg1.N, (cfg1.win 5).flush t = true ∧ i ∈ ((cfg1.win 5).blk t).view.set := by
  have h0 : (i 0 : Nat) < 16384 := (i 0).isLt
  have h1 : (i 1 : Nat) < 1024 := (i 1).isLt
  obtain ⟨t, ht⟩ := Pipeline.Grid.coords_surjective grid1 (fun a => match a with
    | ⟨0, _⟩ => (⟨(i 0).val / 2048, by omega⟩ : Fin 8)
    | ⟨1, _⟩ => (⟨(i 1).val / 128, by omega⟩ : Fin 8)
    | ⟨2, _⟩ => (⟨(i 0).val / 512 % 4, by omega⟩ : Fin 4))
  have e0 : (grid1.coords t 0).val = (i 0).val / 2048 := by rw [ht]
  have e1 : (grid1.coords t 1).val = (i 1).val / 128 := by rw [ht]
  have e2 : (grid1.coords t 2).val = (i 0).val / 512 % 4 := by rw [ht]
  have hi := tr1 (grid1.coords t)
  refine ⟨t, flush1_5 t, ?_⟩
  show i ∈ ((View.whole main_v45).slice (win1_5.rect t)).set
  rw [View.set_slice_whole, Rect.mem_set_unit]
  intro a
  match a with
  | ⟨0, _⟩ => show cc1_transform_1 (grid1.coords t) 0 * 512 ≤ (i 0 : Nat) ∧ (i 0 : Nat) < cc1_transform_1 (grid1.coords t) 0 * 512 + 512
              rw [hi.1, e0, e2]; omega
  | ⟨1, _⟩ => show cc1_transform_1 (grid1.coords t) 1 * 128 ≤ (i 1 : Nat) ∧ (i 1 : Nat) < cc1_transform_1 (grid1.coords t) 1 * 128 + 128
              rw [hi.2, e1]; omega

include h0 h1 h2 h3 in
/-- The result array ends holding the reference's result. -/
theorem final : (dat1 (V5 m ρ) c).arrAt 5 cfg1.N = out m c :=
  (dat1 (V5 m ρ) c).arrAt_eq_of_cover 5 (out m c) (fun t _ => flushed_eq m ρ c h0 h1 h2 h3 t) cover

end Cert.SwIdeal.Final

/-! ## The claim -/

namespace Cert.SwClaim

open Cert.EMath Idealize.ShloMosaic Idealize.ShloMosaic.TcCoe Idealize.SL.Sem

instance preFacts : Cert.Pre_sw_finite.Facts where
  bitsLt_bf16_f32 := by decide
  bcast_S_S16384x1024 := by decide
  reducesTo_S16384x1024_S_d0_1 := by decide
  h_S_ := by decide
  bcast_S_S1024x1536 := by decide
  reducesTo_S1024x1536_S_d0_1 := by decide
  bcast_S_S32x16 := by decide
  reducesTo_S32x16_S_d0_1 := by decide
  bcast_S_S16 := by decide
  reducesTo_S16_S_d0 := by decide

/-- The constant of the mask is named: in exact arithmetic it is minus infinity. -/
theorem preserves : Cert.preserves_Sw_SwIdeal := IdealRules.named_const.statement Cert.SwIdeal.κ "mask" .f32 0xF149F2CA#32 ⊥ rfl

theorem real_of_lt (x : EReal) (h : BitVec.ofBool (decide (max x (-x) < Ideal.ofBits .f32 0x7F800000#32)) = 1#1) : ∃ r : ℝ, x = (r : EReal) := by
  apply EMath.real_of_abs_lt
  rw [EMath.inf_f32] at h
  by_contra hn
  rw [decide_eq_false hn] at h
  exact absurd h (by decide)

instance : Subsingleton Cert.Pre_sw_finite.S_.Idx := ⟨fun _ _ => funext fun a => a.elim0⟩

/-- The precondition says that every entry of the arguments is a real number. -/
theorem real_of_pre (x0 : FVec Ideal Cert.Pre_sw_finite.S16384x1024 .bf16) (x1 : FVec Ideal Cert.Pre_sw_finite.S1024x1536 .f32) (x2 : FVec Ideal Cert.Pre_sw_finite.S32x16 .f32)
    (x3 : FVec Ideal Cert.Pre_sw_finite.S16 .f32) (h : Cert.Pre_sw_finite.fn (F := Ideal) x0 x1 x2 x3 = fun _ => 1#1) :
    (∀ i, ∃ r : ℝ, (x0 i : EReal) = (r : EReal)) ∧ (∀ i, ∃ r : ℝ, (x1 i : EReal) = (r : EReal)) ∧ (∀ i, ∃ r : ℝ, (x2 i : EReal) = (r : EReal)) ∧ (∀ i, ∃ r : ℝ, (x3 i : EReal) = (r : EReal)) := by
  have h1 := congrFun h (fun a => a.elim0)
  unfold Cert.Pre_sw_finite.fn Cert.Pre_sw_finite.fn_part1 at h1
  obtain ⟨ha, hd⟩ := IntOp.andi_eq_one.mp h1
  obtain ⟨ha, hc⟩ := IntOp.andi_eq_one.mp ha
  obtain ⟨ha, hb⟩ := IntOp.andi_eq_one.mp ha
  exact ⟨fun i => real_of_lt _ (Host.reduce_andi_all _ _ _ _ _ ha i), fun i => real_of_lt _ (Host.reduce_andi_all _ _ _ _ _ hb i),
    fun i => real_of_lt _ (Host.reduce_andi_all _ _ _ _ _ hc i), fun i => real_of_lt _ (Host.reduce_andi_all _ _ _ _ _ hd i)⟩

/-- From finite arguments, the kernel's result array is the reference's, on every device. -/
theorem algebraic : Cert.algebraic_SwIdeal_SwRefIdeal_pre_sw_finite (hSwIdeal := Cert.SwIdeal.Gen.facts) (hSwRefIdeal := Cert.SwRefIdeal.Gen.facts) (hPre_sw_finite := preFacts) :=
  fun m ρ m' ρ' hpre hag => ⟨fun c => Cert.SwIdeal.Final.out m c,
    (θ_run _ _ _).mono (fun _ h c => by
      obtain ⟨h0, h1, h2, h3⟩ := real_of_pre _ _ _ _ (hpre c)
      exact ⟨(h c).1.trans (Cert.SwIdeal.Final.final m ρ c h0 h1 h2 h3), (h c).2⟩) (Cert.SwIdeal.Final.run m ρ),
    (θ_run _ _ _).mono (fun _ h c => by
      have g := hag c
      refine ⟨(h c).1.trans ((Cert.SwRefIdeal.Read.val_main_v100_eq _ _).trans ?_), (h c).2⟩
      show Cert.SwRefIdeal.Read.val_main_v100 (F := Ideal) (m' ((c.tc : Thread Cert.SwRefIdeal.nD Cert.SwRefIdeal.τ).loc Cert.SwRefIdeal.main_arg0)) (m' ((c.tc : Thread Cert.SwRefIdeal.nD Cert.SwRefIdeal.τ).loc Cert.SwRefIdeal.main_arg1)) (m' ((c.tc : Thread Cert.SwRefIdeal.nD Cert.SwRefIdeal.τ).loc Cert.SwRefIdeal.main_arg2)) (m' ((c.tc : Thread Cert.SwRefIdeal.nD Cert.SwRefIdeal.τ).loc Cert.SwRefIdeal.main_arg3)) = _
      rw [g.1, g.2.1, g.2.2.1, g.2.2.2]) (Cert.SwRefIdeal.Value.run m' ρ')⟩

end Cert.SwClaim

end
-- ==== Proof.lean ====
module

public import proofs.«01_k».proof.Defs
public import proofs.«01_k».proof.Proof.Gen.Sb
public import proofs.«01_k».proof.Proof.Gen.Sb.Frame
public import proofs.«01_k».proof.Proof.Gen.SbIdeal
public import proofs.«01_k».proof.Proof.Gen.SbIdeal.Frame
public import proofs.«01_k».proof.Proof.Gen.SbRefIdeal
public import proofs.«01_k».proof.Proof.Gen.SbRefIdeal.Run
public import proofs.«01_k».proof.Proof.SbValue
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.ProjValue
public import proofs.«01_k».proof.Proof.Gen.Wo
public import proofs.«01_k».proof.Proof.Gen.Wo.Frame
public import proofs.«01_k».proof.Proof.Gen.WoIdeal
public import proofs.«01_k».proof.Proof.Gen.WoIdeal.Frame
public import proofs.«01_k».proof.Proof.Gen.WoRefIdeal
public import proofs.«01_k».proof.Proof.Gen.WoRefIdeal.Run
public import proofs.«01_k».proof.Proof.WoValue
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsRefIdeal
public import proofs.«01_k».proof.Proof.Gen.RmsRefIdeal.Run
public import proofs.«01_k».proof.Proof.RmsValue
public import proofs.«01_k».proof.Proof.Gen.Ffn
public import proofs.«01_k».proof.Proof.FfnFrame
public import proofs.«01_k».proof.Proof.Gen.FfnIdeal
public import proofs.«01_k».proof.Proof.FfnIdealFrame
public import proofs.«01_k».proof.Proof.Gen.FfnRefIdeal
public import proofs.«01_k».proof.Proof.Gen.FfnRefIdeal.Run
public import proofs.«01_k».proof.Proof.FfnValue
public import proofs.«01_k».proof.Proof.Gen.Da
public import proofs.«01_k».proof.Proof.Gen.Da.Frame
public import proofs.«01_k».proof.Proof.Gen.DaIdeal
public import proofs.«01_k».proof.Proof.Gen.DaIdeal.Frame
public import proofs.«01_k».proof.Proof.Gen.DaRefIdeal
public import proofs.«01_k».proof.Proof.Gen.DaRefIdeal.Run
public import proofs.«01_k».proof.Proof.DaValue
public import proofs.«01_k».proof.Proof.Gen.Sw
public import proofs.«01_k».proof.Proof.Gen.Sw.Frame
public import proofs.«01_k».proof.Proof.Gen.SwIdeal
public import proofs.«01_k».proof.Proof.Gen.SwIdeal.Frame
public import proofs.«01_k».proof.Proof.Gen.SwRefIdeal
public import proofs.«01_k».proof.Proof.Gen.SwRefIdeal.Run
public import proofs.«01_k».proof.Proof.SwValue
public import Idealize.ShloMosaic.Adequacy
public import Idealize.ShloMosaic.Init

/-! # The claim: its facts and its conjuncts, each from the module that proves it -/

@[expose] public section

noncomputable section

namespace Cert.Proof

open Idealize.ShloMosaic Idealize.SL.Sem

/-- Every claim of the certificate holds. -/
theorem claim : Cert.Claim := ⟨Cert.Sb.Gen.facts,
  Cert.SbIdeal.Gen.facts,
  Cert.SbRefIdeal.Gen.facts,
  Cert.Proj.Gen.facts,
  Cert.ProjIdeal.Gen.facts,
  Cert.ProjRefIdeal.Gen.facts,
  Cert.Wo.Gen.facts,
  Cert.WoIdeal.Gen.facts,
  Cert.WoRefIdeal.Gen.facts,
  Cert.Rms.Gen.facts,
  Cert.RmsIdeal.Gen.facts,
  Cert.RmsRefIdeal.Gen.facts,
  Cert.Ffn.Gen.facts,
  Cert.FfnIdeal.Gen.facts,
  Cert.FfnRefIdeal.Gen.facts,
  Cert.Da.Gen.facts,
  Cert.DaIdeal.Gen.facts,
  Cert.DaRefIdeal.Gen.facts,
  Cert.Sw.Gen.facts,
  Cert.SwIdeal.Gen.facts,
  Cert.SwRefIdeal.Gen.facts,
  Cert.SbClaim.preFacts,
  Cert.DaClaim.preFacts,
  Cert.SwClaim.preFacts,
  (fun m ρ _ => Cert.Sb.Gen.frame m ρ),
  (fun m ρ _ => Cert.SbIdeal.Gen.frame m ρ),
  (fun m ρ _ => Cert.SbIdeal.Gen.frame m ρ),
  (fun m ρ _ => (θ_run Cert.SbRefIdeal.defs _ _).mono (fun r h => ⟨fun c => (h c).2, Idealize.ShloMosaic.sem_eq_zero_of_no_sems (by decide) r.2⟩) (Cert.SbRefIdeal.Value.run m ρ)),
  (fun m ρ _ => (θ_run Cert.SbRefIdeal.defs _ _).mono (fun r h => ⟨fun c => (h c).2, Idealize.ShloMosaic.sem_eq_zero_of_no_sems (by decide) r.2⟩) (Cert.SbRefIdeal.Value.run m ρ)),
  (fun m ρ _ => Cert.Proj.Gen.frame m ρ),
  (fun m ρ _ => Cert.ProjIdeal.Gen.frame m ρ),
  (fun m ρ _ => (θ_run Cert.ProjRefIdeal.defs _ _).mono (fun r h => ⟨fun c => (h c).2, Idealize.ShloMosaic.sem_eq_zero_of_no_sems (by decide) r.2⟩) (Cert.ProjRefIdeal.Value.run m ρ)),
  (fun m ρ _ => Cert.Wo.Gen.frame m ρ),
  (fun m ρ _ => Cert.WoIdeal.Gen.frame m ρ),
  (fun m ρ _ => (θ_run Cert.WoRefIdeal.defs _ _).mono (fun r h => ⟨fun c => (h c).2.2, Idealize.ShloMosaic.sem_eq_zero_of_no_sems (by decide) r.2⟩) (Cert.WoRefIdeal.Value.run m ρ)),
  (fun m ρ _ => Cert.Rms.Gen.frame m ρ),
  (fun m ρ _ => Cert.RmsIdeal.Gen.frame m ρ),
  (fun m ρ _ => (θ_run Cert.RmsRefIdeal.defs _ _).mono (fun r h => ⟨fun c => (h c).2, Idealize.ShloMosaic.sem_eq_zero_of_no_sems (by decide) r.2⟩) (Cert.RmsRefIdeal.Value.run m ρ)),
  (fun m ρ _ => Cert.Ffn.Hand.frame m ρ),
  (fun m ρ _ => Cert.FfnIdeal.Hand.frame m ρ),
  (fun m ρ _ => (θ_run Cert.FfnRefIdeal.defs _ _).mono (fun r h => ⟨fun c => (h c).2.2, Idealize.ShloMosaic.sem_eq_zero_of_no_sems (by decide) r.2⟩) (Cert.FfnRefIdeal.Value.run m ρ)),
  (fun m ρ _ => Cert.Da.Gen.frame m ρ),
  (fun m ρ _ => Cert.DaIdeal.Gen.frame m ρ),
  (fun m ρ _ => Cert.DaIdeal.Gen.frame m ρ),
  (fun m ρ _ => (θ_run Cert.DaRefIdeal.defs _ _).mono (fun r h => ⟨fun c => (h c).2, Idealize.ShloMosaic.sem_eq_zero_of_no_sems (by decide) r.2⟩) (Cert.DaRefIdeal.Value.run m ρ)),
  (fun m ρ _ => (θ_run Cert.DaRefIdeal.defs _ _).mono (fun r h => ⟨fun c => (h c).2, Idealize.ShloMosaic.sem_eq_zero_of_no_sems (by decide) r.2⟩) (Cert.DaRefIdeal.Value.run m ρ)),
  (fun m ρ _ => Cert.Sw.Gen.frame m ρ),
  (fun m ρ _ => Cert.SwIdeal.Gen.frame m ρ),
  (fun m ρ _ => Cert.SwIdeal.Gen.frame m ρ),
  (fun m ρ _ => (θ_run Cert.SwRefIdeal.defs _ _).mono (fun r h => ⟨fun c => (h c).2, Idealize.ShloMosaic.sem_eq_zero_of_no_sems (by decide) r.2⟩) (Cert.SwRefIdeal.Value.run m ρ)),
  (fun m ρ _ => (θ_run Cert.SwRefIdeal.defs _ _).mono (fun r h => ⟨fun c => (h c).2, Idealize.ShloMosaic.sem_eq_zero_of_no_sems (by decide) r.2⟩) (Cert.SwRefIdeal.Value.run m ρ)),
  trivial,
  Cert.SbClaim.algebraic,
  trivial,
  Cert.ProjClaim.algebraic,
  trivial,
  Cert.WoClaim.algebraic,
  trivial,
  Cert.RmsClaim.algebraic,
  trivial,
  Cert.FfnClaim.algebraic,
  Cert.DaClaim.preserves,
  Cert.DaClaim.algebraic,
  Cert.SwClaim.preserves,
  Cert.SwClaim.algebraic⟩

end Cert.Proof

end
